-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_0) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v45_0) = v2 c
          ∧ r.2.mem ((c.tc : Thread Cert.ReferenceIdeal.nD Cert.ReferenceIdeal.τ).loc Cert.ReferenceIdeal.main_v45_1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2115x32x16x128 : Shape := ⟨4, ![2115, 32, 16, 128]⟩
abbrev S2115x16 : Shape := ⟨2, ![2115, 16]⟩
abbrev S12x141 : Shape := ⟨2, ![12, 141]⟩
abbrev S12 : Shape := ⟨1, ![12]⟩
abbrev S12x384x16x128 : Shape := ⟨4, ![12, 384, 16, 128]⟩
abbrev S12x1 : Shape := ⟨2, ![12, 1]⟩
abbrev S_ : Shape := ⟨0, ![]⟩

class Facts : Prop where
  bcast_S12_S12x1_0 : S12.BroadcastsInDim S12x1 (![0] : Fin 1 → Fin S12x1.rank)
  bcast_S_S12x141 : S_.BroadcastsInDim S12x141 (![] : Fin 0 → Fin S12x141.rank)
  bcast_S12x1_S12x141_0_1 : S12x1.BroadcastsInDim S12x141 (![0, 1] : Fin 2 → Fin S12x141.rank)
  bcast_S_S12x1 : S_.BroadcastsInDim S12x1 (![] : Fin 0 → Fin S12x1.rank)
  reducesTo_S12x141_S_d0_1 : S12x141.ReducesTo [0, 1] S_
  h_S_ : 0 < S_.numel
  bcast_S_S12x384x16x128 : S_.BroadcastsInDim S12x384x16x128 (![] : Fin 0 → Fin S12x384x16x128.rank)
  reducesTo_S12x384x16x128_S_d0_1_2_3 : S12x384x16x128.ReducesTo [0, 1, 2, 3] S_

variable [Facts]

def fn_part1 {F : FTy → Type} [FloatOps F] (main_arg4 : IVec S12x141 32) (main_arg6 : FVec F S12x384x16x128 .bf16) (main_arg7 : FVec F S12x384x16x128 .bf16) (main_v15 : IVec S12x1 1) (main_v16 : IVec S12x141 1) (main_v18 : IVec S12x141 1) : IVec S_ 1 :=
  let main_c_4 : IVec S_ 32 := constantI S_ 32 2115#32
  let main_v19 : IVec S12x141 32 := broadcastInDim S12x141 ![] bcast_S_S12x141 main_c_4
  let main_v20 : IVec S12x141 1 := cmpi .slt main_arg4 main_v19
  let main_v21 : IVec S12x141 1 := andi main_v18 main_v20
  let main_v22 : IVec S12x141 1 := ori main_v16 main_v21
  let main_v23 : IVec S12x141 1 := broadcastInDim S12x141 ![0, 1] bcast_S12x1_S12x141_0_1 main_v15
  let main_v24 : IVec S12x141 1 := andi main_v23 main_v22
  let main_c_5 : IVec S_ 1 := constantI S_ 1 1#1
  let main_v25 : IVec S_ 1 := (fun x v => Host.reduce IntOp.andi x v reducesTo_S12x141_S_d0_1 h_S_) main_v24 main_c_5
  let main_v26 : FVec F S12x384x16x128 .bf16 := Host.absf main_arg6
  let main_cst : FVec F S_ .bf16 := constant S_ .bf16 0x7F7F#16
  let main_v27 : FVec F S12x384x16x128 .bf16 := broadcastInDim S12x384x16x128 ![] bcast_S_S12x384x16x128 main_cst
  let main_v28 : IVec S12x384x16x128 1 := cmpf .ole main_v26 main_v27
  let main_c_6 : IVec S_ 1 := constantI S_ 1 1#1
  let main_v29 : IVec S_ 1 := (fun x v => Host.reduce IntOp.andi x v reducesTo_S12x384x16x128_S_d0_1_2_3 h_S_) main_v28 main_c_6
  let main_v30 : IVec S_ 1 := andi main_v25 main_v29
  let main_v31 : FVec F S12x384x16x128 .bf16 := Host.absf main_arg7
  let main_cst_7 : FVec F S_ .bf16 := constant S_ .bf16 0x7F7F#16
  let main_v32 : FVec F S12x384x16x128 .bf16 := broadcastInDim S12x384x16x128 ![] bcast_S_S12x384x16x128 main_cst_7
  let main_v33 : IVec S12x384x16x128 1 := cmpf .ole main_v31 main_v32
  let main_c_8 : IVec S_ 1 := constantI S_ 1 1#1
  let main_v34 : IVec S_ 1 := (fun x v => Host.reduce IntOp.andi x v reducesTo_S12x384x16x128_S_d0_1_2_3 h_S_) main_v33 main_c_8
  let main_v35 : IVec S_ 1 := andi main_v30 main_v34
  main_v35

def fn {F : FTy → Type} [FloatOps F] (main_arg0 : FVec F S2115x32x16x128 .fp8e4m3) (main_arg1 : FVec F S2115x32x16x128 .fp8e4m3) (main_arg2 : FVec F S2115x16 .f32) (main_arg3 : FVec F S2115x16 .f32) (main_arg4 : IVec S12x141 32) (main_arg5 : IVec S12 32) (main_arg6 : FVec F S12x384x16x128 .bf16) (main_arg7 : FVec F S12x384x16x128 .bf16) : IVec S_ 1 :=
  let main_v0 : IVec S12x1 32 := broadcastInDim S12x1 ![0] bcast_S12_S12x1_0 main_arg5
  let main_v1 : IVec S12x141 32 := iotaInDim S12x141 32 1
  let main_c : IVec S_ 32 := constantI S_ 32 32#32
  let main_v2 : IVec S12x141 32 := broadcastInDim S12x141 ![] bcast_S_S12x141 main_c
  let main_v3 : IVec S12x141 32 := muli main_v2 main_v1
  let main_v4 : IVec S12x141 32 := broadcastInDim S12x141 ![0, 1] bcast_S12x1_S12x141_0_1 main_v0
  let main_v5 : IVec S12x141 1 := cmpi .sge main_v4 main_v3
  let main_c_0 : IVec S_ 32 := constantI S_ 32 32#32
  let main_v6 : IVec S12x141 32 := broadcastInDim S12x141 ![] bcast_S_S12x141 main_c_0
  let main_v7 : IVec S12x141 32 := addi main_v3 main_v6
  let main_v8 : IVec S12x141 32 := broadcastInDim S12x141 ![0, 1] bcast_S12x1_S12x141_0_1 main_v0
  let main_v9 : IVec S12x141 1 := cmpi .slt main_v8 main_v7
  let main_v10 : IVec S12x141 1 := andi main_v5 main_v9
  let main_c_1 : IVec S_ 32 := constantI S_ 32 0#32
  let main_v11 : IVec S12x1 32 := broadcastInDim S12x1 ![] bcast_S_S12x1 main_c_1
  let main_v12 : IVec S12x1 1 := cmpi .sge main_v0 main_v11
  let main_c_2 : IVec S_ 32 := constantI S_ 32 4512#32
  let main_v13 : IVec S12x1 32 := broadcastInDim S12x1 ![] bcast_S_S12x1 main_c_2
  let main_v14 : IVec S12x1 1 := cmpi .slt main_v0 main_v13
  let main_v15 : IVec S12x1 1 := andi main_v12 main_v14
  let main_v16 : IVec S12x141 1 := noti main_v10
  let main_c_3 : IVec S_ 32 := constantI S_ 32 0#32
  let main_v17 : IVec S12x141 32 := broadcastInDim S12x141 ![] bcast_S_S12x141 main_c_3
  let main_v18 : IVec S12x141 1 := cmpi .sge main_arg4 main_v17
  fn_part1 (F := F) main_arg4 main_arg6 main_arg7 main_v15 main_v16 main_v18
-- ==== Pre_in_range.lean ====
abbrev S2115x32x16x128 : Shape := ⟨4, ![2115, 32, 16, 128]⟩
abbrev S2115x16 : Shape := ⟨2, ![2115, 16]⟩
abbrev S12x141 : Shape := ⟨2, ![12, 141]⟩
abbrev S12 : Shape := ⟨1, ![12]⟩
abbrev S12x384x16x128 : Shape := ⟨4, ![12, 384, 16, 128]⟩
abbrev S12x1 : Shape := ⟨2, ![12, 1]⟩
abbrev S_ : Shape := ⟨0, ![]⟩

class Facts : Prop where
  bcast_S12_S12x1_0 : S12.BroadcastsInDim S12x1 (![0] : Fin 1 → Fin S12x1.rank)
  bcast_S_S12x141 : S_.BroadcastsInDim S12x141 (![] : Fin 0 → Fin S12x141.rank)
  bcast_S12x1_S12x141_0_1 : S12x1.BroadcastsInDim S12x141 (![0, 1] : Fin 2 → Fin S12x141.rank)
  bcast_S_S12x1 : S_.BroadcastsInDim S12x1 (![] : Fin 0 → Fin S12x1.rank)

variable [Facts]

def fn_part1 {F : FTy → Type} [FloatOps F] (main_arg4 : IVec S12x141 32) (main_v15 : IVec S12x1 1) (main_v16 : IVec S12x141 1) (main_v18 : IVec S12x141 1) : IVec S12x141 1 :=
  let main_c_4 : IVec S_ 32 := constantI S_ 32 2115#32
  let main_v19 : IVec S12x141 32 := broadcastInDim S12x141 ![] bcast_S_S12x141 main_c_4
  let main_v20 : IVec S12x141 1 := cmpi .slt main_arg4 main_v19
  let main_v21 : IVec S12x141 1 := andi main_v18 main_v20
  let main_v22 : IVec S12x141 1 := ori main_v16 main_v21
  let main_v23 : IVec S12x141 1 := broadcastInDim S12x141 ![0, 1] bcast_S12x1_S12x141_0_1 main_v15
  let main_v24 : IVec S12x141 1 := andi main_v23 main_v22
  main_v24

def fn {F : FTy → Type} [FloatOps F] (main_arg0 : FVec F S2115x32x16x128 .fp8e4m3) (main_arg1 : FVec F S2115x32x16x128 .fp8e4m3) (main_arg2 : FVec F S2115x16 .f32) (main_arg3 : FVec F S2115x16 .f32) (main_arg4 : IVec S12x141 32) (main_arg5 : IVec S12 32) (main_arg6 : FVec F S12x384x16x128 .bf16) (main_arg7 : FVec F S12x384x16x128 .bf16) : IVec S12x141 1 :=
  let main_v0 : IVec S12x1 32 := broadcastInDim S12x1 ![0] bcast_S12_S12x1_0 main_arg5
  let main_v1 : IVec S12x141 32 := iotaInDim S12x141 32 1
  let main_c : IVec S_ 32 := constantI S_ 32 32#32
  let main_v2 : IVec S12x141 32 := broadcastInDim S12x141 ![] bcast_S_S12x141 main_c
  let main_v3 : IVec S12x141 32 := muli main_v2 main_v1
  let main_v4 : IVec S12x141 32 := broadcastInDim S12x141 ![0, 1] bcast_S12x1_S12x141_0_1 main_v0
  let main_v5 : IVec S12x141 1 := cmpi .sge main_v4 main_v3
  let main_c_0 : IVec S_ 32 := constantI S_ 32 32#32
  let main_v6 : IVec S12x141 32 := broadcastInDim S12x141 ![] bcast_S_S12x141 main_c_0
  let main_v7 : IVec S12x141 32 := addi main_v3 main_v6
  let main_v8 : IVec S12x141 32 := broadcastInDim S12x141 ![0, 1] bcast_S12x1_S12x141_0_1 main_v0
  let main_v9 : IVec S12x141 1 := cmpi .slt main_v8 main_v7
  let main_v10 : IVec S12x141 1 := andi main_v5 main_v9
  let main_c_1 : IVec S_ 32 := constantI S_ 32 0#32
  let main_v11 : IVec S12x1 32 := broadcastInDim S12x1 ![] bcast_S_S12x1 main_c_1
  let main_v12 : IVec S12x1 1 := cmpi .sge main_v0 main_v11
  let main_c_2 : IVec S_ 32 := constantI S_ 32 4512#32
  let main_v13 : IVec S12x1 32 := broadcastInDim S12x1 ![] bcast_S_S12x1 main_c_2
  let main_v14 : IVec S12x1 1 := cmpi .slt main_v0 main_v13
  let main_v15 : IVec S12x1 1 := andi main_v12 main_v14
  let main_v16 : IVec S12x141 1 := noti main_v10
  let main_c_3 : IVec S_ 32 := constantI S_ 32 0#32
  let main_v17 : IVec S12x141 32 := broadcastInDim S12x141 ![] bcast_S_S12x141 main_c_3
  let main_v18 : IVec S12x141 1 := cmpi .sge main_arg4 main_v17
  fn_part1 (F := F) main_arg4 main_v15 main_v16 main_v18
-- ==== Kernel.lean ====
abbrev S2115x32x16x128 : Shape := ⟨4, ![2115, 32, 16, 128]⟩
abbrev S2115x16 : Shape := ⟨2, ![2115, 16]⟩
abbrev S12x141 : Shape := ⟨2, ![12, 141]⟩
abbrev S12 : Shape := ⟨1, ![12]⟩
abbrev S12x384x16x128 : Shape := ⟨4, ![12, 384, 16, 128]⟩
abbrev S2115x512x128 : Shape := ⟨3, ![2115, 512, 128]⟩
abbrev S12x6656x128 : Shape := ⟨3, ![12, 6656, 128]⟩
abbrev S12x13x16 : Shape := ⟨3, ![12, 13, 16]⟩
abbrev S10016x16x128 : Shape := ⟨3, ![10016, 16, 128]⟩
abbrev S24x512x128 : Shape := ⟨3, ![24, 512, 128]⟩
abbrev S24x6656x128 : Shape := ⟨3, ![24, 6656, 128]⟩
abbrev S24x1x16 : Shape := ⟨3, ![24, 1, 16]⟩
abbrev S2x12x13x16 : Shape := ⟨4, ![2, 12, 13, 16]⟩
abbrev S24 : Shape := ⟨1, ![24]⟩
abbrev S2 : Shape := ⟨1, ![2]⟩
abbrev S_ : Shape := ⟨0, ![]⟩
abbrev S1 : Shape := ⟨1, ![1]⟩
abbrev S384x16x128 : Shape := ⟨3, ![384, 16, 128]⟩
abbrev S1x384x16x128 : Shape := ⟨4, ![1, 384, 16, 128]⟩
abbrev S32x16x128 : Shape := ⟨3, ![32, 16, 128]⟩
abbrev S1x1 : Shape := ⟨2, ![1, 1]⟩
abbrev S1x1x16 : Shape := ⟨3, ![1, 1, 16]⟩
abbrev S1x16 : Shape := ⟨2, ![1, 16]⟩
abbrev S1x512x128 : Shape := ⟨3, ![1, 512, 128]⟩
abbrev S512x128 : Shape := ⟨2, ![512, 128]⟩
abbrev S16x128 : Shape := ⟨2, ![16, 128]⟩
abbrev S16x16 : Shape := ⟨2, ![16, 16]⟩
abbrev S1x16x128 : Shape := ⟨3, ![1, 16, 128]⟩
abbrev S16 : Shape := ⟨1, ![16]⟩
abbrev S16x1 : Shape := ⟨2, ![16, 1]⟩
abbrev S16x256 : Shape := ⟨2, ![16, 256]⟩
abbrev S2x16x128 : Shape := ⟨3, ![2, 16, 128]⟩
abbrev S32x128 : Shape := ⟨2, ![32, 128]⟩
abbrev S1x32x128 : Shape := ⟨3, ![1, 32, 128]⟩
abbrev S128x16 : Shape := ⟨2, ![128, 16]⟩
abbrev S13x16 : Shape := ⟨2, ![13, 16]⟩
abbrev S1x1x13x16 : Shape := ⟨4, ![1, 1, 13, 16]⟩
abbrev S1x6656x128 : Shape := ⟨3, ![1, 6656, 128]⟩
abbrev S6656x128 : Shape := ⟨2, ![6656, 128]⟩
abbrev S1x12x13x16 : Shape := ⟨4, ![1, 12, 13, 16]⟩

abbrev nBuf : Space → Nat
  | .hbm => 14
  | .vmem => 5
  | .smem => 2
  | _ => 0

abbrev bufTy : (tb : Table) → Fin (tcTables nBuf tb) → BufTy
  | .hbm, ⟨0, _⟩ => ⟨S2115x32x16x128, .fp8e4m3⟩
  | .hbm, ⟨1, _⟩ => ⟨S2115x32x16x128, .fp8e4m3⟩
  | .hbm, ⟨2, _⟩ => ⟨S2115x16, .f32⟩
  | .hbm, ⟨3, _⟩ => ⟨S2115x16, .f32⟩
  | .hbm, ⟨4, _⟩ => ⟨S12x141, .i32⟩
  | .hbm, ⟨5, _⟩ => ⟨S12, .i32⟩
  | .hbm, ⟨6, _⟩ => ⟨S12x384x16x128, .bf16⟩
  | .hbm, ⟨7, _⟩ => ⟨S12x384x16x128, .bf16⟩
  | .hbm, ⟨8, _⟩ => ⟨S2115x512x128, .fp8e4m3⟩
  | .hbm, ⟨9, _⟩ => ⟨S2115x512x128, .fp8e4m3⟩
  | .hbm, ⟨10, _⟩ => ⟨S12x6656x128, .fp8e4m3⟩
  | .hbm, ⟨11, _⟩ => ⟨S12x13x16, .f32⟩
  | .hbm, ⟨12, _⟩ => ⟨S12x6656x128, .fp8e4m3⟩
  | .hbm, ⟨13, _⟩ => ⟨S12x13x16, .f32⟩
  | .local _ .vmem, ⟨0, _⟩ => ⟨S10016x16x128, .bf16⟩
  | .local _ .vmem, ⟨1, _⟩ => ⟨S24x512x128, .fp8e4m3⟩
  | .local _ .vmem, ⟨2, _⟩ => ⟨S24x6656x128, .fp8e4m3⟩
  | .local _ .vmem, ⟨3, _⟩ => ⟨S24x1x16, .f32⟩
  | .local _ .vmem, ⟨4, _⟩ => ⟨S2x12x13x16, .f32⟩
  | .local _ .smem, ⟨0, _⟩ => ⟨S12x141, .i32⟩
  | .local _ .smem, ⟨1, _⟩ => ⟨S12, .i32⟩
  | _, _ => ⟨S2115x32x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.smem, 0, rfl⟩
abbrev cc0_scratch6 : Ref sig .tc := ⟨.smem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_38 : BitVec 32 := 0#32
  let c25_i32 : BitVec 32 := 25#32
  let v34 : BitVec 32 := Scalar.addi c0_i32_38 c25_i32
  let c1_i32_39 : BitVec 32 := 1#32
  ⟨c0_i32_38, v34, c1_i32_39⟩
def k0_off1 (k0_t1 : Fin k0_t1_loop.trips) : Fin 3 → Nat :=
  let c0_i32_38 : BitVec 32 := 0#32
  let c1_i32_39 : BitVec 32 := 1#32
  let arg25 : BitVec 32 := Scf.iv c0_i32_38 c1_i32_39 k0_t1
  let c416_i32 : BitVec 32 := 416#32
  let v149 : BitVec 32 := Scalar.muli arg25 c416_i32
  let v150 : Index := Scalar.indexCast v149
  let c0 : Index := 0#32
  let c0_185 : Index := 0#32
  ![v150.toNat, 0, 0]
@[reducible] def k0_t2_loop : Scf.Loop 32 :=
  let c0_i32_43 : BitVec 32 := 0#32
  let c12_i32 : BitVec 32 := 12#32
  let v39 : BitVec 32 := Scalar.addi c0_i32_43 c12_i32
  let c1_i32_44 : BitVec 32 := 1#32
  ⟨c0_i32_43, v39, c1_i32_44⟩
def k0_off2 (k0_t2 : Fin k0_t2_loop.trips) : Fin 1 → Nat :=
  let c0_i32_43 : BitVec 32 := 0#32
  let c1_i32_44 : BitVec 32 := 1#32
  let arg25 : BitVec 32 := Scf.iv c0_i32_43 c1_i32_44 k0_t2
  let v148 : Index := Scalar.indexCast arg25
  ![v148.toNat]
def k0_off3 (k0_t2 : Fin k0_t2_loop.trips) (v149 : BitVec 32) : Fin 2 → Nat :=
  let c0_i32_43 : BitVec 32 := 0#32
  let c1_i32_44 : BitVec 32 := 1#32
  let arg25 : BitVec 32 := Scf.iv c0_i32_43 c1_i32_44 k0_t2
  let v167 : Index := Scalar.indexCast arg25
  let c0_i32_186 : BitVec 32 := 0#32
  let v151 : BitVec 1 := Scalar.cmpi .sgt v149 c0_i32_186
  let v152 : BitVec 32 := Scalar.extui v151
  let c0_i32_187 : BitVec 32 := 0#32
  let v153 : BitVec 1 := Scalar.cmpi .slt v149 c0_i32_187
  let v154 : BitVec 32 := Scalar.extui v153
  let v155 : BitVec 32 := Scalar.subi v152 v154
  let c32_i32_185 : BitVec 32 := 32#32
  let c0_i32_188 : BitVec 32 := 0#32
  let v156 : BitVec 1 := Scalar.cmpi .sgt c32_i32_185 c0_i32_188
  let v157 : BitVec 32 := Scalar.extui v156
  let c0_i32_189 : BitVec 32 := 0#32
  let v158 : BitVec 1 := Scalar.cmpi .slt c32_i32_185 c0_i32_189
  let v159 : BitVec 32 := Scalar.extui v158
  let v160 : BitVec 32 := Scalar.subi v157 v159
  let v161 : BitVec 1 := Scalar.cmpi .ne v155 v160
  let v162 : BitVec 32 := Scalar.remsi v149 c32_i32_185
  let c0_i32_190 : BitVec 32 := 0#32
  let v163 : BitVec 1 := Scalar.cmpi .ne v162 c0_i32_190
  let v164 : BitVec 1 := Scalar.andi v161 v163
  let v150 : BitVec 32 := Scalar.divsi v149 c32_i32_185
  let c1_i32_191 : BitVec 32 := 1#32
  let v165 : BitVec 32 := Scalar.subi v150 c1_i32_191
  let v166 : BitVec 32 := Scalar.select v164 v165 v150
  let v168 : Index := Scalar.indexCast v166
  ![v167.toNat, v168.toNat]

def k0_chk1 (k0_t2 : Fin k0_t2_loop.trips) (v149 : BitVec 32) : Prop :=
  (∀ a, (k0_off3 k0_t2 v149) a + S1x1.size a ≤ S12x141.size a)
theorem k0_off3_inb : ∀ (k0_t2 : Fin k0_t2_loop.trips) (v149 : BitVec 32) (k0_hw1 : k0_chk1 k0_t2 v149), ∀ a, (k0_off3 k0_t2 v149) a + S1x1.size a ≤ S12x141.size a := fun k0_t2 v149 k0_hw1 => k0_hw1

def k0_off4 (k0_t2 : Fin k0_t2_loop.trips) : Fin 1 → Nat :=
  let c2_i32_194 : BitVec 32 := 2#32
  let c0_i32_43 : BitVec 32 := 0#32
  let c1_i32_44 : BitVec 32 := 1#32
  let arg25 : BitVec 32 := Scf.iv c0_i32_43 c1_i32_44 k0_t2
  let v172 : BitVec 32 := Scalar.muli c2_i32_194 arg25
  let c0_i32_195 : BitVec 32 := 0#32
  let v173 : BitVec 32 := Scalar.addi v172 c0_i32_195
  ![v173.toNat]
def k0_off5 (k0_t2 : Fin k0_t2_loop.trips) : Fin 3 → Nat :=
  let c2_i32_192 : BitVec 32 := 2#32
  let c0_i32_43 : BitVec 32 := 0#32
  let c1_i32_44 : BitVec 32 := 1#32
  let arg25 : BitVec 32 := Scf.iv c0_i32_43 c1_i32_44 k0_t2
  let v170 : BitVec 32 := Scalar.muli c2_i32_192 arg25
  let c0_i32_193 : BitVec 32 := 0#32
  let v171 : BitVec 32 := Scalar.addi v170 c0_i32_193
  let c0_i32_196 : BitVec 32 := 0#32
  let c0_i32_197 : BitVec 32 := 0#32
  ![v171.toNat, 0, 0]
def k0_off6 (v169 : BitVec 32) : Fin 2 → Nat :=
  let c0_i32_198 : BitVec 32 := 0#32
  ![v169.toNat, 0]

def k0_off7 (k0_t2 : Fin k0_t2_loop.trips) (c0_i32_202 : BitVec 32) : Fin 1 → Nat :=
  let c2_i32_201 : BitVec 32 := 2#32
  let c0_i32_43 : BitVec 32 := 0#32
  let c1_i32_44 : BitVec 32 := 1#32
  let arg25 : BitVec 32 := Scf.iv c0_i32_43 c1_i32_44 k0_t2
  let v181 : BitVec 32 := Scalar.muli c2_i32_201 arg25
  let v182 : BitVec 32 := Scalar.addi v181 c0_i32_202
  ![v182.toNat]
def k0_off8 (k0_t2 : Fin k0_t2_loop.trips) (c0_i32_200 : BitVec 32) : Fin 3 → Nat :=
  let c2_i32_199 : BitVec 32 := 2#32
  let c0_i32_43 : BitVec 32 := 0#32
  let c1_i32_44 : BitVec 32 := 1#32
  let arg25 : BitVec 32 := Scf.iv c0_i32_43 c1_i32_44 k0_t2
  let v179 : BitVec 32 := Scalar.muli c2_i32_199 arg25
  let v180 : BitVec 32 := Scalar.addi v179 c0_i32_200
  let c0_i32_203 : BitVec 32 := 0#32
  let c0_i32_204 : BitVec 32 := 0#32
  ![v180.toNat, 0, 0]
def k0_off9 (v169 : BitVec 32) : Fin 3 → Nat :=
  let c0_i32_205 : BitVec 32 := 0#32
  let c0_i32_206 : BitVec 32 := 0#32
  ![v169.toNat, 0, 0]

def k0_chk2 (v169 : BitVec 32) : Prop :=
  (∀ a, (k0_off6 v169) a + S1x16.size a ≤ S2115x16.size a) ∧
  (∀ a, (k0_off9 v169) a + S1x512x128.size a ≤ S2115x512x128.size a) ∧
  (∀ (hinb : ∀ a, (k0_off9 v169) a + S1x512x128.size a ≤ S2115x512x128.size a), (Rect.unit (s := S2115x512x128) (k0_off9 v169) S1x512x128.size hinb).WholeWords (EltTy.packing .fp8e4m3))
theorem k0_off6_inb : ∀ (v169 : BitVec 32) (k0_hw2 : k0_chk2 v169), ∀ a, (k0_off6 v169) a + S1x16.size a ≤ S2115x16.size a := fun v169 k0_hw2 => k0_hw2.1
theorem k0_off9_inb : ∀ (v169 : BitVec 32) (k0_hw2 : k0_chk2 v169), ∀ a, (k0_off9 v169) a + S1x512x128.size a ≤ S2115x512x128.size a := fun v169 k0_hw2 => k0_hw2.2.1
theorem k0_off9_wordsfp8e4m3 : ∀ (v169 : BitVec 32) (k0_hw2 : k0_chk2 v169), (Rect.unit (s := S2115x512x128) (k0_off9 v169) S1x512x128.size (k0_off9_inb v169 k0_hw2)).WholeWords (EltTy.packing .fp8e4m3) := fun v169 k0_hw2 => k0_hw2.2.2 (k0_off9_inb v169 k0_hw2)

def k0_off10 (k0_t2 : Fin k0_t2_loop.trips) : Fin 3 → Nat :=
  let c2_i32_207 : BitVec 32 := 2#32
  let c0_i32_43 : BitVec 32 := 0#32
  let c1_i32_44 : BitVec 32 := 1#32
  let arg25 : BitVec 32 := Scf.iv c0_i32_43 c1_i32_44 k0_t2
  let v189 : BitVec 32 := Scalar.muli c2_i32_207 arg25
  let c1_i32_208 : BitVec 32 := 1#32
  let v190 : BitVec 32 := Scalar.addi v189 c1_i32_208
  let c0_i32_211 : BitVec 32 := 0#32
  let c0_i32_212 : BitVec 32 := 0#32
  ![v190.toNat, 0, 0]
@[reducible] def k0_t3_loop : Scf.Loop 32 :=
  let c0_i32_155 : BitVec 32 := 0#32
  let c12_i32_156 : BitVec 32 := 12#32
  let v134 : BitVec 32 := Scalar.addi c0_i32_155 c12_i32_156
  let c1_i32_157 : BitVec 32 := 1#32
  ⟨c0_i32_155, v134, c1_i32_157⟩
def k0_off11 (k0_t3 : Fin k0_t3_loop.trips) : Fin 1 → Nat :=
  let c0_i32_155 : BitVec 32 := 0#32
  let c1_i32_157 : BitVec 32 := 1#32
  let arg25 : BitVec 32 := Scf.iv c0_i32_155 c1_i32_157 k0_t3
  let v150 : Index := Scalar.indexCast arg25
  ![v150.toNat]
def k0_off12 (k0_t3 : Fin k0_t3_loop.trips) : Fin 1 → Nat :=
  let c2_i32_189 : BitVec 32 := 2#32
  let c0_i32_155 : BitVec 32 := 0#32
  let c1_i32_157 : BitVec 32 := 1#32
  let arg25 : BitVec 32 := Scf.iv c0_i32_155 c1_i32_157 k0_t3
  let v156 : BitVec 32 := Scalar.muli c2_i32_189 arg25
  let c0_i32_190 : BitVec 32 := 0#32
  let v157 : BitVec 32 := Scalar.addi v156 c0_i32_190
  ![v157.toNat]
def k0_off13 (k0_t3 : Fin k0_t3_loop.trips) : Fin 3 → Nat :=
  let c32_i32_192 : BitVec 32 := 32#32
  let c2_i32_189 : BitVec 32 := 2#32
  let c0_i32_155 : BitVec 32 := 0#32
  let c1_i32_157 : BitVec 32 := 1#32
  let arg25 : BitVec 32 := Scf.iv c0_i32_155 c1_i32_157 k0_t3
  let v156 : BitVec 32 := Scalar.muli c2_i32_189 arg25
  let c0_i32_190 : BitVec 32 := 0#32
  let v157 : BitVec 32 := Scalar.addi v156 c0_i32_190
  let c416_i32_191 : BitVec 32 := 416#32
  let v158 : BitVec 32 := Scalar.muli v157 c416_i32_191
  let v159 : BitVec 32 := Scalar.addi c32_i32_192 v158
  let c0_i32_193 : BitVec 32 := 0#32
  let c0_i32_194 : BitVec 32 := 0#32
  ![v159.toNat, 0, 0]
def k0_off14 (k0_t3 : Fin k0_t3_loop.trips) : Fin 4 → Nat :=
  let c0_i32_155 : BitVec 32 := 0#32
  let c1_i32_157 : BitVec 32 := 1#32
  let arg25 : BitVec 32 := Scf.iv c0_i32_155 c1_i32_157 k0_t3
  let c0_i32_195 : BitVec 32 := 0#32
  let c0_i32_196 : BitVec 32 := 0#32
  let c0_i32_197 : BitVec 32 := 0#32
  ![arg25.toNat, 0, 0, 0]
def k0_off15 (k0_t3 : Fin k0_t3_loop.trips) (v151 : BitVec 32) (c0_i32_198 : BitVec 32) (c0_i32_199 : BitVec 32) : Fin 3 → Nat :=
  let c32_i32_188 : BitVec 32 := 32#32
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let c416_i32 : BitVec 32 := 416#32
  let v153 : BitVec 32 := Scalar.muli v149 c416_i32
  let v154 : BitVec 32 := Scalar.addi c32_i32_188 v153
  let c32_i32_187 : BitVec 32 := 32#32
  let v152 : BitVec 32 := Scalar.remsi v151 c32_i32_187
  let v155 : BitVec 32 := Scalar.subi v154 v152
  let v165 : BitVec 32 := Scalar.addi v155 c0_i32_198
  let v166 : BitVec 32 := Scalar.addi v165 c0_i32_199
  let v167 : Index := Scalar.indexCast v166
  let c0 : Index := 0#32
  let c0_200 : Index := 0#32
  ![v167.toNat, 0, 0]

def k0_off16 (k0_t3 : Fin k0_t3_loop.trips) (v151 : BitVec 32) (c32_i32_1862 : BitVec 32) (c0_i32_1863 : BitVec 32) : Fin 3 → Nat :=
  let c32_i32_188 : BitVec 32 := 32#32
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let c416_i32 : BitVec 32 := 416#32
  let v153 : BitVec 32 := Scalar.muli v149 c416_i32
  let v154 : BitVec 32 := Scalar.addi c32_i32_188 v153
  let c32_i32_187 : BitVec 32 := 32#32
  let v152 : BitVec 32 := Scalar.remsi v151 c32_i32_187
  let v155 : BitVec 32 := Scalar.subi v154 v152
  let v3137 : BitVec 32 := Scalar.addi v155 c32_i32_1862
  let v3138 : BitVec 32 := Scalar.addi v3137 c0_i32_1863
  let v3139 : Index := Scalar.indexCast v3138
  let c0_1864 : Index := 0#32
  let c0_1865 : Index := 0#32
  ![v3139.toNat, 0, 0]
def k0_off17 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3152 : Index := Scalar.indexCast v149
  let c512 : Index := 512#32
  let c0_1868 : Index := 0#32
  ![v3152.toNat, 512, 0]
def k0_off18 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3171 : Index := Scalar.indexCast v149
  let c544 : Index := 544#32
  let c0_1875 : Index := 0#32
  ![v3171.toNat, 544, 0]
def k0_off19 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3190 : Index := Scalar.indexCast v149
  let c576 : Index := 576#32
  let c0_1882 : Index := 0#32
  ![v3190.toNat, 576, 0]
def k0_off20 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3209 : Index := Scalar.indexCast v149
  let c608 : Index := 608#32
  let c0_1889 : Index := 0#32
  ![v3209.toNat, 608, 0]
def k0_off21 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3228 : Index := Scalar.indexCast v149
  let c640 : Index := 640#32
  let c0_1896 : Index := 0#32
  ![v3228.toNat, 640, 0]
def k0_off22 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3247 : Index := Scalar.indexCast v149
  let c672 : Index := 672#32
  let c0_1903 : Index := 0#32
  ![v3247.toNat, 672, 0]
def k0_off23 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3266 : Index := Scalar.indexCast v149
  let c704 : Index := 704#32
  let c0_1910 : Index := 0#32
  ![v3266.toNat, 704, 0]
def k0_off24 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3285 : Index := Scalar.indexCast v149
  let c736 : Index := 736#32
  let c0_1917 : Index := 0#32
  ![v3285.toNat, 736, 0]
def k0_off25 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3304 : Index := Scalar.indexCast v149
  let c768 : Index := 768#32
  let c0_1924 : Index := 0#32
  ![v3304.toNat, 768, 0]
def k0_off26 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3323 : Index := Scalar.indexCast v149
  let c800 : Index := 800#32
  let c0_1931 : Index := 0#32
  ![v3323.toNat, 800, 0]
def k0_off27 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3342 : Index := Scalar.indexCast v149
  let c832 : Index := 832#32
  let c0_1938 : Index := 0#32
  ![v3342.toNat, 832, 0]
def k0_off28 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3361 : Index := Scalar.indexCast v149
  let c864 : Index := 864#32
  let c0_1945 : Index := 0#32
  ![v3361.toNat, 864, 0]
def k0_off29 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3380 : Index := Scalar.indexCast v149
  let c896 : Index := 896#32
  let c0_1952 : Index := 0#32
  ![v3380.toNat, 896, 0]
def k0_off30 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3399 : Index := Scalar.indexCast v149
  let c928 : Index := 928#32
  let c0_1959 : Index := 0#32
  ![v3399.toNat, 928, 0]
def k0_off31 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3418 : Index := Scalar.indexCast v149
  let c960 : Index := 960#32
  let c0_1966 : Index := 0#32
  ![v3418.toNat, 960, 0]
def k0_off32 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3437 : Index := Scalar.indexCast v149
  let c992 : Index := 992#32
  let c0_1973 : Index := 0#32
  ![v3437.toNat, 992, 0]
def k0_off33 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3489 : Index := Scalar.indexCast v149
  let c1024 : Index := 1024#32
  let c0_1990 : Index := 0#32
  ![v3489.toNat, 1024, 0]
def k0_off34 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3508 : Index := Scalar.indexCast v149
  let c1056 : Index := 1056#32
  let c0_1997 : Index := 0#32
  ![v3508.toNat, 1056, 0]
def k0_off35 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3527 : Index := Scalar.indexCast v149
  let c1088 : Index := 1088#32
  let c0_2004 : Index := 0#32
  ![v3527.toNat, 1088, 0]
def k0_off36 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3546 : Index := Scalar.indexCast v149
  let c1120 : Index := 1120#32
  let c0_2011 : Index := 0#32
  ![v3546.toNat, 1120, 0]
def k0_off37 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3565 : Index := Scalar.indexCast v149
  let c1152 : Index := 1152#32
  let c0_2018 : Index := 0#32
  ![v3565.toNat, 1152, 0]
def k0_off38 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3584 : Index := Scalar.indexCast v149
  let c1184 : Index := 1184#32
  let c0_2025 : Index := 0#32
  ![v3584.toNat, 1184, 0]
def k0_off39 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3603 : Index := Scalar.indexCast v149
  let c1216 : Index := 1216#32
  let c0_2032 : Index := 0#32
  ![v3603.toNat, 1216, 0]
def k0_off40 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3622 : Index := Scalar.indexCast v149
  let c1248 : Index := 1248#32
  let c0_2039 : Index := 0#32
  ![v3622.toNat, 1248, 0]
def k0_off41 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3641 : Index := Scalar.indexCast v149
  let c1280 : Index := 1280#32
  let c0_2046 : Index := 0#32
  ![v3641.toNat, 1280, 0]
def k0_off42 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3660 : Index := Scalar.indexCast v149
  let c1312 : Index := 1312#32
  let c0_2053 : Index := 0#32
  ![v3660.toNat, 1312, 0]
def k0_off43 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3679 : Index := Scalar.indexCast v149
  let c1344 : Index := 1344#32
  let c0_2060 : Index := 0#32
  ![v3679.toNat, 1344, 0]
def k0_off44 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3698 : Index := Scalar.indexCast v149
  let c1376 : Index := 1376#32
  let c0_2067 : Index := 0#32
  ![v3698.toNat, 1376, 0]
def k0_off45 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3717 : Index := Scalar.indexCast v149
  let c1408 : Index := 1408#32
  let c0_2074 : Index := 0#32
  ![v3717.toNat, 1408, 0]
def k0_off46 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3736 : Index := Scalar.indexCast v149
  let c1440 : Index := 1440#32
  let c0_2081 : Index := 0#32
  ![v3736.toNat, 1440, 0]
def k0_off47 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3755 : Index := Scalar.indexCast v149
  let c1472 : Index := 1472#32
  let c0_2088 : Index := 0#32
  ![v3755.toNat, 1472, 0]
def k0_off48 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3774 : Index := Scalar.indexCast v149
  let c1504 : Index := 1504#32
  let c0_2095 : Index := 0#32
  ![v3774.toNat, 1504, 0]
def k0_off49 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3826 : Index := Scalar.indexCast v149
  let c1536 : Index := 1536#32
  let c0_2112 : Index := 0#32
  ![v3826.toNat, 1536, 0]
def k0_off50 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3845 : Index := Scalar.indexCast v149
  let c1568 : Index := 1568#32
  let c0_2119 : Index := 0#32
  ![v3845.toNat, 1568, 0]
def k0_off51 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3864 : Index := Scalar.indexCast v149
  let c1600 : Index := 1600#32
  let c0_2126 : Index := 0#32
  ![v3864.toNat, 1600, 0]
def k0_off52 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3883 : Index := Scalar.indexCast v149
  let c1632 : Index := 1632#32
  let c0_2133 : Index := 0#32
  ![v3883.toNat, 1632, 0]
def k0_off53 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3902 : Index := Scalar.indexCast v149
  let c1664 : Index := 1664#32
  let c0_2140 : Index := 0#32
  ![v3902.toNat, 1664, 0]
def k0_off54 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3921 : Index := Scalar.indexCast v149
  let c1696 : Index := 1696#32
  let c0_2147 : Index := 0#32
  ![v3921.toNat, 1696, 0]
def k0_off55 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3940 : Index := Scalar.indexCast v149
  let c1728 : Index := 1728#32
  let c0_2154 : Index := 0#32
  ![v3940.toNat, 1728, 0]
def k0_off56 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3959 : Index := Scalar.indexCast v149
  let c1760 : Index := 1760#32
  let c0_2161 : Index := 0#32
  ![v3959.toNat, 1760, 0]
def k0_off57 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3978 : Index := Scalar.indexCast v149
  let c1792 : Index := 1792#32
  let c0_2168 : Index := 0#32
  ![v3978.toNat, 1792, 0]
def k0_off58 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v3997 : Index := Scalar.indexCast v149
  let c1824 : Index := 1824#32
  let c0_2175 : Index := 0#32
  ![v3997.toNat, 1824, 0]
def k0_off59 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4016 : Index := Scalar.indexCast v149
  let c1856 : Index := 1856#32
  let c0_2182 : Index := 0#32
  ![v4016.toNat, 1856, 0]
def k0_off60 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4035 : Index := Scalar.indexCast v149
  let c1888 : Index := 1888#32
  let c0_2189 : Index := 0#32
  ![v4035.toNat, 1888, 0]
def k0_off61 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4054 : Index := Scalar.indexCast v149
  let c1920 : Index := 1920#32
  let c0_2196 : Index := 0#32
  ![v4054.toNat, 1920, 0]
def k0_off62 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4073 : Index := Scalar.indexCast v149
  let c1952 : Index := 1952#32
  let c0_2203 : Index := 0#32
  ![v4073.toNat, 1952, 0]
def k0_off63 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4092 : Index := Scalar.indexCast v149
  let c1984 : Index := 1984#32
  let c0_2210 : Index := 0#32
  ![v4092.toNat, 1984, 0]
def k0_off64 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4111 : Index := Scalar.indexCast v149
  let c2016 : Index := 2016#32
  let c0_2217 : Index := 0#32
  ![v4111.toNat, 2016, 0]
def k0_off65 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4163 : Index := Scalar.indexCast v149
  let c2048 : Index := 2048#32
  let c0_2234 : Index := 0#32
  ![v4163.toNat, 2048, 0]
def k0_off66 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4182 : Index := Scalar.indexCast v149
  let c2080 : Index := 2080#32
  let c0_2241 : Index := 0#32
  ![v4182.toNat, 2080, 0]
def k0_off67 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4201 : Index := Scalar.indexCast v149
  let c2112 : Index := 2112#32
  let c0_2248 : Index := 0#32
  ![v4201.toNat, 2112, 0]
def k0_off68 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4220 : Index := Scalar.indexCast v149
  let c2144 : Index := 2144#32
  let c0_2255 : Index := 0#32
  ![v4220.toNat, 2144, 0]
def k0_off69 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4239 : Index := Scalar.indexCast v149
  let c2176 : Index := 2176#32
  let c0_2262 : Index := 0#32
  ![v4239.toNat, 2176, 0]
def k0_off70 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4258 : Index := Scalar.indexCast v149
  let c2208 : Index := 2208#32
  let c0_2269 : Index := 0#32
  ![v4258.toNat, 2208, 0]
def k0_off71 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4277 : Index := Scalar.indexCast v149
  let c2240 : Index := 2240#32
  let c0_2276 : Index := 0#32
  ![v4277.toNat, 2240, 0]
def k0_off72 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4296 : Index := Scalar.indexCast v149
  let c2272 : Index := 2272#32
  let c0_2283 : Index := 0#32
  ![v4296.toNat, 2272, 0]
def k0_off73 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4315 : Index := Scalar.indexCast v149
  let c2304 : Index := 2304#32
  let c0_2290 : Index := 0#32
  ![v4315.toNat, 2304, 0]
def k0_off74 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4334 : Index := Scalar.indexCast v149
  let c2336 : Index := 2336#32
  let c0_2297 : Index := 0#32
  ![v4334.toNat, 2336, 0]
def k0_off75 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4353 : Index := Scalar.indexCast v149
  let c2368 : Index := 2368#32
  let c0_2304 : Index := 0#32
  ![v4353.toNat, 2368, 0]
def k0_off76 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4372 : Index := Scalar.indexCast v149
  let c2400 : Index := 2400#32
  let c0_2311 : Index := 0#32
  ![v4372.toNat, 2400, 0]
def k0_off77 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4391 : Index := Scalar.indexCast v149
  let c2432 : Index := 2432#32
  let c0_2318 : Index := 0#32
  ![v4391.toNat, 2432, 0]
def k0_off78 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4410 : Index := Scalar.indexCast v149
  let c2464 : Index := 2464#32
  let c0_2325 : Index := 0#32
  ![v4410.toNat, 2464, 0]
def k0_off79 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4429 : Index := Scalar.indexCast v149
  let c2496 : Index := 2496#32
  let c0_2332 : Index := 0#32
  ![v4429.toNat, 2496, 0]
def k0_off80 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4448 : Index := Scalar.indexCast v149
  let c2528 : Index := 2528#32
  let c0_2339 : Index := 0#32
  ![v4448.toNat, 2528, 0]
def k0_off81 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4500 : Index := Scalar.indexCast v149
  let c2560 : Index := 2560#32
  let c0_2356 : Index := 0#32
  ![v4500.toNat, 2560, 0]
def k0_off82 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4519 : Index := Scalar.indexCast v149
  let c2592 : Index := 2592#32
  let c0_2363 : Index := 0#32
  ![v4519.toNat, 2592, 0]
def k0_off83 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4538 : Index := Scalar.indexCast v149
  let c2624 : Index := 2624#32
  let c0_2370 : Index := 0#32
  ![v4538.toNat, 2624, 0]
def k0_off84 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4557 : Index := Scalar.indexCast v149
  let c2656 : Index := 2656#32
  let c0_2377 : Index := 0#32
  ![v4557.toNat, 2656, 0]
def k0_off85 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4576 : Index := Scalar.indexCast v149
  let c2688 : Index := 2688#32
  let c0_2384 : Index := 0#32
  ![v4576.toNat, 2688, 0]
def k0_off86 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4595 : Index := Scalar.indexCast v149
  let c2720 : Index := 2720#32
  let c0_2391 : Index := 0#32
  ![v4595.toNat, 2720, 0]
def k0_off87 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4614 : Index := Scalar.indexCast v149
  let c2752 : Index := 2752#32
  let c0_2398 : Index := 0#32
  ![v4614.toNat, 2752, 0]
def k0_off88 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4633 : Index := Scalar.indexCast v149
  let c2784 : Index := 2784#32
  let c0_2405 : Index := 0#32
  ![v4633.toNat, 2784, 0]
def k0_off89 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4652 : Index := Scalar.indexCast v149
  let c2816 : Index := 2816#32
  let c0_2412 : Index := 0#32
  ![v4652.toNat, 2816, 0]
def k0_off90 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4671 : Index := Scalar.indexCast v149
  let c2848 : Index := 2848#32
  let c0_2419 : Index := 0#32
  ![v4671.toNat, 2848, 0]
def k0_off91 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4690 : Index := Scalar.indexCast v149
  let c2880 : Index := 2880#32
  let c0_2426 : Index := 0#32
  ![v4690.toNat, 2880, 0]
def k0_off92 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4709 : Index := Scalar.indexCast v149
  let c2912 : Index := 2912#32
  let c0_2433 : Index := 0#32
  ![v4709.toNat, 2912, 0]
def k0_off93 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4728 : Index := Scalar.indexCast v149
  let c2944 : Index := 2944#32
  let c0_2440 : Index := 0#32
  ![v4728.toNat, 2944, 0]
def k0_off94 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4747 : Index := Scalar.indexCast v149
  let c2976 : Index := 2976#32
  let c0_2447 : Index := 0#32
  ![v4747.toNat, 2976, 0]
def k0_off95 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4766 : Index := Scalar.indexCast v149
  let c3008 : Index := 3008#32
  let c0_2454 : Index := 0#32
  ![v4766.toNat, 3008, 0]
def k0_off96 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4785 : Index := Scalar.indexCast v149
  let c3040 : Index := 3040#32
  let c0_2461 : Index := 0#32
  ![v4785.toNat, 3040, 0]
def k0_off97 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4837 : Index := Scalar.indexCast v149
  let c3072 : Index := 3072#32
  let c0_2478 : Index := 0#32
  ![v4837.toNat, 3072, 0]
def k0_off98 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4856 : Index := Scalar.indexCast v149
  let c3104 : Index := 3104#32
  let c0_2485 : Index := 0#32
  ![v4856.toNat, 3104, 0]
def k0_off99 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4875 : Index := Scalar.indexCast v149
  let c3136 : Index := 3136#32
  let c0_2492 : Index := 0#32
  ![v4875.toNat, 3136, 0]
def k0_off100 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4894 : Index := Scalar.indexCast v149
  let c3168 : Index := 3168#32
  let c0_2499 : Index := 0#32
  ![v4894.toNat, 3168, 0]
def k0_off101 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4913 : Index := Scalar.indexCast v149
  let c3200 : Index := 3200#32
  let c0_2506 : Index := 0#32
  ![v4913.toNat, 3200, 0]
def k0_off102 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4932 : Index := Scalar.indexCast v149
  let c3232 : Index := 3232#32
  let c0_2513 : Index := 0#32
  ![v4932.toNat, 3232, 0]
def k0_off103 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4951 : Index := Scalar.indexCast v149
  let c3264 : Index := 3264#32
  let c0_2520 : Index := 0#32
  ![v4951.toNat, 3264, 0]
def k0_off104 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4970 : Index := Scalar.indexCast v149
  let c3296 : Index := 3296#32
  let c0_2527 : Index := 0#32
  ![v4970.toNat, 3296, 0]
def k0_off105 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v4989 : Index := Scalar.indexCast v149
  let c3328 : Index := 3328#32
  let c0_2534 : Index := 0#32
  ![v4989.toNat, 3328, 0]
def k0_off106 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5008 : Index := Scalar.indexCast v149
  let c3360 : Index := 3360#32
  let c0_2541 : Index := 0#32
  ![v5008.toNat, 3360, 0]
def k0_off107 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5027 : Index := Scalar.indexCast v149
  let c3392 : Index := 3392#32
  let c0_2548 : Index := 0#32
  ![v5027.toNat, 3392, 0]
def k0_off108 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5046 : Index := Scalar.indexCast v149
  let c3424 : Index := 3424#32
  let c0_2555 : Index := 0#32
  ![v5046.toNat, 3424, 0]
def k0_off109 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5065 : Index := Scalar.indexCast v149
  let c3456 : Index := 3456#32
  let c0_2562 : Index := 0#32
  ![v5065.toNat, 3456, 0]
def k0_off110 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5084 : Index := Scalar.indexCast v149
  let c3488 : Index := 3488#32
  let c0_2569 : Index := 0#32
  ![v5084.toNat, 3488, 0]
def k0_off111 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5103 : Index := Scalar.indexCast v149
  let c3520 : Index := 3520#32
  let c0_2576 : Index := 0#32
  ![v5103.toNat, 3520, 0]
def k0_off112 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5122 : Index := Scalar.indexCast v149
  let c3552 : Index := 3552#32
  let c0_2583 : Index := 0#32
  ![v5122.toNat, 3552, 0]
def k0_off113 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5174 : Index := Scalar.indexCast v149
  let c3584 : Index := 3584#32
  let c0_2600 : Index := 0#32
  ![v5174.toNat, 3584, 0]
def k0_off114 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5193 : Index := Scalar.indexCast v149
  let c3616 : Index := 3616#32
  let c0_2607 : Index := 0#32
  ![v5193.toNat, 3616, 0]
def k0_off115 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5212 : Index := Scalar.indexCast v149
  let c3648 : Index := 3648#32
  let c0_2614 : Index := 0#32
  ![v5212.toNat, 3648, 0]
def k0_off116 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5231 : Index := Scalar.indexCast v149
  let c3680 : Index := 3680#32
  let c0_2621 : Index := 0#32
  ![v5231.toNat, 3680, 0]
def k0_off117 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5250 : Index := Scalar.indexCast v149
  let c3712 : Index := 3712#32
  let c0_2628 : Index := 0#32
  ![v5250.toNat, 3712, 0]
def k0_off118 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5269 : Index := Scalar.indexCast v149
  let c3744 : Index := 3744#32
  let c0_2635 : Index := 0#32
  ![v5269.toNat, 3744, 0]
def k0_off119 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5288 : Index := Scalar.indexCast v149
  let c3776 : Index := 3776#32
  let c0_2642 : Index := 0#32
  ![v5288.toNat, 3776, 0]
def k0_off120 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5307 : Index := Scalar.indexCast v149
  let c3808 : Index := 3808#32
  let c0_2649 : Index := 0#32
  ![v5307.toNat, 3808, 0]
def k0_off121 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5326 : Index := Scalar.indexCast v149
  let c3840 : Index := 3840#32
  let c0_2656 : Index := 0#32
  ![v5326.toNat, 3840, 0]
def k0_off122 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5345 : Index := Scalar.indexCast v149
  let c3872 : Index := 3872#32
  let c0_2663 : Index := 0#32
  ![v5345.toNat, 3872, 0]
def k0_off123 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5364 : Index := Scalar.indexCast v149
  let c3904 : Index := 3904#32
  let c0_2670 : Index := 0#32
  ![v5364.toNat, 3904, 0]
def k0_off124 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5383 : Index := Scalar.indexCast v149
  let c3936 : Index := 3936#32
  let c0_2677 : Index := 0#32
  ![v5383.toNat, 3936, 0]
def k0_off125 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5402 : Index := Scalar.indexCast v149
  let c3968 : Index := 3968#32
  let c0_2684 : Index := 0#32
  ![v5402.toNat, 3968, 0]
def k0_off126 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5421 : Index := Scalar.indexCast v149
  let c4000 : Index := 4000#32
  let c0_2691 : Index := 0#32
  ![v5421.toNat, 4000, 0]
def k0_off127 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5440 : Index := Scalar.indexCast v149
  let c4032 : Index := 4032#32
  let c0_2698 : Index := 0#32
  ![v5440.toNat, 4032, 0]
def k0_off128 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5459 : Index := Scalar.indexCast v149
  let c4064 : Index := 4064#32
  let c0_2705 : Index := 0#32
  ![v5459.toNat, 4064, 0]
def k0_off129 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5511 : Index := Scalar.indexCast v149
  let c4096 : Index := 4096#32
  let c0_2722 : Index := 0#32
  ![v5511.toNat, 4096, 0]
def k0_off130 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5530 : Index := Scalar.indexCast v149
  let c4128 : Index := 4128#32
  let c0_2729 : Index := 0#32
  ![v5530.toNat, 4128, 0]
def k0_off131 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5549 : Index := Scalar.indexCast v149
  let c4160 : Index := 4160#32
  let c0_2736 : Index := 0#32
  ![v5549.toNat, 4160, 0]
def k0_off132 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5568 : Index := Scalar.indexCast v149
  let c4192 : Index := 4192#32
  let c0_2743 : Index := 0#32
  ![v5568.toNat, 4192, 0]
def k0_off133 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5587 : Index := Scalar.indexCast v149
  let c4224 : Index := 4224#32
  let c0_2750 : Index := 0#32
  ![v5587.toNat, 4224, 0]
def k0_off134 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5606 : Index := Scalar.indexCast v149
  let c4256 : Index := 4256#32
  let c0_2757 : Index := 0#32
  ![v5606.toNat, 4256, 0]
def k0_off135 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5625 : Index := Scalar.indexCast v149
  let c4288 : Index := 4288#32
  let c0_2764 : Index := 0#32
  ![v5625.toNat, 4288, 0]
def k0_off136 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5644 : Index := Scalar.indexCast v149
  let c4320 : Index := 4320#32
  let c0_2771 : Index := 0#32
  ![v5644.toNat, 4320, 0]
def k0_off137 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5663 : Index := Scalar.indexCast v149
  let c4352 : Index := 4352#32
  let c0_2778 : Index := 0#32
  ![v5663.toNat, 4352, 0]
def k0_off138 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5682 : Index := Scalar.indexCast v149
  let c4384 : Index := 4384#32
  let c0_2785 : Index := 0#32
  ![v5682.toNat, 4384, 0]
def k0_off139 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5701 : Index := Scalar.indexCast v149
  let c4416 : Index := 4416#32
  let c0_2792 : Index := 0#32
  ![v5701.toNat, 4416, 0]
def k0_off140 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5720 : Index := Scalar.indexCast v149
  let c4448 : Index := 4448#32
  let c0_2799 : Index := 0#32
  ![v5720.toNat, 4448, 0]
def k0_off141 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5739 : Index := Scalar.indexCast v149
  let c4480 : Index := 4480#32
  let c0_2806 : Index := 0#32
  ![v5739.toNat, 4480, 0]
def k0_off142 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5758 : Index := Scalar.indexCast v149
  let c4512 : Index := 4512#32
  let c0_2813 : Index := 0#32
  ![v5758.toNat, 4512, 0]
def k0_off143 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5777 : Index := Scalar.indexCast v149
  let c4544 : Index := 4544#32
  let c0_2820 : Index := 0#32
  ![v5777.toNat, 4544, 0]
def k0_off144 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5796 : Index := Scalar.indexCast v149
  let c4576 : Index := 4576#32
  let c0_2827 : Index := 0#32
  ![v5796.toNat, 4576, 0]
def k0_off145 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5848 : Index := Scalar.indexCast v149
  let c4608 : Index := 4608#32
  let c0_2844 : Index := 0#32
  ![v5848.toNat, 4608, 0]
def k0_off146 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5867 : Index := Scalar.indexCast v149
  let c4640 : Index := 4640#32
  let c0_2851 : Index := 0#32
  ![v5867.toNat, 4640, 0]
def k0_off147 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5886 : Index := Scalar.indexCast v149
  let c4672 : Index := 4672#32
  let c0_2858 : Index := 0#32
  ![v5886.toNat, 4672, 0]
def k0_off148 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5905 : Index := Scalar.indexCast v149
  let c4704 : Index := 4704#32
  let c0_2865 : Index := 0#32
  ![v5905.toNat, 4704, 0]
def k0_off149 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5924 : Index := Scalar.indexCast v149
  let c4736 : Index := 4736#32
  let c0_2872 : Index := 0#32
  ![v5924.toNat, 4736, 0]
def k0_off150 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5943 : Index := Scalar.indexCast v149
  let c4768 : Index := 4768#32
  let c0_2879 : Index := 0#32
  ![v5943.toNat, 4768, 0]
def k0_off151 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5962 : Index := Scalar.indexCast v149
  let c4800 : Index := 4800#32
  let c0_2886 : Index := 0#32
  ![v5962.toNat, 4800, 0]
def k0_off152 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v5981 : Index := Scalar.indexCast v149
  let c4832 : Index := 4832#32
  let c0_2893 : Index := 0#32
  ![v5981.toNat, 4832, 0]
def k0_off153 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6000 : Index := Scalar.indexCast v149
  let c4864 : Index := 4864#32
  let c0_2900 : Index := 0#32
  ![v6000.toNat, 4864, 0]
def k0_off154 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6019 : Index := Scalar.indexCast v149
  let c4896 : Index := 4896#32
  let c0_2907 : Index := 0#32
  ![v6019.toNat, 4896, 0]
def k0_off155 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6038 : Index := Scalar.indexCast v149
  let c4928 : Index := 4928#32
  let c0_2914 : Index := 0#32
  ![v6038.toNat, 4928, 0]
def k0_off156 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6057 : Index := Scalar.indexCast v149
  let c4960 : Index := 4960#32
  let c0_2921 : Index := 0#32
  ![v6057.toNat, 4960, 0]
def k0_off157 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6076 : Index := Scalar.indexCast v149
  let c4992 : Index := 4992#32
  let c0_2928 : Index := 0#32
  ![v6076.toNat, 4992, 0]
def k0_off158 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6095 : Index := Scalar.indexCast v149
  let c5024 : Index := 5024#32
  let c0_2935 : Index := 0#32
  ![v6095.toNat, 5024, 0]
def k0_off159 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6114 : Index := Scalar.indexCast v149
  let c5056 : Index := 5056#32
  let c0_2942 : Index := 0#32
  ![v6114.toNat, 5056, 0]
def k0_off160 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6133 : Index := Scalar.indexCast v149
  let c5088 : Index := 5088#32
  let c0_2949 : Index := 0#32
  ![v6133.toNat, 5088, 0]
def k0_off161 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6185 : Index := Scalar.indexCast v149
  let c5120 : Index := 5120#32
  let c0_2966 : Index := 0#32
  ![v6185.toNat, 5120, 0]
def k0_off162 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6204 : Index := Scalar.indexCast v149
  let c5152 : Index := 5152#32
  let c0_2973 : Index := 0#32
  ![v6204.toNat, 5152, 0]
def k0_off163 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6223 : Index := Scalar.indexCast v149
  let c5184 : Index := 5184#32
  let c0_2980 : Index := 0#32
  ![v6223.toNat, 5184, 0]
def k0_off164 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6242 : Index := Scalar.indexCast v149
  let c5216 : Index := 5216#32
  let c0_2987 : Index := 0#32
  ![v6242.toNat, 5216, 0]
def k0_off165 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6261 : Index := Scalar.indexCast v149
  let c5248 : Index := 5248#32
  let c0_2994 : Index := 0#32
  ![v6261.toNat, 5248, 0]
def k0_off166 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6280 : Index := Scalar.indexCast v149
  let c5280 : Index := 5280#32
  let c0_3001 : Index := 0#32
  ![v6280.toNat, 5280, 0]
def k0_off167 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6299 : Index := Scalar.indexCast v149
  let c5312 : Index := 5312#32
  let c0_3008 : Index := 0#32
  ![v6299.toNat, 5312, 0]
def k0_off168 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6318 : Index := Scalar.indexCast v149
  let c5344 : Index := 5344#32
  let c0_3015 : Index := 0#32
  ![v6318.toNat, 5344, 0]
def k0_off169 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6337 : Index := Scalar.indexCast v149
  let c5376 : Index := 5376#32
  let c0_3022 : Index := 0#32
  ![v6337.toNat, 5376, 0]
def k0_off170 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6356 : Index := Scalar.indexCast v149
  let c5408 : Index := 5408#32
  let c0_3029 : Index := 0#32
  ![v6356.toNat, 5408, 0]
def k0_off171 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6375 : Index := Scalar.indexCast v149
  let c5440 : Index := 5440#32
  let c0_3036 : Index := 0#32
  ![v6375.toNat, 5440, 0]
def k0_off172 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6394 : Index := Scalar.indexCast v149
  let c5472 : Index := 5472#32
  let c0_3043 : Index := 0#32
  ![v6394.toNat, 5472, 0]
def k0_off173 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6413 : Index := Scalar.indexCast v149
  let c5504 : Index := 5504#32
  let c0_3050 : Index := 0#32
  ![v6413.toNat, 5504, 0]
def k0_off174 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6432 : Index := Scalar.indexCast v149
  let c5536 : Index := 5536#32
  let c0_3057 : Index := 0#32
  ![v6432.toNat, 5536, 0]
def k0_off175 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6451 : Index := Scalar.indexCast v149
  let c5568 : Index := 5568#32
  let c0_3064 : Index := 0#32
  ![v6451.toNat, 5568, 0]
def k0_off176 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6470 : Index := Scalar.indexCast v149
  let c5600 : Index := 5600#32
  let c0_3071 : Index := 0#32
  ![v6470.toNat, 5600, 0]
def k0_off177 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6522 : Index := Scalar.indexCast v149
  let c5632 : Index := 5632#32
  let c0_3088 : Index := 0#32
  ![v6522.toNat, 5632, 0]
def k0_off178 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6541 : Index := Scalar.indexCast v149
  let c5664 : Index := 5664#32
  let c0_3095 : Index := 0#32
  ![v6541.toNat, 5664, 0]
def k0_off179 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6560 : Index := Scalar.indexCast v149
  let c5696 : Index := 5696#32
  let c0_3102 : Index := 0#32
  ![v6560.toNat, 5696, 0]
def k0_off180 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6579 : Index := Scalar.indexCast v149
  let c5728 : Index := 5728#32
  let c0_3109 : Index := 0#32
  ![v6579.toNat, 5728, 0]
def k0_off181 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6598 : Index := Scalar.indexCast v149
  let c5760 : Index := 5760#32
  let c0_3116 : Index := 0#32
  ![v6598.toNat, 5760, 0]
def k0_off182 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6617 : Index := Scalar.indexCast v149
  let c5792 : Index := 5792#32
  let c0_3123 : Index := 0#32
  ![v6617.toNat, 5792, 0]
def k0_off183 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6636 : Index := Scalar.indexCast v149
  let c5824 : Index := 5824#32
  let c0_3130 : Index := 0#32
  ![v6636.toNat, 5824, 0]
def k0_off184 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6655 : Index := Scalar.indexCast v149
  let c5856 : Index := 5856#32
  let c0_3137 : Index := 0#32
  ![v6655.toNat, 5856, 0]
def k0_off185 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6674 : Index := Scalar.indexCast v149
  let c5888 : Index := 5888#32
  let c0_3144 : Index := 0#32
  ![v6674.toNat, 5888, 0]
def k0_off186 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6693 : Index := Scalar.indexCast v149
  let c5920 : Index := 5920#32
  let c0_3151 : Index := 0#32
  ![v6693.toNat, 5920, 0]
def k0_off187 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6712 : Index := Scalar.indexCast v149
  let c5952 : Index := 5952#32
  let c0_3158 : Index := 0#32
  ![v6712.toNat, 5952, 0]
def k0_off188 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6731 : Index := Scalar.indexCast v149
  let c5984 : Index := 5984#32
  let c0_3165 : Index := 0#32
  ![v6731.toNat, 5984, 0]
def k0_off189 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6750 : Index := Scalar.indexCast v149
  let c6016 : Index := 6016#32
  let c0_3172 : Index := 0#32
  ![v6750.toNat, 6016, 0]
def k0_off190 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6769 : Index := Scalar.indexCast v149
  let c6048 : Index := 6048#32
  let c0_3179 : Index := 0#32
  ![v6769.toNat, 6048, 0]
def k0_off191 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6788 : Index := Scalar.indexCast v149
  let c6080 : Index := 6080#32
  let c0_3186 : Index := 0#32
  ![v6788.toNat, 6080, 0]
def k0_off192 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6807 : Index := Scalar.indexCast v149
  let c6112 : Index := 6112#32
  let c0_3193 : Index := 0#32
  ![v6807.toNat, 6112, 0]
def k0_off193 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6859 : Index := Scalar.indexCast v149
  let c6144 : Index := 6144#32
  let c0_3210 : Index := 0#32
  ![v6859.toNat, 6144, 0]
def k0_off194 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6878 : Index := Scalar.indexCast v149
  let c6176 : Index := 6176#32
  let c0_3217 : Index := 0#32
  ![v6878.toNat, 6176, 0]
def k0_off195 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6897 : Index := Scalar.indexCast v149
  let c6208 : Index := 6208#32
  let c0_3224 : Index := 0#32
  ![v6897.toNat, 6208, 0]
def k0_off196 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6916 : Index := Scalar.indexCast v149
  let c6240 : Index := 6240#32
  let c0_3231 : Index := 0#32
  ![v6916.toNat, 6240, 0]
def k0_off197 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6935 : Index := Scalar.indexCast v149
  let c6272 : Index := 6272#32
  let c0_3238 : Index := 0#32
  ![v6935.toNat, 6272, 0]
def k0_off198 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6954 : Index := Scalar.indexCast v149
  let c6304 : Index := 6304#32
  let c0_3245 : Index := 0#32
  ![v6954.toNat, 6304, 0]
def k0_off199 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6973 : Index := Scalar.indexCast v149
  let c6336 : Index := 6336#32
  let c0_3252 : Index := 0#32
  ![v6973.toNat, 6336, 0]
def k0_off200 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v6992 : Index := Scalar.indexCast v149
  let c6368 : Index := 6368#32
  let c0_3259 : Index := 0#32
  ![v6992.toNat, 6368, 0]
def k0_off201 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7011 : Index := Scalar.indexCast v149
  let c6400 : Index := 6400#32
  let c0_3266 : Index := 0#32
  ![v7011.toNat, 6400, 0]
def k0_off202 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7030 : Index := Scalar.indexCast v149
  let c6432 : Index := 6432#32
  let c0_3273 : Index := 0#32
  ![v7030.toNat, 6432, 0]
def k0_off203 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7049 : Index := Scalar.indexCast v149
  let c6464 : Index := 6464#32
  let c0_3280 : Index := 0#32
  ![v7049.toNat, 6464, 0]
def k0_off204 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7068 : Index := Scalar.indexCast v149
  let c6496 : Index := 6496#32
  let c0_3287 : Index := 0#32
  ![v7068.toNat, 6496, 0]
def k0_off205 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7087 : Index := Scalar.indexCast v149
  let c6528 : Index := 6528#32
  let c0_3294 : Index := 0#32
  ![v7087.toNat, 6528, 0]
def k0_off206 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7106 : Index := Scalar.indexCast v149
  let c6560 : Index := 6560#32
  let c0_3301 : Index := 0#32
  ![v7106.toNat, 6560, 0]
def k0_off207 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7125 : Index := Scalar.indexCast v149
  let c6592 : Index := 6592#32
  let c0_3308 : Index := 0#32
  ![v7125.toNat, 6592, 0]
def k0_off208 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7144 : Index := Scalar.indexCast v149
  let c6624 : Index := 6624#32
  let c0_3315 : Index := 0#32
  ![v7144.toNat, 6624, 0]
def k0_off209 (k0_t3 : Fin k0_t3_loop.trips) (c0_i32_3319 : BitVec 32) : Fin 1 → Nat :=
  let c2_i32_3318 : BitVec 32 := 2#32
  let c0_i32_155 : BitVec 32 := 0#32
  let c1_i32_157 : BitVec 32 := 1#32
  let arg25 : BitVec 32 := Scf.iv c0_i32_155 c1_i32_157 k0_t3
  let v7150 : BitVec 32 := Scalar.muli c2_i32_3318 arg25
  let v7151 : BitVec 32 := Scalar.addi v7150 c0_i32_3319
  ![v7151.toNat]
def k0_off210 (k0_t3 : Fin k0_t3_loop.trips) : Fin 3 → Nat :=
  let c2_i32_3316 : BitVec 32 := 2#32
  let c0_i32_155 : BitVec 32 := 0#32
  let c1_i32_157 : BitVec 32 := 1#32
  let arg25 : BitVec 32 := Scf.iv c0_i32_155 c1_i32_157 k0_t3
  let v7148 : BitVec 32 := Scalar.muli c2_i32_3316 arg25
  let c0_i32_3317 : BitVec 32 := 0#32
  let v7149 : BitVec 32 := Scalar.addi v7148 c0_i32_3317
  let c0_i32_3320 : BitVec 32 := 0#32
  let c0_i32_3321 : BitVec 32 := 0#32
  ![v7149.toNat, 0, 0]
def k0_off211 (k0_t3 : Fin k0_t3_loop.trips) : Fin 3 → Nat :=
  let c2_i32_3324 : BitVec 32 := 2#32
  let c0_i32_155 : BitVec 32 := 0#32
  let c1_i32_157 : BitVec 32 := 1#32
  let arg25 : BitVec 32 := Scf.iv c0_i32_155 c1_i32_157 k0_t3
  let v7157 : BitVec 32 := Scalar.muli c2_i32_3324 arg25
  let c0_i32_3325 : BitVec 32 := 0#32
  let v7158 : BitVec 32 := Scalar.addi v7157 c0_i32_3325
  let c0_i32_3329 : BitVec 32 := 0#32
  let c0_i32_3330 : BitVec 32 := 0#32
  ![v7158.toNat, 0, 0]
def k0_off212 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7167 : Index := Scalar.indexCast v149
  let c0_3333 : Index := 0#32
  let c0_3334 : Index := 0#32
  ![v7167.toNat, 0, 0]
def k0_off213 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7217 : Index := Scalar.indexCast v149
  let c0_3353 : Index := 0#32
  let c0_3354 : Index := 0#32
  ![v7217.toNat, 0, 0]
def k0_off214 (k0_t3 : Fin k0_t3_loop.trips) (v151 : BitVec 32) (c0_i32_3355 : BitVec 32) : Fin 3 → Nat :=
  let c32_i32_188 : BitVec 32 := 32#32
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let c416_i32 : BitVec 32 := 416#32
  let v153 : BitVec 32 := Scalar.muli v149 c416_i32
  let v154 : BitVec 32 := Scalar.addi c32_i32_188 v153
  let c32_i32_187 : BitVec 32 := 32#32
  let v152 : BitVec 32 := Scalar.remsi v151 c32_i32_187
  let v155 : BitVec 32 := Scalar.subi v154 v152
  let v7222 : BitVec 32 := Scalar.addi v155 c0_i32_3355
  let v7223 : Index := Scalar.indexCast v7222
  let c0_3356 : Index := 0#32
  let c0_3357 : Index := 0#32
  ![v7223.toNat, 0, 0]

def k0_chk3 (k0_t3 : Fin k0_t3_loop.trips) (v151 : BitVec 32) : Prop :=
  (∀ (r₁ : Fin 13) (r₂ : Fin 32), ∀ a, (k0_off15 k0_t3 v151 (BitVec.ofNat 32 (32 * r₁.val)) (BitVec.ofNat 32 r₂.val)) a + S1x16x128.size a ≤ S10016x16x128.size a) ∧
  (∀ (r₁ : Fin 12) (r₂ : Fin 16), ∀ a, (k0_off16 k0_t3 v151 (BitVec.ofNat 32 (32 + 32 * r₁.val)) (BitVec.ofNat 32 (2 * r₂.val))) a + S2x16x128.size a ≤ S10016x16x128.size a) ∧
  (∀ (r : Fin 16), ∀ a, (k0_off214 k0_t3 v151 (BitVec.ofNat 32 (2 * r.val))) a + S2x16x128.size a ≤ S10016x16x128.size a)
theorem k0_off15_inb : ∀ (k0_t3 : Fin k0_t3_loop.trips) (v151 : BitVec 32) (k0_hw3 : k0_chk3 k0_t3 v151), ∀ (r₁ : Fin 13) (r₂ : Fin 32), ∀ a, (k0_off15 k0_t3 v151 (BitVec.ofNat 32 (32 * r₁.val)) (BitVec.ofNat 32 r₂.val)) a + S1x16x128.size a ≤ S10016x16x128.size a := fun k0_t3 v151 k0_hw3 r₁ r₂ => k0_hw3.1 r₁ r₂
theorem k0_off16_inb : ∀ (k0_t3 : Fin k0_t3_loop.trips) (v151 : BitVec 32) (k0_hw3 : k0_chk3 k0_t3 v151), ∀ (r₁ : Fin 12) (r₂ : Fin 16), ∀ a, (k0_off16 k0_t3 v151 (BitVec.ofNat 32 (32 + 32 * r₁.val)) (BitVec.ofNat 32 (2 * r₂.val))) a + S2x16x128.size a ≤ S10016x16x128.size a := fun k0_t3 v151 k0_hw3 r₁ r₂ => k0_hw3.2.1 r₁ r₂
theorem k0_off214_inb : ∀ (k0_t3 : Fin k0_t3_loop.trips) (v151 : BitVec 32) (k0_hw3 : k0_chk3 k0_t3 v151), ∀ (r : Fin 16), ∀ a, (k0_off214 k0_t3 v151 (BitVec.ofNat 32 (2 * r.val))) a + S2x16x128.size a ≤ S10016x16x128.size a := fun k0_t3 v151 k0_hw3 r => k0_hw3.2.2 r

def k0_off215 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7255 : Index := Scalar.indexCast v149
  let c0_3362 : Index := 0#32
  let c0_3363 : Index := 0#32
  ![v7255.toNat, 0, 0]
def k0_off216 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7259 : Index := Scalar.indexCast v149
  let c32 : Index := 32#32
  let c0_3364 : Index := 0#32
  ![v7259.toNat, 32, 0]
def k0_off217 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7297 : Index := Scalar.indexCast v149
  let c32_3372 : Index := 32#32
  let c0_3373 : Index := 0#32
  ![v7297.toNat, 32, 0]
def k0_off218 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7301 : Index := Scalar.indexCast v149
  let c64 : Index := 64#32
  let c0_3374 : Index := 0#32
  ![v7301.toNat, 64, 0]
def k0_off219 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7339 : Index := Scalar.indexCast v149
  let c64_3382 : Index := 64#32
  let c0_3383 : Index := 0#32
  ![v7339.toNat, 64, 0]
def k0_off220 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7343 : Index := Scalar.indexCast v149
  let c96 : Index := 96#32
  let c0_3384 : Index := 0#32
  ![v7343.toNat, 96, 0]
def k0_off221 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7381 : Index := Scalar.indexCast v149
  let c96_3392 : Index := 96#32
  let c0_3393 : Index := 0#32
  ![v7381.toNat, 96, 0]
def k0_off222 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7385 : Index := Scalar.indexCast v149
  let c128 : Index := 128#32
  let c0_3394 : Index := 0#32
  ![v7385.toNat, 128, 0]
def k0_off223 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7423 : Index := Scalar.indexCast v149
  let c128_3402 : Index := 128#32
  let c0_3403 : Index := 0#32
  ![v7423.toNat, 128, 0]
def k0_off224 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7427 : Index := Scalar.indexCast v149
  let c160 : Index := 160#32
  let c0_3404 : Index := 0#32
  ![v7427.toNat, 160, 0]
def k0_off225 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7465 : Index := Scalar.indexCast v149
  let c160_3412 : Index := 160#32
  let c0_3413 : Index := 0#32
  ![v7465.toNat, 160, 0]
def k0_off226 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7469 : Index := Scalar.indexCast v149
  let c192 : Index := 192#32
  let c0_3414 : Index := 0#32
  ![v7469.toNat, 192, 0]
def k0_off227 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7507 : Index := Scalar.indexCast v149
  let c192_3422 : Index := 192#32
  let c0_3423 : Index := 0#32
  ![v7507.toNat, 192, 0]
def k0_off228 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7511 : Index := Scalar.indexCast v149
  let c224 : Index := 224#32
  let c0_3424 : Index := 0#32
  ![v7511.toNat, 224, 0]
def k0_off229 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7549 : Index := Scalar.indexCast v149
  let c224_3432 : Index := 224#32
  let c0_3433 : Index := 0#32
  ![v7549.toNat, 224, 0]
def k0_off230 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7553 : Index := Scalar.indexCast v149
  let c256 : Index := 256#32
  let c0_3434 : Index := 0#32
  ![v7553.toNat, 256, 0]
def k0_off231 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7591 : Index := Scalar.indexCast v149
  let c256_3442 : Index := 256#32
  let c0_3443 : Index := 0#32
  ![v7591.toNat, 256, 0]
def k0_off232 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7595 : Index := Scalar.indexCast v149
  let c288 : Index := 288#32
  let c0_3444 : Index := 0#32
  ![v7595.toNat, 288, 0]
def k0_off233 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7633 : Index := Scalar.indexCast v149
  let c288_3452 : Index := 288#32
  let c0_3453 : Index := 0#32
  ![v7633.toNat, 288, 0]
def k0_off234 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7637 : Index := Scalar.indexCast v149
  let c320 : Index := 320#32
  let c0_3454 : Index := 0#32
  ![v7637.toNat, 320, 0]
def k0_off235 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7675 : Index := Scalar.indexCast v149
  let c320_3462 : Index := 320#32
  let c0_3463 : Index := 0#32
  ![v7675.toNat, 320, 0]
def k0_off236 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7679 : Index := Scalar.indexCast v149
  let c352 : Index := 352#32
  let c0_3464 : Index := 0#32
  ![v7679.toNat, 352, 0]
def k0_off237 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7717 : Index := Scalar.indexCast v149
  let c352_3472 : Index := 352#32
  let c0_3473 : Index := 0#32
  ![v7717.toNat, 352, 0]
def k0_off238 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7721 : Index := Scalar.indexCast v149
  let c384 : Index := 384#32
  let c0_3474 : Index := 0#32
  ![v7721.toNat, 384, 0]
def k0_off239 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7759 : Index := Scalar.indexCast v149
  let c384_3482 : Index := 384#32
  let c0_3483 : Index := 0#32
  ![v7759.toNat, 384, 0]
def k0_off240 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7763 : Index := Scalar.indexCast v149
  let c416 : Index := 416#32
  let c0_3484 : Index := 0#32
  ![v7763.toNat, 416, 0]
def k0_off241 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7801 : Index := Scalar.indexCast v149
  let c416_3492 : Index := 416#32
  let c0_3493 : Index := 0#32
  ![v7801.toNat, 416, 0]
def k0_off242 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7805 : Index := Scalar.indexCast v149
  let c448 : Index := 448#32
  let c0_3494 : Index := 0#32
  ![v7805.toNat, 448, 0]
def k0_off243 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7843 : Index := Scalar.indexCast v149
  let c448_3502 : Index := 448#32
  let c0_3503 : Index := 0#32
  ![v7843.toNat, 448, 0]
def k0_off244 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7847 : Index := Scalar.indexCast v149
  let c480 : Index := 480#32
  let c0_3504 : Index := 0#32
  ![v7847.toNat, 480, 0]
def k0_off245 (k0_t3 : Fin k0_t3_loop.trips) : Fin 3 → Nat :=
  let c2_i32_185 : BitVec 32 := 2#32
  let c0_i32_155 : BitVec 32 := 0#32
  let c1_i32_157 : BitVec 32 := 1#32
  let arg25 : BitVec 32 := Scf.iv c0_i32_155 c1_i32_157 k0_t3
  let v148 : BitVec 32 := Scalar.muli c2_i32_185 arg25
  let c0_i32_186 : BitVec 32 := 0#32
  let v149 : BitVec 32 := Scalar.addi v148 c0_i32_186
  let v7885 : Index := Scalar.indexCast v149
  let c480_3512 : Index := 480#32
  let c0_3513 : Index := 0#32
  ![v7885.toNat, 480, 0]
def k0_off246 (k0_t3 : Fin k0_t3_loop.trips) : Fin 4 → Nat :=
  let c0_3514 : Index := 0#32
  let c0_i32_155 : BitVec 32 := 0#32
  let c1_i32_157 : BitVec 32 := 1#32
  let arg25 : BitVec 32 := Scf.iv c0_i32_155 c1_i32_157 k0_t3
  let v7891 : Index := Scalar.indexCast arg25
  let c0_3515 : Index := 0#32
  let c0_3516 : Index := 0#32
  ![0, v7891.toNat, 0, 0]
def k0_cond1 (k0_t3 : Fin k0_t3_loop.trips) : BitVec 1 :=
  let c0_i32_155 : BitVec 32 := 0#32
  let c1_i32_157 : BitVec 32 := 1#32
  let arg25 : BitVec 32 := Scf.iv c0_i32_155 c1_i32_157 k0_t3
  let c0_i32_3517 : BitVec 32 := 0#32
  let v7895 : BitVec 1 := Scalar.cmpi .sgt arg25 c0_i32_3517
  let v7896 : BitVec 32 := Scalar.extui v7895
  let c0_i32_3518 : BitVec 32 := 0#32
  let v7897 : BitVec 1 := Scalar.cmpi .ne v7896 c0_i32_3518
  v7897

def k0_off247 (k0_t3 : Fin k0_t3_loop.trips) : Fin 3 → Nat :=
  let c0_i32_155 : BitVec 32 := 0#32
  let c1_i32_157 : BitVec 32 := 1#32
  let arg25 : BitVec 32 := Scf.iv c0_i32_155 c1_i32_157 k0_t3
  let c1_i32_7088 : BitVec 32 := 1#32
  let v15651 : BitVec 32 := Scalar.subi arg25 c1_i32_7088
  let c0_i32_7091 : BitVec 32 := 0#32
  let c0_i32_7092 : BitVec 32 := 0#32
  ![v15651.toNat, 0, 0]
def k0_off248 (k0_t3 : Fin k0_t3_loop.trips) : Fin 3 → Nat :=
  let c2_i32_7089 : BitVec 32 := 2#32
  let c0_i32_155 : BitVec 32 := 0#32
  let c1_i32_157 : BitVec 32 := 1#32
  let arg25 : BitVec 32 := Scf.iv c0_i32_155 c1_i32_157 k0_t3
  let c1_i32_7088 : BitVec 32 := 1#32
  let v15651 : BitVec 32 := Scalar.subi arg25 c1_i32_7088
  let v15652 : BitVec 32 := Scalar.muli c2_i32_7089 v15651
  let c1_i32_7090 : BitVec 32 := 1#32
  let v15653 : BitVec 32 := Scalar.addi v15652 c1_i32_7090
  let c0_i32_7093 : BitVec 32 := 0#32
  let c0_i32_7094 : BitVec 32 := 0#32
  ![v15653.toNat, 0, 0]
def k0_off249 (k0_t3 : Fin k0_t3_loop.trips) : Fin 1 → Nat :=
  let c0_i32_155 : BitVec 32 := 0#32
  let c1_i32_157 : BitVec 32 := 1#32
  let arg25 : BitVec 32 := Scf.iv c0_i32_155 c1_i32_157 k0_t3
  let v7900 : Index := Scalar.indexCast arg25
  ![v7900.toNat]
def k0_off250 (k0_t3 : Fin k0_t3_loop.trips) : Fin 3 → Nat :=
  let c32_i32_3527 : BitVec 32 := 32#32
  let c2_i32_3524 : BitVec 32 := 2#32
  let c0_i32_155 : BitVec 32 := 0#32
  let c1_i32_157 : BitVec 32 := 1#32
  let arg25 : BitVec 32 := Scf.iv c0_i32_155 c1_i32_157 k0_t3
  let v7906 : BitVec 32 := Scalar.muli c2_i32_3524 arg25
  let c1_i32_3525 : BitVec 32 := 1#32
  let v7907 : BitVec 32 := Scalar.addi v7906 c1_i32_3525
  let c416_i32_3526 : BitVec 32 := 416#32
  let v7908 : BitVec 32 := Scalar.muli v7907 c416_i32_3526
  let v7909 : BitVec 32 := Scalar.addi c32_i32_3527 v7908
  let c0_i32_3528 : BitVec 32 := 0#32
  let c0_i32_3529 : BitVec 32 := 0#32
  ![v7909.toNat, 0, 0]
def k0_off251 (k0_t3 : Fin k0_t3_loop.trips) : Fin 4 → Nat :=
  let c0_i32_155 : BitVec 32 := 0#32
  let c1_i32_157 : BitVec 32 := 1#32
  let arg25 : BitVec 32 := Scf.iv c0_i32_155 c1_i32_157 k0_t3
  let c0_i32_3530 : BitVec 32 := 0#32
  let c0_i32_3531 : BitVec 32 := 0#32
  let c0_i32_3532 : BitVec 32 := 0#32
  ![arg25.toNat, 0, 0, 0]
def k0_off252 (k0_t3 : Fin k0_t3_loop.trips) (v7901 : BitVec 32) (c0_i32_3533 : BitVec 32) (c0_i32_3534 : BitVec 32) : Fin 3 → Nat :=
  let c32_i32_3523 : BitVec 32 := 32#32
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let c416_i32_3522 : BitVec 32 := 416#32
  let v7903 : BitVec 32 := Scalar.muli v7899 c416_i32_3522
  let v7904 : BitVec 32 := Scalar.addi c32_i32_3523 v7903
  let c32_i32_3521 : BitVec 32 := 32#32
  let v7902 : BitVec 32 := Scalar.remsi v7901 c32_i32_3521
  let v7905 : BitVec 32 := Scalar.subi v7904 v7902
  let v7915 : BitVec 32 := Scalar.addi v7905 c0_i32_3533
  let v7916 : BitVec 32 := Scalar.addi v7915 c0_i32_3534
  let v7917 : Index := Scalar.indexCast v7916
  let c0_3535 : Index := 0#32
  let c0_3536 : Index := 0#32
  ![v7917.toNat, 0, 0]

def k0_off253 (k0_t3 : Fin k0_t3_loop.trips) (v7901 : BitVec 32) (c32_i32_5221 : BitVec 32) (c0_i32_5222 : BitVec 32) : Fin 3 → Nat :=
  let c32_i32_3523 : BitVec 32 := 32#32
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let c416_i32_3522 : BitVec 32 := 416#32
  let v7903 : BitVec 32 := Scalar.muli v7899 c416_i32_3522
  let v7904 : BitVec 32 := Scalar.addi c32_i32_3523 v7903
  let c32_i32_3521 : BitVec 32 := 32#32
  let v7902 : BitVec 32 := Scalar.remsi v7901 c32_i32_3521
  let v7905 : BitVec 32 := Scalar.subi v7904 v7902
  let v10887 : BitVec 32 := Scalar.addi v7905 c32_i32_5221
  let v10888 : BitVec 32 := Scalar.addi v10887 c0_i32_5222
  let v10889 : Index := Scalar.indexCast v10888
  let c0_5223 : Index := 0#32
  let c0_5224 : Index := 0#32
  ![v10889.toNat, 0, 0]
def k0_off254 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v10902 : Index := Scalar.indexCast v7899
  let c512_5227 : Index := 512#32
  let c0_5228 : Index := 0#32
  ![v10902.toNat, 512, 0]
def k0_off255 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v10921 : Index := Scalar.indexCast v7899
  let c544_5235 : Index := 544#32
  let c0_5236 : Index := 0#32
  ![v10921.toNat, 544, 0]
def k0_off256 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v10940 : Index := Scalar.indexCast v7899
  let c576_5243 : Index := 576#32
  let c0_5244 : Index := 0#32
  ![v10940.toNat, 576, 0]
def k0_off257 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v10959 : Index := Scalar.indexCast v7899
  let c608_5251 : Index := 608#32
  let c0_5252 : Index := 0#32
  ![v10959.toNat, 608, 0]
def k0_off258 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v10978 : Index := Scalar.indexCast v7899
  let c640_5259 : Index := 640#32
  let c0_5260 : Index := 0#32
  ![v10978.toNat, 640, 0]
def k0_off259 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v10997 : Index := Scalar.indexCast v7899
  let c672_5267 : Index := 672#32
  let c0_5268 : Index := 0#32
  ![v10997.toNat, 672, 0]
def k0_off260 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11016 : Index := Scalar.indexCast v7899
  let c704_5275 : Index := 704#32
  let c0_5276 : Index := 0#32
  ![v11016.toNat, 704, 0]
def k0_off261 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11035 : Index := Scalar.indexCast v7899
  let c736_5283 : Index := 736#32
  let c0_5284 : Index := 0#32
  ![v11035.toNat, 736, 0]
def k0_off262 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11054 : Index := Scalar.indexCast v7899
  let c768_5291 : Index := 768#32
  let c0_5292 : Index := 0#32
  ![v11054.toNat, 768, 0]
def k0_off263 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11073 : Index := Scalar.indexCast v7899
  let c800_5299 : Index := 800#32
  let c0_5300 : Index := 0#32
  ![v11073.toNat, 800, 0]
def k0_off264 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11092 : Index := Scalar.indexCast v7899
  let c832_5307 : Index := 832#32
  let c0_5308 : Index := 0#32
  ![v11092.toNat, 832, 0]
def k0_off265 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11111 : Index := Scalar.indexCast v7899
  let c864_5315 : Index := 864#32
  let c0_5316 : Index := 0#32
  ![v11111.toNat, 864, 0]
def k0_off266 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11130 : Index := Scalar.indexCast v7899
  let c896_5323 : Index := 896#32
  let c0_5324 : Index := 0#32
  ![v11130.toNat, 896, 0]
def k0_off267 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11149 : Index := Scalar.indexCast v7899
  let c928_5331 : Index := 928#32
  let c0_5332 : Index := 0#32
  ![v11149.toNat, 928, 0]
def k0_off268 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11168 : Index := Scalar.indexCast v7899
  let c960_5339 : Index := 960#32
  let c0_5340 : Index := 0#32
  ![v11168.toNat, 960, 0]
def k0_off269 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11187 : Index := Scalar.indexCast v7899
  let c992_5347 : Index := 992#32
  let c0_5348 : Index := 0#32
  ![v11187.toNat, 992, 0]
def k0_off270 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11239 : Index := Scalar.indexCast v7899
  let c1024_5365 : Index := 1024#32
  let c0_5366 : Index := 0#32
  ![v11239.toNat, 1024, 0]
def k0_off271 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11258 : Index := Scalar.indexCast v7899
  let c1056_5373 : Index := 1056#32
  let c0_5374 : Index := 0#32
  ![v11258.toNat, 1056, 0]
def k0_off272 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11277 : Index := Scalar.indexCast v7899
  let c1088_5381 : Index := 1088#32
  let c0_5382 : Index := 0#32
  ![v11277.toNat, 1088, 0]
def k0_off273 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11296 : Index := Scalar.indexCast v7899
  let c1120_5389 : Index := 1120#32
  let c0_5390 : Index := 0#32
  ![v11296.toNat, 1120, 0]
def k0_off274 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11315 : Index := Scalar.indexCast v7899
  let c1152_5397 : Index := 1152#32
  let c0_5398 : Index := 0#32
  ![v11315.toNat, 1152, 0]
def k0_off275 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11334 : Index := Scalar.indexCast v7899
  let c1184_5405 : Index := 1184#32
  let c0_5406 : Index := 0#32
  ![v11334.toNat, 1184, 0]
def k0_off276 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11353 : Index := Scalar.indexCast v7899
  let c1216_5413 : Index := 1216#32
  let c0_5414 : Index := 0#32
  ![v11353.toNat, 1216, 0]
def k0_off277 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11372 : Index := Scalar.indexCast v7899
  let c1248_5421 : Index := 1248#32
  let c0_5422 : Index := 0#32
  ![v11372.toNat, 1248, 0]
def k0_off278 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11391 : Index := Scalar.indexCast v7899
  let c1280_5429 : Index := 1280#32
  let c0_5430 : Index := 0#32
  ![v11391.toNat, 1280, 0]
def k0_off279 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11410 : Index := Scalar.indexCast v7899
  let c1312_5437 : Index := 1312#32
  let c0_5438 : Index := 0#32
  ![v11410.toNat, 1312, 0]
def k0_off280 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11429 : Index := Scalar.indexCast v7899
  let c1344_5445 : Index := 1344#32
  let c0_5446 : Index := 0#32
  ![v11429.toNat, 1344, 0]
def k0_off281 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11448 : Index := Scalar.indexCast v7899
  let c1376_5453 : Index := 1376#32
  let c0_5454 : Index := 0#32
  ![v11448.toNat, 1376, 0]
def k0_off282 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11467 : Index := Scalar.indexCast v7899
  let c1408_5461 : Index := 1408#32
  let c0_5462 : Index := 0#32
  ![v11467.toNat, 1408, 0]
def k0_off283 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11486 : Index := Scalar.indexCast v7899
  let c1440_5469 : Index := 1440#32
  let c0_5470 : Index := 0#32
  ![v11486.toNat, 1440, 0]
def k0_off284 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11505 : Index := Scalar.indexCast v7899
  let c1472_5477 : Index := 1472#32
  let c0_5478 : Index := 0#32
  ![v11505.toNat, 1472, 0]
def k0_off285 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11524 : Index := Scalar.indexCast v7899
  let c1504_5485 : Index := 1504#32
  let c0_5486 : Index := 0#32
  ![v11524.toNat, 1504, 0]
def k0_off286 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11576 : Index := Scalar.indexCast v7899
  let c1536_5503 : Index := 1536#32
  let c0_5504 : Index := 0#32
  ![v11576.toNat, 1536, 0]
def k0_off287 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11595 : Index := Scalar.indexCast v7899
  let c1568_5511 : Index := 1568#32
  let c0_5512 : Index := 0#32
  ![v11595.toNat, 1568, 0]
def k0_off288 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11614 : Index := Scalar.indexCast v7899
  let c1600_5519 : Index := 1600#32
  let c0_5520 : Index := 0#32
  ![v11614.toNat, 1600, 0]
def k0_off289 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11633 : Index := Scalar.indexCast v7899
  let c1632_5527 : Index := 1632#32
  let c0_5528 : Index := 0#32
  ![v11633.toNat, 1632, 0]
def k0_off290 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11652 : Index := Scalar.indexCast v7899
  let c1664_5535 : Index := 1664#32
  let c0_5536 : Index := 0#32
  ![v11652.toNat, 1664, 0]
def k0_off291 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11671 : Index := Scalar.indexCast v7899
  let c1696_5543 : Index := 1696#32
  let c0_5544 : Index := 0#32
  ![v11671.toNat, 1696, 0]
def k0_off292 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11690 : Index := Scalar.indexCast v7899
  let c1728_5551 : Index := 1728#32
  let c0_5552 : Index := 0#32
  ![v11690.toNat, 1728, 0]
def k0_off293 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11709 : Index := Scalar.indexCast v7899
  let c1760_5559 : Index := 1760#32
  let c0_5560 : Index := 0#32
  ![v11709.toNat, 1760, 0]
def k0_off294 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11728 : Index := Scalar.indexCast v7899
  let c1792_5567 : Index := 1792#32
  let c0_5568 : Index := 0#32
  ![v11728.toNat, 1792, 0]
def k0_off295 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11747 : Index := Scalar.indexCast v7899
  let c1824_5575 : Index := 1824#32
  let c0_5576 : Index := 0#32
  ![v11747.toNat, 1824, 0]
def k0_off296 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11766 : Index := Scalar.indexCast v7899
  let c1856_5583 : Index := 1856#32
  let c0_5584 : Index := 0#32
  ![v11766.toNat, 1856, 0]
def k0_off297 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11785 : Index := Scalar.indexCast v7899
  let c1888_5591 : Index := 1888#32
  let c0_5592 : Index := 0#32
  ![v11785.toNat, 1888, 0]
def k0_off298 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11804 : Index := Scalar.indexCast v7899
  let c1920_5599 : Index := 1920#32
  let c0_5600 : Index := 0#32
  ![v11804.toNat, 1920, 0]
def k0_off299 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11823 : Index := Scalar.indexCast v7899
  let c1952_5607 : Index := 1952#32
  let c0_5608 : Index := 0#32
  ![v11823.toNat, 1952, 0]
def k0_off300 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11842 : Index := Scalar.indexCast v7899
  let c1984_5615 : Index := 1984#32
  let c0_5616 : Index := 0#32
  ![v11842.toNat, 1984, 0]
def k0_off301 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11861 : Index := Scalar.indexCast v7899
  let c2016_5623 : Index := 2016#32
  let c0_5624 : Index := 0#32
  ![v11861.toNat, 2016, 0]
def k0_off302 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11913 : Index := Scalar.indexCast v7899
  let c2048_5641 : Index := 2048#32
  let c0_5642 : Index := 0#32
  ![v11913.toNat, 2048, 0]
def k0_off303 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11932 : Index := Scalar.indexCast v7899
  let c2080_5649 : Index := 2080#32
  let c0_5650 : Index := 0#32
  ![v11932.toNat, 2080, 0]
def k0_off304 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11951 : Index := Scalar.indexCast v7899
  let c2112_5657 : Index := 2112#32
  let c0_5658 : Index := 0#32
  ![v11951.toNat, 2112, 0]
def k0_off305 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11970 : Index := Scalar.indexCast v7899
  let c2144_5665 : Index := 2144#32
  let c0_5666 : Index := 0#32
  ![v11970.toNat, 2144, 0]
def k0_off306 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v11989 : Index := Scalar.indexCast v7899
  let c2176_5673 : Index := 2176#32
  let c0_5674 : Index := 0#32
  ![v11989.toNat, 2176, 0]
def k0_off307 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12008 : Index := Scalar.indexCast v7899
  let c2208_5681 : Index := 2208#32
  let c0_5682 : Index := 0#32
  ![v12008.toNat, 2208, 0]
def k0_off308 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12027 : Index := Scalar.indexCast v7899
  let c2240_5689 : Index := 2240#32
  let c0_5690 : Index := 0#32
  ![v12027.toNat, 2240, 0]
def k0_off309 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12046 : Index := Scalar.indexCast v7899
  let c2272_5697 : Index := 2272#32
  let c0_5698 : Index := 0#32
  ![v12046.toNat, 2272, 0]
def k0_off310 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12065 : Index := Scalar.indexCast v7899
  let c2304_5705 : Index := 2304#32
  let c0_5706 : Index := 0#32
  ![v12065.toNat, 2304, 0]
def k0_off311 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12084 : Index := Scalar.indexCast v7899
  let c2336_5713 : Index := 2336#32
  let c0_5714 : Index := 0#32
  ![v12084.toNat, 2336, 0]
def k0_off312 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12103 : Index := Scalar.indexCast v7899
  let c2368_5721 : Index := 2368#32
  let c0_5722 : Index := 0#32
  ![v12103.toNat, 2368, 0]
def k0_off313 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12122 : Index := Scalar.indexCast v7899
  let c2400_5729 : Index := 2400#32
  let c0_5730 : Index := 0#32
  ![v12122.toNat, 2400, 0]
def k0_off314 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12141 : Index := Scalar.indexCast v7899
  let c2432_5737 : Index := 2432#32
  let c0_5738 : Index := 0#32
  ![v12141.toNat, 2432, 0]
def k0_off315 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12160 : Index := Scalar.indexCast v7899
  let c2464_5745 : Index := 2464#32
  let c0_5746 : Index := 0#32
  ![v12160.toNat, 2464, 0]
def k0_off316 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12179 : Index := Scalar.indexCast v7899
  let c2496_5753 : Index := 2496#32
  let c0_5754 : Index := 0#32
  ![v12179.toNat, 2496, 0]
def k0_off317 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12198 : Index := Scalar.indexCast v7899
  let c2528_5761 : Index := 2528#32
  let c0_5762 : Index := 0#32
  ![v12198.toNat, 2528, 0]
def k0_off318 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12250 : Index := Scalar.indexCast v7899
  let c2560_5779 : Index := 2560#32
  let c0_5780 : Index := 0#32
  ![v12250.toNat, 2560, 0]
def k0_off319 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12269 : Index := Scalar.indexCast v7899
  let c2592_5787 : Index := 2592#32
  let c0_5788 : Index := 0#32
  ![v12269.toNat, 2592, 0]
def k0_off320 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12288 : Index := Scalar.indexCast v7899
  let c2624_5795 : Index := 2624#32
  let c0_5796 : Index := 0#32
  ![v12288.toNat, 2624, 0]
def k0_off321 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12307 : Index := Scalar.indexCast v7899
  let c2656_5803 : Index := 2656#32
  let c0_5804 : Index := 0#32
  ![v12307.toNat, 2656, 0]
def k0_off322 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12326 : Index := Scalar.indexCast v7899
  let c2688_5811 : Index := 2688#32
  let c0_5812 : Index := 0#32
  ![v12326.toNat, 2688, 0]
def k0_off323 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12345 : Index := Scalar.indexCast v7899
  let c2720_5819 : Index := 2720#32
  let c0_5820 : Index := 0#32
  ![v12345.toNat, 2720, 0]
def k0_off324 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12364 : Index := Scalar.indexCast v7899
  let c2752_5827 : Index := 2752#32
  let c0_5828 : Index := 0#32
  ![v12364.toNat, 2752, 0]
def k0_off325 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12383 : Index := Scalar.indexCast v7899
  let c2784_5835 : Index := 2784#32
  let c0_5836 : Index := 0#32
  ![v12383.toNat, 2784, 0]
def k0_off326 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12402 : Index := Scalar.indexCast v7899
  let c2816_5843 : Index := 2816#32
  let c0_5844 : Index := 0#32
  ![v12402.toNat, 2816, 0]
def k0_off327 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12421 : Index := Scalar.indexCast v7899
  let c2848_5851 : Index := 2848#32
  let c0_5852 : Index := 0#32
  ![v12421.toNat, 2848, 0]
def k0_off328 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12440 : Index := Scalar.indexCast v7899
  let c2880_5859 : Index := 2880#32
  let c0_5860 : Index := 0#32
  ![v12440.toNat, 2880, 0]
def k0_off329 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12459 : Index := Scalar.indexCast v7899
  let c2912_5867 : Index := 2912#32
  let c0_5868 : Index := 0#32
  ![v12459.toNat, 2912, 0]
def k0_off330 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12478 : Index := Scalar.indexCast v7899
  let c2944_5875 : Index := 2944#32
  let c0_5876 : Index := 0#32
  ![v12478.toNat, 2944, 0]
def k0_off331 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12497 : Index := Scalar.indexCast v7899
  let c2976_5883 : Index := 2976#32
  let c0_5884 : Index := 0#32
  ![v12497.toNat, 2976, 0]
def k0_off332 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12516 : Index := Scalar.indexCast v7899
  let c3008_5891 : Index := 3008#32
  let c0_5892 : Index := 0#32
  ![v12516.toNat, 3008, 0]
def k0_off333 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12535 : Index := Scalar.indexCast v7899
  let c3040_5899 : Index := 3040#32
  let c0_5900 : Index := 0#32
  ![v12535.toNat, 3040, 0]
def k0_off334 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12587 : Index := Scalar.indexCast v7899
  let c3072_5917 : Index := 3072#32
  let c0_5918 : Index := 0#32
  ![v12587.toNat, 3072, 0]
def k0_off335 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12606 : Index := Scalar.indexCast v7899
  let c3104_5925 : Index := 3104#32
  let c0_5926 : Index := 0#32
  ![v12606.toNat, 3104, 0]
def k0_off336 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12625 : Index := Scalar.indexCast v7899
  let c3136_5933 : Index := 3136#32
  let c0_5934 : Index := 0#32
  ![v12625.toNat, 3136, 0]
def k0_off337 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12644 : Index := Scalar.indexCast v7899
  let c3168_5941 : Index := 3168#32
  let c0_5942 : Index := 0#32
  ![v12644.toNat, 3168, 0]
def k0_off338 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12663 : Index := Scalar.indexCast v7899
  let c3200_5949 : Index := 3200#32
  let c0_5950 : Index := 0#32
  ![v12663.toNat, 3200, 0]
def k0_off339 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12682 : Index := Scalar.indexCast v7899
  let c3232_5957 : Index := 3232#32
  let c0_5958 : Index := 0#32
  ![v12682.toNat, 3232, 0]
def k0_off340 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12701 : Index := Scalar.indexCast v7899
  let c3264_5965 : Index := 3264#32
  let c0_5966 : Index := 0#32
  ![v12701.toNat, 3264, 0]
def k0_off341 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12720 : Index := Scalar.indexCast v7899
  let c3296_5973 : Index := 3296#32
  let c0_5974 : Index := 0#32
  ![v12720.toNat, 3296, 0]
def k0_off342 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12739 : Index := Scalar.indexCast v7899
  let c3328_5981 : Index := 3328#32
  let c0_5982 : Index := 0#32
  ![v12739.toNat, 3328, 0]
def k0_off343 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12758 : Index := Scalar.indexCast v7899
  let c3360_5989 : Index := 3360#32
  let c0_5990 : Index := 0#32
  ![v12758.toNat, 3360, 0]
def k0_off344 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12777 : Index := Scalar.indexCast v7899
  let c3392_5997 : Index := 3392#32
  let c0_5998 : Index := 0#32
  ![v12777.toNat, 3392, 0]
def k0_off345 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12796 : Index := Scalar.indexCast v7899
  let c3424_6005 : Index := 3424#32
  let c0_6006 : Index := 0#32
  ![v12796.toNat, 3424, 0]
def k0_off346 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12815 : Index := Scalar.indexCast v7899
  let c3456_6013 : Index := 3456#32
  let c0_6014 : Index := 0#32
  ![v12815.toNat, 3456, 0]
def k0_off347 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12834 : Index := Scalar.indexCast v7899
  let c3488_6021 : Index := 3488#32
  let c0_6022 : Index := 0#32
  ![v12834.toNat, 3488, 0]
def k0_off348 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12853 : Index := Scalar.indexCast v7899
  let c3520_6029 : Index := 3520#32
  let c0_6030 : Index := 0#32
  ![v12853.toNat, 3520, 0]
def k0_off349 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12872 : Index := Scalar.indexCast v7899
  let c3552_6037 : Index := 3552#32
  let c0_6038 : Index := 0#32
  ![v12872.toNat, 3552, 0]
def k0_off350 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12924 : Index := Scalar.indexCast v7899
  let c3584_6055 : Index := 3584#32
  let c0_6056 : Index := 0#32
  ![v12924.toNat, 3584, 0]
def k0_off351 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12943 : Index := Scalar.indexCast v7899
  let c3616_6063 : Index := 3616#32
  let c0_6064 : Index := 0#32
  ![v12943.toNat, 3616, 0]
def k0_off352 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12962 : Index := Scalar.indexCast v7899
  let c3648_6071 : Index := 3648#32
  let c0_6072 : Index := 0#32
  ![v12962.toNat, 3648, 0]
def k0_off353 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v12981 : Index := Scalar.indexCast v7899
  let c3680_6079 : Index := 3680#32
  let c0_6080 : Index := 0#32
  ![v12981.toNat, 3680, 0]
def k0_off354 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13000 : Index := Scalar.indexCast v7899
  let c3712_6087 : Index := 3712#32
  let c0_6088 : Index := 0#32
  ![v13000.toNat, 3712, 0]
def k0_off355 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13019 : Index := Scalar.indexCast v7899
  let c3744_6095 : Index := 3744#32
  let c0_6096 : Index := 0#32
  ![v13019.toNat, 3744, 0]
def k0_off356 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13038 : Index := Scalar.indexCast v7899
  let c3776_6103 : Index := 3776#32
  let c0_6104 : Index := 0#32
  ![v13038.toNat, 3776, 0]
def k0_off357 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13057 : Index := Scalar.indexCast v7899
  let c3808_6111 : Index := 3808#32
  let c0_6112 : Index := 0#32
  ![v13057.toNat, 3808, 0]
def k0_off358 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13076 : Index := Scalar.indexCast v7899
  let c3840_6119 : Index := 3840#32
  let c0_6120 : Index := 0#32
  ![v13076.toNat, 3840, 0]
def k0_off359 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13095 : Index := Scalar.indexCast v7899
  let c3872_6127 : Index := 3872#32
  let c0_6128 : Index := 0#32
  ![v13095.toNat, 3872, 0]
def k0_off360 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13114 : Index := Scalar.indexCast v7899
  let c3904_6135 : Index := 3904#32
  let c0_6136 : Index := 0#32
  ![v13114.toNat, 3904, 0]
def k0_off361 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13133 : Index := Scalar.indexCast v7899
  let c3936_6143 : Index := 3936#32
  let c0_6144 : Index := 0#32
  ![v13133.toNat, 3936, 0]
def k0_off362 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13152 : Index := Scalar.indexCast v7899
  let c3968_6151 : Index := 3968#32
  let c0_6152 : Index := 0#32
  ![v13152.toNat, 3968, 0]
def k0_off363 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13171 : Index := Scalar.indexCast v7899
  let c4000_6159 : Index := 4000#32
  let c0_6160 : Index := 0#32
  ![v13171.toNat, 4000, 0]
def k0_off364 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13190 : Index := Scalar.indexCast v7899
  let c4032_6167 : Index := 4032#32
  let c0_6168 : Index := 0#32
  ![v13190.toNat, 4032, 0]
def k0_off365 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13209 : Index := Scalar.indexCast v7899
  let c4064_6175 : Index := 4064#32
  let c0_6176 : Index := 0#32
  ![v13209.toNat, 4064, 0]
def k0_off366 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13261 : Index := Scalar.indexCast v7899
  let c4096_6193 : Index := 4096#32
  let c0_6194 : Index := 0#32
  ![v13261.toNat, 4096, 0]
def k0_off367 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13280 : Index := Scalar.indexCast v7899
  let c4128_6201 : Index := 4128#32
  let c0_6202 : Index := 0#32
  ![v13280.toNat, 4128, 0]
def k0_off368 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13299 : Index := Scalar.indexCast v7899
  let c4160_6209 : Index := 4160#32
  let c0_6210 : Index := 0#32
  ![v13299.toNat, 4160, 0]
def k0_off369 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13318 : Index := Scalar.indexCast v7899
  let c4192_6217 : Index := 4192#32
  let c0_6218 : Index := 0#32
  ![v13318.toNat, 4192, 0]
def k0_off370 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13337 : Index := Scalar.indexCast v7899
  let c4224_6225 : Index := 4224#32
  let c0_6226 : Index := 0#32
  ![v13337.toNat, 4224, 0]
def k0_off371 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13356 : Index := Scalar.indexCast v7899
  let c4256_6233 : Index := 4256#32
  let c0_6234 : Index := 0#32
  ![v13356.toNat, 4256, 0]
def k0_off372 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13375 : Index := Scalar.indexCast v7899
  let c4288_6241 : Index := 4288#32
  let c0_6242 : Index := 0#32
  ![v13375.toNat, 4288, 0]
def k0_off373 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13394 : Index := Scalar.indexCast v7899
  let c4320_6249 : Index := 4320#32
  let c0_6250 : Index := 0#32
  ![v13394.toNat, 4320, 0]
def k0_off374 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13413 : Index := Scalar.indexCast v7899
  let c4352_6257 : Index := 4352#32
  let c0_6258 : Index := 0#32
  ![v13413.toNat, 4352, 0]
def k0_off375 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13432 : Index := Scalar.indexCast v7899
  let c4384_6265 : Index := 4384#32
  let c0_6266 : Index := 0#32
  ![v13432.toNat, 4384, 0]
def k0_off376 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13451 : Index := Scalar.indexCast v7899
  let c4416_6273 : Index := 4416#32
  let c0_6274 : Index := 0#32
  ![v13451.toNat, 4416, 0]
def k0_off377 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13470 : Index := Scalar.indexCast v7899
  let c4448_6281 : Index := 4448#32
  let c0_6282 : Index := 0#32
  ![v13470.toNat, 4448, 0]
def k0_off378 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13489 : Index := Scalar.indexCast v7899
  let c4480_6289 : Index := 4480#32
  let c0_6290 : Index := 0#32
  ![v13489.toNat, 4480, 0]
def k0_off379 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13508 : Index := Scalar.indexCast v7899
  let c4512_6297 : Index := 4512#32
  let c0_6298 : Index := 0#32
  ![v13508.toNat, 4512, 0]
def k0_off380 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13527 : Index := Scalar.indexCast v7899
  let c4544_6305 : Index := 4544#32
  let c0_6306 : Index := 0#32
  ![v13527.toNat, 4544, 0]
def k0_off381 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13546 : Index := Scalar.indexCast v7899
  let c4576_6313 : Index := 4576#32
  let c0_6314 : Index := 0#32
  ![v13546.toNat, 4576, 0]
def k0_off382 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13598 : Index := Scalar.indexCast v7899
  let c4608_6331 : Index := 4608#32
  let c0_6332 : Index := 0#32
  ![v13598.toNat, 4608, 0]
def k0_off383 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13617 : Index := Scalar.indexCast v7899
  let c4640_6339 : Index := 4640#32
  let c0_6340 : Index := 0#32
  ![v13617.toNat, 4640, 0]
def k0_off384 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13636 : Index := Scalar.indexCast v7899
  let c4672_6347 : Index := 4672#32
  let c0_6348 : Index := 0#32
  ![v13636.toNat, 4672, 0]
def k0_off385 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13655 : Index := Scalar.indexCast v7899
  let c4704_6355 : Index := 4704#32
  let c0_6356 : Index := 0#32
  ![v13655.toNat, 4704, 0]
def k0_off386 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13674 : Index := Scalar.indexCast v7899
  let c4736_6363 : Index := 4736#32
  let c0_6364 : Index := 0#32
  ![v13674.toNat, 4736, 0]
def k0_off387 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13693 : Index := Scalar.indexCast v7899
  let c4768_6371 : Index := 4768#32
  let c0_6372 : Index := 0#32
  ![v13693.toNat, 4768, 0]
def k0_off388 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13712 : Index := Scalar.indexCast v7899
  let c4800_6379 : Index := 4800#32
  let c0_6380 : Index := 0#32
  ![v13712.toNat, 4800, 0]
def k0_off389 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13731 : Index := Scalar.indexCast v7899
  let c4832_6387 : Index := 4832#32
  let c0_6388 : Index := 0#32
  ![v13731.toNat, 4832, 0]
def k0_off390 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13750 : Index := Scalar.indexCast v7899
  let c4864_6395 : Index := 4864#32
  let c0_6396 : Index := 0#32
  ![v13750.toNat, 4864, 0]
def k0_off391 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13769 : Index := Scalar.indexCast v7899
  let c4896_6403 : Index := 4896#32
  let c0_6404 : Index := 0#32
  ![v13769.toNat, 4896, 0]
def k0_off392 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13788 : Index := Scalar.indexCast v7899
  let c4928_6411 : Index := 4928#32
  let c0_6412 : Index := 0#32
  ![v13788.toNat, 4928, 0]
def k0_off393 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13807 : Index := Scalar.indexCast v7899
  let c4960_6419 : Index := 4960#32
  let c0_6420 : Index := 0#32
  ![v13807.toNat, 4960, 0]
def k0_off394 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13826 : Index := Scalar.indexCast v7899
  let c4992_6427 : Index := 4992#32
  let c0_6428 : Index := 0#32
  ![v13826.toNat, 4992, 0]
def k0_off395 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13845 : Index := Scalar.indexCast v7899
  let c5024_6435 : Index := 5024#32
  let c0_6436 : Index := 0#32
  ![v13845.toNat, 5024, 0]
def k0_off396 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13864 : Index := Scalar.indexCast v7899
  let c5056_6443 : Index := 5056#32
  let c0_6444 : Index := 0#32
  ![v13864.toNat, 5056, 0]
def k0_off397 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13883 : Index := Scalar.indexCast v7899
  let c5088_6451 : Index := 5088#32
  let c0_6452 : Index := 0#32
  ![v13883.toNat, 5088, 0]
def k0_off398 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13935 : Index := Scalar.indexCast v7899
  let c5120_6469 : Index := 5120#32
  let c0_6470 : Index := 0#32
  ![v13935.toNat, 5120, 0]
def k0_off399 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13954 : Index := Scalar.indexCast v7899
  let c5152_6477 : Index := 5152#32
  let c0_6478 : Index := 0#32
  ![v13954.toNat, 5152, 0]
def k0_off400 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13973 : Index := Scalar.indexCast v7899
  let c5184_6485 : Index := 5184#32
  let c0_6486 : Index := 0#32
  ![v13973.toNat, 5184, 0]
def k0_off401 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v13992 : Index := Scalar.indexCast v7899
  let c5216_6493 : Index := 5216#32
  let c0_6494 : Index := 0#32
  ![v13992.toNat, 5216, 0]
def k0_off402 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14011 : Index := Scalar.indexCast v7899
  let c5248_6501 : Index := 5248#32
  let c0_6502 : Index := 0#32
  ![v14011.toNat, 5248, 0]
def k0_off403 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14030 : Index := Scalar.indexCast v7899
  let c5280_6509 : Index := 5280#32
  let c0_6510 : Index := 0#32
  ![v14030.toNat, 5280, 0]
def k0_off404 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14049 : Index := Scalar.indexCast v7899
  let c5312_6517 : Index := 5312#32
  let c0_6518 : Index := 0#32
  ![v14049.toNat, 5312, 0]
def k0_off405 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14068 : Index := Scalar.indexCast v7899
  let c5344_6525 : Index := 5344#32
  let c0_6526 : Index := 0#32
  ![v14068.toNat, 5344, 0]
def k0_off406 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14087 : Index := Scalar.indexCast v7899
  let c5376_6533 : Index := 5376#32
  let c0_6534 : Index := 0#32
  ![v14087.toNat, 5376, 0]
def k0_off407 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14106 : Index := Scalar.indexCast v7899
  let c5408_6541 : Index := 5408#32
  let c0_6542 : Index := 0#32
  ![v14106.toNat, 5408, 0]
def k0_off408 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14125 : Index := Scalar.indexCast v7899
  let c5440_6549 : Index := 5440#32
  let c0_6550 : Index := 0#32
  ![v14125.toNat, 5440, 0]
def k0_off409 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14144 : Index := Scalar.indexCast v7899
  let c5472_6557 : Index := 5472#32
  let c0_6558 : Index := 0#32
  ![v14144.toNat, 5472, 0]
def k0_off410 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14163 : Index := Scalar.indexCast v7899
  let c5504_6565 : Index := 5504#32
  let c0_6566 : Index := 0#32
  ![v14163.toNat, 5504, 0]
def k0_off411 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14182 : Index := Scalar.indexCast v7899
  let c5536_6573 : Index := 5536#32
  let c0_6574 : Index := 0#32
  ![v14182.toNat, 5536, 0]
def k0_off412 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14201 : Index := Scalar.indexCast v7899
  let c5568_6581 : Index := 5568#32
  let c0_6582 : Index := 0#32
  ![v14201.toNat, 5568, 0]
def k0_off413 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14220 : Index := Scalar.indexCast v7899
  let c5600_6589 : Index := 5600#32
  let c0_6590 : Index := 0#32
  ![v14220.toNat, 5600, 0]
def k0_off414 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14272 : Index := Scalar.indexCast v7899
  let c5632_6607 : Index := 5632#32
  let c0_6608 : Index := 0#32
  ![v14272.toNat, 5632, 0]
def k0_off415 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14291 : Index := Scalar.indexCast v7899
  let c5664_6615 : Index := 5664#32
  let c0_6616 : Index := 0#32
  ![v14291.toNat, 5664, 0]
def k0_off416 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14310 : Index := Scalar.indexCast v7899
  let c5696_6623 : Index := 5696#32
  let c0_6624 : Index := 0#32
  ![v14310.toNat, 5696, 0]
def k0_off417 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14329 : Index := Scalar.indexCast v7899
  let c5728_6631 : Index := 5728#32
  let c0_6632 : Index := 0#32
  ![v14329.toNat, 5728, 0]
def k0_off418 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14348 : Index := Scalar.indexCast v7899
  let c5760_6639 : Index := 5760#32
  let c0_6640 : Index := 0#32
  ![v14348.toNat, 5760, 0]
def k0_off419 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14367 : Index := Scalar.indexCast v7899
  let c5792_6647 : Index := 5792#32
  let c0_6648 : Index := 0#32
  ![v14367.toNat, 5792, 0]
def k0_off420 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14386 : Index := Scalar.indexCast v7899
  let c5824_6655 : Index := 5824#32
  let c0_6656 : Index := 0#32
  ![v14386.toNat, 5824, 0]
def k0_off421 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14405 : Index := Scalar.indexCast v7899
  let c5856_6663 : Index := 5856#32
  let c0_6664 : Index := 0#32
  ![v14405.toNat, 5856, 0]
def k0_off422 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14424 : Index := Scalar.indexCast v7899
  let c5888_6671 : Index := 5888#32
  let c0_6672 : Index := 0#32
  ![v14424.toNat, 5888, 0]
def k0_off423 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14443 : Index := Scalar.indexCast v7899
  let c5920_6679 : Index := 5920#32
  let c0_6680 : Index := 0#32
  ![v14443.toNat, 5920, 0]
def k0_off424 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14462 : Index := Scalar.indexCast v7899
  let c5952_6687 : Index := 5952#32
  let c0_6688 : Index := 0#32
  ![v14462.toNat, 5952, 0]
def k0_off425 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14481 : Index := Scalar.indexCast v7899
  let c5984_6695 : Index := 5984#32
  let c0_6696 : Index := 0#32
  ![v14481.toNat, 5984, 0]
def k0_off426 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14500 : Index := Scalar.indexCast v7899
  let c6016_6703 : Index := 6016#32
  let c0_6704 : Index := 0#32
  ![v14500.toNat, 6016, 0]
def k0_off427 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14519 : Index := Scalar.indexCast v7899
  let c6048_6711 : Index := 6048#32
  let c0_6712 : Index := 0#32
  ![v14519.toNat, 6048, 0]
def k0_off428 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14538 : Index := Scalar.indexCast v7899
  let c6080_6719 : Index := 6080#32
  let c0_6720 : Index := 0#32
  ![v14538.toNat, 6080, 0]
def k0_off429 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14557 : Index := Scalar.indexCast v7899
  let c6112_6727 : Index := 6112#32
  let c0_6728 : Index := 0#32
  ![v14557.toNat, 6112, 0]
def k0_off430 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14609 : Index := Scalar.indexCast v7899
  let c6144_6745 : Index := 6144#32
  let c0_6746 : Index := 0#32
  ![v14609.toNat, 6144, 0]
def k0_off431 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14628 : Index := Scalar.indexCast v7899
  let c6176_6753 : Index := 6176#32
  let c0_6754 : Index := 0#32
  ![v14628.toNat, 6176, 0]
def k0_off432 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14647 : Index := Scalar.indexCast v7899
  let c6208_6761 : Index := 6208#32
  let c0_6762 : Index := 0#32
  ![v14647.toNat, 6208, 0]
def k0_off433 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14666 : Index := Scalar.indexCast v7899
  let c6240_6769 : Index := 6240#32
  let c0_6770 : Index := 0#32
  ![v14666.toNat, 6240, 0]
def k0_off434 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14685 : Index := Scalar.indexCast v7899
  let c6272_6777 : Index := 6272#32
  let c0_6778 : Index := 0#32
  ![v14685.toNat, 6272, 0]
def k0_off435 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14704 : Index := Scalar.indexCast v7899
  let c6304_6785 : Index := 6304#32
  let c0_6786 : Index := 0#32
  ![v14704.toNat, 6304, 0]
def k0_off436 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14723 : Index := Scalar.indexCast v7899
  let c6336_6793 : Index := 6336#32
  let c0_6794 : Index := 0#32
  ![v14723.toNat, 6336, 0]
def k0_off437 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14742 : Index := Scalar.indexCast v7899
  let c6368_6801 : Index := 6368#32
  let c0_6802 : Index := 0#32
  ![v14742.toNat, 6368, 0]
def k0_off438 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14761 : Index := Scalar.indexCast v7899
  let c6400_6809 : Index := 6400#32
  let c0_6810 : Index := 0#32
  ![v14761.toNat, 6400, 0]
def k0_off439 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14780 : Index := Scalar.indexCast v7899
  let c6432_6817 : Index := 6432#32
  let c0_6818 : Index := 0#32
  ![v14780.toNat, 6432, 0]
def k0_off440 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14799 : Index := Scalar.indexCast v7899
  let c6464_6825 : Index := 6464#32
  let c0_6826 : Index := 0#32
  ![v14799.toNat, 6464, 0]
def k0_off441 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14818 : Index := Scalar.indexCast v7899
  let c6496_6833 : Index := 6496#32
  let c0_6834 : Index := 0#32
  ![v14818.toNat, 6496, 0]
def k0_off442 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14837 : Index := Scalar.indexCast v7899
  let c6528_6841 : Index := 6528#32
  let c0_6842 : Index := 0#32
  ![v14837.toNat, 6528, 0]
def k0_off443 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14856 : Index := Scalar.indexCast v7899
  let c6560_6849 : Index := 6560#32
  let c0_6850 : Index := 0#32
  ![v14856.toNat, 6560, 0]
def k0_off444 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14875 : Index := Scalar.indexCast v7899
  let c6592_6857 : Index := 6592#32
  let c0_6858 : Index := 0#32
  ![v14875.toNat, 6592, 0]
def k0_off445 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14894 : Index := Scalar.indexCast v7899
  let c6624_6865 : Index := 6624#32
  let c0_6866 : Index := 0#32
  ![v14894.toNat, 6624, 0]
def k0_off446 (k0_t3 : Fin k0_t3_loop.trips) : Fin 1 → Nat :=
  let c2_i32_6869 : BitVec 32 := 2#32
  let c0_i32_155 : BitVec 32 := 0#32
  let c1_i32_157 : BitVec 32 := 1#32
  let arg25 : BitVec 32 := Scf.iv c0_i32_155 c1_i32_157 k0_t3
  let v14900 : BitVec 32 := Scalar.muli c2_i32_6869 arg25
  let c1_i32_6870 : BitVec 32 := 1#32
  let v14901 : BitVec 32 := Scalar.addi v14900 c1_i32_6870
  ![v14901.toNat]
def k0_off447 (k0_t3 : Fin k0_t3_loop.trips) : Fin 3 → Nat :=
  let c2_i32_6867 : BitVec 32 := 2#32
  let c0_i32_155 : BitVec 32 := 0#32
  let c1_i32_157 : BitVec 32 := 1#32
  let arg25 : BitVec 32 := Scf.iv c0_i32_155 c1_i32_157 k0_t3
  let v14898 : BitVec 32 := Scalar.muli c2_i32_6867 arg25
  let c1_i32_6868 : BitVec 32 := 1#32
  let v14899 : BitVec 32 := Scalar.addi v14898 c1_i32_6868
  let c0_i32_6871 : BitVec 32 := 0#32
  let c0_i32_6872 : BitVec 32 := 0#32
  ![v14899.toNat, 0, 0]
def k0_off448 (k0_t3 : Fin k0_t3_loop.trips) : Fin 3 → Nat :=
  let c2_i32_6875 : BitVec 32 := 2#32
  let c0_i32_155 : BitVec 32 := 0#32
  let c1_i32_157 : BitVec 32 := 1#32
  let arg25 : BitVec 32 := Scf.iv c0_i32_155 c1_i32_157 k0_t3
  let v14907 : BitVec 32 := Scalar.muli c2_i32_6875 arg25
  let c1_i32_6876 : BitVec 32 := 1#32
  let v14908 : BitVec 32 := Scalar.addi v14907 c1_i32_6876
  let c0_i32_6880 : BitVec 32 := 0#32
  let c0_i32_6881 : BitVec 32 := 0#32
  ![v14908.toNat, 0, 0]
def k0_off449 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14917 : Index := Scalar.indexCast v7899
  let c0_6884 : Index := 0#32
  let c0_6885 : Index := 0#32
  ![v14917.toNat, 0, 0]
def k0_off450 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v14967 : Index := Scalar.indexCast v7899
  let c0_6904 : Index := 0#32
  let c0_6905 : Index := 0#32
  ![v14967.toNat, 0, 0]
def k0_off451 (k0_t3 : Fin k0_t3_loop.trips) (v7901 : BitVec 32) (c0_i32_6906 : BitVec 32) : Fin 3 → Nat :=
  let c32_i32_3523 : BitVec 32 := 32#32
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let c416_i32_3522 : BitVec 32 := 416#32
  let v7903 : BitVec 32 := Scalar.muli v7899 c416_i32_3522
  let v7904 : BitVec 32 := Scalar.addi c32_i32_3523 v7903
  let c32_i32_3521 : BitVec 32 := 32#32
  let v7902 : BitVec 32 := Scalar.remsi v7901 c32_i32_3521
  let v7905 : BitVec 32 := Scalar.subi v7904 v7902
  let v14972 : BitVec 32 := Scalar.addi v7905 c0_i32_6906
  let v14973 : Index := Scalar.indexCast v14972
  let c0_6907 : Index := 0#32
  let c0_6908 : Index := 0#32
  ![v14973.toNat, 0, 0]

def k0_chk4 (k0_t3 : Fin k0_t3_loop.trips) (v7901 : BitVec 32) : Prop :=
  (∀ (r₁ : Fin 13) (r₂ : Fin 32), ∀ a, (k0_off252 k0_t3 v7901 (BitVec.ofNat 32 (32 * r₁.val)) (BitVec.ofNat 32 r₂.val)) a + S1x16x128.size a ≤ S10016x16x128.size a) ∧
  (∀ (r₁ : Fin 12) (r₂ : Fin 16), ∀ a, (k0_off253 k0_t3 v7901 (BitVec.ofNat 32 (32 + 32 * r₁.val)) (BitVec.ofNat 32 (2 * r₂.val))) a + S2x16x128.size a ≤ S10016x16x128.size a) ∧
  (∀ (r : Fin 16), ∀ a, (k0_off451 k0_t3 v7901 (BitVec.ofNat 32 (2 * r.val))) a + S2x16x128.size a ≤ S10016x16x128.size a)
theorem k0_off252_inb : ∀ (k0_t3 : Fin k0_t3_loop.trips) (v7901 : BitVec 32) (k0_hw4 : k0_chk4 k0_t3 v7901), ∀ (r₁ : Fin 13) (r₂ : Fin 32), ∀ a, (k0_off252 k0_t3 v7901 (BitVec.ofNat 32 (32 * r₁.val)) (BitVec.ofNat 32 r₂.val)) a + S1x16x128.size a ≤ S10016x16x128.size a := fun k0_t3 v7901 k0_hw4 r₁ r₂ => k0_hw4.1 r₁ r₂
theorem k0_off253_inb : ∀ (k0_t3 : Fin k0_t3_loop.trips) (v7901 : BitVec 32) (k0_hw4 : k0_chk4 k0_t3 v7901), ∀ (r₁ : Fin 12) (r₂ : Fin 16), ∀ a, (k0_off253 k0_t3 v7901 (BitVec.ofNat 32 (32 + 32 * r₁.val)) (BitVec.ofNat 32 (2 * r₂.val))) a + S2x16x128.size a ≤ S10016x16x128.size a := fun k0_t3 v7901 k0_hw4 r₁ r₂ => k0_hw4.2.1 r₁ r₂
theorem k0_off451_inb : ∀ (k0_t3 : Fin k0_t3_loop.trips) (v7901 : BitVec 32) (k0_hw4 : k0_chk4 k0_t3 v7901), ∀ (r : Fin 16), ∀ a, (k0_off451 k0_t3 v7901 (BitVec.ofNat 32 (2 * r.val))) a + S2x16x128.size a ≤ S10016x16x128.size a := fun k0_t3 v7901 k0_hw4 r => k0_hw4.2.2 r

def k0_off452 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15005 : Index := Scalar.indexCast v7899
  let c0_6913 : Index := 0#32
  let c0_6914 : Index := 0#32
  ![v15005.toNat, 0, 0]
def k0_off453 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15009 : Index := Scalar.indexCast v7899
  let c32_6915 : Index := 32#32
  let c0_6916 : Index := 0#32
  ![v15009.toNat, 32, 0]
def k0_off454 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15047 : Index := Scalar.indexCast v7899
  let c32_6924 : Index := 32#32
  let c0_6925 : Index := 0#32
  ![v15047.toNat, 32, 0]
def k0_off455 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15051 : Index := Scalar.indexCast v7899
  let c64_6926 : Index := 64#32
  let c0_6927 : Index := 0#32
  ![v15051.toNat, 64, 0]
def k0_off456 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15089 : Index := Scalar.indexCast v7899
  let c64_6935 : Index := 64#32
  let c0_6936 : Index := 0#32
  ![v15089.toNat, 64, 0]
def k0_off457 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15093 : Index := Scalar.indexCast v7899
  let c96_6937 : Index := 96#32
  let c0_6938 : Index := 0#32
  ![v15093.toNat, 96, 0]
def k0_off458 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15131 : Index := Scalar.indexCast v7899
  let c96_6946 : Index := 96#32
  let c0_6947 : Index := 0#32
  ![v15131.toNat, 96, 0]
def k0_off459 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15135 : Index := Scalar.indexCast v7899
  let c128_6948 : Index := 128#32
  let c0_6949 : Index := 0#32
  ![v15135.toNat, 128, 0]
def k0_off460 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15173 : Index := Scalar.indexCast v7899
  let c128_6957 : Index := 128#32
  let c0_6958 : Index := 0#32
  ![v15173.toNat, 128, 0]
def k0_off461 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15177 : Index := Scalar.indexCast v7899
  let c160_6959 : Index := 160#32
  let c0_6960 : Index := 0#32
  ![v15177.toNat, 160, 0]
def k0_off462 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15215 : Index := Scalar.indexCast v7899
  let c160_6968 : Index := 160#32
  let c0_6969 : Index := 0#32
  ![v15215.toNat, 160, 0]
def k0_off463 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15219 : Index := Scalar.indexCast v7899
  let c192_6970 : Index := 192#32
  let c0_6971 : Index := 0#32
  ![v15219.toNat, 192, 0]
def k0_off464 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15257 : Index := Scalar.indexCast v7899
  let c192_6979 : Index := 192#32
  let c0_6980 : Index := 0#32
  ![v15257.toNat, 192, 0]
def k0_off465 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15261 : Index := Scalar.indexCast v7899
  let c224_6981 : Index := 224#32
  let c0_6982 : Index := 0#32
  ![v15261.toNat, 224, 0]
def k0_off466 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15299 : Index := Scalar.indexCast v7899
  let c224_6990 : Index := 224#32
  let c0_6991 : Index := 0#32
  ![v15299.toNat, 224, 0]
def k0_off467 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15303 : Index := Scalar.indexCast v7899
  let c256_6992 : Index := 256#32
  let c0_6993 : Index := 0#32
  ![v15303.toNat, 256, 0]
def k0_off468 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15341 : Index := Scalar.indexCast v7899
  let c256_7001 : Index := 256#32
  let c0_7002 : Index := 0#32
  ![v15341.toNat, 256, 0]
def k0_off469 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15345 : Index := Scalar.indexCast v7899
  let c288_7003 : Index := 288#32
  let c0_7004 : Index := 0#32
  ![v15345.toNat, 288, 0]
def k0_off470 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15383 : Index := Scalar.indexCast v7899
  let c288_7012 : Index := 288#32
  let c0_7013 : Index := 0#32
  ![v15383.toNat, 288, 0]
def k0_off471 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15387 : Index := Scalar.indexCast v7899
  let c320_7014 : Index := 320#32
  let c0_7015 : Index := 0#32
  ![v15387.toNat, 320, 0]
def k0_off472 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15425 : Index := Scalar.indexCast v7899
  let c320_7023 : Index := 320#32
  let c0_7024 : Index := 0#32
  ![v15425.toNat, 320, 0]
def k0_off473 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15429 : Index := Scalar.indexCast v7899
  let c352_7025 : Index := 352#32
  let c0_7026 : Index := 0#32
  ![v15429.toNat, 352, 0]
def k0_off474 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15467 : Index := Scalar.indexCast v7899
  let c352_7034 : Index := 352#32
  let c0_7035 : Index := 0#32
  ![v15467.toNat, 352, 0]
def k0_off475 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15471 : Index := Scalar.indexCast v7899
  let c384_7036 : Index := 384#32
  let c0_7037 : Index := 0#32
  ![v15471.toNat, 384, 0]
def k0_off476 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15509 : Index := Scalar.indexCast v7899
  let c384_7045 : Index := 384#32
  let c0_7046 : Index := 0#32
  ![v15509.toNat, 384, 0]
def k0_off477 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15513 : Index := Scalar.indexCast v7899
  let c416_7047 : Index := 416#32
  let c0_7048 : Index := 0#32
  ![v15513.toNat, 416, 0]
def k0_off478 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15551 : Index := Scalar.indexCast v7899
  let c416_7056 : Index := 416#32
  let c0_7057 : Index := 0#32
  ![v15551.toNat, 416, 0]
def k0_off479 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15555 : Index := Scalar.indexCast v7899
  let c448_7058 : Index := 448#32
  let c0_7059 : Index := 0#32
  ![v15555.toNat, 448, 0]
def k0_off480 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15593 : Index := Scalar.indexCast v7899
  let c448_7067 : Index := 448#32
  let c0_7068 : Index := 0#32
  ![v15593.toNat, 448, 0]
def k0_off481 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15597 : Index := Scalar.indexCast v7899
  let c480_7069 : Index := 480#32
  let c0_7070 : Index := 0#32
  ![v15597.toNat, 480, 0]
def k0_off482 (k0_t3 : Fin k0_t3_loop.trips) : Fin 3 → Nat :=
  let c2_i32_3519 : BitVec 32 := 2#32
  let c0_i32_155 : BitVec 32 := 0#32
  let c1_i32_157 : BitVec 32 := 1#32
  let arg25 : BitVec 32 := Scf.iv c0_i32_155 c1_i32_157 k0_t3
  let v7898 : BitVec 32 := Scalar.muli c2_i32_3519 arg25
  let c1_i32_3520 : BitVec 32 := 1#32
  let v7899 : BitVec 32 := Scalar.addi v7898 c1_i32_3520
  let v15635 : Index := Scalar.indexCast v7899
  let c480_7078 : Index := 480#32
  let c0_7079 : Index := 0#32
  ![v15635.toNat, 480, 0]
def k0_off483 (k0_t3 : Fin k0_t3_loop.trips) : Fin 4 → Nat :=
  let c1 : Index := 1#32
  let c0_i32_155 : BitVec 32 := 0#32
  let c1_i32_157 : BitVec 32 := 1#32
  let arg25 : BitVec 32 := Scf.iv c0_i32_155 c1_i32_157 k0_t3
  let v15641 : Index := Scalar.indexCast arg25
  let c0_7080 : Index := 0#32
  let c0_7081 : Index := 0#32
  ![1, v15641.toNat, 0, 0]
def k0_off484 (k0_t3 : Fin k0_t3_loop.trips) : Fin 3 → Nat :=
  let c0_i32_155 : BitVec 32 := 0#32
  let c1_i32_157 : BitVec 32 := 1#32
  let arg25 : BitVec 32 := Scf.iv c0_i32_155 c1_i32_157 k0_t3
  let c0_i32_7084 : BitVec 32 := 0#32
  let c0_i32_7085 : BitVec 32 := 0#32
  ![arg25.toNat, 0, 0]
def k0_off485 (k0_t3 : Fin k0_t3_loop.trips) : Fin 3 → Nat :=
  let c2_i32_7082 : BitVec 32 := 2#32
  let c0_i32_155 : BitVec 32 := 0#32
  let c1_i32_157 : BitVec 32 := 1#32
  let arg25 : BitVec 32 := Scf.iv c0_i32_155 c1_i32_157 k0_t3
  let v15645 : BitVec 32 := Scalar.muli c2_i32_7082 arg25
  let c0_i32_7083 : BitVec 32 := 0#32
  let v15646 : BitVec 32 := Scalar.addi v15645 c0_i32_7083
  let c0_i32_7086 : BitVec 32 := 0#32
  let c0_i32_7087 : BitVec 32 := 0#32
  ![v15646.toNat, 0, 0]
@[reducible] def k0_t4_loop : Scf.Loop 32 :=
  let c0_i32_173 : BitVec 32 := 0#32
  let c12_i32_174 : BitVec 32 := 12#32
  let v143 : BitVec 32 := Scalar.addi c0_i32_173 c12_i32_174
  let c1_i32_175 : BitVec 32 := 1#32
  ⟨c0_i32_173, v143, c1_i32_175⟩
def k0_off486 (k0_t4 : Fin k0_t4_loop.trips) : Fin 3 → Nat :=
  let c0_i32_173 : BitVec 32 := 0#32
  let c1_i32_175 : BitVec 32 := 1#32
  let arg25 : BitVec 32 := Scf.iv c0_i32_173 c1_i32_175 k0_t4
  let c0_i32_187 : BitVec 32 := 0#32
  let c0_i32_188 : BitVec 32 := 0#32
  ![arg25.toNat, 0, 0]
def k0_off487 (k0_t4 : Fin k0_t4_loop.trips) (c0_i32_186 : BitVec 32) : Fin 3 → Nat :=
  let c2_i32_185 : BitVec 32 := 2#32
  let c0_i32_173 : BitVec 32 := 0#32
  let c1_i32_175 : BitVec 32 := 1#32
  let arg25 : BitVec 32 := Scf.iv c0_i32_173 c1_i32_175 k0_t4
  let v148 : BitVec 32 := Scalar.muli c2_i32_185 arg25
  let v149 : BitVec 32 := Scalar.addi v148 c0_i32_186
  let c0_i32_189 : BitVec 32 := 0#32
  let c0_i32_190 : BitVec 32 := 0#32
  ![v149.toNat, 0, 0]
-- ==== ReferenceIdeal.lean ====
abbrev S2115x32x16x128 : Shape := ⟨4, ![2115, 32, 16, 128]⟩
abbrev S2115x16 : Shape := ⟨2, ![2115, 16]⟩
abbrev S12x141 : Shape := ⟨2, ![12, 141]⟩
abbrev S12 : Shape := ⟨1, ![12]⟩
abbrev S12x384x16x128 : Shape := ⟨4, ![12, 384, 16, 128]⟩
abbrev S_ : Shape := ⟨0, ![]⟩
abbrev S12x1 : Shape := ⟨2, ![12, 1]⟩
abbrev S12x1x1 : Shape := ⟨3, ![12, 1, 1]⟩
abbrev S12x13 : Shape := ⟨2, ![12, 13]⟩
abbrev S12x13x1 : Shape := ⟨3, ![12, 13, 1]⟩
abbrev S12x13x32 : Shape := ⟨3, ![12, 13, 32]⟩
abbrev S12x1x32x16x128 : Shape := ⟨5, ![12, 1, 32, 16, 128]⟩
abbrev S12x1x16 : Shape := ⟨3, ![12, 1, 16]⟩
abbrev S12x13x32x1 : Shape := ⟨4, ![12, 13, 32, 1]⟩
abbrev S12x13x32x16x128 : Shape := ⟨5, ![12, 13, 32, 16, 128]⟩
abbrev S12x13x32x1x1 : Shape := ⟨5, ![12, 13, 32, 1, 1]⟩
abbrev S12x13x16 : Shape := ⟨3, ![12, 13, 16]⟩
abbrev S12x6656x128 : Shape := ⟨3, ![12, 6656, 128]⟩
abbrev S12x13x1x16x1 : Shape := ⟨5, ![12, 13, 1, 16, 1]⟩
abbrev S12x13x32x16 : Shape := ⟨4, ![12, 13, 32, 16]⟩
abbrev S12x13x16x253 : Shape := ⟨4, ![12, 13, 16, 253]⟩
abbrev S12x13x16x1 : Shape := ⟨4, ![12, 13, 16, 1]⟩

abbrev nBuf : Space → Nat
  | .hbm => 60
  | .vmem => 14
  | .smem => 0
  | _ => 0

abbrev bufTy : (tb : Table) → Fin (tcTables nBuf tb) → BufTy
  | .hbm, ⟨0, _⟩ => ⟨S2115x32x16x128, .fp8e4m3⟩
  | .hbm, ⟨1, _⟩ => ⟨S2115x32x16x128, .fp8e4m3⟩
  | .hbm, ⟨2, _⟩ => ⟨S2115x16, .f32⟩
  | .hbm, ⟨3, _⟩ => ⟨S2115x16, .f32⟩
  | .hbm, ⟨4, _⟩ => ⟨S12x141, .i32⟩
  | .hbm, ⟨5, _⟩ => ⟨S12, .i32⟩
  | .hbm, ⟨6, _⟩ => ⟨S12x384x16x128, .bf16⟩
  | .hbm, ⟨7, _⟩ => ⟨S12x384x16x128, .bf16⟩
  | .hbm, ⟨8, _⟩ => ⟨S_, .i32⟩
  | .hbm, ⟨9, _⟩ => ⟨S12, .i32⟩
  | .hbm, ⟨10, _⟩ => ⟨S12, .i32⟩
  | .hbm, ⟨11, _⟩ => ⟨S_, .i32⟩
  | .hbm, ⟨12, _⟩ => ⟨S12, .i32⟩
  | .hbm, ⟨13, _⟩ => ⟨S12, .i32⟩
  | .hbm, ⟨14, _⟩ => ⟨S12x1, .i32⟩
  | .hbm, ⟨15, _⟩ => ⟨S12x1x1, .i32⟩
  | .hbm, ⟨16, _⟩ => ⟨S12x1, .i32⟩
  | .hbm, ⟨17, _⟩ => ⟨S12x13, .i32⟩
  | .hbm, ⟨18, _⟩ => ⟨S_, .i32⟩
  | .hbm, ⟨19, _⟩ => ⟨S12x13, .i32⟩
  | .hbm, ⟨20, _⟩ => ⟨S12x13, .i32⟩
  | .hbm, ⟨21, _⟩ => ⟨S12x1, .i32⟩
  | .hbm, ⟨22, _⟩ => ⟨S12x13, .i32⟩
  | .hbm, ⟨23, _⟩ => ⟨S12x13, .i32⟩
  | .hbm, ⟨24, _⟩ => ⟨S12x13x1, .i32⟩
  | .hbm, ⟨25, _⟩ => ⟨S12x13x32, .i32⟩
  | .hbm, ⟨26, _⟩ => ⟨S12x13x32, .i32⟩
  | .hbm, ⟨27, _⟩ => ⟨S12x13x32, .i32⟩
  | .hbm, ⟨28, _⟩ => ⟨S_, .i32⟩
  | .hbm, ⟨29, _⟩ => ⟨S12x13, .i32⟩
  | .hbm, ⟨30, _⟩ => ⟨S12x13, .i1⟩
  | .hbm, ⟨31, _⟩ => ⟨S12x13, .i32⟩
  | .hbm, ⟨32, _⟩ => ⟨S12x1x1, .i32⟩
  | .hbm, ⟨33, _⟩ => ⟨S12x1x32x16x128, .fp8e4m3⟩
  | .hbm, ⟨34, _⟩ => ⟨S12x1x1, .i32⟩
  | .hbm, ⟨35, _⟩ => ⟨S12x1x16, .f32⟩
  | .hbm, ⟨36, _⟩ => ⟨S12x13x32x1, .i32⟩
  | .hbm, ⟨37, _⟩ => ⟨S12x13x32x16x128, .bf16⟩
  | .hbm, ⟨38, _⟩ => ⟨S12x13x32x1x1, .i32⟩
  | .hbm, ⟨39, _⟩ => ⟨S12x13x32x16x128, .i32⟩
  | .hbm, ⟨40, _⟩ => ⟨S12x13x32x16x128, .fp8e4m3⟩
  | .hbm, ⟨41, _⟩ => ⟨S12x13x16, .f32⟩
  | .hbm, ⟨42, _⟩ => ⟨S12x13x1, .i32⟩
  | .hbm, ⟨43, _⟩ => ⟨S12x13x16, .i32⟩
  | .hbm, ⟨44, _⟩ => ⟨S12x6656x128, .fp8e4m3⟩
  | .hbm, ⟨45, _⟩ => ⟨S12x13x16, .f32⟩
  | .hbm, ⟨46, _⟩ => ⟨S12x1x1, .i32⟩
  | .hbm, ⟨47, _⟩ => ⟨S12x1x32x16x128, .fp8e4m3⟩
  | .hbm, ⟨48, _⟩ => ⟨S12x1x1, .i32⟩
  | .hbm, ⟨49, _⟩ => ⟨S12x1x16, .f32⟩
  | .hbm, ⟨50, _⟩ => ⟨S12x13x32x1, .i32⟩
  | .hbm, ⟨51, _⟩ => ⟨S12x13x32x16x128, .bf16⟩
  | .hbm, ⟨52, _⟩ => ⟨S12x13x32x1x1, .i32⟩
  | .hbm, ⟨53, _⟩ => ⟨S12x13x32x16x128, .i32⟩
  | .hbm, ⟨54, _⟩ => ⟨S12x13x32x16x128, .fp8e4m3⟩
  | .hbm, ⟨55, _⟩ => ⟨S12x13x16, .f32⟩
  | .hbm, ⟨56, _⟩ => ⟨S12x13x1, .i32⟩
  | .hbm, ⟨57, _⟩ => ⟨S12x13x16, .i32⟩
  | .hbm, ⟨58, _⟩ => ⟨S12x6656x128, .fp8e4m3⟩
  | .hbm, ⟨59, _⟩ => ⟨S12x13x16, .f32⟩
  | .local _ .vmem, ⟨0, _⟩ => ⟨S12x13x32x16x128, .i32⟩
  | .local _ .vmem, ⟨1, _⟩ => ⟨S12x13x32x16x128, .fp8e4m3⟩
  | .local _ .vmem, ⟨2, _⟩ => ⟨S12x13x16, .f32⟩
  | .local _ .vmem, ⟨3, _⟩ => ⟨S12x13x16, .i32⟩
  | .local _ .vmem, ⟨4, _⟩ => ⟨S12x13x32x16x128, .bf16⟩
  | .local _ .vmem, ⟨5, _⟩ => ⟨S12x6656x128, .fp8e4m3⟩
  | .local _ .vmem, ⟨6, _⟩ => ⟨S12x13x16, .f32⟩
  | .local _ .vmem, ⟨7, _⟩ => ⟨S12x13x32x16x128, .i32⟩
  | .local _ .vmem, ⟨8, _⟩ => ⟨S12x13x32x16x128, .fp8e4m3⟩
  | .local _ .vmem, ⟨9, _⟩ => ⟨S12x13x16, .f32⟩
  | .local _ .vmem, ⟨10, _⟩ => ⟨S12x13x16, .i32⟩
  | .local _ .vmem, ⟨11, _⟩ => ⟨S12x13x32x16x128, .bf16⟩
  | .local _ .vmem, ⟨12, _⟩ => ⟨S12x6656x128, .fp8e4m3⟩
  | .local _ .vmem, ⟨13, _⟩ => ⟨S12x13x16, .f32⟩
  | _, _ => ⟨S2115x32x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := .none

abbrev stage0_0 : Fin 1 → Memref sig .tc .vmem S12x13x32x16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x13x32x16x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x13x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x13x16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x13x32x16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x6656x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x13x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S12x13x32x16x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S12x13x32x16x128 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S12x13x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S12x13x16 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S12x13x32x16x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S12x6656x128 .fp8e4m3 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S12x13x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== Proof.Trace.lean ====
/- The effects of a straight-line piece of the kernel as a trace: every load of a buffer whose contents are known is
   answered by those contents, so that a long body becomes a list of loads, stores and transfers with closed payloads. -/
module

public import proofs.«01_k».proof.Proof.Gen.Kernel
public import proofs.«01_k».proof.Proof.Gen.Kernel.Launch
public import proofs.«01_k».proof.Proof.Gen.Kernel.Points
public import proofs.«01_k».proof.Proof.Gen.Kernel.Frame
public import Idealize.ShloMosaic.Lib.Pipeline.FrameValue
public import Idealize.ShloMosaic.Lib.Pipeline.Regions
public import Idealize.ShloMosaic.Lib.Transfers
public import Idealize.ShloMosaic.Rules.Step

@[expose] public section

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

/-- What a piece of the kernel does: loads of known contents, loads whose value is not used, side conditions, stores,
    local transfers and waits, in order. -/
inductive Tr (F : FTy → Type) (α : Type) : Type 1
  | ret (a : α) : Tr F α
  | load {cs : CoreSpace} {s : Shape} {e : EltTy} (m : Memref sig .tc cs s e) (r : LoadRect s) (t : Tr F α) : Tr F α
  | dead {cs : CoreSpace} {s : Shape} {e : EltTy} (m : Memref sig .tc cs s e) (r : LoadRect s)
      (k : (r.shape.Idx → Elt F e) → Tr F α) : Tr F α
  | asm (P : Prop) (k : PLift P → Tr F α) : Tr F α
  | store {cs : CoreSpace} {s : Shape} {e : EltTy} (m : Memref sig .tc cs s e) (r : Rect s) (w : r.shape.Idx → Elt F e)
      (M : Finset r.shape.Idx) (t : Tr F α) : Tr F α
  | enq {sp sp' : Space} {s₀ : Shape} {e₀ : EltTy} {s : Shape} {e : EltTy} (src : Memref sig .tc sp s₀ e₀)
      (dst : Memref sig .tc sp' s e) (via : ReadAs (Elt F) s₀ e₀ s e) (sem : SemLoc sig) (t : Tr F α) : Tr F α
  | wait (sem : DmaSem sig) (b : Ref sig .tc) (s : Shape) (e : EltTy) (t : Tr F α) : Tr F α
  | stop : Tr F α

/-- The shapes of the two buffers the kernel writes by stores after loading them: a load of either is dead. -/
def writtenShape (s : Shape) : Bool :=
  Nat.beq s.rank 4 || (if h : 1 < s.rank then Nat.beq (s.size ⟨1, h⟩) 6656 else false)

/-- One effect's node. -/
def node (C : (b : Ref sig .tc) → b.ty.Contents (Elt F)) {α β : Type} (e : TpuEff nD τ sig (Elt F) Λ₀ .tc β)
    (k : β → Tr F α) : Tr F α :=
  match β, e, k with
  | _, .load (s := s) m r _, k =>
    bif writtenShape s then .dead m r k else .load m r (k (m.view.readAt (Elt F) r (C m.view.ref)))
  | _, .store m r w M _ _, k => .store m r w M (k ⟨⟩)
  | _, .assume P _, k => .asm P k
  | _, .enqueueDmaAs src (.here dst) via sem _ _ _, k => .enq src dst via sem (k ⟨⟩)
  | _, .waitDma (κ := .tc) sem b s e _, k => .wait sem b s e (k ⟨⟩)
  | _, _, _ => .stop

/-- The trace of a program whose loads of unwritten buffers find the contents `C`. -/
def resolve (C : (b : Ref sig .tc) → b.ty.Contents (Elt F)) {α : Type} :
    Prog (TpuEff nD τ sig (Elt F) Λ₀ .tc) α → Tr F α
  | .ret a => .ret a
  | .op e k => node C e fun x => resolve C (k x)

end Cert.Kernel.Run
end
-- ==== Proof.Sound.lean ====
/- Running a trace: what must be held at each of its effects, and why that runs the program. -/
module

public import proofs.«01_k».proof.Proof.Trace
public import Idealize.ShloMosaic.Lib.Tactic
public import Idealize.ShloMosaic.Lib.Batch
public import Idealize.ShloMosaic.Lib.Pipeline.Frame

@[expose] public section

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

local notation "𝕄" => MT nD τ sig Unit (Elt F) ℕ (Pipeline.UD sig nD τ) ℕ

variable (C : (b : Ref sig .tc) → b.ty.Contents (Elt F)) (defs : Defs nD τ sig (Elt F) Λ₀) (𝒱 : Variants) (c : Dev nD)

/-- What must be held to run a trace. -/
def twp {α : Type} (Q : α → sProp 𝕄) : Tr F α → sProp 𝕄
  | .ret a => Q a
  | .load m r t => iprop(∃ (S : Finset (Idx (m.view.loc (c : Thread nD τ)))) (q : PosShare TreeShare),
      ⌜m.view.setOn r.set ⊆ S⌝ ∗ (m.view.loc (c : Thread nD τ) ↦[S]{q} (C m.view.ref))
        ∗ ((m.view.loc (c : Thread nD τ) ↦[S]{q} (C m.view.ref)) -∗ twp Q t))
  | .dead m r k => iprop(∃ (S : Finset (Idx (m.view.loc (c : Thread nD τ)))) (q : PosShare TreeShare) (f : Buf (Elt F) (m.view.loc (c : Thread nD τ))),
      ⌜m.view.setOn r.set ⊆ S⌝ ∗ (m.view.loc (c : Thread nD τ) ↦[S]{q} f)
        ∗ ((m.view.loc (c : Thread nD τ) ↦[S]{q} f) -∗ twp Q (k (m.view.readAt (Elt F) r f))))
  | .asm P k => iprop(∃ h : P, twp Q (k ⟨h⟩))
  | .store m r w M t => iprop(∃ (S : Finset (Idx (m.view.loc (c : Thread nD τ)))) (f : Buf (Elt F) (m.view.loc (c : Thread nD τ))),
      ⌜(m.access r).setOn M ⊆ S⌝ ∗ (m.view.loc (c : Thread nD τ) ↦[S]{fullShare} f)
        ∗ ((m.view.loc (c : Thread nD τ) ↦[S]{fullShare} ((m.access r).write (Elt F) f w M)) -∗ twp Q t))
  | .enq src dst via sem t => iprop(∀ h₁ h₂ h₃,
      wp frame (wpE defs 𝒱 (c : Thread nD τ) none) Set.univ (.op (.enqueueDmaAs src (.here dst) via sem h₁ h₂ h₃) .ret) fun _ => twp Q t)
  | .wait sem b s e t => iprop(∀ hk,
      wp frame (wpE defs 𝒱 (c : Thread nD τ) none) Set.univ (.op (.waitDma (κ := .tc) sem b s e hk) .ret) fun _ => twp Q t)
  | .stop => iprop(False)

theorem twp_stop {α : Type} (Q : α → sProp 𝕄) (P : sProp 𝕄) : twp C defs 𝒱 c Q (Tr.stop : Tr F α) ⊢ P :=
  Laws.false_elim

theorem wp_of_twp {α : Type} (Q : α → sProp 𝕄) (p : Prog (TpuEff nD τ sig (Elt F) Λ₀ .tc) α) :
    twp C defs 𝒱 c Q (resolve C p) ⊢ wp frame (wpE defs 𝒱 (c : Thread nD τ) none) Set.univ p Q := by
  induction p with
  | ret a => exact le_wp_ret _ _ _ _ _
  | op e k ih =>
    cases e with
    | load m r hl =>
      rename_i cs s e'
      show twp C defs 𝒱 c Q (bif writtenShape s then .dead m r (fun x => resolve C (k x)) else .load m r (resolve C (k (m.view.readAt (Elt F) r (C m.view.ref))))) ⊢ _
      cases writtenShape s
      · show iprop(∃ (S : Finset (Idx (m.view.loc (c : Thread nD τ)))) (q : PosShare TreeShare),
          ⌜m.view.setOn r.set ⊆ S⌝ ∗ (m.view.loc (c : Thread nD τ) ↦[S]{q} (C m.view.ref))
            ∗ ((m.view.loc (c : Thread nD τ) ↦[S]{q} (C m.view.ref)) -∗ twp C defs 𝒱 c Q (resolve C (k (m.view.readAt (Elt F) r (C m.view.ref)))))) ⊢ _
        iintro ⟨%S, %q, %hS, Hp, Hk⟩
        iapply (wp_load (c := (c : Thread nD τ)) 𝒱 none Set.univ hS) $$ Hp
        iintro Hp
        iapply (ih _)
        iapply Hk $$ Hp
      · show iprop(∃ (S : Finset (Idx (m.view.loc (c : Thread nD τ)))) (q : PosShare TreeShare) (f : Buf (Elt F) (m.view.loc (c : Thread nD τ))),
          ⌜m.view.setOn r.set ⊆ S⌝ ∗ (m.view.loc (c : Thread nD τ) ↦[S]{q} f)
            ∗ ((m.view.loc (c : Thread nD τ) ↦[S]{q} f) -∗ twp C defs 𝒱 c Q (resolve C (k (m.view.readAt (Elt F) r f))))) ⊢ _
        iintro ⟨%S, %q, %f, %hS, Hp, Hk⟩
        iapply (wp_load (c := (c : Thread nD τ)) 𝒱 none Set.univ hS) $$ Hp
        iintro Hp
        iapply (ih _)
        iapply Hk $$ Hp
    | store m r w M h hm =>
      show iprop(∃ (S : Finset (Idx (m.view.loc (c : Thread nD τ)))) (f : Buf (Elt F) (m.view.loc (c : Thread nD τ))),
        ⌜(m.access r).setOn M ⊆ S⌝ ∗ (m.view.loc (c : Thread nD τ) ↦[S]{fullShare} f)
          ∗ ((m.view.loc (c : Thread nD τ) ↦[S]{fullShare} ((m.access r).write (Elt F) f w M)) -∗ twp C defs 𝒱 c Q (resolve C (k ⟨⟩)))) ⊢ _
      iintro ⟨%S, %f, %hS, Hp, Hk⟩
      iapply (wp_store (c := (c : Thread nD τ)) 𝒱 none Set.univ hS) $$ Hp
      iintro Hp
      iapply (ih _)
      iapply Hk $$ Hp
    | assume P dec =>
      show iprop(∃ h : P, twp C defs 𝒱 c Q (resolve C (k ⟨h⟩))) ⊢ _
      iintro ⟨%h, Hk⟩
      iapply (wp_assume (c := (c : Thread nD τ)) 𝒱 none Set.univ h)
      iapply (ih _)
      iexact Hk
    | enqueueDmaAs src tgt via sem h₁ h₂ h₃ =>
      cases tgt with
      | here dst =>
        show iprop(∀ h₁ h₂ h₃, wp frame (wpE defs 𝒱 (c : Thread nD τ) none) Set.univ (.op (.enqueueDmaAs src (.here dst) via sem h₁ h₂ h₃) .ret) fun _ => twp C defs 𝒱 c Q (resolve C (k ⟨⟩))) ⊢ _
        refine (forall_elim h₁).trans ((forall_elim h₂).trans ((forall_elim h₃).trans ?_))
        have e : (Prog.op (.enqueueDmaAs src (.here dst) via sem h₁ h₂ h₃) k : Prog (TpuEff nD τ sig (Elt F) Λ₀ .tc) α)
            = (Prog.op (.enqueueDmaAs src (.here dst) via sem h₁ h₂ h₃) .ret) >>= k := rfl
        rw [e, wp_bind]
        exact Idealize.SL.Sem.wp_mono _ _ _ (fun _ => ih _)
      | _ => exact twp_stop C defs 𝒱 c Q _
    | waitDma sem b s e hk =>
      rename_i κ
      cases κ with
      | tc =>
        show iprop(∀ hk, wp frame (wpE defs 𝒱 (c : Thread nD τ) none) Set.univ (.op (.waitDma (κ := .tc) sem b s e hk) .ret) fun _ => twp C defs 𝒱 c Q (resolve C (k ⟨⟩))) ⊢ _
        refine (forall_elim hk).trans ?_
        have e : (Prog.op (.waitDma (κ := .tc) sem b s e hk) k : Prog (TpuEff nD τ sig (Elt F) Λ₀ .tc) α)
            = (Prog.op (.waitDma (κ := .tc) sem b s e hk) .ret) >>= k := rfl
        rw [e, wp_bind]
        exact Idealize.SL.Sem.wp_mono _ _ _ (fun _ => ih _)
      | _ => exact twp_stop C defs 𝒱 c Q _
    | _ => exact twp_stop C defs 𝒱 c Q _

end Cert.Kernel.Run
end
-- ==== Proof.Rules.lean ====
/- The transfers, loads and stores of a trace, in the forms the kernel's proof uses. -/
module

public import proofs.«01_k».proof.Proof.Sound

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

local notation "𝕄" => MT nD τ sig Unit (Elt F) ℕ (Pipeline.UD sig nD τ) ℕ

variable (C : (b : Ref sig .tc) → b.ty.Contents (Elt F)) (defs : Defs nD τ sig (Elt F) Λ₀) (𝒱 : Variants) (c : Dev nD)

/-- A transfer in flight on cell `sm`: waiting for it yields `D` and the source's share back. -/
def Fly (sm : SemLoc sig) (N : ℕ) (ℓ : Loc nD τ sig) (q : PosShare TreeShare) (fs : Buf (Elt F) ℓ) (D : sProp 𝕄) : sProp 𝕄 :=
  iprop(∃ I : Finset (Idx ℓ), Flight (countersEmb (U := Pipeline.UD sig nD τ)) (c : Thread nD τ) sm () N iprop(D ∗ (ℓ ↦[I]{q} fs)) ∗ (ℓ ↦[Finset.univ \ I]{q} fs))

variable {α : Type} (Q : α → sProp (MT nD τ sig Unit (Elt F) ℕ (Pipeline.UD sig nD τ) ℕ))

/-- What the core still owes: nothing, whatever it has waited for. -/
def Owe : sProp 𝕄 := iprop(∃ W : Waits sig Unit, owes (c : Thread nD τ) 0 W)

theorem twp_enq {sp sp' : Space} {s₀ : Shape} {e₀ : EltTy} {s : Shape} {e : EltTy} (src : Memref sig .tc sp s₀ e₀)
    (dst : Memref sig .tc sp' s e) (via : ReadAs (Elt F) s₀ e₀ s e) (sm : SemLoc sig) (t : Tr F α) (N : ℕ)
    (hN : dst.view.amount sm = N) (hN0 : 0 < N) (q : PosShare TreeShare) (fs : Buf (Elt F) (src.view.loc (c : Thread nD τ)))
    (fd g : Buf (Elt F) (dst.view.loc (c : Thread nD τ)))
    (hg : ∀ i ∈ dst.view.set, dst.view.write (Elt F) fd (via.apply (src.view.read (Elt F) fs)) Finset.univ i = g i) :
    iprop((src.view.loc (c : Thread nD τ) ↦{q} fs) ∗ (dst.view.loc (c : Thread nD τ) ↦[dst.view.set]{fullShare} fd) ∗ semVal ((c : Thread nD τ), sm) 0)
      ⊢ iprop((Fly c sm N (src.view.loc (c : Thread nD τ)) q fs (dst.view.loc (c : Thread nD τ) ↦[dst.view.set]{fullShare} g) -∗ twp C defs 𝒱 c Q t)
        -∗ twp C defs 𝒱 c Q (.enq src dst via sm t)) := by
  rw [show twp C defs 𝒱 c Q (.enq src dst via sm t) = iprop(∀ h₁ h₂ h₃, wp frame (wpE defs 𝒱 (c : Thread nD τ) none) Set.univ (.op (.enqueueDmaAs src (.here dst) via sm h₁ h₂ h₃) .ret) fun _ => twp C defs 𝒱 c Q t) from rfl]
  iintro ⟨Hs, Hd, Hv⟩ Hk
  iintro %h₁ %h₂ %h₃
  ihave Hs' := (pointsTo_split_subset (I := src.view.set) (Finset.subset_univ _)).1 $$ Hs
  icases Hs' with ⟨Hs, Hr⟩
  iapply (wp_dmaLocal (countersEmb (U := Pipeline.UD sig nD τ)) 𝒱 (c : Thread nD τ) none () N hN hN0 (le_refl _)) $$ [Hs Hd Hv]
  · isplitl [Hs]; · iexact Hs
    isplitl [Hd] <;> iassumption
  iintro HF
  iapply (le_wp_ret _ _ _ _ _)
  iapply Hk
  unfold Fly
  iexists src.view.set
  isplitl [HF]
  · rw [pointsTo_congr hg]
    iexact HF
  · iexact Hr

theorem twp_wait {b : Ref sig .tc} {s : Shape} {e : EltTy} (sem : DmaSem sig) (t : Tr F α) (N : ℕ) (hN : b.dmaCredit s e = N)
    (ℓ : Loc nD τ sig) (q : PosShare TreeShare) (fs : Buf (Elt F) ℓ) (D : sProp 𝕄) :
    iprop(Fly c (.dma sem) N ℓ q fs D ∗ Owe c)
      ⊢ iprop(((D ∗ (ℓ ↦{q} fs) ∗ semVal ((c : Thread nD τ), .dma sem) 0 ∗ Owe c) -∗ twp C defs 𝒱 c Q t)
        -∗ twp C defs 𝒱 c Q (.wait sem b s e t)) := by
  unfold Fly Owe
  rw [show twp C defs 𝒱 c Q (.wait sem b s e t) = iprop(∀ hk, wp frame (wpE defs 𝒱 (c : Thread nD τ) none) Set.univ (.op (.waitDma (κ := .tc) sem b s e hk) .ret) fun _ => twp C defs 𝒱 c Q t) from rfl]
  iintro ⟨⟨%I, HF, Hr⟩, ⟨%W, HO⟩⟩ Hk
  iintro %hk
  iapply (wp_waitLocalSized (countersEmb (U := Pipeline.UD sig nD τ)) 𝒱 (c : Thread nD τ) none () hN) $$ [HF HO]
  · isplitl [HF] <;> iassumption
  iintro ⟨⟨HD, Hs⟩, Hv, HO⟩
  iapply (le_wp_ret _ _ _ _ _)
  iapply Hk
  isplitl [HD]; · iexact HD
  isplitl [Hs Hr]
  · iapply (pointsTo_split_subset (I := I) (Finset.subset_univ _)).2
    isplitl [Hs] <;> iassumption
  isplitl [Hv]; · iexact Hv
  iexists _
  iexact HO

theorem twp_load {cs : CoreSpace} {s : Shape} {e : EltTy} (m : Memref sig .tc cs s e) (r : LoadRect s) (t : Tr F α)
    {S : Finset (Idx (m.view.loc (c : Thread nD τ)))} {q : PosShare TreeShare} (hS : m.view.setOn r.set ⊆ S) :
    (m.view.loc (c : Thread nD τ) ↦[S]{q} (C m.view.ref) : sProp 𝕄)
      ⊢ iprop(((m.view.loc (c : Thread nD τ) ↦[S]{q} (C m.view.ref)) -∗ twp C defs 𝒱 c Q t) -∗ twp C defs 𝒱 c Q (.load m r t)) := by
  rw [show twp C defs 𝒱 c Q (.load m r t) = iprop(∃ (S : Finset (Idx (m.view.loc (c : Thread nD τ)))) (q : PosShare TreeShare),
      ⌜m.view.setOn r.set ⊆ S⌝ ∗ (m.view.loc (c : Thread nD τ) ↦[S]{q} (C m.view.ref))
        ∗ ((m.view.loc (c : Thread nD τ) ↦[S]{q} (C m.view.ref)) -∗ twp C defs 𝒱 c Q t)) from rfl]
  iintro Hp Hk
  iexists S, q
  isplitr; · ipureintro; exact hS
  isplitl [Hp]; · iexact Hp
  iexact Hk

/-- A load whose value is not used, then a store of the same elements. -/
theorem twp_put {cs : CoreSpace} {s : Shape} {e : EltTy} (m : Memref sig .tc cs s e) (r : Rect s) (w : r.shape.Idx → Elt F e) (t : Tr F α)
    {S : Finset (Idx (m.view.loc (c : Thread nD τ)))} {f : Buf (Elt F) (m.view.loc (c : Thread nD τ))} (hS : m.view.setOn r.set ⊆ S) :
    (m.view.loc (c : Thread nD τ) ↦[S]{fullShare} f : sProp 𝕄)
      ⊢ iprop(((m.view.loc (c : Thread nD τ) ↦[S]{fullShare} ((m.access r).write (Elt F) f w Finset.univ)) -∗ twp C defs 𝒱 c Q t)
        -∗ twp C defs 𝒱 c Q (.dead m r.toLoadRect fun _ => .store m r w Finset.univ t)) := by
  rw [show twp C defs 𝒱 c Q (.dead m r.toLoadRect fun _ => .store m r w Finset.univ t) = iprop(∃ (S : Finset (Idx (m.view.loc (c : Thread nD τ)))) (q : PosShare TreeShare) (f : Buf (Elt F) (m.view.loc (c : Thread nD τ))),
      ⌜m.view.setOn r.toLoadRect.set ⊆ S⌝ ∗ (m.view.loc (c : Thread nD τ) ↦[S]{q} f)
        ∗ ((m.view.loc (c : Thread nD τ) ↦[S]{q} f) -∗ iprop(∃ (S : Finset (Idx (m.view.loc (c : Thread nD τ)))) (f : Buf (Elt F) (m.view.loc (c : Thread nD τ))),
      ⌜(m.access r).setOn Finset.univ ⊆ S⌝ ∗ (m.view.loc (c : Thread nD τ) ↦[S]{fullShare} f)
        ∗ ((m.view.loc (c : Thread nD τ) ↦[S]{fullShare} ((m.access r).write (Elt F) f w Finset.univ)) -∗ twp C defs 𝒱 c Q t)))) from rfl]
  iintro Hp Hk
  iexists S, fullShare, f
  isplitr; · ipureintro; exact hS
  isplitl [Hp]; · iexact Hp
  iintro Hp
  iexists S, f
  isplitr
  · ipureintro
    have : (m.access r).setOn Finset.univ = m.view.setOn r.toLoadRect.set := View.set_slice _ _
    rw [this]; exact hS
  isplitl [Hp]; · iexact Hp
  iexact Hk

theorem twp_asm {P : Prop} (h : P) (k : PLift P → Tr F α) : twp C defs 𝒱 c Q (k ⟨h⟩) ⊢ twp C defs 𝒱 c Q (.asm P k) :=
  exists_intro (Φ := fun h' => twp C defs 𝒱 c Q (k ⟨h'⟩)) h

/-- A run of `n` like steps, through an invariant. -/
theorem twp_foldr (P : ℕ → sProp 𝕄) : ∀ (n : ℕ) (st : Fin n → Tr F α → Tr F α)
    (_ : ∀ (i : Fin n) (k : Tr F α), iprop(P i.val ∗ (P (i.val + 1) -∗ twp C defs 𝒱 c Q k)) ⊢ twp C defs 𝒱 c Q (st i k)) (k : Tr F α),
    iprop(P 0 ∗ (P n -∗ twp C defs 𝒱 c Q k)) ⊢ twp C defs 𝒱 c Q (Fin.foldr n st k)
  | 0, st, h, k => by
    rw [Fin.foldr_zero]
    iintro ⟨H, Hk⟩
    iapply Hk $$ H
  | n + 1, st, h, k => by
    rw [Fin.foldr_succ_last]
    refine BIBase.Entails.trans ?_ (twp_foldr P n (fun i => st i.castSucc) (fun i k => h i.castSucc k) _)
    iintro ⟨H, Hk⟩
    isplitl [H]; · iexact H
    iintro H
    iapply (show iprop(P n ∗ (P (n + 1) -∗ twp C defs 𝒱 c Q k)) ⊢ twp C defs 𝒱 c Q (st (Fin.last n) k) from h (Fin.last n) k)
    isplitl [H]; · iexact H
    iexact Hk

end Cert.Kernel.Run
end
-- ==== Proof.Spec.lean ====
/- What one request's keys (or values) are turned into, as functions of the words the kernel reads, and the effects of
   that stretch of the kernel in order. -/
module

public import proofs.«01_k».proof.Proof.Trace

@[expose] public section

noncomputable section

namespace Cert.Kernel.Run

open Idealize.ShloMosaic Idealize.ShloMosaic.TcCoe Idealize.ShloMosaic.Tactic
open Cert.Kernel
open Shapes1.Facts₀ K0.Facts₀

variable {F : FTy → Type} [FloatOps F]

abbrev inM : Memref sig .tc .vmem S10016x16x128 .bf16 := Memref.whole cc0_scratch0
abbrev oldM : Memref sig .tc .vmem S24x512x128 .fp8e4m3 := Memref.whole cc0_scratch1
abbrev outM : Memref sig .tc .vmem S24x6656x128 .fp8e4m3 := Memref.whole cc0_scratch2
abbrev rowM : Memref sig .tc .vmem S24x1x16 .f32 := Memref.whole cc0_scratch3
abbrev scM : Memref sig .tc .vmem S2x12x13x16 .f32 := Memref.whole cc0_scratch4
abbrev tabM : Memref sig .tc .smem S12x141 .i32 := Memref.whole cc0_scratch5
abbrev lenM : Memref sig .tc .smem S12 .i32 := Memref.whole cc0_scratch6

/-- The loop's request number as a word. -/
def reqW (t : Fin k0_t3_loop.trips) : BitVec 32 := Scf.iv 0#32 1#32 t

/-- The number of a unit, the keys (0) or the values (1) of a request. -/
def unitW (kv : Fin 2) (t : Fin k0_t3_loop.trips) : BitVec 32 :=
  Scalar.addi (Scalar.muli 2#32 (reqW t)) (BitVec.ofNat 32 kv.val)

/-- The row of the input buffer at which the unit's pages begin. -/
def baseW (kv : Fin 2) (t : Fin k0_t3_loop.trips) (v : BitVec 32) : BitVec 32 :=
  Scalar.subi (Scalar.addi 32#32 (Scalar.muli (unitW kv t) 416#32)) (Scalar.remsi v 32#32)

def tokOff (kv : Fin 2) (t : Fin k0_t3_loop.trips) (v a b : BitVec 32) : Fin 3 → Nat :=
  ![(Scalar.indexCast (Scalar.addi (Scalar.addi (baseW kv t v) a) b) : Index).toNat, 0, 0]

def pairOff (kv : Fin 2) (t : Fin k0_t3_loop.trips) (v a : BitVec 32) : Fin 3 → Nat :=
  ![(Scalar.indexCast (Scalar.addi (baseW kv t v) a) : Index).toNat, 0, 0]

/-- The side condition of a unit: its loads lie within the input buffer. -/
def Chk (kv : Fin 2) (t : Fin k0_t3_loop.trips) (v : BitVec 32) : Prop :=
  (∀ (r₁ : Fin 13) (r₂ : Fin 32), ∀ a, (tokOff kv t v (BitVec.ofNat 32 (32 * r₁.val)) (BitVec.ofNat 32 r₂.val)) a + S1x16x128.size a ≤ S10016x16x128.size a) ∧
  (∀ (r₁ : Fin 12) (r₂ : Fin 16), ∀ a, (tokOff kv t v (BitVec.ofNat 32 (32 + 32 * r₁.val)) (BitVec.ofNat 32 (2 * r₂.val))) a + S2x16x128.size a ≤ S10016x16x128.size a) ∧
  (∀ (r : Fin 16), ∀ a, (pairOff kv t v (BitVec.ofNat 32 (2 * r.val))) a + S2x16x128.size a ≤ S10016x16x128.size a)

theorem trips3 : k0_t3_loop.trips = 12 := by decide

theorem reqW_toNat (t : Fin k0_t3_loop.trips) : (reqW t).toNat = t.val := by
  have h : t.val < 12 := lt_of_lt_of_eq t.isLt trips3
  simp only [reqW, Scf.iv, BitVec.mul_one, BitVec.zero_add, BitVec.toNat_ofNat]
  omega

theorem unitW_toNat (kv : Fin 2) (t : Fin k0_t3_loop.trips) : (unitW kv t).toNat = 2 * t.val + kv.val := by
  have h : t.val < 12 := lt_of_lt_of_eq t.isLt trips3
  have := kv.isLt
  show (2#32 * reqW t + BitVec.ofNat 32 kv.val).toNat = _
  rw [BitVec.toNat_add, BitVec.toNat_mul, reqW_toNat, BitVec.toNat_ofNat, BitVec.toNat_ofNat]
  omega

/-- A unit's place in an array of 24 rows of blocks. -/
def outOff (kv : Fin 2) (t : Fin k0_t3_loop.trips) (n : Nat) : Fin 3 → Nat :=
  ![(Scalar.indexCast (unitW kv t) : Index).toNat, n, 0]

theorem outOff_eq (kv : Fin 2) (t : Fin k0_t3_loop.trips) (n : Nat) : outOff kv t n = ![2 * t.val + kv.val, n, 0] := by
  have := unitW_toNat kv t
  unfold outOff
  congr 1

theorem outOff_inb (kv : Fin 2) (t : Fin k0_t3_loop.trips) (n : Nat) (h : n + 32 ≤ 6656) :
    ∀ a, outOff kv t n a + S1x32x128.size a ≤ S24x6656x128.size a := by
  have h' : t.val < 12 := lt_of_lt_of_eq t.isLt trips3
  have := kv.isLt
  rw [outOff_eq]
  intro a
  match a with
  | ⟨0, _⟩ => show 2 * t.val + kv.val + 1 ≤ 24; omega
  | ⟨1, _⟩ => exact h
  | ⟨2, _⟩ => show 0 + 128 ≤ 128; omega

theorem oldOff_inb (kv : Fin 2) (t : Fin k0_t3_loop.trips) (n : Nat) (h : n + 32 ≤ 512) :
    ∀ a, outOff kv t n a + S1x32x128.size a ≤ S24x512x128.size a := by
  have h' : t.val < 12 := lt_of_lt_of_eq t.isLt trips3
  have := kv.isLt
  rw [outOff_eq]
  intro a
  match a with
  | ⟨0, _⟩ => show 2 * t.val + kv.val + 1 ≤ 24; omega
  | ⟨1, _⟩ => exact h
  | ⟨2, _⟩ => show 0 + 128 ≤ 128; omega

theorem rowOff_inb (kv : Fin 2) (t : Fin k0_t3_loop.trips) :
    ∀ a, outOff kv t 0 a + S1x1x16.size a ≤ S24x1x16.size a := by
  have h' : t.val < 12 := lt_of_lt_of_eq t.isLt trips3
  have := kv.isLt
  rw [outOff_eq]
  intro a
  match a with
  | ⟨0, _⟩ => show 2 * t.val + kv.val + 1 ≤ 24; omega
  | ⟨1, _⟩ => show 0 + 1 ≤ 1; omega
  | ⟨2, _⟩ => show 0 + 16 ≤ 16; omega

def semOff (kv : Fin 2) (t : Fin k0_t3_loop.trips) : Fin 1 → Nat := ![(unitW kv t).toNat]

theorem semOff_inb (kv : Fin 2) (t : Fin k0_t3_loop.trips) : ∀ a, semOff kv t a + S1.size a ≤ S24.size a := by
  have h' : t.val < 12 := lt_of_lt_of_eq t.isLt trips3
  have := kv.isLt
  have h2 := unitW_toNat kv t
  intro a
  match a with
  | ⟨0, _⟩ => show (unitW kv t).toNat + 1 ≤ 24; omega

def scOff (kv : Fin 2) (t : Fin k0_t3_loop.trips) : Fin 4 → Nat := ![kv.val, (Scalar.indexCast (reqW t) : Index).toNat, 0, 0]

theorem scOff_inb (kv : Fin 2) (t : Fin k0_t3_loop.trips) : ∀ a, scOff kv t a + S1x1x13x16.size a ≤ S2x12x13x16.size a := by
  have h' : t.val < 12 := lt_of_lt_of_eq t.isLt trips3
  have := kv.isLt
  have h2 := reqW_toNat t
  intro a
  match a with
  | ⟨0, _⟩ => show kv.val + 1 ≤ 2; omega
  | ⟨1, _⟩ => show (reqW t).toNat + 1 ≤ 12; omega
  | ⟨2, _⟩ => show 0 + 13 ≤ 13; omega
  | ⟨3, _⟩ => show 0 + 16 ≤ 16; omega

/-- The maximum of `2 ^ n` blocks, taken in adjacent pairs. -/
def maxTree {s : Shape} {φ : FTy} : (n : Nat) → (Nat → FVec F s φ) → FVec F s φ
  | 0, f => f 0
  | n + 1, f => maxTree n fun i => maximumf (f (2 * i)) (f (2 * i + 1))

/-- A block of 16 heads by 1 from a page's maximum over the tokens. -/
def amaxOf (x : FVec F S16x128 .bf16) : FVec F S16x1 .f32 :=
  shapeCast S16x1 (multiReduction .maximumf [1] S16 (extf .f32 x bitsLt_bf16_f32) 0xFF800000#32 reduces_S16x128_S16 (.inl rfl) rfl) shapeCasts_S16_S16x1

/-- The words of the powers of two `0, 2 ^ -126, …, 2 ^ 127, ∞`. -/
def powW : IVec S16x256 32 := shli (iota .tc S16x256 32 [1] iota_S16x256_d1_w32) (broadcast S16x256 23#32)

/-- The word of the largest power of two at most the page's maximum over 448. -/
def expW (a : FVec F S16x1 .f32) : IVec S16x1 32 :=
  shapeCast S16x1 (multiReductionI .maxsi [1] S16
    (select (cmpf .oge (broadcastTo S16x256 (mulf a (broadcast S16x1 (Scalar.ofBits .f32 0x3B124925#32))) broadcasts_S16x1_S16x256)
      (bitcastToFloat .f32 powW)) powW (broadcast S16x256 0#32)) 2147483648#32 reduces_S16x256_S16 rfl) shapeCasts_S16_S16x1

/-- The word of the next power of two, or of one where the quotient is below the least normal number or infinite. -/
def nextW (e : IVec S16x1 32) : IVec S16x1 32 :=
  select (ori (cmpi .eq e (broadcast S16x1 0#32)) (cmpi .eq e (broadcast S16x1 2139095040#32)))
    (broadcast S16x1 1065353216#32) (addi e (broadcast S16x1 8388608#32))

def pow2W (a : FVec F S16x1 .f32) : IVec S16x1 32 := nextW (expW a)

/-- The factor of a later page, 16 heads by 128 lanes. -/
def invOf (w : IVec S16x1 32) : FVec F S16x128 .bf16 :=
  truncf .bf16 (broadcastTo S16x128 (shapeCast S16x1 (bitcastToFloat .f32 (subi (broadcast S16x1 2130706432#32) w)) shapeCasts_S16x1_S16x1) broadcasts_S16x1_S16x128) bitsLt_bf16_f32

/-- Two tokens' codes from their numbers and the page's factor. -/
def codeOf (x : FVec F S2x16x128 .bf16) (inv : FVec F S16x128 .bf16) : FVec F S1x32x128 .fp8e4m3 :=
  shapeCast S1x32x128 (truncf .fp8e4m3 (shapeCast S32x128
    (minimumf (broadcast S2x16x128 (Scalar.truncf .bf16 bitsLt_bf16_f32 (Scalar.ofBits .f32 0x43E00000#32)))
      (maximumf (broadcast S2x16x128 (Scalar.truncf .bf16 bitsLt_bf16_f32 (Scalar.ofBits .f32 0xC3E00000#32)))
        (mulf x (broadcastTo S2x16x128 (shapeCast S1x16x128 inv shapeCasts_S16x128_S1x16x128) broadcasts_S1x16x128_S2x16x128))))
    shapeCasts_S2x16x128_S32x128) bitsLt_fp8e4m3_bf16) shapeCasts_S32x128_S1x32x128

/-- One page's scale put into its column. -/
def putCol (n : Nat) (s : FVec F S16x1 .f32) (prev : FVec F S16x128 .f32) : FVec F S16x128 .f32 :=
  select (cmpi .eq (iota .tc S16x128 32 [1] iota_S16x128_d1_w32) (broadcast S16x128 (BitVec.ofNat 32 n)))
    (broadcastTo S16x128 (shapeCast S16x1 s shapeCasts_S16x1_S16x1) broadcasts_S16x1_S16x128) prev

/-- The stored scales of the page the append begins in, as a column. -/
def oldScOf (row : FVec F S1x1x16 .f32) : FVec F S16x1 .f32 :=
  shapeCast S16x1 (multiReduction .add [1] S16 (select (cmpi .eq (iota .tc S16x16 32 [0] iota_S16x16_d0_w32) (iota .tc S16x16 32 [1] iota_S16x16_d1_w32))
    (broadcastTo S16x16 (shapeCast S1x16 (shapeCast S1x16 row shapeCasts_S1x1x16_S1x16) shapeCasts_S1x16_S1x16) broadcasts_S1x16_S16x16)
    (broadcast S16x16 (Scalar.ofBits .f32 0x00000000#32))) 0x00000000#32 reduces_S16x16_S16 (.inl rfl) rfl) shapeCasts_S16_S16x1

/-- The scale of the page the append begins in. -/
def scale0Of (a : FVec F S16x1 .f32) (fill : BitVec 32) (osc : FVec F S16x1 .f32) : FVec F S16x1 .f32 :=
  let s := maximumf (Scalar.select (Scalar.cmpi .sgt fill 0#32) osc (broadcast S16x1 (Scalar.ofBits .f32 0x00000000#32)))
    (select (cmpf .ogt a (broadcast S16x1 (Scalar.ofBits .f32 0x00000000#32))) (bitcastToFloat .f32 (pow2W a))
      (broadcast S16x1 (Scalar.ofBits .f32 0x00000000#32)))
  select (cmpf .oeq s (broadcast S16x1 (Scalar.ofBits .f32 0x00000000#32))) (broadcast S16x1 (Scalar.ofBits .f32 0x3F800000#32)) s

def inv0Of (s : FVec F S16x1 .f32) : FVec F S16x1 .f32 :=
  divf (broadcast S16x1 (Scalar.ofBits .f32 0x3F800000#32)) s

/-- Token `j` of the pair: the page's old number where the page held one, the new one otherwise, times the factor. -/
def tok0Of (j : Fin 2) (old new : FVec F S2x16x128 .f32) (bit : BitVec 1) (osc inv : FVec F S16x1 .f32) (hj : S2x16x128.Slices ![j.val, 0, 0] S1x16x128) : FVec F S1x16x128 .f32 :=
  shapeCast S1x16x128 (mulf (Scalar.select bit
    (mulf (shapeCast S16x128 (extractStridedSlice S1x16x128 ![j.val, 0, 0] old hj) shapeCasts_S1x16x128_S16x128) (broadcastTo S16x128 osc broadcasts_S16x1_S16x128))
    (shapeCast S16x128 (extractStridedSlice S1x16x128 ![j.val, 0, 0] new hj) shapeCasts_S1x16x128_S16x128))
    (broadcastTo S16x128 inv broadcasts_S16x1_S16x128)) shapeCasts_S16x128_S1x16x128

/-- Two tokens' codes in the page the append begins in. -/
def code0Of (i : Nat) (oldw : FVec F S1x32x128 .fp8e4m3) (neww : FVec F S2x16x128 .bf16) (fill : BitVec 32) (osc inv : FVec F S16x1 .f32) :
    FVec F S1x32x128 .fp8e4m3 :=
  let old : FVec F S2x16x128 .f32 := shapeCast S2x16x128 (extf .f32 (shapeCast S32x128 oldw shapeCasts_S1x32x128_S32x128) bitsLt_fp8e4m3_f32) shapeCasts_S32x128_S2x16x128
  let new : FVec F S2x16x128 .f32 := extf .f32 neww bitsLt_bf16_f32
  shapeCast S1x32x128 (truncf .fp8e4m3 (shapeCast S32x128
    (minimumf (broadcast S2x16x128 (Scalar.ofBits .f32 0x43E00000#32)) (maximumf (broadcast S2x16x128 (Scalar.ofBits .f32 0xC3E00000#32))
      (concatenate S2x16x128 0 [⟨S1x16x128, tok0Of 0 old new (Scalar.cmpi .sgt fill (BitVec.ofNat 32 i)) osc inv slices_S2x16x128_o0_0_0_S1x16x128⟩,
        ⟨S1x16x128, tok0Of 1 old new (Scalar.cmpi .sgt fill (BitVec.ofNat 32 (i + 1))) osc inv slices_S2x16x128_o1_0_0_S1x16x128⟩] concatenates_S1x16x128_S1x16x128_S2x16x128_d0)))
    shapeCasts_S2x16x128_S32x128) bitsLt_fp8e4m3_f32) shapeCasts_S32x128_S1x32x128

/-- The table of scales, written out. -/
def scRowOf (col : FVec F S16x128 .f32) : FVec F S1x1x13x16 .f32 :=
  shapeCast S1x1x13x16 (extractStridedSlice S13x16 ![0, 0] (transpose S128x16 [1, 0] col transposes_S16x128_p1_0_S128x16) slices_S128x16_o0_0_S13x16) shapeCasts_S13x16_S1x1x13x16

section Unit

variable (C : (b : Ref sig .tc) → b.ty.Contents (Elt F)) (kv : Fin 2) (t : Fin k0_t3_loop.trips)

theorem lenOff_inb : ∀ a, (![(Scalar.indexCast (reqW t) : Index).toNat] : Fin 1 → Nat) a + S1.size a ≤ S12.size a := by
  have h' : t.val < 12 := lt_of_lt_of_eq t.isLt trips3
  have h2 := reqW_toNat t
  intro a
  match a with
  | ⟨0, _⟩ => show (reqW t).toNat + 1 ≤ 12; omega

def lenRect : Rect S12 := Rect.unit (s := S12) ![(Scalar.indexCast (reqW t) : Index).toNat] S1.size (lenOff_inb t)

/-- The request's length. -/
def lenV : BitVec 32 :=
  (lenM.view.readAt (Elt F) (lenRect t).toLoadRect (C lenM.view.ref) : _ → Elt F .i32) (Shape.Idx.first (numel1_S1.symm ▸ Nat.one_pos))

variable (v : BitVec 32) (h : Chk kv t v)

def rTok (p : Fin 13) (i : Fin 32) : LoadRect S10016x16x128 :=
  (Rect.unit (s := S10016x16x128) (tokOff kv t v (BitVec.ofNat 32 (32 * p.val)) (BitVec.ofNat 32 i.val)) S1x16x128.size (h.1 p i)).toLoadRect
def rPair (p : Fin 12) (i : Fin 16) : LoadRect S10016x16x128 :=
  (Rect.unit (s := S10016x16x128) (tokOff kv t v (BitVec.ofNat 32 (32 + 32 * p.val)) (BitVec.ofNat 32 (2 * i.val))) S2x16x128.size (h.2.1 p i)).toLoadRect
def rPair0 (i : Fin 16) : LoadRect S10016x16x128 :=
  (Rect.unit (s := S10016x16x128) (pairOff kv t v (BitVec.ofNat 32 (2 * i.val))) S2x16x128.size (h.2.2 i)).toLoadRect
def rOut (n : Fin 13) (i : Fin 16) : Rect S24x6656x128 :=
  Rect.unit (s := S24x6656x128) (outOff kv t (512 * n.val + 32 * i.val)) S1x32x128.size (outOff_inb kv t _ (by omega))
def rOld (i : Fin 16) : Rect S24x512x128 :=
  Rect.unit (s := S24x512x128) (outOff kv t (32 * i.val)) S1x32x128.size (oldOff_inb kv t _ (by omega))
def rRow : Rect S24x1x16 := Rect.unit (s := S24x1x16) (outOff kv t 0) S1x1x16.size (rowOff_inb kv t)
def rSc : Rect S2x12x13x16 := Rect.unit (s := S2x12x13x16) (scOff kv t) S1x1x13x16.size (scOff_inb kv t)

/-- One token's magnitudes. -/
def tokV (p : Fin 13) (i : Nat) : FVec F S16x128 .bf16 :=
  absf (shapeCast S16x128 (inM.view.readAt (Elt F) (rTok kv t v h p ⟨i % 32, Nat.mod_lt _ (by omega)⟩) (C inM.view.ref)) shapeCasts_S1x16x128_S16x128)

def amaxV (p : Fin 13) : FVec F S16x1 .f32 := amaxOf (maxTree 5 (tokV C kv t v h p))

def wordV (p : Fin 13) : IVec S16x1 32 := pow2W (amaxV C kv t v h p)

/-- The codes of pair `i` of page `p + 1`. -/
def codeV (p : Fin 12) (i : Fin 16) : FVec F S1x32x128 .fp8e4m3 :=
  codeOf (inM.view.readAt (Elt F) (rPair kv t v h p i) (C inM.view.ref)) (invOf (wordV C kv t v h p.succ))

def oscV : FVec F S16x1 .f32 := oldScOf (rowM.view.readAt (Elt F) (rRow kv t).toLoadRect (C rowM.view.ref))

def scale0V : FVec F S16x1 .f32 := scale0Of (amaxV C kv t v h 0) (Scalar.remsi v 32#32) (oscV C kv t)

/-- The codes of pair `i` of page 0. -/
def code0V (i : Fin 16) : FVec F S1x32x128 .fp8e4m3 :=
  code0Of (2 * i.val) (oldM.view.readAt (Elt F) (rOld kv t i).toLoadRect (C oldM.view.ref))
    (inM.view.readAt (Elt F) (rPair0 kv t v h i) (C inM.view.ref)) (Scalar.remsi v 32#32) (oscV C kv t) (inv0Of (scale0V C kv t v h))

/-- The columns of the pages `1 … n`. -/
def colV : (n : Nat) → n ≤ 12 → FVec F S16x128 .f32
  | 0, _ => broadcast S16x128 (Scalar.ofBits .f32 0x00000000#32)
  | n + 1, hn => putCol (n + 1) (bitcastToFloat .f32 (wordV C kv t v h ⟨n + 1, by omega⟩)) (colV n (by omega))

def scV : FVec F S1x1x13x16 .f32 := scRowOf (putCol 0 (scale0V C kv t v h) (colV C kv t v h 12 (Nat.le_refl _)))

variable {α : Type}

def trStore (n : Fin 13) (i : Fin 16) (w : FVec F S1x32x128 .fp8e4m3) (k : Tr F α) : Tr F α :=
  .dead outM (rOut kv t n i).toLoadRect fun _ => .store outM (rOut kv t n i) w Finset.univ k

def semAt (a : DmaSems sig S24) : DmaSem sig :=
  ((a.slice (Rect.unit (s := S24) (semOff kv t) S1.size (semOff_inb kv t))).squeeze S_ squeezes_S1_S_).sem

/-- A unit, after its length is read and the side condition holds. -/
def unitTr (k : Tr F α) : Tr F α :=
  .wait (semAt kv t cc0_scratch7) cc0_scratch0 S384x16x128 .bf16 <|
  Fin.foldr 13 (fun p k => Fin.foldr 32 (fun i k => .load inM (rTok kv t v h p i) k) k) <|
  Fin.foldr 12 (fun p k => Fin.foldr 16 (fun i k => .load inM (rPair kv t v h p i) (trStore kv t p.succ i (codeV C kv t v h p i) k)) k) <|
  .wait (semAt kv t cc0_scratch9) cc0_scratch3 S1x16 .f32 <|
  .wait (semAt kv t cc0_scratch8) cc0_scratch1 S512x128 .fp8e4m3 <|
  .load rowM (rRow kv t).toLoadRect <|
  Fin.foldr 16 (fun i k => .load oldM (rOld kv t i).toLoadRect <| .load inM (rPair0 kv t v h i) (trStore kv t 0 i (code0V C kv t v h i) k)) <|
  .dead scM (rSc kv t).toLoadRect fun _ => .store scM (rSc kv t) (scV C kv t v h) Finset.univ k

end Unit

end Cert.Kernel.Run
end
-- ==== Proof.Step.lean ====
/- One trip of the main loop as its effects in order. -/
module

public import proofs.«01_k».proof.Proof.Spec

@[expose] public section

noncomputable section

namespace Cert.Kernel.Run

open Idealize.ShloMosaic Idealize.ShloMosaic.TcCoe Idealize.ShloMosaic.Tactic
open Idealize.SL Idealize.SL.Sem
open Cert.Kernel
open Shapes1.Facts₀ K0.Facts₀

variable {F : FTy → Type} [FloatOps F]

abbrev kOutM : Memref sig .tc .hbm S12x6656x128 .fp8e4m3 := Memref.whole main_v2_0
abbrev vOutM : Memref sig .tc .hbm S12x6656x128 .fp8e4m3 := Memref.whole main_v2_2

/-- Block `u` of the staged results. -/
def outBlk (off : Fin 3 → Nat) (h : ∀ a, off a + S1x6656x128.size a ≤ S24x6656x128.size a) : Memref sig .tc .vmem S6656x128 .fp8e4m3 :=
  (outM.slice (Rect.unit (s := S24x6656x128) off S1x6656x128.size h) (fun _ => rfl)).squeeze S6656x128 squeezes_S1x6656x128_S6656x128

/-- A request's block of a result. -/
def resBlk (m : Memref sig .tc .hbm S12x6656x128 .fp8e4m3) (off : Fin 3 → Nat) (h : ∀ a, off a + S1x6656x128.size a ≤ S12x6656x128.size a) :
    Memref sig .tc .hbm S6656x128 .fp8e4m3 :=
  (m.slice (Rect.unit (s := S12x6656x128) off S1x6656x128.size h) (fun _ => rfl)).squeeze S6656x128 squeezes_S1x6656x128_S6656x128

/-- The copy of the previous request's values out. -/
def midTr {α : Type} (t : Fin k0_t3_loop.trips) (hc : k0_cond1 t = 1#1) (k : Tr F α) : Tr F α :=
  .enq (outBlk (k0_off248 t) (k0_off248_inb t hc)) (resBlk vOutM (k0_off247 t) (k0_off247_inb t hc)) .same (.dma cc0_scratch11.sem) k

variable (C : (b : Ref sig .tc) → b.ty.Contents (Elt F))

/-- A trip: the keys, `mid`, the values, and the copy of the keys out. -/
def stepTr (t : Fin k0_t3_loop.trips) (mid : Tr F PUnit → Tr F PUnit) : Tr F PUnit :=
  .load lenM (lenRect t).toLoadRect <| .asm (Chk 0 t (lenV C t)) fun h0 => unitTr C 0 t (lenV C t) h0.down <| mid <|
  .load lenM (lenRect t).toLoadRect <| .asm (Chk 1 t (lenV C t)) fun h1 => unitTr C 1 t (lenV C t) h1.down <|
  .enq (outBlk (k0_off485 t) (k0_off485_inb t)) (resBlk kOutM (k0_off484 t) (k0_off484_inb t)) .same (.dma cc0_scratch11.sem) <| .ret ⟨⟩

abbrev part398 : Prog (TpuEff nD τ sig (Elt F) Λ₀ .tc) PUnit :=
  k0_part398 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

end Cert.Kernel.Run
end
-- ==== Proof.Parts.lean ====
/- The straight-line pieces of the kernel around its main loop, and the bodies of the other loops, as their effects. -/
module

public import proofs.«01_k».proof.Proof.Step

@[expose] public section

noncomputable section

namespace Cert.Kernel.Run

open Idealize.ShloMosaic Idealize.ShloMosaic.TcCoe Idealize.ShloMosaic.Tactic
open Idealize.SL Idealize.SL.Sem
open Cert.Kernel
open Shapes1.Facts₀ K0.Facts₀

variable {F : FTy → Type} [FloatOps F]

abbrev kTokM : Memref sig .tc .hbm S12x384x16x128 .bf16 := Memref.whole main_arg6
abbrev vTokM : Memref sig .tc .hbm S12x384x16x128 .bf16 := Memref.whole main_arg7
abbrev kPagM : Memref sig .tc .hbm S2115x512x128 .fp8e4m3 := Memref.whole main_v0
abbrev vPagM : Memref sig .tc .hbm S2115x512x128 .fp8e4m3 := Memref.whole main_v1
abbrev kScaM : Memref sig .tc .hbm S2115x16 .f32 := Memref.whole main_arg2
abbrev vScaM : Memref sig .tc .hbm S2115x16 .f32 := Memref.whole main_arg3
abbrev tabA : Memref sig .tc .hbm S12x141 .i32 := Memref.whole main_arg4
abbrev lenA : Memref sig .tc .hbm S12 .i32 := Memref.whole main_arg5
abbrev kScOutM : Memref sig .tc .hbm S12x13x16 .f32 := Memref.whole main_v2_1
abbrev vScOutM : Memref sig .tc .hbm S12x13x16 .f32 := Memref.whole main_v2_3

/-- The semaphore of entry `u`. -/
def sem24 (a : DmaSems sig S24) (u : Fin 24) : DmaSem sig :=
  ((a.slice (Rect.unit (s := S24) ![u.val] S1.size (by intro i; match i with | ⟨0, _⟩ => exact u.isLt))).squeeze S_ squeezes_S1_S_).sem

def sem2 (a : DmaSems sig S2) (u : Fin 2) : DmaSem sig :=
  ((a.slice (Rect.unit (s := S2) ![u.val] S1.size (by intro i; match i with | ⟨0, _⟩ => exact u.isLt))).squeeze S_ squeezes_S1_S_).sem

/-- A request's tokens. -/
def tokBlk (m : Memref sig .tc .hbm S12x384x16x128 .bf16) (b : Fin 12) : Memref sig .tc .hbm S384x16x128 .bf16 :=
  (m.slice (Rect.unit (s := S12x384x16x128) ![b.val, 0, 0, 0] S1x384x16x128.size (by
    intro i; have := b.isLt; match i with
    | ⟨0, _⟩ => exact b.isLt
    | ⟨1, _⟩ => exact Nat.le_refl _
    | ⟨2, _⟩ => exact Nat.le_refl _
    | ⟨3, _⟩ => exact Nat.le_refl _)) (fun _ => rfl)).squeeze S384x16x128 squeezes_S1x384x16x128_S384x16x128

/-- A unit's tokens within the input buffer. -/
def inBlk (u : Fin 24) : Memref sig .tc .vmem S384x16x128 .bf16 :=
  inM.slice (Rect.unit (s := S10016x16x128) ![32 + 416 * u.val, 0, 0] S384x16x128.size (by
    intro i; match i with
    | ⟨0, _⟩ => show 32 + 416 * u.val + 384 ≤ 10016; omega
    | ⟨1, _⟩ => exact Nat.le_refl _
    | ⟨2, _⟩ => exact Nat.le_refl _)) (fun _ => rfl)

variable {α : Type}

/-- The copy in of a request's keys (0) or values (1). -/
def inCp (b : Fin 12) (kv : Fin 2) (k : Tr F α) : Tr F α :=
  match kv with
  | 0 => .enq (tokBlk kTokM b) (inBlk ⟨2 * b.val, by omega⟩) .same (.dma (sem24 cc0_scratch7 ⟨2 * b.val, by omega⟩)) k
  | 1 => .enq (tokBlk vTokM b) (inBlk ⟨2 * b.val + 1, by omega⟩) .same (.dma (sem24 cc0_scratch7 ⟨2 * b.val + 1, by omega⟩)) k

abbrev part392 : Prog (TpuEff nD τ sig (Elt F) Λ₀ .tc) PUnit :=
  k0_part392 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

abbrev part393 : Prog (TpuEff nD τ sig (Elt F) Λ₀ .tc) PUnit :=
  k0_part393 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

abbrev part394 : Prog (TpuEff nD τ sig (Elt F) Λ₀ .tc) PUnit :=
  k0_part394 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

abbrev part395 : Prog (TpuEff nD τ sig (Elt F) Λ₀ .tc) PUnit :=
  k0_part395 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

abbrev part396 : Prog (TpuEff nD τ sig (Elt F) Λ₀ .tc) PUnit :=
  k0_part396 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

abbrev part397 : Prog (TpuEff nD τ sig (Elt F) Λ₀ .tc) PUnit :=
  k0_part397 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v2_0) (Memref.isWhole_whole _) (Memref.whole main_v2_1) (Memref.isWhole_whole _) (Memref.whole main_v2_2) (Memref.isWhole_whole _) (Memref.whole main_v2_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

variable (C : (b : Ref sig .tc) → b.ty.Contents (Elt F))

set_option maxRecDepth 100000

theorem part392_eq : resolve C (part392 (F := F)) =
    .enq tabA tabM .same (.dma (sem2 cc0_scratch10 0)) (.enq lenA lenM .same (.dma (sem2 cc0_scratch10 1)) (inCp 0 0 <| inCp 0 1 <| inCp 1 0 <| .ret ⟨⟩)) := by
  unfold part392 k0_part392
  chain_rfl

theorem part394_eq : resolve C (part394 (F := F)) = (inCp 3 0 <| inCp 3 1 <| inCp 4 0 <| inCp 4 1 <| .ret ⟨⟩) := by
  unfold part394 k0_part394
  chain_rfl

theorem part395_eq : resolve C (part395 (F := F)) = (inCp 5 0 <| inCp 5 1 <| inCp 6 0 <| inCp 6 1 <| inCp 7 0 <| .ret ⟨⟩) := by
  unfold part395 k0_part395
  chain_rfl

theorem part396_eq : resolve C (part396 (F := F)) = (inCp 7 1 <| inCp 8 0 <| inCp 8 1 <| inCp 9 0 <| .ret ⟨⟩) := by
  unfold part396 k0_part396
  chain_rfl

theorem part397_eq : resolve C (part397 (F := F)) = (inCp 9 1 <| inCp 10 0 <| inCp 10 1 <| inCp 11 0 <| .ret ⟨⟩) := by
  unfold part397 k0_part397
  chain_rfl

/-- The word of loop 2's request. -/
def req2W (t : Fin k0_t2_loop.trips) : BitVec 32 := Scf.iv 0#32 1#32 t

def tab1Rect (t : Fin k0_t2_loop.trips) (v : BitVec 32) (h : k0_chk1 t v) : Rect S12x141 :=
  Rect.unit (s := S12x141) (k0_off3 t v) S1x1.size h

def len2Rect (t : Fin k0_t2_loop.trips) : Rect S12 := Rect.unit (s := S12) (k0_off2 t) S1.size (k0_off2_inb t)

/-- The request's length, as loop 2 reads it. -/
def len2V (t : Fin k0_t2_loop.trips) : BitVec 32 :=
  (lenM.view.readAt (Elt F) (len2Rect t).toLoadRect (C lenM.view.ref) : _ → Elt F .i32) (Shape.Idx.first (numel1_S1.symm ▸ Nat.one_pos))

/-- The page the request's append begins in, as loop 2 reads it from the table. -/
def pageV (t : Fin k0_t2_loop.trips) (h : k0_chk1 t (len2V C t)) : BitVec 32 :=
  (tabM.view.readAt (Elt F) (tab1Rect t (len2V C t) h).toLoadRect (C tabM.view.ref) : _ → Elt F .i32) (Shape.Idx.first (numel1_S1x1.symm ▸ Nat.one_pos))

/-- A page's row of scales. -/
def scaPg (m : Memref sig .tc .hbm S2115x16 .f32) (v : BitVec 32) (h : ∀ a, k0_off6 v a + S1x16.size a ≤ S2115x16.size a) : Memref sig .tc .hbm S1x16 .f32 :=
  m.slice (Rect.unit (s := S2115x16) (k0_off6 v) S1x16.size h) (fun _ => rfl)

/-- A page. -/
def pagPg (m : Memref sig .tc .hbm S2115x512x128 .fp8e4m3) (v : BitVec 32) (h : ∀ a, k0_off9 v a + S1x512x128.size a ≤ S2115x512x128.size a) : Memref sig .tc .hbm S512x128 .fp8e4m3 :=
  (m.slice (Rect.unit (s := S2115x512x128) (k0_off9 v) S1x512x128.size h) (fun _ => rfl)).squeeze S512x128 squeezes_S1x512x128_S512x128

/-- A unit's place for a row of scales. -/
def rowBlk (off : Fin 3 → Nat) (h : ∀ a, off a + S1x1x16.size a ≤ S24x1x16.size a) : Memref sig .tc .vmem S1x16 .f32 :=
  (rowM.slice (Rect.unit (s := S24x1x16) off S1x1x16.size h) (fun _ => rfl)).squeeze S1x16 squeezes_S1x1x16_S1x16

/-- A unit's place for a page. -/
def oldBlk (off : Fin 3 → Nat) (h : ∀ a, off a + S1x512x128.size a ≤ S24x512x128.size a) : Memref sig .tc .vmem S512x128 .fp8e4m3 :=
  (oldM.slice (Rect.unit (s := S24x512x128) off S1x512x128.size h) (fun _ => rfl)).squeeze S512x128 squeezes_S1x512x128_S512x128

def semOf (a : DmaSems sig S24) (off : Fin 1 → Nat) (h : ∀ i, off i + S1.size i ≤ S24.size i) : DmaSem sig :=
  ((a.slice (Rect.unit (s := S24) off S1.size h)).squeeze S_ squeezes_S1_S_).sem

/-- A trip of loop 2: the request's page and scales, keys and values, copied in. -/
def fetchTr (t : Fin k0_t2_loop.trips) : Tr F PUnit :=
  .load lenM (len2Rect t).toLoadRect <| .asm (k0_chk1 t (len2V C t)) fun h1 =>
  .load tabM (tab1Rect t (len2V C t) h1.down).toLoadRect <| .asm (k0_chk2 (pageV C t h1.down)) fun h2 =>
  .enq (scaPg kScaM (pageV C t h1.down) (k0_off6_inb _ h2.down)) (rowBlk (k0_off5 t) (k0_off5_inb t)) .same (.dma (semOf cc0_scratch9 (k0_off4 t) (k0_off4_inb t))) <|
  .enq (pagPg kPagM (pageV C t h1.down) (k0_off9_inb _ h2.down)) (oldBlk (k0_off8 t 0#32) (k0_off8_inb t 0)) .same (.dma (semOf cc0_scratch8 (k0_off7 t 0#32) (k0_off7_inb t 0))) <|
  .enq (scaPg vScaM (pageV C t h1.down) (k0_off6_inb _ h2.down)) (rowBlk (k0_off10 t) (k0_off10_inb t)) .same (.dma (semOf cc0_scratch9 (k0_off7 t 1#32) (k0_off7_inb t 1))) <|
  .enq (pagPg vPagM (pageV C t h1.down) (k0_off9_inb _ h2.down)) (oldBlk (k0_off8 t 1#32) (k0_off8_inb t 1)) .same (.dma (semOf cc0_scratch8 (k0_off7 t 1#32) (k0_off7_inb t 1))) <|
  .ret ⟨⟩

/-- The rows before each unit's tokens. -/
def padRect (t : Fin k0_t1_loop.trips) : Rect S10016x16x128 := Rect.unit (s := S10016x16x128) (k0_off1 t) S32x16x128.size (k0_off1_inb t)

def padTr (t : Fin k0_t1_loop.trips) : Tr F PUnit :=
  .load inM (padRect t).toLoadRect <|
  .store inM (padRect t) (shapeCast S32x16x128 (broadcast S32x16x128 (Scalar.ofBits (F := F) .bf16 0x0000#16)) shapeCasts_S32x16x128_S32x16x128) Finset.univ <| .ret ⟨⟩

theorem part393_eq : ∃ (e1 e2 e3 w1 w2 : Prog (TpuEff nD τ sig (Elt F) Λ₀ .tc) PUnit)
    (b1 : Fin k0_t1_loop.trips → PUnit → Prog (TpuEff nD τ sig (Elt F) Λ₀ .tc) PUnit)
    (b2 : Fin k0_t2_loop.trips → PUnit → Prog (TpuEff nD τ sig (Elt F) Λ₀ .tc) PUnit),
    part393 (F := F) = (e1 >>= fun _ => e2 >>= fun _ => e3 >>= fun _ => Scf.Loop.for k0_t1_loop k0_t1_ok ⟨⟩ b1 >>= fun _ =>
      w1 >>= fun _ => w2 >>= fun _ => Scf.Loop.for k0_t2_loop k0_t2_ok ⟨⟩ b2 >>= fun _ => pure ⟨⟩)
    ∧ (∀ C, resolve C e1 = inCp 1 1 (.ret ⟨⟩)) ∧ (∀ C, resolve C e2 = inCp 2 0 (.ret ⟨⟩)) ∧ (∀ C, resolve C e3 = inCp 2 1 (.ret ⟨⟩))
    ∧ (∀ C, resolve C w1 = .wait (sem2 cc0_scratch10 0) cc0_scratch5 S12x141 .i32 (.ret ⟨⟩))
    ∧ (∀ C, resolve C w2 = .wait (sem2 cc0_scratch10 1) cc0_scratch6 S12 .i32 (.ret ⟨⟩))
    ∧ (∀ C t, resolve C (b1 t ⟨⟩) = padTr t)
    ∧ (∀ C t, resolve C (b2 t ⟨⟩) = fetchTr C t) := by
  refine ⟨?e1, ?e2, ?e3, ?w1, ?w2, ?b1, ?b2, ?eq, ?a1, ?a2, ?a3, ?a4, ?a5, ?a6, ?a7⟩
  case eq =>
    unfold part393 k0_part393
    exact rfl
  case a1 => intro C; chain_rfl
  case a2 => intro C; chain_rfl
  case a3 => intro C; chain_rfl
  case a4 => intro C; chain_rfl
  case a5 => intro C; chain_rfl
  case a6 => intro C t; chain_rfl
  case a7 =>
    intro C t
    unfold k0_part1
    chain_rfl

end Cert.Kernel.Run
end
-- ==== Proof.Tail.lean ====
/- The last piece of the kernel, with its main loop, and the kernel as its pieces in order. -/
module

public import proofs.«01_k».proof.Proof.Parts

@[expose] public section

noncomputable section

namespace Cert.Kernel.Run

open Idealize.ShloMosaic Idealize.ShloMosaic.TcCoe Idealize.ShloMosaic.Tactic
open Idealize.SL Idealize.SL.Sem
open Cert.Kernel
open Shapes1.Facts₀ K0.Facts₀

variable {F : FTy → Type} [FloatOps F]

/-- Half of the scales. -/
def scBlk (off : Fin 4 → Nat) (h : ∀ a, off a + S1x12x13x16.size a ≤ S2x12x13x16.size a) : Memref sig .tc .vmem S12x13x16 .f32 :=
  (scM.slice (Rect.unit (s := S2x12x13x16) off S1x12x13x16.size h) (fun _ => rfl)).squeeze S12x13x16 squeezes_S1x12x13x16_S12x13x16

set_option maxRecDepth 100000 in
theorem part398_eq : ∃ (e0 e1 e2 e3 w1 w2 : Prog (TpuEff nD τ sig (Elt F) Λ₀ .tc) PUnit)
    (b3 : Fin k0_t3_loop.trips → PUnit → Prog (TpuEff nD τ sig (Elt F) Λ₀ .tc) PUnit)
    (b4 : Fin k0_t4_loop.trips → PUnit → Prog (TpuEff nD τ sig (Elt F) Λ₀ .tc) PUnit),
    part398 (F := F) = (e0 >>= fun _ => Scf.Loop.for k0_t3_loop k0_t3_ok ⟨⟩ b3 >>= fun _ => e1 >>= fun _ => e2 >>= fun _ => e3 >>= fun _ =>
      Scf.Loop.for k0_t4_loop k0_t4_ok ⟨⟩ b4 >>= fun _ => w1 >>= fun _ => w2 >>= fun _ => pure ⟨⟩)
    ∧ (∀ C t (hc : k0_cond1 t = 1#1), resolve C (b3 t ⟨⟩) = stepTr C t (midTr t hc))
    ∧ (∀ C t (hc : ¬ k0_cond1 t = 1#1), resolve C (b3 t ⟨⟩) = stepTr C t id)
    ∧ (∀ C, resolve C e0 = inCp 11 1 (.ret ⟨⟩))
    ∧ (∀ C, resolve C e1 = .enq (outBlk ![23, 0, 0] inb_S24x6656x128_S1x6656x128_23_0_0) (resBlk vOutM ![11, 0, 0] inb_S12x6656x128_S1x6656x128_11_0_0) .same (.dma cc0_scratch11.sem) (.ret ⟨⟩))
    ∧ (∀ C, resolve C e2 = .enq (scBlk ![0, 0, 0, 0] inb_S2x12x13x16_S1x12x13x16_0_0_0_0) kScOutM .same (.dma cc0_scratch12.sem) (.ret ⟨⟩))
    ∧ (∀ C, resolve C e3 = .enq (scBlk ![1, 0, 0, 0] inb_S2x12x13x16_S1x12x13x16_1_0_0_0) vScOutM .same (.dma cc0_scratch12.sem) (.ret ⟨⟩))
    ∧ (∀ C t, resolve C (b4 t ⟨⟩) = .wait cc0_scratch11.sem main_v2_0 S6656x128 .fp8e4m3 (.wait cc0_scratch11.sem main_v2_2 S6656x128 .fp8e4m3 (.ret ⟨⟩)))
    ∧ (∀ C, resolve C w1 = .wait cc0_scratch12.sem main_v2_1 S12x13x16 .f32 (.ret ⟨⟩))
    ∧ (∀ C, resolve C w2 = .wait cc0_scratch12.sem main_v2_3 S12x13x16 .f32 (.ret ⟨⟩)) := by
  refine ⟨?e0, ?e1, ?e2, ?e3, ?w1, ?w2, ?b3, ?b4, ?eq, ?a, ?b, ?c0, ?c1, ?c2, ?c3, ?c4, ?c5, ?c6⟩
  case eq =>
    unfold part398 k0_part398
    exact rfl
  case a =>
    intro C t hc
    unfold k0_part389 k0_part194
    simp only [dif_pos hc]
    chain_rfl
  case b =>
    intro C t hc
    unfold k0_part389 k0_part194
    simp only [dif_neg hc]
    chain_rfl
  case c0 => intro C; chain_rfl
  case c1 => intro C; chain_rfl
  case c2 => intro C; chain_rfl
  case c3 => intro C; chain_rfl
  case c4 => intro C t; chain_rfl
  case c5 => intro C; chain_rfl
  case c6 => intro C; chain_rfl

theorem body_eq (t : Fin cfg0.N) : Gen.bodyAt0 (F := F) t = (part392 >>= fun _ => part393 >>= fun _ => part394 >>= fun _ => part395 >>= fun _ =>
    part396 >>= fun _ => part397 >>= fun _ => part398 >>= fun _ => pure ⟨⟩) := by
  unfold Gen.bodyAt0 cc0_kv_append
  rfl

end Cert.Kernel.Run
end
-- ==== Proof.Inv.lean ====
/- What the kernel holds between its pieces: for each unit (the keys or the values of one request) its transfers in
   flight and its parts of the staging buffers; and what running one unit needs and leaves. -/
module

public import proofs.«01_k».proof.Proof.Rules
public import proofs.«01_k».proof.Proof.Tail
public import Idealize.ShloMosaic.Lib.ViewIndex

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

local notation "𝕄" => MT nD τ sig Unit (Elt F) ℕ (Pipeline.UD sig nD τ) ℕ

/-! ## Elements -/

/-- What a whole write leaves at an element of a view, when the view reads `w` from `g`. -/
theorem write_eq_of_read {κ : Kind} {sp : Space} {s : Shape} {e : EltTy} (v : View sig κ sp s e) (f g : v.ty.Contents (Elt F)) (w : s.Idx → Elt F e)
    (h : v.read (Elt F) g = w) (x : v.ty.Idx) (hx : x ∈ v.set) : v.write (Elt F) f w Finset.univ x = g x := by
  obtain ⟨y, -, rfl⟩ := Finset.mem_map.mp hx
  refine View.eq_of_read_eq (v := v) (x := y) ?_
  rw [View.read_write_univ, h]

/-- The elements of leading coordinate `u`. -/
def lead {n : ℕ} {d : Fin (n + 1) → ℕ} (u : ℕ) : Finset (Shape.Idx ⟨n + 1, d⟩) := Finset.univ.filter fun i => (i 0).val = u

theorem mem_lead {n : ℕ} {d : Fin (n + 1) → ℕ} {u : ℕ} {i : Shape.Idx ⟨n + 1, d⟩} : i ∈ (lead u : Finset (Shape.Idx ⟨n + 1, d⟩)) ↔ (i 0).val = u := by
  simp [lead]

/-- A unit's tokens within the input buffer. -/
def wIn (u : ℕ) : Finset S10016x16x128.Idx := Finset.univ.filter fun i => 32 + 416 * u ≤ (i 0).val ∧ (i 0).val < 416 * u + 416

/-- The rows between. -/
def pads : Finset S10016x16x128.Idx := Finset.univ.filter fun i => (i 0).val % 416 < 32

/-- A unit's place in the scales. -/
def scU (kv b : ℕ) : Finset S2x12x13x16.Idx := Finset.univ.filter fun i => (i 0).val = kv ∧ (i 1).val = b

theorem set_lead3 {d₁ d₂ n : ℕ} (off : Fin 3 → ℕ) (u : ℕ) (ho : off = ![u, 0, 0])
    (h : ∀ a, off a + (⟨3, ![1, d₁, d₂]⟩ : Shape).size a ≤ (⟨3, ![n, d₁, d₂]⟩ : Shape).size a) :
    (Rect.unit (s := ⟨3, ![n, d₁, d₂]⟩) off (⟨3, ![1, d₁, d₂]⟩ : Shape).size h).set = lead u := by
  subst ho
  ext i
  rw [Rect.mem_set_unit, mem_lead]
  constructor
  · intro hi
    have h0 : u ≤ (i 0).val ∧ (i 0).val < u + 1 := hi 0
    omega
  · intro hi a
    match a with
    | ⟨0, _⟩ => show u ≤ (i 0).val ∧ (i 0).val < u + 1; omega
    | ⟨1, _⟩ => exact ⟨Nat.zero_le _, by show (i 1).val < 0 + d₁; have : (i 1).val < d₁ := (i 1).isLt; omega⟩
    | ⟨2, _⟩ => exact ⟨Nat.zero_le _, by show (i 2).val < 0 + d₂; have : (i 2).val < d₂ := (i 2).isLt; omega⟩

theorem set_lead4 {d₁ d₂ d₃ n : ℕ} (off : Fin 4 → ℕ) (u : ℕ) (ho : off = ![u, 0, 0, 0])
    (h : ∀ a, off a + (⟨4, ![1, d₁, d₂, d₃]⟩ : Shape).size a ≤ (⟨4, ![n, d₁, d₂, d₃]⟩ : Shape).size a) :
    (Rect.unit (s := ⟨4, ![n, d₁, d₂, d₃]⟩) off (⟨4, ![1, d₁, d₂, d₃]⟩ : Shape).size h).set = lead u := by
  subst ho
  ext i
  rw [Rect.mem_set_unit, mem_lead]
  constructor
  · intro hi
    have h0 : u ≤ (i 0).val ∧ (i 0).val < u + 1 := hi 0
    omega
  · intro hi a
    match a with
    | ⟨0, _⟩ => show u ≤ (i 0).val ∧ (i 0).val < u + 1; omega
    | ⟨1, _⟩ => exact ⟨Nat.zero_le _, by show (i 1).val < 0 + d₁; have : (i 1).val < d₁ := (i 1).isLt; omega⟩
    | ⟨2, _⟩ => exact ⟨Nat.zero_le _, by show (i 2).val < 0 + d₂; have : (i 2).val < d₂ := (i 2).isLt; omega⟩
    | ⟨3, _⟩ => exact ⟨Nat.zero_le _, by show (i 3).val < 0 + d₃; have : (i 3).val < d₃ := (i 3).isLt; omega⟩

theorem outBlk_set (off : Fin 3 → ℕ) (h) (u : ℕ) (ho : off = ![u, 0, 0]) : (outBlk off h).view.set = (lead u : Finset S24x6656x128.Idx) :=
  (View.set_reshape _ _).trans ((View.set_slice_whole cc0_scratch2 _).trans (set_lead3 off u ho h))
theorem kOutBlk_set (off : Fin 3 → ℕ) (h) (u : ℕ) (ho : off = ![u, 0, 0]) : (resBlk kOutM off h).view.set = (lead u : Finset S12x6656x128.Idx) :=
  (View.set_reshape _ _).trans ((View.set_slice_whole main_v2_0 _).trans (set_lead3 off u ho h))
theorem vOutBlk_set (off : Fin 3 → ℕ) (h) (u : ℕ) (ho : off = ![u, 0, 0]) : (resBlk vOutM off h).view.set = (lead u : Finset S12x6656x128.Idx) :=
  (View.set_reshape _ _).trans ((View.set_slice_whole main_v2_2 _).trans (set_lead3 off u ho h))
theorem rowBlk_set (off : Fin 3 → ℕ) (h) (u : ℕ) (ho : off = ![u, 0, 0]) : (rowBlk off h).view.set = (lead u : Finset S24x1x16.Idx) :=
  (View.set_reshape _ _).trans ((View.set_slice_whole cc0_scratch3 _).trans (set_lead3 off u ho h))
theorem oldBlk_set (off : Fin 3 → ℕ) (h) (u : ℕ) (ho : off = ![u, 0, 0]) : (oldBlk off h).view.set = (lead u : Finset S24x512x128.Idx) :=
  (View.set_reshape _ _).trans ((View.set_slice_whole cc0_scratch1 _).trans (set_lead3 off u ho h))
theorem scBlk_set (off : Fin 4 → ℕ) (h) (u : ℕ) (ho : off = ![u, 0, 0, 0]) : (scBlk off h).view.set = (lead u : Finset S2x12x13x16.Idx) :=
  (View.set_reshape _ _).trans ((View.set_slice_whole cc0_scratch4 _).trans (set_lead4 off u ho h))

theorem inBlk_set (u : Fin 24) : (inBlk u).view.set = wIn u.val := by
  refine (View.set_slice_whole cc0_scratch0 _).trans ?_
  ext i
  rw [Rect.mem_set_unit]
  simp only [wIn, Finset.mem_filter, Finset.mem_univ, true_and]
  constructor
  · intro hi
    have h0 : 32 + 416 * u.val ≤ (i 0).val ∧ (i 0).val < 32 + 416 * u.val + 384 := hi 0
    omega
  · intro hi a
    match a with
    | ⟨0, _⟩ => show 32 + 416 * u.val ≤ (i 0).val ∧ (i 0).val < 32 + 416 * u.val + 384; omega
    | ⟨1, _⟩ => exact ⟨Nat.zero_le _, by show (i 1).val < 0 + 16; have : (i 1).val < 16 := (i 1).isLt; omega⟩
    | ⟨2, _⟩ => exact ⟨Nat.zero_le _, by show (i 2).val < 0 + 128; have : (i 2).val < 128 := (i 2).isLt; omega⟩

/-! ## Units -/

def tokOf (kv : Fin 2) : Memref sig .tc .hbm S12x384x16x128 .bf16 := match kv with | 0 => kTokM | 1 => vTokM
def pagOf (kv : Fin 2) : Memref sig .tc .hbm S2115x512x128 .fp8e4m3 := match kv with | 0 => kPagM | 1 => vPagM
def scaOf (kv : Fin 2) : Memref sig .tc .hbm S2115x16 .f32 := match kv with | 0 => kScaM | 1 => vScaM

def uIx (kv : Fin 2) (b : Fin 12) : Fin 24 := ⟨2 * b.val + kv.val, by omega⟩

/-- The trip of a request. -/
def trip (b : Fin 12) : Fin k0_t3_loop.trips := ⟨b.val, lt_of_lt_of_eq b.isLt trips3.symm⟩

variable (C : (b : Ref sig .tc) → b.ty.Contents (Elt F))

/-- The final contents of the buffers a unit stores to are the unit's numbers. -/
structure Stored (h : ∀ kv t, Chk kv t (lenV C t)) : Prop where
  out : ∀ kv t (p : Fin 12) i, (outM.access (rOut kv t p.succ i)).read (Elt F) (C outM.view.ref) = codeV C kv t (lenV C t) (h kv t) p i
  out0 : ∀ kv t i, (outM.access (rOut kv t 0 i)).read (Elt F) (C outM.view.ref) = code0V C kv t (lenV C t) (h kv t) i
  sc : ∀ kv t, (scM.access (rSc kv t)).read (Elt F) (C scM.view.ref) = scV C kv t (lenV C t) (h kv t)

variable (defs : Defs nD τ sig (Elt F) Λ₀) (𝒱 : Variants) (c : Dev nD)

/-- Some share of the whole of a buffer at its final contents. -/
abbrev Sh {sp : Space} {s : Shape} {e : EltTy} (m : Memref sig .tc sp s e) (q : PosShare TreeShare) : sProp 𝕄 :=
  (m.view.loc (c : Thread nD τ) ↦{q} (C m.view.ref))

/-- A zero counter. -/
abbrev Z (s : DmaSem sig) : sProp 𝕄 := semVal ((c : Thread nD τ), SemLoc.dma s) 0

def inN : ℕ := (cc0_scratch0).dmaCredit S384x16x128 .bf16
def rowN : ℕ := (cc0_scratch3).dmaCredit S1x16 .f32
def oldN : ℕ := (cc0_scratch1).dmaCredit S512x128 .fp8e4m3
def outN : ℕ := (main_v2_0).dmaCredit S6656x128 .fp8e4m3
def scN : ℕ := (main_v2_1).dmaCredit S12x13x16 .f32

/-- The share of an input a request's copy reads with. -/
def qOf (b : Fin 12) : PosShare TreeShare := shareTok fullShare 12 b

abbrev FlyIn (kv : Fin 2) (b : Fin 12) : sProp 𝕄 :=
  Fly c (.dma (sem24 cc0_scratch7 (uIx kv b))) inN ((tokOf kv).view.loc (c : Thread nD τ)) (qOf b) (C (tokOf kv).view.ref)
    (inM.view.loc (c : Thread nD τ) ↦[wIn (uIx kv b).val]{fullShare} (C inM.view.ref))
abbrev FlyRow (kv : Fin 2) (b : Fin 12) : sProp 𝕄 :=
  Fly c (.dma (sem24 cc0_scratch9 (uIx kv b))) rowN ((scaOf kv).view.loc (c : Thread nD τ)) (qOf b) (C (scaOf kv).view.ref)
    (rowM.view.loc (c : Thread nD τ) ↦[lead (uIx kv b).val]{fullShare} (C rowM.view.ref))
abbrev FlyOld (kv : Fin 2) (b : Fin 12) : sProp 𝕄 :=
  Fly c (.dma (sem24 cc0_scratch8 (uIx kv b))) oldN ((pagOf kv).view.loc (c : Thread nD τ)) (qOf b) (C (pagOf kv).view.ref)
    (oldM.view.loc (c : Thread nD τ) ↦[lead (uIx kv b).val]{fullShare} (C oldM.view.ref))

abbrev OutAny (kv : Fin 2) (b : Fin 12) : sProp 𝕄 := iprop(∃ f, outM.view.loc (c : Thread nD τ) ↦[lead (uIx kv b).val]{fullShare} f)
abbrev OutAt (kv : Fin 2) (b : Fin 12) : sProp 𝕄 := (outM.view.loc (c : Thread nD τ) ↦[lead (uIx kv b).val]{fullShare} (C outM.view.ref))
abbrev ScAny (kv : Fin 2) (b : Fin 12) : sProp 𝕄 := iprop(∃ f, scM.view.loc (c : Thread nD τ) ↦[scU kv.val b.val]{fullShare} f)
abbrev ScAt (kv : Fin 2) (b : Fin 12) : sProp 𝕄 := (scM.view.loc (c : Thread nD τ) ↦[scU kv.val b.val]{fullShare} (C scM.view.ref))

abbrev Pads : sProp 𝕄 := (inM.view.loc (c : Thread nD τ) ↦[pads]{fullShare} (C inM.view.ref))
abbrev InAt (kv : Fin 2) (b : Fin 12) : sProp 𝕄 := (inM.view.loc (c : Thread nD τ) ↦[wIn (uIx kv b).val]{fullShare} (C inM.view.ref))
abbrev RowAt (kv : Fin 2) (b : Fin 12) : sProp 𝕄 := (rowM.view.loc (c : Thread nD τ) ↦[lead (uIx kv b).val]{fullShare} (C rowM.view.ref))
abbrev OldAt (kv : Fin 2) (b : Fin 12) : sProp 𝕄 := (oldM.view.loc (c : Thread nD τ) ↦[lead (uIx kv b).val]{fullShare} (C oldM.view.ref))

/-- Before a unit runs. -/
def Pend (kv : Fin 2) (b : Fin 12) : sProp 𝕄 := iprop(FlyIn C c kv b ∗ FlyRow C c kv b ∗ FlyOld C c kv b ∗ OutAny c kv b ∗ ScAny c kv b)

/-- After it has run, besides its output. -/
def Done (kv : Fin 2) (b : Fin 12) : sProp 𝕄 := iprop((InAt C c kv b ∗ Sh C c (tokOf kv) (qOf b) ∗ Z c (sem24 cc0_scratch7 (uIx kv b)))
  ∗ (RowAt C c kv b ∗ Sh C c (scaOf kv) (qOf b) ∗ Z c (sem24 cc0_scratch9 (uIx kv b)))
  ∗ (OldAt C c kv b ∗ Sh C c (pagOf kv) (qOf b) ∗ Z c (sem24 cc0_scratch8 (uIx kv b)))
  ∗ ScAt C c kv b)

/-! ## Running a unit -/

theorem semOf_eq (a : DmaSems sig S24) (off : Fin 1 → ℕ) (h) (u : Fin 24) (ho : off = ![u.val]) : semOf a off h = sem24 a u := by
  subst ho; rfl

theorem semAt_eq (kv : Fin 2) (b : Fin 12) (a : DmaSems sig S24) : semAt kv (trip b) a = sem24 a (uIx kv b) := by
  refine semOf_eq a (semOff kv (trip b)) _ (uIx kv b) ?_
  have := unitW_toNat kv (trip b)
  show ![(unitW kv (trip b)).toNat] = ![2 * b.val + kv.val]
  rw [this]; rfl

/-- The staged output of a unit, final at the rows `p` holds of. -/
def Ag (kv : Fin 2) (b : Fin 12) (p : ℕ → Prop) : sProp 𝕄 :=
  iprop(∃ f : S24x6656x128.Idx → Elt F .fp8e4m3, ⌜∀ i : S24x6656x128.Idx, i ∈ (lead (uIx kv b).val : Finset S24x6656x128.Idx) → p (i 1).val → f i = C outM.view.ref i⌝
    ∗ (outM.view.loc (c : Thread nD τ) ↦[lead (uIx kv b).val]{fullShare} f))

variable {α : Type} (Q : α → sProp (MT nD τ sig Unit (Elt F) ℕ (Pipeline.UD sig nD τ) ℕ))

theorem rOut_mem (kv : Fin 2) (b : Fin 12) (n : Fin 13) (i : Fin 16) (x : S24x6656x128.Idx) :
    x ∈ (rOut kv (trip b) n i).set ↔ (x 0).val = (uIx kv b).val ∧ 512 * n.val + 32 * i.val ≤ (x 1).val ∧ (x 1).val < 512 * n.val + 32 * i.val + 32 := by
  unfold rOut
  rw [Rect.mem_set_unit, outOff_eq]
  constructor
  · intro h
    have h0 : 2 * (trip b).val + kv.val ≤ (x 0).val ∧ (x 0).val < 2 * (trip b).val + kv.val + 1 := h 0
    have h1 : 512 * n.val + 32 * i.val ≤ (x 1).val ∧ (x 1).val < 512 * n.val + 32 * i.val + 32 := h 1
    refine ⟨?_, h1⟩
    show (x 0).val = 2 * b.val + kv.val
    have : (trip b).val = b.val := rfl
    omega
  · intro ⟨h0, h1⟩ a
    have h0' : (x 0).val = 2 * b.val + kv.val := h0
    match a with
    | ⟨0, _⟩ => show 2 * b.val + kv.val ≤ (x 0).val ∧ (x 0).val < 2 * b.val + kv.val + 1; omega
    | ⟨1, _⟩ => exact h1
    | ⟨2, _⟩ => exact ⟨Nat.zero_le _, by show (x 2).val < 0 + 128; have : (x 2).val < 128 := (x 2).isLt; omega⟩

theorem twp_out (kv : Fin 2) (b : Fin 12) (n : Fin 13) (i : Fin 16) (w : FVec F S1x32x128 .fp8e4m3) (k : Tr F α) (p p' : ℕ → Prop)
    (hw : (outM.access (rOut kv (trip b) n i)).read (Elt F) (C outM.view.ref) = w)
    (hp : ∀ r, p' r → p r ∨ (512 * n.val + 32 * i.val ≤ r ∧ r < 512 * n.val + 32 * i.val + 32)) :
    Ag C c kv b p ⊢ iprop((Ag C c kv b p' -∗ twp C defs 𝒱 c Q k) -∗ twp C defs 𝒱 c Q (trStore kv (trip b) n i w k)) := by
  unfold Ag trStore
  iintro ⟨%f, %hf, Hp⟩ Hk
  iapply (twp_put C defs 𝒱 c Q outM (rOut kv (trip b) n i) w k (S := lead (uIx kv b).val) (f := f) ?hS) $$ Hp
  case hS =>
    rw [show outM.view.setOn (rOut kv (trip b) n i).toLoadRect.set = (rOut kv (trip b) n i).set from Finset.map_refl]
    intro x hx
    exact mem_lead.2 ((rOut_mem kv b n i x).1 hx).1
  iintro Hp
  iapply Hk
  iexists ((outM.access (rOut kv (trip b) n i)).write (Elt F) f w Finset.univ)
  isplitr
  · ipureintro
    intro x hx hpx
    by_cases hm : x ∈ (rOut kv (trip b) n i).set
    · have hm' : x ∈ (outM.access (rOut kv (trip b) n i)).set := by rw [show (outM.access (rOut kv (trip b) n i)).set = (rOut kv (trip b) n i).set from View.set_slice_whole cc0_scratch2 _]; exact hm
      exact write_eq_of_read (outM.access (rOut kv (trip b) n i)) f _ w hw x hm'
    · refine (View.write_of_not_mem (v := outM.access (rOut kv (trip b) n i)) f w Finset.univ ?_).trans ?_
      rotate_left
      · refine hf x hx ((hp _ hpx).resolve_right fun h => hm ((rOut_mem kv b n i x).2 ⟨mem_lead.1 hx, h⟩))
      · intro hm'
        apply hm
        rw [show (rOut kv (trip b) n i).set = (outM.access (rOut kv (trip b) n i)).set from (View.set_slice_whole cc0_scratch2 _).symm]
        exact hm'
  · iexact Hp

end Cert.Kernel.Run
end
-- ==== Proof.Unit.lean ====
/- Running one unit: its three transfers are waited for, its pages' codes and scales are stored. -/
module

public import proofs.«01_k».proof.Proof.Inv

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

local notation "𝕄" => MT nD τ sig Unit (Elt F) ℕ (Pipeline.UD sig nD τ) ℕ

/-- The rows a unit's loads of its tokens may touch. -/
theorem rows_sub (kv : Fin 2) (b : Fin 12) (off : Fin 3 → ℕ) (n : ℕ) (h : ∀ a, off a + (⟨3, ![n, 16, 128]⟩ : Shape).size a ≤ S10016x16x128.size a)
    (h0 : 416 * (uIx kv b).val ≤ off 0) (h1 : off 0 + n ≤ 416 * (uIx kv b).val + 448) :
    (Rect.unit (s := S10016x16x128) off (⟨3, ![n, 16, 128]⟩ : Shape).size h).set ⊆ pads ∪ wIn (uIx kv b).val := by
  intro x hx
  have hx0 : off 0 ≤ (x 0).val ∧ (x 0).val < off 0 + n := (Rect.mem_set_unit.1 hx) 0
  simp only [pads, wIn, Finset.mem_union, Finset.mem_filter, Finset.mem_univ, true_and]
  omega

theorem base_toNat (kv : Fin 2) (b : Fin 12) (v : BitVec 32) (hv : (Scalar.remsi v 32#32).toNat < 32) :
    (baseW kv (trip b) v).toNat + (Scalar.remsi v 32#32).toNat = 32 + 416 * (uIx kv b).val := by
  have h1 := unitW_toNat kv (trip b)
  have hb := b.isLt
  have hk := kv.isLt
  have ht : (trip b).val = b.val := rfl
  show (32#32 + unitW kv (trip b) * 416#32 - Scalar.remsi v 32#32).toNat + _ = 32 + 416 * (2 * b.val + kv.val)
  rw [BitVec.toNat_sub, BitVec.toNat_add, BitVec.toNat_mul, h1]
  simp only [BitVec.toNat_ofNat]
  omega

theorem tokOff_0 (kv : Fin 2) (b : Fin 12) (v : BitVec 32) (hv : (Scalar.remsi v 32#32).toNat < 32) (m n : ℕ) (hm : m ≤ 384) (hn : n < 32) :
    (tokOff kv (trip b) v (BitVec.ofNat 32 m) (BitVec.ofNat 32 n)) 0 + (Scalar.remsi v 32#32).toNat = 32 + 416 * (uIx kv b).val + m + n := by
  have h1 := base_toNat kv b v hv
  have hu := (uIx kv b).isLt
  show (baseW kv (trip b) v + BitVec.ofNat 32 m + BitVec.ofNat 32 n).toNat + _ = _
  rw [BitVec.toNat_add, BitVec.toNat_add]
  simp only [BitVec.toNat_ofNat]
  omega

theorem pairOff_0 (kv : Fin 2) (b : Fin 12) (v : BitVec 32) (hv : (Scalar.remsi v 32#32).toNat < 32) (m : ℕ) (hm : m ≤ 384) :
    (pairOff kv (trip b) v (BitVec.ofNat 32 m)) 0 + (Scalar.remsi v 32#32).toNat = 32 + 416 * (uIx kv b).val + m := by
  have h1 := base_toNat kv b v hv
  have hu := (uIx kv b).isLt
  show (baseW kv (trip b) v + BitVec.ofNat 32 m).toNat + _ = _
  rw [BitVec.toNat_add]
  simp only [BitVec.toNat_ofNat]
  omega

theorem rTok_sub (kv : Fin 2) (b : Fin 12) (v : BitVec 32) (hv : (Scalar.remsi v 32#32).toNat < 32) (h : Chk kv (trip b) v) (p : Fin 13) (i : Fin 32) :
    inM.view.setOn (rTok kv (trip b) v h p i).set ⊆ pads ∪ wIn (uIx kv b).val := by
  have hq := tokOff_0 kv b v hv (32 * p.val) i.val (by omega) i.isLt
  rw [show inM.view.setOn (rTok kv (trip b) v h p i).set = (rTok kv (trip b) v h p i).set from Finset.map_refl]
  exact rows_sub kv b _ 1 (h.1 p i) (by omega) (by omega)

theorem rPair_sub (kv : Fin 2) (b : Fin 12) (v : BitVec 32) (hv : (Scalar.remsi v 32#32).toNat < 32) (h : Chk kv (trip b) v) (p : Fin 12) (i : Fin 16) :
    inM.view.setOn (rPair kv (trip b) v h p i).set ⊆ pads ∪ wIn (uIx kv b).val := by
  have hq := tokOff_0 kv b v hv (32 + 32 * p.val) (2 * i.val) (by omega) (by omega)
  rw [show inM.view.setOn (rPair kv (trip b) v h p i).set = (rPair kv (trip b) v h p i).set from Finset.map_refl]
  exact rows_sub kv b _ 2 (h.2.1 p i) (by omega) (by omega)

theorem rPair0_sub (kv : Fin 2) (b : Fin 12) (v : BitVec 32) (hv : (Scalar.remsi v 32#32).toNat < 32) (h : Chk kv (trip b) v) (i : Fin 16) :
    inM.view.setOn (rPair0 kv (trip b) v h i).set ⊆ pads ∪ wIn (uIx kv b).val := by
  have hq := pairOff_0 kv b v hv (2 * i.val) (by omega)
  rw [show inM.view.setOn (rPair0 kv (trip b) v h i).set = (rPair0 kv (trip b) v h i).set from Finset.map_refl]
  exact rows_sub kv b _ 2 (h.2.2 i) (by omega) (by omega)

theorem rRow_sub (kv : Fin 2) (b : Fin 12) : rowM.view.setOn (rRow kv (trip b)).toLoadRect.set ⊆ lead (uIx kv b).val := by
  rw [show rowM.view.setOn (rRow kv (trip b)).toLoadRect.set = (rRow kv (trip b)).set from Finset.map_refl]
  exact (set_lead3 _ _ (outOff_eq kv (trip b) 0) (rowOff_inb kv (trip b))).le

theorem rOld_sub (kv : Fin 2) (b : Fin 12) (i : Fin 16) : oldM.view.setOn (rOld kv (trip b) i).toLoadRect.set ⊆ lead (uIx kv b).val := by
  rw [show oldM.view.setOn (rOld kv (trip b) i).toLoadRect.set = (rOld kv (trip b) i).set from Finset.map_refl]
  intro x hx
  rw [mem_lead]
  have hx0 := (Rect.mem_set_unit.1 hx) 0
  rw [outOff_eq] at hx0
  have h0 : 2 * b.val + kv.val ≤ (x 0).val ∧ (x 0).val < 2 * b.val + kv.val + 1 := hx0
  show (x 0).val = 2 * b.val + kv.val
  omega

theorem rSc_set (kv : Fin 2) (b : Fin 12) : (rSc kv (trip b)).set = scU kv.val b.val := by
  ext x
  unfold rSc
  have hr := reqW_toNat (trip b)
  rw [Rect.mem_set_unit]
  simp only [scU, Finset.mem_filter, Finset.mem_univ, true_and]
  constructor
  · intro h
    have h0 : kv.val ≤ (x 0).val ∧ (x 0).val < kv.val + 1 := h 0
    have h1 : (reqW (trip b)).toNat ≤ (x 1).val ∧ (x 1).val < (reqW (trip b)).toNat + 1 := h 1
    have : (trip b).val = b.val := rfl
    omega
  · intro ⟨h0, h1⟩ a
    have : (trip b).val = b.val := rfl
    match a with
    | ⟨0, _⟩ => show kv.val ≤ (x 0).val ∧ (x 0).val < kv.val + 1; omega
    | ⟨1, _⟩ => show (reqW (trip b)).toNat ≤ (x 1).val ∧ (x 1).val < (reqW (trip b)).toNat + 1; omega
    | ⟨2, _⟩ => exact ⟨Nat.zero_le _, by show (x 2).val < 0 + 13; have : (x 2).val < 13 := (x 2).isLt; omega⟩
    | ⟨3, _⟩ => exact ⟨Nat.zero_le _, by show (x 3).val < 0 + 16; have : (x 3).val < 16 := (x 3).isLt; omega⟩

theorem pads_disj (u : ℕ) : Disjoint pads (wIn u) := by
  rw [Finset.disjoint_left]
  intro x hx hy
  simp only [pads, wIn, Finset.mem_filter, Finset.mem_univ, true_and] at hx hy
  omega

variable (C : (b : Ref sig .tc) → b.ty.Contents (Elt F))
variable (defs : Defs nD τ sig (Elt F) Λ₀) (𝒱 : Variants) (c : Dev nD)
variable {α : Type} (Q : α → sProp (MT nD τ sig Unit (Elt F) ℕ (Pipeline.UD sig nD τ) ℕ))

/-- The rows of the input buffer a unit reads. -/
abbrev Rows (kv : Fin 2) (b : Fin 12) : sProp 𝕄 := (inM.view.loc (c : Thread nD τ) ↦[pads ∪ wIn (uIx kv b).val]{fullShare} (C inM.view.ref))

variable (kv : Fin 2) (b : Fin 12) (v : BitVec 32) (hv : (Scalar.remsi v 32#32).toNat < 32) (h : Chk kv (trip b) v)
include hv

theorem twp_toks (k : Tr F α) :
    Rows C c kv b ⊢ iprop((Rows C c kv b -∗ twp C defs 𝒱 c Q k)
      -∗ twp C defs 𝒱 c Q (Fin.foldr 13 (fun p k => Fin.foldr 32 (fun i k => .load inM (rTok kv (trip b) v h p i) k) k) k)) := by
  iintro H Hk
  iapply (twp_foldr C defs 𝒱 c Q (fun _ => Rows C c kv b) 13 _ ?st k) $$ [H Hk]
  case st =>
    intro p k
    refine twp_foldr C defs 𝒱 c Q (fun _ => Rows C c kv b) 32 _ ?_ k
    intro i k
    unfold Rows
    iintro ⟨H, Hk⟩
    iapply (twp_load C defs 𝒱 c Q inM (rTok kv (trip b) v h p i) k (rTok_sub kv b v hv h p i)) $$ H
    iexact Hk
  isplitl [H]; · iexact H
  iexact Hk

theorem twp_pages (k : Tr F α)
    (hw : ∀ (p : Fin 12) i, (outM.access (rOut kv (trip b) p.succ i)).read (Elt F) (C outM.view.ref) = codeV C kv (trip b) v h p i) :
    iprop(Rows C c kv b ∗ Ag C c kv b (fun _ => False)) ⊢ iprop(((Rows C c kv b ∗ Ag C c kv b (fun r => 512 ≤ r)) -∗ twp C defs 𝒱 c Q k)
      -∗ twp C defs 𝒱 c Q (Fin.foldr 12 (fun p k => Fin.foldr 16 (fun i k => .load inM (rPair kv (trip b) v h p i) (trStore kv (trip b) p.succ i (codeV C kv (trip b) v h p i) k)) k) k)) := by
  iintro ⟨HR, HA⟩ Hk
  iapply (twp_foldr C defs 𝒱 c Q (fun p => iprop(Rows C c kv b ∗ Ag C c kv b (fun r => 512 ≤ r ∧ r < 512 + 512 * p))) 12 _ ?st k) $$ [HR HA Hk]
  case st =>
    intro p k
    iintro ⟨⟨HR, HA⟩, Hk⟩
    iapply (twp_foldr C defs 𝒱 c Q (fun i => iprop(Rows C c kv b ∗ Ag C c kv b (fun r => 512 ≤ r ∧ r < 512 + 512 * p.val + 32 * i))) 16 _ ?st2 k) $$ [HR HA Hk]
    case st2 =>
      intro i k
      unfold Rows
      iintro ⟨⟨HR, HA⟩, Hk⟩
      iapply (twp_load C defs 𝒱 c Q inM (rPair kv (trip b) v h p i) _ (rPair_sub kv b v hv h p i)) $$ HR
      iintro HR
      iapply (twp_out C defs 𝒱 c Q kv b p.succ i _ k _ (fun r => 512 ≤ r ∧ r < 512 + 512 * p.val + 32 * (i.val + 1)) (hw p i) ?hp) $$ HA
      case hp =>
        intro r hr
        have : p.succ.val = p.val + 1 := rfl
        omega
      iintro HA
      iapply Hk
      isplitl [HR]; · iexact HR
      iexact HA
    isplitl [HR HA]
    · isplitl [HR]; · iexact HR
      iexact HA
    iintro ⟨HR, HA⟩
    iapply Hk
    isplitl [HR]; · iexact HR
    iexact HA
  isplitl [HR HA]
  · isplitl [HR]; · iexact HR
    unfold Ag
    icases HA with ⟨%f, %hf, Hp⟩
    iexists f
    isplitr
    · ipureintro; intro x hx hp; omega
    · iexact Hp
  iintro ⟨HR, HA⟩
  iapply Hk
  isplitl [HR]; · iexact HR
  unfold Ag
  icases HA with ⟨%f, %hf, Hp⟩
  iexists f
  isplitr
  · ipureintro
    intro x hx hp
    exact hf x hx ⟨hp, by have : (x 1).val < 6656 := (x 1).isLt; omega⟩
  · iexact Hp

theorem twp_page0 (k : Tr F α)
    (hw : ∀ i, (outM.access (rOut kv (trip b) 0 i)).read (Elt F) (C outM.view.ref) = code0V C kv (trip b) v h i) :
    iprop(Rows C c kv b ∗ OldAt C c kv b ∗ Ag C c kv b (fun r => 512 ≤ r)) ⊢ iprop(((Rows C c kv b ∗ OldAt C c kv b ∗ OutAt C c kv b) -∗ twp C defs 𝒱 c Q k)
      -∗ twp C defs 𝒱 c Q (Fin.foldr 16 (fun i k => .load oldM (rOld kv (trip b) i).toLoadRect <| .load inM (rPair0 kv (trip b) v h i) (trStore kv (trip b) 0 i (code0V C kv (trip b) v h i) k)) k)) := by
  iintro ⟨HR, HO, HA⟩ Hk
  iapply (twp_foldr C defs 𝒱 c Q (fun i => iprop(Rows C c kv b ∗ OldAt C c kv b ∗ Ag C c kv b (fun r => 512 ≤ r ∨ r < 32 * i))) 16 _ ?st2 k) $$ [HR HO HA Hk]
  case st2 =>
    intro i k
    unfold Rows OldAt
    iintro ⟨⟨HR, HO, HA⟩, Hk⟩
    iapply (twp_load C defs 𝒱 c Q oldM (rOld kv (trip b) i).toLoadRect _ (rOld_sub kv b i)) $$ HO
    iintro HO
    iapply (twp_load C defs 𝒱 c Q inM (rPair0 kv (trip b) v h i) _ (rPair0_sub kv b v hv h i)) $$ HR
    iintro HR
    iapply (twp_out C defs 𝒱 c Q kv b 0 i _ k _ (fun r => 512 ≤ r ∨ r < 32 * (i.val + 1)) (hw i) ?hp) $$ HA
    case hp =>
      intro r hr
      have : (0 : Fin 13).val = 0 := rfl
      omega
    iintro HA
    iapply Hk
    isplitl [HR]; · iexact HR
    isplitl [HO]; · iexact HO
    iexact HA
  isplitl [HR HO HA]
  · isplitl [HR]; · iexact HR
    isplitl [HO]; · iexact HO
    unfold Ag
    icases HA with ⟨%f, %hf, Hp⟩
    iexists f
    isplitr
    · ipureintro; intro x hx hp; exact hf x hx (hp.resolve_right (by omega))
    · iexact Hp
  iintro ⟨HR, HO, HA⟩
  iapply Hk
  isplitl [HR]; · iexact HR
  isplitl [HO]; · iexact HO
  unfold Ag OutAt
  icases HA with ⟨%f, %hf, Hp⟩
  iapply (Entails.of_eq (pointsTo_congr (ℓ := outM.view.loc (c : Thread nD τ)) (f := f) (g := C outM.view.ref) (fun x hx => hf x hx (by have : (x 1).val < 6656 := (x 1).isLt; omega))))
  iexact Hp

theorem unit_run (k : Tr F α)
    (hw : ∀ (p : Fin 12) i, (outM.access (rOut kv (trip b) p.succ i)).read (Elt F) (C outM.view.ref) = codeV C kv (trip b) v h p i)
    (hw0 : ∀ i, (outM.access (rOut kv (trip b) 0 i)).read (Elt F) (C outM.view.ref) = code0V C kv (trip b) v h i)
    (hsc : (scM.access (rSc kv (trip b))).read (Elt F) (C scM.view.ref) = scV C kv (trip b) v h) :
    iprop(Pads C c ∗ Pend C c kv b ∗ Owe c) ⊢ iprop(((Pads C c ∗ Done C c kv b ∗ OutAt C c kv b ∗ Owe c) -∗ twp C defs 𝒱 c Q k)
      -∗ twp C defs 𝒱 c Q (unitTr C kv (trip b) v h k)) := by
  unfold unitTr Pend
  rw [semAt_eq, semAt_eq, semAt_eq]
  iintro ⟨HP, ⟨HI, HR, HO, HA, HS⟩, HW⟩ Hk
  unfold FlyIn
  iapply (twp_wait C defs 𝒱 c Q _ _ inN rfl _ _ _ _) $$ [HI HW]
  · isplitl [HI]; · iexact HI
    iexact HW
  iintro ⟨HI, HIs, HIv, HW⟩
  ihave HRows := (pointsTo_union (ℓ := inM.view.loc (c : Thread nD τ)) (pads_disj (uIx kv b).val)).2 $$ [HP HI]
  · isplitl [HP]; · iexact HP
    iexact HI
  iapply (twp_toks C defs 𝒱 c Q kv b v hv h) $$ [HRows]
  · iexact HRows
  iintro HRows
  iapply (twp_pages C defs 𝒱 c Q kv b v hv h _ hw) $$ [HRows HA]
  · isplitl [HRows]; · iexact HRows
    unfold OutAny Ag
    icases HA with ⟨%f, HA⟩
    iexists f
    isplitr
    · ipureintro; intro x _ hf; exact hf.elim
    · iexact HA
  iintro ⟨HRows, HA⟩
  unfold FlyRow
  iapply (twp_wait C defs 𝒱 c Q _ _ rowN rfl _ _ _ _) $$ [HR HW]
  · isplitl [HR]; · iexact HR
    iexact HW
  iintro ⟨HR, HRs, HRv, HW⟩
  unfold FlyOld
  iapply (twp_wait C defs 𝒱 c Q _ _ oldN rfl _ _ _ _) $$ [HO HW]
  · isplitl [HO]; · iexact HO
    iexact HW
  iintro ⟨HO, HOs, HOv, HW⟩
  iapply (twp_load C defs 𝒱 c Q rowM (rRow kv (trip b)).toLoadRect _ (rRow_sub kv b)) $$ HR
  iintro HR
  iapply (twp_page0 C defs 𝒱 c Q kv b v hv h _ hw0) $$ [HRows HO HA]
  · isplitl [HRows]; · iexact HRows
    isplitl [HO]; · iexact HO
    iexact HA
  iintro ⟨HRows, HO, HA⟩
  unfold ScAny
  icases HS with ⟨%f, HS⟩
  iapply (twp_put C defs 𝒱 c Q scM (rSc kv (trip b)) _ k (S := scU kv.val b.val) (f := f) ?hS) $$ HS
  case hS =>
    rw [show scM.view.setOn (rSc kv (trip b)).toLoadRect.set = (rSc kv (trip b)).set from Finset.map_refl, rSc_set]
  iintro HS
  iapply Hk
  unfold Rows
  ihave HRows' := (pointsTo_union (ℓ := inM.view.loc (c : Thread nD τ)) (pads_disj (uIx kv b).val)).1 $$ HRows
  icases HRows' with ⟨HP, HI⟩
  isplitl [HP]; · iexact HP
  isplitl [HI HIs HIv HR HRs HRv HO HOs HOv HS]
  · unfold Done
    isplitl [HI HIs HIv]
    · isplitl [HI]; · iexact HI
      isplitl [HIs]; · iexact HIs
      iexact HIv
    isplitl [HR HRs HRv]
    · isplitl [HR]; · iexact HR
      isplitl [HRs]; · iexact HRs
      iexact HRv
    isplitl [HO HOs HOv]
    · isplitl [HO]; · iexact HO
      isplitl [HOs]; · iexact HOs
      iexact HOv
    unfold ScAt
    iapply (Entails.of_eq (pointsTo_congr (ℓ := scM.view.loc (c : Thread nD τ)) (f := (scM.access (rSc kv (trip b))).write (Elt F) f (scV C kv (trip b) v h) Finset.univ) (g := C scM.view.ref) ?hc))
    case hc =>
      intro x hx
      have hm' : x ∈ (scM.access (rSc kv (trip b))).set := by
        rw [show (scM.access (rSc kv (trip b))).set = (rSc kv (trip b)).set from View.set_slice_whole cc0_scratch4 _, rSc_set]; exact hx
      exact write_eq_of_read (scM.access (rSc kv (trip b))) f _ _ hsc x hm'
    iexact HS
  isplitl [HA]; · iexact HA
  iexact HW

end Cert.Kernel.Run
end
-- ==== Proof.Good.lean ====
/- The final contents of the buffers, what they have to satisfy, and the transfers in the forms that use them. -/
module

public import proofs.«01_k».proof.Proof.Unit

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

local notation "𝕄" => MT nD τ sig Unit (Elt F) ℕ (Pipeline.UD sig nD τ) ℕ

def resOf (kv : Fin 2) : Memref sig .tc .hbm S12x6656x128 .fp8e4m3 := match kv with | 0 => kOutM | 1 => vOutM
def scOutOf (kv : Fin 2) : Memref sig .tc .hbm S12x13x16 .f32 := match kv with | 0 => kScOutM | 1 => vScOutM

variable (C : (b : Ref sig .tc) → b.ty.Contents (Elt F))

/-- The contents agree with every copy and every store of the kernel, and the lengths and pages keep its loads in bounds. -/
structure Good : Prop where
  chk : ∀ kv b, Chk kv (trip b) (lenV C (trip b))
  rem : ∀ b, (Scalar.remsi (lenV C (trip b)) 32#32).toNat < 32
  chk1 : ∀ t, k0_chk1 t (len2V C t)
  chk2 : ∀ t h, k0_chk2 (pageV C t h)
  out : ∀ kv b h (p : Fin 12) i, (outM.access (rOut kv (trip b) p.succ i)).read (Elt F) (C outM.view.ref) = codeV C kv (trip b) (lenV C (trip b)) h p i
  out0 : ∀ kv b h i, (outM.access (rOut kv (trip b) 0 i)).read (Elt F) (C outM.view.ref) = code0V C kv (trip b) (lenV C (trip b)) h i
  sc : ∀ kv b h, (scM.access (rSc kv (trip b))).read (Elt F) (C scM.view.ref) = scV C kv (trip b) (lenV C (trip b)) h
  tok : ∀ kv b, (inBlk (uIx kv b)).view.read (Elt F) (C inM.view.ref) = (tokBlk (tokOf kv) b).view.read (Elt F) (C (tokOf kv).view.ref)
  pad : ∀ i ∈ pads, C inM.view.ref i = Scalar.ofBits (F := F) .bf16 0x0000#16
  tab : C tabM.view.ref = C tabA.view.ref
  len : C lenM.view.ref = C lenA.view.ref
  row : ∀ kv (t : Fin k0_t2_loop.trips) h (h2 : k0_chk2 (pageV C t h)) off (ho : off = ![2 * t.val + (kv : Fin 2).val, 0, 0]) hi,
    (rowBlk off hi).view.read (Elt F) (C rowM.view.ref) = (scaPg (scaOf kv) (pageV C t h) (k0_off6_inb _ h2)).view.read (Elt F) (C (scaOf kv).view.ref)
  old : ∀ kv (t : Fin k0_t2_loop.trips) h (h2 : k0_chk2 (pageV C t h)) off (ho : off = ![2 * t.val + (kv : Fin 2).val, 0, 0]) hi,
    (oldBlk off hi).view.read (Elt F) (C oldM.view.ref) = (pagPg (pagOf kv) (pageV C t h) (k0_off9_inb _ h2)).view.read (Elt F) (C (pagOf kv).view.ref)
  res : ∀ kv (b : ℕ) off (ho : off = ![2 * b + (kv : Fin 2).val, 0, 0]) h off' (ho' : off' = ![b, 0, 0]) h',
    (resBlk (resOf kv) off' h').view.read (Elt F) (C (resOf kv).view.ref) = (outBlk off h).view.read (Elt F) (C outM.view.ref)
  scOut : ∀ kv off (ho : off = ![(kv : Fin 2).val, 0, 0, 0]) h,
    (scOutOf kv).view.read (Elt F) (C (scOutOf kv).view.ref) = (scBlk off h).view.read (Elt F) (C scM.view.ref)

variable (defs : Defs nD τ sig (Elt F) Λ₀) (𝒱 : Variants) (c : Dev nD)
variable {α : Type} (Q : α → sProp (MT nD τ sig Unit (Elt F) ℕ (Pipeline.UD sig nD τ) ℕ))

/-- A copy on a cell of its own, between final contents. -/
theorem twp_cp {sp sp' : Space} {s : Shape} {e : EltTy} (src : Memref sig .tc sp s e)
    (dst : Memref sig .tc sp' s e) (sm : SemLoc sig) (t : Tr F α) (N : ℕ)
    (hN : dst.view.amount sm = N) (hN0 : 0 < N) (q : PosShare TreeShare)
    (S : Finset (Idx (dst.view.loc (c : Thread nD τ)))) (hS : dst.view.set = S)
    (hrd : dst.view.read (Elt F) (C dst.view.ref) = src.view.read (Elt F) (C src.view.ref)) :
    iprop((src.view.loc (c : Thread nD τ) ↦{q} (C src.view.ref)) ∗ (∃ fd, dst.view.loc (c : Thread nD τ) ↦[S]{fullShare} fd) ∗ semVal ((c : Thread nD τ), sm) 0)
      ⊢ iprop((Fly c sm N (src.view.loc (c : Thread nD τ)) q (C src.view.ref) (dst.view.loc (c : Thread nD τ) ↦[S]{fullShare} (C dst.view.ref)) -∗ twp C defs 𝒱 c Q t)
        -∗ twp C defs 𝒱 c Q (.enq src dst .same sm t)) := by
  subst hS
  iintro ⟨Hs, ⟨%fd, Hd⟩, Hv⟩ Hk
  iapply (twp_enq C defs 𝒱 c Q src dst .same sm t N hN hN0 q _ fd (C dst.view.ref) ?hg) $$ [Hs Hd Hv]
  case hg =>
    intro x hx
    exact write_eq_of_read dst.view fd _ _ hrd x hx
  · isplitl [Hs]; · iexact Hs
    isplitl [Hd]; · iexact Hd
    iexact Hv
  iexact Hk

/-- Copies counted together on one cell. -/
abbrev Bt {n : ℕ} (sm : DmaSem sig) (N : ℕ) (D : Fin n → sProp 𝕄) (j u : ℕ) : sProp 𝕄 :=
  Batch (countersEmb (U := Pipeline.UD sig nD τ)) (c : Thread nD τ) (.dma sm) () N D j u

theorem twp_cpB {n : ℕ} {sp sp' : Space} {s : Shape} {e : EltTy} (src : Memref sig .tc sp s e)
    (dst : Memref sig .tc sp' s e) (sm : DmaSem sig) (t : Tr F α) (N : ℕ)
    (hN : dst.view.amount (.dma sm) = N) (q : PosShare TreeShare) (D : Fin n → sProp 𝕄) (j : ℕ) (hj : j < n)
    (T : Finset (Idx (src.view.loc (c : Thread nD τ)))) (hT : src.view.set = T)
    (S : Finset (Idx (dst.view.loc (c : Thread nD τ)))) (hS : dst.view.set = S)
    (hrd : dst.view.read (Elt F) (C dst.view.ref) = src.view.read (Elt F) (C src.view.ref))
    (hD : iprop((dst.view.loc (c : Thread nD τ) ↦[S]{fullShare} (C dst.view.ref)) ∗ (src.view.loc (c : Thread nD τ) ↦[T]{q} (C src.view.ref))) ⊢ D ⟨j, hj⟩) :
    iprop((src.view.loc (c : Thread nD τ) ↦[T]{q} (C src.view.ref)) ∗ (∃ fd, dst.view.loc (c : Thread nD τ) ↦[S]{fullShare} fd) ∗ Bt c sm N D j 0)
      ⊢ iprop((Bt c sm N D (j + 1) 0 -∗ twp C defs 𝒱 c Q t) -∗ twp C defs 𝒱 c Q (.enq src dst .same (.dma sm) t)) := by
  subst hS hT
  rw [show twp C defs 𝒱 c Q (.enq src dst .same (.dma sm) t) = iprop(∀ h₁ h₂ h₃, wp frame (wpE defs 𝒱 (c : Thread nD τ) none) Set.univ (.op (.enqueueDmaAs src (.here dst) .same (.dma sm) h₁ h₂ h₃) .ret) fun _ => twp C defs 𝒱 c Q t) from rfl]
  iintro ⟨Hs, ⟨%fd, Hd⟩, Hv⟩ Hk
  iintro %h₁ %h₂ %h₃
  iapply (wp_dmaBatch (countersEmb (U := Pipeline.UD sig nD τ)) 𝒱 (c : Thread nD τ) none () N hN (Finset.Subset.refl _) hj (Nat.zero_le _) ?hD) $$ [Hs Hd Hv]
  case hD =>
    refine BIBase.Entails.trans (Laws.sep_mono (Entails.of_eq (pointsTo_congr ?_)) Entails.rfl) hD
    intro x hx
    exact write_eq_of_read dst.view fd _ _ hrd x hx
  · isplitl [Hs]; · iexact Hs
    isplitl [Hd]; · iexact Hd
    iexact Hv
  iintro HB
  iapply (le_wp_ret _ _ _ _ _)
  iapply Hk $$ HB

theorem twp_waitB {n : ℕ} {b : Ref sig .tc} {s : Shape} {e : EltTy} (sem : DmaSem sig) (t : Tr F α) (N : ℕ) (hN : b.dmaCredit s e = N)
    (D : Fin n → sProp 𝕄) (u : ℕ) (hu : u + N < N * n) :
    iprop(Bt c sem N D n u ∗ Owe c)
      ⊢ iprop(((Bt c sem N D n (u + N) ∗ Owe c) -∗ twp C defs 𝒱 c Q t) -∗ twp C defs 𝒱 c Q (.wait sem b s e t)) := by
  unfold Owe
  rw [show twp C defs 𝒱 c Q (.wait sem b s e t) = iprop(∀ hk, wp frame (wpE defs 𝒱 (c : Thread nD τ) none) Set.univ (.op (.waitDma (κ := .tc) sem b s e hk) .ret) fun _ => twp C defs 𝒱 c Q t) from rfl]
  iintro ⟨HF, ⟨%W, HO⟩⟩ Hk
  iintro %hk
  iapply (wp_waitBatchSized (countersEmb (U := Pipeline.UD sig nD τ)) 𝒱 (c : Thread nD τ) none () hN hu) $$ [HF HO]
  · isplitl [HF] <;> iassumption
  iintro ⟨HB, HO⟩
  iapply (le_wp_ret _ _ _ _ _)
  iapply Hk
  isplitl [HB]; · iexact HB
  iexists _
  iexact HO

theorem twp_waitBLast {n : ℕ} {b : Ref sig .tc} {s : Shape} {e : EltTy} (sem : DmaSem sig) (t : Tr F α) (N : ℕ) (hN : b.dmaCredit s e = N) (hN0 : 0 < N)
    (D : Fin n → sProp 𝕄) (u : ℕ) (hu : u + N = N * n) :
    iprop(Bt c sem N D n u ∗ Owe c)
      ⊢ iprop(((bigSep Finset.univ D ∗ semVal ((c : Thread nD τ), .dma sem) 0 ∗ Owe c) -∗ twp C defs 𝒱 c Q t) -∗ twp C defs 𝒱 c Q (.wait sem b s e t)) := by
  unfold Owe
  rw [show twp C defs 𝒱 c Q (.wait sem b s e t) = iprop(∀ hk, wp frame (wpE defs 𝒱 (c : Thread nD τ) none) Set.univ (.op (.waitDma (κ := .tc) sem b s e hk) .ret) fun _ => twp C defs 𝒱 c Q t) from rfl]
  iintro ⟨HF, ⟨%W, HO⟩⟩ Hk
  iintro %hk
  iapply (wp_waitBatchLastSized (countersEmb (U := Pipeline.UD sig nD τ)) 𝒱 (c : Thread nD τ) none () hN hN0 hu) $$ [HF HO]
  · isplitl [HF] <;> iassumption
  iintro ⟨HB, Hv, HO⟩
  iapply (le_wp_ret _ _ _ _ _)
  iapply Hk
  isplitl [HB]; · iexact HB
  isplitl [Hv]; · iexact Hv
  iexists _
  iexact HO

end Cert.Kernel.Run
end
-- ==== Proof.Glue.lean ====
/- A buffer's contents put together from the blocks it is written in. -/
module

public import proofs.«01_k».proof.Proof.Good

@[expose] public section

noncomputable section

namespace Cert.Kernel.Run

open Idealize.ShloMosaic Idealize.ShloMosaic.TcCoe Idealize.ShloMosaic.Tactic
open Cert.Kernel

variable {F : FTy → Type} [FloatOps F]

/-- Blocks that do not meet have contents with every block as given, and the default elsewhere. -/
theorem glue {K X Y A : Type} (emb : K → Y → X) (S : K → Finset X) (hS : ∀ k y, emb k y ∈ S k)
    (hd : ∀ k k' x, x ∈ S k → x ∈ S k' → k = k') (hi : ∀ k, Function.Injective (emb k)) (w : K → Y → A) (d : X → A) :
    ∃ f : X → A, (∀ k y, f (emb k y) = w k y) ∧ ∀ x, (∀ k, x ∉ S k) → f x = d x := by
  classical
  refine ⟨fun x => if h : ∃ p : K × Y, emb p.1 p.2 = x then w h.choose.1 h.choose.2 else d x, fun k y => ?_, fun x hx => ?_⟩
  · have h : ∃ p : K × Y, emb p.1 p.2 = emb k y := ⟨(k, y), rfl⟩
    refine (dif_pos h).trans ?_
    have e := h.choose_spec
    generalize h.choose = p at e ⊢
    obtain ⟨p1, p2⟩ := p
    have e : emb p1 p2 = emb k y := e
    have e1 : p1 = k := hd _ _ (emb k y) (e ▸ hS p1 p2) (hS k y)
    subst e1
    rw [hi _ e]
  · refine dif_neg ?_
    rintro ⟨p, e⟩
    exact hx p.1 (e ▸ hS p.1 p.2)

variable (V : (b : Ref sig .tc) → b.ty.Contents (Elt F))

/-- A unit and its number. -/
theorem unit_ext {k k' : Fin 2 × Fin 12} (h : 2 * k.2.val + k.1.val = 2 * k'.2.val + k'.1.val) : k = k' := by
  obtain ⟨a, b⟩ := k
  obtain ⟨a', b'⟩ := k'
  have h' : 2 * b.val + a.val = 2 * b'.val + a'.val := h
  have := a.isLt
  have := a'.isLt
  exact Prod.ext (Fin.ext (by show a.val = a'.val; omega)) (Fin.ext (by show b.val = b'.val; omega))

theorem fill_in (w : Fin 2 × Fin 12 → S384x16x128.Idx → Elt F .bf16) (d : Elt F .bf16) :
    ∃ f : S10016x16x128.Idx → Elt F .bf16, (∀ k, (inBlk (uIx k.1 k.2)).view.read (Elt F) f = w k) ∧ ∀ i ∈ pads, f i = d := by
  obtain ⟨f, h1, h2⟩ := glue (fun (k : Fin 2 × Fin 12) y => (inBlk (uIx k.1 k.2)).view.emb y) (fun k => wIn (uIx k.1 k.2).val)
    (fun k y => by rw [← inBlk_set]; exact Finset.mem_map_of_mem _ (Finset.mem_univ _))
    (fun k k' x hx hx' => by
      simp only [wIn, Finset.mem_filter, Finset.mem_univ, _root_.true_and] at hx hx'
      refine unit_ext ?_
      have e1 : (uIx k.1 k.2).val = 2 * k.2.val + k.1.val := rfl
      have e2 : (uIx k'.1 k'.2).val = 2 * k'.2.val + k'.1.val := rfl
      omega)
    (fun k => (inBlk (uIx k.1 k.2)).view.emb.injective) w (fun _ => d)
  refine ⟨f, fun k => funext fun y => h1 k y, fun i hi => h2 i fun k hk => ?_⟩
  simp only [pads, wIn, Finset.mem_filter, Finset.mem_univ, _root_.true_and] at hi hk
  omega

theorem off24 (u : Fin 24) {d₁ d₂ : ℕ} : ∀ a, (![u.val, 0, 0] : Fin 3 → ℕ) a + (⟨3, ![1, d₁, d₂]⟩ : Shape).size a ≤ (⟨3, ![24, d₁, d₂]⟩ : Shape).size a := by
  intro a
  have := u.isLt
  match a with
  | ⟨0, _⟩ => show u.val + 1 ≤ 24; omega
  | ⟨1, _⟩ => show 0 + d₁ ≤ d₁; omega
  | ⟨2, _⟩ => show 0 + d₂ ≤ d₂; omega

theorem off12 (u : Fin 12) {d₁ d₂ : ℕ} : ∀ a, (![u.val, 0, 0] : Fin 3 → ℕ) a + (⟨3, ![1, d₁, d₂]⟩ : Shape).size a ≤ (⟨3, ![12, d₁, d₂]⟩ : Shape).size a := by
  intro a
  have := u.isLt
  match a with
  | ⟨0, _⟩ => show u.val + 1 ≤ 12; omega
  | ⟨1, _⟩ => show 0 + d₁ ≤ d₁; omega
  | ⟨2, _⟩ => show 0 + d₂ ≤ d₂; omega

theorem fill_row (w : Fin 2 × Fin 12 → S1x16.Idx → Elt F .f32) :
    ∃ f : S24x1x16.Idx → Elt F .f32, ∀ k, (rowBlk ![(uIx k.1 k.2).val, 0, 0] (off24 _)).view.read (Elt F) f = w k := by
  obtain ⟨f, h1, -⟩ := glue (fun (k : Fin 2 × Fin 12) y => (rowBlk ![(uIx k.1 k.2).val, 0, 0] (off24 _)).view.emb y) (fun k => lead (uIx k.1 k.2).val)
    (fun k y => by rw [← rowBlk_set _ (off24 _) _ rfl]; exact Finset.mem_map_of_mem _ (Finset.mem_univ _))
    (fun k k' x hx hx' => unit_ext ((mem_lead.mp hx).symm.trans (mem_lead.mp hx')))
    (fun k => (rowBlk ![(uIx k.1 k.2).val, 0, 0] (off24 _)).view.emb.injective) w (fun _ => Scalar.ofBits (F := F) .f32 0#32)
  exact ⟨f, fun k => funext fun y => h1 k y⟩

theorem fill_old (w : Fin 2 × Fin 12 → S512x128.Idx → Elt F .fp8e4m3) :
    ∃ f : S24x512x128.Idx → Elt F .fp8e4m3, ∀ k, (oldBlk ![(uIx k.1 k.2).val, 0, 0] (off24 _)).view.read (Elt F) f = w k := by
  obtain ⟨f, h1, -⟩ := glue (fun (k : Fin 2 × Fin 12) y => (oldBlk ![(uIx k.1 k.2).val, 0, 0] (off24 _)).view.emb y) (fun k => lead (uIx k.1 k.2).val)
    (fun k y => by rw [← oldBlk_set _ (off24 _) _ rfl]; exact Finset.mem_map_of_mem _ (Finset.mem_univ _))
    (fun k k' x hx hx' => unit_ext ((mem_lead.mp hx).symm.trans (mem_lead.mp hx')))
    (fun k => (oldBlk ![(uIx k.1 k.2).val, 0, 0] (off24 _)).view.emb.injective) w (fun _ => Scalar.ofBits (F := F) .fp8e4m3 0#8)
  exact ⟨f, fun k => funext fun y => h1 k y⟩

theorem fill_res0 (w : Fin 12 → S6656x128.Idx → Elt F .fp8e4m3) :
    ∃ f : S12x6656x128.Idx → Elt F .fp8e4m3, ∀ b, (resBlk kOutM ![b.val, 0, 0] (off12 b)).view.read (Elt F) f = w b := by
  obtain ⟨f, h1, -⟩ := glue (fun (b : Fin 12) y => (resBlk kOutM ![b.val, 0, 0] (off12 b)).view.emb y) (fun b => lead b.val)
    (fun k y => by rw [← kOutBlk_set _ (off12 k) _ rfl]; exact Finset.mem_map_of_mem _ (Finset.mem_univ _))
    (fun k k' x hx hx' => Fin.ext ((mem_lead.mp hx).symm.trans (mem_lead.mp hx')))
    (fun k => (resBlk kOutM ![k.val, 0, 0] (off12 k)).view.emb.injective) w (fun _ => Scalar.ofBits (F := F) .fp8e4m3 0#8)
  exact ⟨f, fun k => funext fun y => h1 k y⟩

theorem fill_res1 (w : Fin 12 → S6656x128.Idx → Elt F .fp8e4m3) :
    ∃ f : S12x6656x128.Idx → Elt F .fp8e4m3, ∀ b, (resBlk vOutM ![b.val, 0, 0] (off12 b)).view.read (Elt F) f = w b := by
  obtain ⟨f, h1, -⟩ := glue (fun (b : Fin 12) y => (resBlk vOutM ![b.val, 0, 0] (off12 b)).view.emb y) (fun b => lead b.val)
    (fun k y => by rw [← vOutBlk_set _ (off12 k) _ rfl]; exact Finset.mem_map_of_mem _ (Finset.mem_univ _))
    (fun k k' x hx hx' => Fin.ext ((mem_lead.mp hx).symm.trans (mem_lead.mp hx')))
    (fun k => (resBlk vOutM ![k.val, 0, 0] (off12 k)).view.emb.injective) w (fun _ => Scalar.ofBits (F := F) .fp8e4m3 0#8)
  exact ⟨f, fun k => funext fun y => h1 k y⟩

/-- The stores of codes. -/
theorem fill_out (w : (Fin 2 × Fin 12) × Fin 13 × Fin 16 → S1x32x128.Idx → Elt F .fp8e4m3) :
    ∃ f : S24x6656x128.Idx → Elt F .fp8e4m3, ∀ k, (outM.access (rOut k.1.1 (trip k.1.2) k.2.1 k.2.2)).read (Elt F) f = w k := by
  obtain ⟨f, h1, -⟩ := glue (fun (k : (Fin 2 × Fin 12) × Fin 13 × Fin 16) y => (rOut k.1.1 (trip k.1.2) k.2.1 k.2.2).emb y)
    (fun k => (rOut k.1.1 (trip k.1.2) k.2.1 k.2.2).set)
    (fun k y => (rOut k.1.1 (trip k.1.2) k.2.1 k.2.2).toLoadRect.idx_mem y)
    (fun k k' x hx hx' => by
      unfold rOut at hx hx'
      rw [Rect.mem_set_unit] at hx hx'
      simp only [outOff_eq] at hx hx'
      have a0 : 2 * k.1.2.val + k.1.1.val ≤ (x 0).val ∧ (x 0).val < 2 * k.1.2.val + k.1.1.val + 1 := hx 0
      have b0 : 2 * k'.1.2.val + k'.1.1.val ≤ (x 0).val ∧ (x 0).val < 2 * k'.1.2.val + k'.1.1.val + 1 := hx' 0
      have a1 : 512 * k.2.1.val + 32 * k.2.2.val ≤ (x 1).val ∧ (x 1).val < 512 * k.2.1.val + 32 * k.2.2.val + 32 := hx 1
      have b1 : 512 * k'.2.1.val + 32 * k'.2.2.val ≤ (x 1).val ∧ (x 1).val < 512 * k'.2.1.val + 32 * k'.2.2.val + 32 := hx' 1
      have i1 := k.2.2.isLt
      have i2 := k'.2.2.isLt
      exact Prod.ext (unit_ext (by omega)) (Prod.ext (Fin.ext (by omega)) (Fin.ext (by omega))))
    (fun k => (rOut k.1.1 (trip k.1.2) k.2.1 k.2.2).emb.injective) w (fun _ => Scalar.ofBits (F := F) .fp8e4m3 0#8)
  exact ⟨f, fun k => funext fun y => h1 k y⟩

/-- The stores of scales. -/
theorem fill_sc (w : Fin 2 × Fin 12 → S1x1x13x16.Idx → Elt F .f32) :
    ∃ f : S2x12x13x16.Idx → Elt F .f32, ∀ k, (scM.access (rSc k.1 (trip k.2))).read (Elt F) f = w k := by
  obtain ⟨f, h1, -⟩ := glue (fun (k : Fin 2 × Fin 12) y => (rSc k.1 (trip k.2)).emb y)
    (fun k => (rSc k.1 (trip k.2)).set)
    (fun k y => (rSc k.1 (trip k.2)).toLoadRect.idx_mem y)
    (fun k k' x hx hx' => by
      unfold rSc at hx hx'
      rw [Rect.mem_set_unit] at hx hx'
      have a0 : k.1.val ≤ (x 0).val ∧ (x 0).val < k.1.val + 1 := hx 0
      have b0 : k'.1.val ≤ (x 0).val ∧ (x 0).val < k'.1.val + 1 := hx' 0
      have a1 : (reqW (trip k.2)).toNat ≤ (x 1).val ∧ (x 1).val < (reqW (trip k.2)).toNat + 1 := hx 1
      have b1 : (reqW (trip k'.2)).toNat ≤ (x 1).val ∧ (x 1).val < (reqW (trip k'.2)).toNat + 1 := hx' 1
      rw [reqW_toNat] at a1 b1
      have e1 : (trip k.2).val = k.2.val := rfl
      have e2 : (trip k'.2).val = k'.2.val := rfl
      exact Prod.ext (Fin.ext (by omega)) (Fin.ext (by omega)))
    (fun k => (rSc k.1 (trip k.2)).emb.injective) w (fun _ => Scalar.ofBits (F := F) .f32 0#32)
  exact ⟨f, fun k => funext fun y => h1 k y⟩

end Cert.Kernel.Run
end
-- ==== Proof.Words.lean ====
/- The words the kernel computes from a request's length. -/
module

public import proofs.«01_k».proof.Proof.Good
public import Idealize.ShloMosaic.Lib.PairWhole

@[expose] public section

noncomputable section

namespace Cert.Kernel.Run

open Idealize.ShloMosaic Idealize.ShloMosaic.TcCoe Idealize.ShloMosaic.Tactic
open Cert.Kernel

theorem trips2 : k0_t2_loop.trips = 12 := by decide

theorem rem_table : ∀ n : Fin 4512, Scalar.remsi (BitVec.ofNat 32 n.val) 32#32 = BitVec.ofNat 32 (n.val % 32) := by decide +kernel

theorem rem_word {v : BitVec 32} (h : v.toNat < 4512) : Scalar.remsi v 32#32 = BitVec.ofNat 32 (v.toNat % 32) := by
  have := rem_table ⟨v.toNat, h⟩
  rwa [BitVec.ofNat_toNat, BitVec.setWidth_eq] at this

theorem rem_toNat {v : BitVec 32} (h : v.toNat < 4512) : (Scalar.remsi v 32#32).toNat = v.toNat % 32 := by
  rw [rem_word h, BitVec.toNat_ofNat]
  omega

theorem baseW_toNat (kv : Fin 2) (t : Fin k0_t3_loop.trips) {v : BitVec 32} (h : v.toNat < 4512) :
    (baseW kv t v).toNat = 32 + 416 * (2 * t.val + kv.val) - v.toNat % 32 := by
  have h1 := unitW_toNat kv t
  have h' : t.val < 12 := lt_of_lt_of_eq t.isLt trips3
  have := kv.isLt
  show (32#32 + unitW kv t * 416#32 - Scalar.remsi v 32#32).toNat = _
  rw [BitVec.toNat_sub, BitVec.toNat_add, BitVec.toNat_mul, h1, rem_toNat h, BitVec.toNat_ofNat, BitVec.toNat_ofNat]
  omega

theorem tokOff_eq (kv : Fin 2) (t : Fin k0_t3_loop.trips) {v : BitVec 32} (h : v.toNat < 4512) (a b : ℕ) (ha : a ≤ 384) (hb : b < 32) :
    tokOff kv t v (BitVec.ofNat 32 a) (BitVec.ofNat 32 b) = ![32 + 416 * (2 * t.val + kv.val) - v.toNat % 32 + a + b, 0, 0] := by
  have h' : t.val < 12 := lt_of_lt_of_eq t.isLt trips3
  have := kv.isLt
  have e : (baseW kv t v + BitVec.ofNat 32 a + BitVec.ofNat 32 b).toNat = 32 + 416 * (2 * t.val + kv.val) - v.toNat % 32 + a + b := by
    rw [BitVec.toNat_add, BitVec.toNat_add, baseW_toNat kv t h, BitVec.toNat_ofNat, BitVec.toNat_ofNat]
    omega
  unfold tokOff
  rw [← e]
  rfl

theorem pairOff_eq (kv : Fin 2) (t : Fin k0_t3_loop.trips) {v : BitVec 32} (h : v.toNat < 4512) (a : ℕ) (ha : a ≤ 384) :
    pairOff kv t v (BitVec.ofNat 32 a) = ![32 + 416 * (2 * t.val + kv.val) - v.toNat % 32 + a, 0, 0] := by
  have h' : t.val < 12 := lt_of_lt_of_eq t.isLt trips3
  have := kv.isLt
  have e : (baseW kv t v + BitVec.ofNat 32 a).toNat = 32 + 416 * (2 * t.val + kv.val) - v.toNat % 32 + a := by
    rw [BitVec.toNat_add, baseW_toNat kv t h, BitVec.toNat_ofNat]
    omega
  unfold pairOff
  rw [← e]
  rfl

theorem inb3 (n k : ℕ) (hk : n + k ≤ 10016) : ∀ a, (![n, 0, 0] : Fin 3 → ℕ) a + (⟨3, ![k, 16, 128]⟩ : Shape).size a ≤ S10016x16x128.size a := by
  intro a
  match a with
  | ⟨0, _⟩ => exact hk
  | ⟨1, _⟩ => show 0 + 16 ≤ 16; omega
  | ⟨2, _⟩ => show 0 + 128 ≤ 128; omega

theorem chk_of (kv : Fin 2) (t : Fin k0_t3_loop.trips) {v : BitVec 32} (h : v.toNat < 4512) : Chk kv t v := by
  have h' : t.val < 12 := lt_of_lt_of_eq t.isLt trips3
  have hkv := kv.isLt
  refine ⟨fun r₁ r₂ => ?_, fun r₁ r₂ => ?_, fun r => ?_⟩
  · have := r₁.isLt
    have := r₂.isLt
    rw [tokOff_eq kv t h _ _ (by omega) (by omega)]
    exact inb3 _ 1 (by omega)
  · have := r₁.isLt
    have := r₂.isLt
    rw [tokOff_eq kv t h _ _ (by omega) (by omega)]
    exact inb3 _ 2 (by omega)
  · have := r.isLt
    rw [pairOff_eq kv t h _ (by omega)]
    exact inb3 _ 2 (by omega)

theorem page_table : ∀ n : Fin 4512, k0_off3 ⟨0, by decide⟩ (BitVec.ofNat 32 n.val) 1 = n.val / 32 := by decide +kernel

theorem off3_page (t : Fin k0_t2_loop.trips) {v : BitVec 32} (h : v.toNat < 4512) : k0_off3 t v 1 = v.toNat / 32 := by
  have := page_table ⟨v.toNat, h⟩
  rw [BitVec.ofNat_toNat, BitVec.setWidth_eq] at this
  exact this

theorem off3_req (t : Fin k0_t2_loop.trips) (v : BitVec 32) : k0_off3 t v 0 = t.val := by
  have h : t.val < 12 := lt_of_lt_of_eq t.isLt trips2
  show (req2W t).toNat = _
  simp only [req2W, Scf.iv, BitVec.mul_one, BitVec.zero_add, BitVec.toNat_ofNat]
  omega

theorem chk1_of (t : Fin k0_t2_loop.trips) {v : BitVec 32} (h : v.toNat < 4512) : k0_chk1 t v := by
  have h' : t.val < 12 := lt_of_lt_of_eq t.isLt trips2
  unfold k0_chk1
  intro a
  match a with
  | ⟨0, _⟩ =>
    show k0_off3 t v 0 + 1 ≤ 12
    rw [off3_req]; omega
  | ⟨1, _⟩ =>
    show k0_off3 t v 1 + 1 ≤ 141
    rw [off3_page t h]; omega

theorem chk2_of {w : BitVec 32} (h : w.toNat < 2115) : k0_chk2 w := by
  refine ⟨fun a => ?_, fun a => ?_, fun hi => Rect.WholeRows.wholeWords (⟨by decide, rfl, rfl, rfl⟩) _⟩
  · match a with
    | ⟨0, _⟩ => show w.toNat + 1 ≤ 2115; omega
    | ⟨1, _⟩ => show 0 + 16 ≤ 16; omega
  · match a with
    | ⟨0, _⟩ => show w.toNat + 1 ≤ 2115; omega
    | ⟨1, _⟩ => show 0 + 512 ≤ 512; omega
    | ⟨2, _⟩ => show 0 + 128 ≤ 128; omega

end Cert.Kernel.Run
end
-- ==== Proof.Loop3.lean ====
/- The main loop: a trip takes one request's keys and values from pending to done and hands their outputs to the copies out. -/
module

public import proofs.«01_k».proof.Proof.Good

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel
open Shapes1.Facts₀ K0.Facts₀

variable {F : FTy → Type} [FloatOps F]

local notation "𝕄" => MT nD τ sig Unit (Elt F) ℕ (Pipeline.UD sig nD τ) ℕ

variable (C : (b : Ref sig .tc) → b.ty.Contents (Elt F)) (defs : Defs nD τ sig (Elt F) Λ₀) (𝒱 : Variants) (c : Dev nD)

/-- A request's elements of a result. -/
def resSet (kv : Fin 2) (b : ℕ) : Finset (Idx ((resOf kv).view.loc (c : Thread nD τ))) :=
  match kv with | 0 => (lead b : Finset S12x6656x128.Idx) | 1 => (lead b : Finset S12x6656x128.Idx)

abbrev ResAny (kv : Fin 2) (b : Fin 12) : sProp 𝕄 := iprop(∃ f, (resOf kv).view.loc (c : Thread nD τ) ↦[resSet c kv b.val]{fullShare} f)
abbrev ResAt (kv : Fin 2) (b : Fin 12) : sProp 𝕄 := ((resOf kv).view.loc (c : Thread nD τ) ↦[resSet c kv b.val]{fullShare} (C (resOf kv).view.ref))

/-- What the copy of a unit's output leaves. -/
def outD (u : Fin 24) : sProp 𝕄 :=
  iprop(ResAt C c ⟨u.val % 2, Nat.mod_lt _ (by omega)⟩ ⟨u.val / 2, by omega⟩ ∗ OutAt C c ⟨u.val % 2, Nat.mod_lt _ (by omega)⟩ ⟨u.val / 2, by omega⟩)

abbrev OutB (j u : ℕ) : sProp 𝕄 := Bt c cc0_scratch11.sem outN (outD C c) j u

def PendB (b : Fin 12) : sProp 𝕄 := iprop(Pend C c 0 b ∗ Pend C c 1 b ∗ ResAny c 0 b ∗ ResAny c 1 b)
def DoneB (b : Fin 12) : sProp 𝕄 := iprop(Done C c 0 b ∗ Done C c 1 b)

/-- The copies out at the start of trip `n`: the last request's values wait for the next trip. -/
def Carry (n : ℕ) : sProp 𝕄 :=
  if h : 0 < n ∧ n - 1 < 12 then iprop(OutB C c (2 * n - 1) 0 ∗ OutAt C c 1 ⟨n - 1, h.2⟩ ∗ ResAny c 1 ⟨n - 1, h.2⟩) else OutB C c 0 0

abbrev Len : sProp 𝕄 := (lenM.view.loc (c : Thread nD τ) ↦{fullShare} (C lenM.view.ref))

/-- The state at the start of trip `n`. -/
def Loop3 (n : ℕ) : sProp 𝕄 :=
  iprop(Pads C c ∗ Owe c ∗ Len C c ∗ (bigSep Finset.univ fun b : Fin 12 => if b.val < n then DoneB C c b else PendB C c b) ∗ Carry C c n)

theorem outD_eq (kv : Fin 2) (b : Fin 12) (u : Fin 24) (hu : u.val = 2 * b.val + kv.val) :
    outD C c u = iprop(ResAt C c kv b ∗ OutAt C c kv b) := by
  have h1 : (⟨u.val % 2, Nat.mod_lt _ (by omega)⟩ : Fin 2) = kv := Fin.ext (by show u.val % 2 = kv.val; omega)
  have h2 : (⟨u.val / 2, by omega⟩ : Fin 12) = b := Fin.ext (by show u.val / 2 = b.val; omega)
  unfold outD
  rw [h1, h2]

variable {α : Type} (Q : α → sProp (MT nD τ sig Unit (Elt F) ℕ (Pipeline.UD sig nD τ) ℕ))

theorem resBlk_set (kv : Fin 2) (off : Fin 3 → ℕ) (h) (u : ℕ) (ho : off = ![u, 0, 0]) :
    (resBlk (resOf kv) off h).view.set = resSet c kv u := by
  match kv with
  | 0 => exact kOutBlk_set off h u ho
  | 1 => exact vOutBlk_set off h u ho

theorem twp_copyOut (G : Good C) (kv : Fin 2) (b : Fin 12) (off : Fin 3 → ℕ) (h) (ho : off = ![2 * b.val + kv.val, 0, 0]) (off' : Fin 3 → ℕ) (h') (ho' : off' = ![b.val, 0, 0]) (k : Tr F α)
    (hN : (resBlk (resOf kv) off' h').view.amount (.dma cc0_scratch11.sem) = outN) :
    iprop(OutAt C c kv b ∗ ResAny c kv b ∗ OutB C c (2 * b.val + kv.val) 0)
      ⊢ iprop((OutB C c (2 * b.val + kv.val + 1) 0 -∗ twp C defs 𝒱 c Q k) -∗ twp C defs 𝒱 c Q (.enq (outBlk off h) (resBlk (resOf kv) off' h') .same (.dma cc0_scratch11.sem) k)) := by
  unfold OutB
  refine twp_cpB C defs 𝒱 c Q (outBlk off h) (resBlk (resOf kv) off' h') cc0_scratch11.sem k outN hN fullShare (outD C c) (2 * b.val + kv.val) (by omega)
    (lead (uIx kv b).val) (outBlk_set off h _ ho) (resSet c kv b.val) (resBlk_set c kv off' h' _ ho') (G.res kv b.val off ho h off' ho' h') ?_
  rw [outD_eq C c kv b _ rfl]
  exact Entails.rfl

theorem cond1 (t : Fin k0_t3_loop.trips) : k0_cond1 t = 1#1 ↔ 0 < t.val := by revert t; decide
theorem off247 (t : Fin k0_t3_loop.trips) : 0 < t.val → k0_off247 t = ![t.val - 1, 0, 0] := by revert t; decide
theorem off248 (t : Fin k0_t3_loop.trips) : 0 < t.val → k0_off248 t = ![2 * (t.val - 1) + 1, 0, 0] := by revert t; decide
theorem off484 (t : Fin k0_t3_loop.trips) : k0_off484 t = ![t.val, 0, 0] := by revert t; decide
theorem off485 (t : Fin k0_t3_loop.trips) : k0_off485 t = ![2 * t.val + 0, 0, 0] := by revert t; decide

theorem lenRect_sub (t : Fin k0_t3_loop.trips) : lenM.view.setOn (lenRect t).toLoadRect.set ⊆ Finset.univ := Finset.subset_univ _

/-- A trip, given what `mid` does. -/
theorem step_run (G : Good C) (b : Fin 12) (mid : Tr F PUnit → Tr F PUnit) (Q : PUnit → sProp 𝕄) (A : sProp 𝕄)
    (hmid : ∀ k, A ⊢ iprop((OutB C c (2 * b.val) 0 -∗ twp C defs 𝒱 c Q k) -∗ twp C defs 𝒱 c Q (mid k))) :
    iprop(Pads C c ∗ Owe c ∗ Len C c ∗ PendB C c b ∗ A)
      ⊢ iprop(((Pads C c ∗ Owe c ∗ Len C c ∗ DoneB C c b ∗ OutB C c (2 * b.val + 1) 0 ∗ OutAt C c 1 b ∗ ResAny c 1 b) -∗ Q ⟨⟩)
        -∗ twp C defs 𝒱 c Q (stepTr C (trip b) mid)) := by
  unfold stepTr PendB
  iintro ⟨HP, HW, HL, ⟨HK, HV, HRK, HRV⟩, HA⟩ Hk
  unfold Len
  iapply (twp_load C defs 𝒱 c Q lenM (lenRect (trip b)).toLoadRect _ (S := Finset.univ) (q := fullShare) (Finset.subset_univ _)) $$ HL
  iintro HL
  iapply (twp_asm C defs 𝒱 c Q (G.chk 0 b) _)
  iapply (unit_run C defs 𝒱 c Q 0 b _ (G.rem b) _ _ (G.out 0 b _) (G.out0 0 b _) (G.sc 0 b _)) $$ [HP HK HW]
  · isplitl [HP]; · iexact HP
    isplitl [HK]; · iexact HK
    iexact HW
  iintro ⟨HP, HDK, HOK, HW⟩
  iapply (hmid _) $$ HA
  iintro HB
  iapply (twp_load C defs 𝒱 c Q lenM (lenRect (trip b)).toLoadRect _ (S := Finset.univ) (q := fullShare) (Finset.subset_univ _)) $$ HL
  iintro HL
  iapply (twp_asm C defs 𝒱 c Q (G.chk 1 b) _)
  iapply (unit_run C defs 𝒱 c Q 1 b _ (G.rem b) _ _ (G.out 1 b _) (G.out0 1 b _) (G.sc 1 b _)) $$ [HP HV HW]
  · isplitl [HP]; · iexact HP
    isplitl [HV]; · iexact HV
    iexact HW
  iintro ⟨HP, HDV, HOV, HW⟩
  iapply (twp_copyOut C defs 𝒱 c Q G 0 b _ _ (off485 (trip b)) _ _ (off484 (trip b)) _ rfl) $$ [HOK HRK HB]
  · isplitl [HOK]; · iexact HOK
    isplitl [HRK]; · iexact HRK
    iexact HB
  iintro HB
  iapply (show Q ⟨⟩ ⊢ twp C defs 𝒱 c Q (.ret ⟨⟩) from Entails.rfl)
  iapply Hk
  isplitl [HP]; · iexact HP
  isplitl [HW]; · iexact HW
  isplitl [HL]; · iexact HL
  isplitl [HDK HDV]
  · unfold DoneB
    isplitl [HDK]; · iexact HDK
    iexact HDV
  isplitl [HB]; · iexact HB
  isplitl [HOV]; · iexact HOV
  iexact HRV

/-- The requests' states around one that changes. -/
theorem reqs_step (P R : Fin 12 → sProp 𝕄) (b : Fin 12) :
    (bigSep Finset.univ fun x : Fin 12 => if x.val < b.val then R x else P x) ⊢ iprop(P b ∗ (R b -∗ bigSep Finset.univ fun x : Fin 12 => if x.val < b.val + 1 then R x else P x)) := by
  have e1 := bigSep_erase (Finset.mem_univ b) (Φ := fun x : Fin 12 => if x.val < b.val then R x else P x)
  have e2 := bigSep_erase (Finset.mem_univ b) (Φ := fun x : Fin 12 => if x.val < b.val + 1 then R x else P x)
  have e3 : (bigSep (Finset.univ.erase b) fun x : Fin 12 => if x.val < b.val + 1 then R x else P x) = bigSep (Finset.univ.erase b) fun x : Fin 12 => if x.val < b.val then R x else P x := by
    refine bigSep_congr fun x hx => ?_
    have hne : x.val ≠ b.val := fun h => (Finset.ne_of_mem_erase hx) (Fin.ext h)
    by_cases h : x.val < b.val
    · rw [if_pos h, if_pos (by omega)]
    · rw [if_neg h, if_neg (by omega)]
  rw [e1, e2, e3, if_neg (Nat.lt_irrefl _), if_pos (Nat.lt_succ_self _)]
  generalize (bigSep (Finset.univ.erase b) fun x : Fin 12 => if x.val < b.val then R x else P x) = Z
  show iprop(P b ∗ Z) ⊢ iprop(P b ∗ (R b -∗ (R b ∗ Z)))
  iintro ⟨HP, Hr⟩
  isplitl [HP]; · iexact HP
  iintro HR
  isplitl [HR]; · iexact HR
  iexact Hr

theorem loop3_next (b : Fin 12) : iprop(Pads C c ∗ Owe c ∗ Len C c ∗ (bigSep Finset.univ fun x : Fin 12 => if x.val < b.val + 1 then DoneB C c x else PendB C c x)
      ∗ OutB C c (2 * b.val + 1) 0 ∗ OutAt C c 1 b ∗ ResAny c 1 b) ⊢ Loop3 C c (b.val + 1) := by
  unfold Loop3 Carry
  rw [dif_pos ⟨Nat.succ_pos _, b.isLt⟩]
  exact Entails.rfl

theorem loop3_pos (G : Good C) (b : Fin 12) (hb : 0 < b.val) (hc : k0_cond1 (trip b) = 1#1) :
    Loop3 C c b.val ⊢ twp C defs 𝒱 c (fun _ => Loop3 C c (b.val + 1)) (stepTr C (trip b) (midTr (trip b) hc)) := by
  refine BIBase.Entails.trans ?_ (Laws.wand_elim (step_run C defs 𝒱 c G b (midTr (trip b) hc) (fun _ => Loop3 C c (b.val + 1))
    iprop(OutB C c (2 * b.val - 1) 0 ∗ OutAt C c 1 ⟨b.val - 1, by omega⟩ ∗ ResAny c 1 ⟨b.val - 1, by omega⟩) ?_))
  · refine BIBase.Entails.trans ?_ (Laws.sep_mono Entails.rfl (Laws.wand_intro (P := iprop(DoneB C c b -∗ bigSep Finset.univ fun x : Fin 12 => if x.val < b.val + 1 then DoneB C c x else PendB C c x)) ?_))
    · unfold Loop3 Carry
      rw [dif_pos ⟨hb, by omega⟩]
      iintro ⟨HP, HW, HL, HR, HC⟩
      ihave HR' := (reqs_step (PendB C c) (DoneB C c) b) $$ HR
      icases HR' with ⟨Hb, Hr⟩
      isplitr [Hr]
      · isplitl [HP]; · iexact HP
        isplitl [HW]; · iexact HW
        isplitl [HL]; · iexact HL
        isplitl [Hb]; · iexact Hb
        iexact HC
      · iexact Hr
    · refine BIBase.Entails.trans ?_ (loop3_next C c b)
      iintro ⟨Hr, HP, HW, HL, HD, HB⟩
      isplitl [HP]; · iexact HP
      isplitl [HW]; · iexact HW
      isplitl [HL]; · iexact HL
      isplitl [HD Hr]; · iapply Hr $$ HD
      iexact HB
  · intro k
    have ht : (trip b).val = b.val := rfl
    have e : 2 * b.val - 1 = 2 * (b.val - 1) + (1 : Fin 2).val := by show _ = 2 * (b.val - 1) + 1; omega
    have e' : 2 * b.val = 2 * (b.val - 1) + (1 : Fin 2).val + 1 := by show _ = 2 * (b.val - 1) + 1 + 1; omega
    rw [e, e']
    iintro ⟨HB, HO, HR⟩ Hk
    have X := twp_copyOut C defs 𝒱 c (fun _ => Loop3 C c (b.val + 1)) G 1 ⟨b.val - 1, by omega⟩ (k0_off248 (trip b)) (k0_off248_inb (trip b) hc) (off248 (trip b) hb) (k0_off247 (trip b)) (k0_off247_inb (trip b) hc) (off247 (trip b) hb) k rfl
    iapply X $$ [HO HR HB]
    · isplitl [HO]; · iexact HO
      isplitl [HR]; · iexact HR
      iexact HB
    iexact Hk

theorem loop3_zero (G : Good C) (b : Fin 12) (hb : b.val = 0) :
    Loop3 C c b.val ⊢ twp C defs 𝒱 c (fun _ => Loop3 C c (b.val + 1)) (stepTr C (trip b) id) := by
  refine BIBase.Entails.trans ?_ (Laws.wand_elim (step_run C defs 𝒱 c G b id (fun _ => Loop3 C c (b.val + 1)) (OutB C c 0 0) ?_))
  · refine BIBase.Entails.trans ?_ (Laws.sep_mono Entails.rfl (Laws.wand_intro (P := iprop(DoneB C c b -∗ bigSep Finset.univ fun x : Fin 12 => if x.val < b.val + 1 then DoneB C c x else PendB C c x)) ?_))
    · unfold Loop3 Carry
      rw [dif_neg (by omega)]
      iintro ⟨HP, HW, HL, HR, HC⟩
      ihave HR' := (reqs_step (PendB C c) (DoneB C c) b) $$ HR
      icases HR' with ⟨Hb, Hr⟩
      isplitr [Hr]
      · isplitl [HP]; · iexact HP
        isplitl [HW]; · iexact HW
        isplitl [HL]; · iexact HL
        isplitl [Hb]; · iexact Hb
        iexact HC
      · iexact Hr
    · refine BIBase.Entails.trans ?_ (loop3_next C c b)
      iintro ⟨Hr, HP, HW, HL, HD, HB⟩
      isplitl [HP]; · iexact HP
      isplitl [HW]; · iexact HW
      isplitl [HL]; · iexact HL
      isplitl [HD Hr]; · iapply Hr $$ HD
      iexact HB
  · intro k
    rw [hb]
    iintro HB Hk
    iapply Hk
    iexact HB

end Cert.Kernel.Run
end
-- ==== Proof.Early.lean ====
/- The pieces before the main loop: the copies in, the zeroed rows, and the fetch of each request's page and scales. -/
module

public import proofs.«01_k».proof.Proof.Loop3

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel
open Shapes1.Facts₀ K0.Facts₀

variable {F : FTy → Type} [FloatOps F]

local notation "𝕄" => MT nD τ sig Unit (Elt F) ℕ (Pipeline.UD sig nD τ) ℕ

variable (C : (b : Ref sig .tc) → b.ty.Contents (Elt F)) (defs : Defs nD τ sig (Elt F) Λ₀) (𝒱 : Variants) (c : Dev nD)

/-! ## The copies in -/

abbrev InPre (kv : Fin 2) (b : Fin 12) : sProp 𝕄 :=
  iprop(Sh C c (tokOf kv) (qOf b) ∗ (∃ f, inM.view.loc (c : Thread nD τ) ↦[wIn (uIx kv b).val]{fullShare} f) ∗ Z c (sem24 cc0_scratch7 (uIx kv b)))

/-- The keys' (0) or values' (1) copies in, the first `n` requests' begun. -/
def In (kv : Fin 2) (n : ℕ) : sProp 𝕄 := bigSep Finset.univ fun b : Fin 12 => if b.val < n then FlyIn C c kv b else InPre C c kv b

theorem in_step {α : Type} (Q : α → sProp 𝕄) (G : Good C) (kv : Fin 2) (b : Fin 12) (k : Tr F α) :
    In C c kv b.val ⊢ iprop((In C c kv (b.val + 1) -∗ twp C defs 𝒱 c Q k) -∗ twp C defs 𝒱 c Q (inCp b kv k)) := by
  have e : (inCp b kv k : Tr F α) = .enq (tokBlk (tokOf kv) b) (inBlk (uIx kv b)) .same (.dma (sem24 cc0_scratch7 (uIx kv b))) k := by
    match kv with
    | 0 => rfl
    | 1 => rfl
  rw [e]
  unfold In
  iintro H Hk
  ihave H' := (reqs_step (InPre C c kv) (FlyIn C c kv) b) $$ H
  icases H' with ⟨Hb, Hr⟩
  have X := twp_cp C defs 𝒱 c Q (tokBlk (tokOf kv) b) (inBlk (uIx kv b)) (.dma (sem24 cc0_scratch7 (uIx kv b))) k inN rfl (Nat.pos_of_ne_zero (by decide))
    (qOf b) (wIn (uIx kv b).val) (inBlk_set (uIx kv b)) (G.tok kv b)
  iapply X $$ [Hb]
  · iexact Hb
  iintro HF
  iapply Hk
  iapply Hr
  iexact HF

/-! ## The zeroed rows -/

theorem off1 (t : Fin k0_t1_loop.trips) : k0_off1 t = ![416 * t.val, 0, 0] := by revert t; decide

theorem padRect_mem (t : Fin k0_t1_loop.trips) (x : S10016x16x128.Idx) : x ∈ (padRect t).set ↔ 416 * t.val ≤ (x 0).val ∧ (x 0).val < 416 * t.val + 32 := by
  unfold padRect
  rw [Rect.mem_set_unit, off1]
  constructor
  · intro h; exact h 0
  · intro h a
    match a with
    | ⟨0, _⟩ => exact h
    | ⟨1, _⟩ => exact ⟨Nat.zero_le _, by show (x 1).val < 0 + 16; have : (x 1).val < 16 := (x 1).isLt; omega⟩
    | ⟨2, _⟩ => exact ⟨Nat.zero_le _, by show (x 2).val < 0 + 128; have : (x 2).val < 128 := (x 2).isLt; omega⟩

theorem mem_pads (x : S10016x16x128.Idx) : x ∈ pads ↔ (x 0).val % 416 < 32 := by
  unfold pads
  exact (Finset.mem_filter.trans ⟨fun h => h.2, fun h => ⟨Finset.mem_univ _, h⟩⟩)

theorem padRect_sub (t : Fin k0_t1_loop.trips) : inM.view.setOn (padRect t).toLoadRect.set ⊆ pads := by
  rw [show inM.view.setOn (padRect t).toLoadRect.set = (padRect t).set from Finset.map_refl]
  intro x hx
  have := (padRect_mem t x).1 hx
  rw [mem_pads]
  omega

/-- The rows between the units, zeroed up to trip `n`. -/
def Zeroed (n : ℕ) : sProp 𝕄 :=
  iprop(∃ f : S10016x16x128.Idx → Elt F .bf16, ⌜∀ i : S10016x16x128.Idx, i ∈ pads → (i 0).val < 416 * n → f i = C inM.view.ref i⌝
    ∗ (inM.view.loc (c : Thread nD τ) ↦[pads]{fullShare} f))

theorem twp_load_store {α : Type} (Q : α → sProp 𝕄) {cs : CoreSpace} {s : Shape} {e : EltTy} (m : Memref sig .tc cs s e) (r : Rect s) (w : r.shape.Idx → Elt F e) (t : Tr F α)
    {S : Finset (Idx (m.view.loc (c : Thread nD τ)))} (hS : m.view.setOn r.set ⊆ S) :
    (m.view.loc (c : Thread nD τ) ↦[S]{fullShare} (C m.view.ref) : sProp 𝕄)
      ⊢ iprop(((m.view.loc (c : Thread nD τ) ↦[S]{fullShare} ((m.access r).write (Elt F) (C m.view.ref) w Finset.univ)) -∗ twp C defs 𝒱 c Q t)
        -∗ twp C defs 𝒱 c Q (.load m r.toLoadRect (.store m r w Finset.univ t))) := by
  iintro Hp Hk
  iapply (twp_load C defs 𝒱 c Q m r.toLoadRect (.store m r w Finset.univ t) (S := S) (q := fullShare) hS) $$ Hp
  rw [show twp C defs 𝒱 c Q (.store m r w Finset.univ t) = iprop(∃ (S : Finset (Idx (m.view.loc (c : Thread nD τ)))) (f : Buf (Elt F) (m.view.loc (c : Thread nD τ))),
      ⌜(m.access r).setOn Finset.univ ⊆ S⌝ ∗ (m.view.loc (c : Thread nD τ) ↦[S]{fullShare} f)
        ∗ ((m.view.loc (c : Thread nD τ) ↦[S]{fullShare} ((m.access r).write (Elt F) f w Finset.univ)) -∗ twp C defs 𝒱 c Q t)) from rfl]
  iintro Hp
  iexists S, (C m.view.ref)
  isplitr
  · ipureintro
    have : (m.access r).setOn Finset.univ = m.view.setOn r.toLoadRect.set := View.set_slice _ _
    rw [this]; exact hS
  isplitl [Hp]; · iexact Hp
  iexact Hk

theorem pad_body (G : Good C) (t : Fin k0_t1_loop.trips) (p : Prog (TpuEff nD τ sig (Elt F) Λ₀ .tc) PUnit) (hp : ∀ C, resolve C p = padTr t) :
    Zeroed C c t.val ⊢ wp frame (wpE defs 𝒱 (c : Thread nD τ) none) Set.univ p fun _ => Zeroed C c (t.val + 1) := by
  unfold Zeroed
  iintro ⟨%f, %hf, Hp⟩
  have hC : (Function.update C cc0_scratch0 f) inM.view.ref = f := Function.update_self cc0_scratch0 f C
  iapply (wp_of_twp (Function.update C cc0_scratch0 f) defs 𝒱 c _ p)
  rw [hp]
  unfold padTr
  have X := twp_load_store (Function.update C cc0_scratch0 f) defs 𝒱 c (fun _ => Zeroed C c (t.val + 1)) inM (padRect t)
    (shapeCast S32x16x128 (broadcast S32x16x128 (Scalar.ofBits (F := F) .bf16 0x0000#16)) shapeCasts_S32x16x128_S32x16x128) (.ret PUnit.unit) (S := pads) (padRect_sub t)
  rw [hC] at X
  have Y : Zeroed C c (t.val + 1) ⊢ twp (Function.update C cc0_scratch0 f) defs 𝒱 c (fun _ => Zeroed C c (t.val + 1)) (.ret PUnit.unit) := Entails.rfl
  unfold Zeroed at X Y
  iapply X $$ Hp
  iintro Hp
  iapply Y
  iexists ((inM.access (padRect t)).write (Elt F) f (shapeCast S32x16x128 (broadcast S32x16x128 (Scalar.ofBits (F := F) .bf16 0x0000#16)) shapeCasts_S32x16x128_S32x16x128) Finset.univ)
  isplitr
  · ipureintro
    intro x hx hlt
    by_cases hm : x ∈ (padRect t).set
    · have hm' : x ∈ (inM.access (padRect t)).set := by rw [show (inM.access (padRect t)).set = (padRect t).set from View.set_slice_whole cc0_scratch0 _]; exact hm
      obtain ⟨y, -, rfl⟩ := Finset.mem_map.mp hm'
      rw [G.pad _ hx]
      exact View.write_emb_of_mem (v := inM.access (padRect t)) f _ (Finset.mem_univ y)
    · refine (View.write_of_not_mem (v := inM.access (padRect t)) f _ Finset.univ ?_).trans (hf x hx ?_)
      · intro hm'
        apply hm
        rw [show (padRect t).set = (inM.access (padRect t)).set from (View.set_slice_whole cc0_scratch0 _).symm]
        exact hm'
      · have := mt (padRect_mem t x).2 hm
        rw [mem_pads] at hx
        omega
  · iexact Hp

/-! ## The fetch of pages and scales -/

abbrev RowPre (kv : Fin 2) (b : Fin 12) : sProp 𝕄 :=
  iprop(Sh C c (scaOf kv) (qOf b) ∗ (∃ f, rowM.view.loc (c : Thread nD τ) ↦[lead (uIx kv b).val]{fullShare} f) ∗ Z c (sem24 cc0_scratch9 (uIx kv b)))
abbrev OldPre (kv : Fin 2) (b : Fin 12) : sProp 𝕄 :=
  iprop(Sh C c (pagOf kv) (qOf b) ∗ (∃ f, oldM.view.loc (c : Thread nD τ) ↦[lead (uIx kv b).val]{fullShare} f) ∗ Z c (sem24 cc0_scratch8 (uIx kv b)))

def FetchPre (b : Fin 12) : sProp 𝕄 := iprop((RowPre C c 0 b ∗ OldPre C c 0 b) ∗ RowPre C c 1 b ∗ OldPre C c 1 b)
def FetchPost (b : Fin 12) : sProp 𝕄 := iprop((FlyRow C c 0 b ∗ FlyOld C c 0 b) ∗ FlyRow C c 1 b ∗ FlyOld C c 1 b)

abbrev Tab : sProp 𝕄 := (tabM.view.loc (c : Thread nD τ) ↦{fullShare} (C tabM.view.ref))

def Loop2 (n : ℕ) : sProp 𝕄 := iprop(Tab C c ∗ Len C c ∗ bigSep Finset.univ fun b : Fin 12 => if b.val < n then FetchPost C c b else FetchPre C c b)

theorem trips2 : k0_t2_loop.trips = 12 := by decide

theorem off4 (t : Fin k0_t2_loop.trips) : k0_off4 t = ![2 * t.val + 0] := by revert t; decide
theorem off5 (t : Fin k0_t2_loop.trips) : k0_off5 t = ![2 * t.val + 0, 0, 0] := by revert t; decide
theorem off7 (t : Fin k0_t2_loop.trips) : k0_off7 t 0#32 = ![2 * t.val + 0] := by revert t; decide
theorem off7' (t : Fin k0_t2_loop.trips) : k0_off7 t 1#32 = ![2 * t.val + 1] := by revert t; decide
theorem off8 (t : Fin k0_t2_loop.trips) : k0_off8 t 0#32 = ![2 * t.val + 0, 0, 0] := by revert t; decide
theorem off8' (t : Fin k0_t2_loop.trips) : k0_off8 t 1#32 = ![2 * t.val + 1, 0, 0] := by revert t; decide
theorem off10 (t : Fin k0_t2_loop.trips) : k0_off10 t = ![2 * t.val + 1, 0, 0] := by revert t; decide

section Cp
variable {α : Type} (Q : α → sProp (MT nD τ sig Unit (Elt F) ℕ (Pipeline.UD sig nD τ) ℕ)) (G : Good C) (kv : Fin 2) (t : Fin k0_t2_loop.trips) (b : Fin 12) (hb : b.val = t.val)
include G hb

theorem row_cp (k : Tr F α) (h) (h2 : k0_chk2 (pageV C t h)) (off : Fin 3 → ℕ) (ho : off = ![2 * t.val + kv.val, 0, 0]) (hi) (so : Fin 1 → ℕ) (hso : so = ![2 * t.val + kv.val]) (hsi)
    (hN : (rowBlk off hi).view.amount (.dma (semOf cc0_scratch9 so hsi)) = rowN) :
    RowPre C c kv b ⊢ iprop((FlyRow C c kv b -∗ twp C defs 𝒱 c Q k) -∗ twp C defs 𝒱 c Q
      (.enq (scaPg (scaOf kv) (pageV C t h) (k0_off6_inb _ h2)) (rowBlk off hi) .same (.dma (semOf cc0_scratch9 so hsi)) k)) := by
  have hs : semOf cc0_scratch9 so hsi = sem24 cc0_scratch9 (uIx kv b) := semOf_eq _ _ _ _ (by rw [hso]; show _ = ![2 * b.val + kv.val]; rw [hb])
  unfold RowPre FlyRow
  rw [← hs]
  exact twp_cp C defs 𝒱 c Q (scaPg (scaOf kv) (pageV C t h) (k0_off6_inb _ h2)) (rowBlk off hi) (.dma (semOf cc0_scratch9 so hsi)) k rowN hN
    (Nat.pos_of_ne_zero (by decide)) (qOf b) (lead (uIx kv b).val) (rowBlk_set off hi _ (by rw [ho]; show _ = ![2 * b.val + kv.val, 0, 0]; rw [hb]))
    (G.row kv t h h2 off ho hi)

theorem old_cp (k : Tr F α) (h) (h2 : k0_chk2 (pageV C t h)) (off : Fin 3 → ℕ) (ho : off = ![2 * t.val + kv.val, 0, 0]) (hi) (so : Fin 1 → ℕ) (hso : so = ![2 * t.val + kv.val]) (hsi)
    (hN : (oldBlk off hi).view.amount (.dma (semOf cc0_scratch8 so hsi)) = oldN) :
    OldPre C c kv b ⊢ iprop((FlyOld C c kv b -∗ twp C defs 𝒱 c Q k) -∗ twp C defs 𝒱 c Q
      (.enq (pagPg (pagOf kv) (pageV C t h) (k0_off9_inb _ h2)) (oldBlk off hi) .same (.dma (semOf cc0_scratch8 so hsi)) k)) := by
  have hs : semOf cc0_scratch8 so hsi = sem24 cc0_scratch8 (uIx kv b) := semOf_eq _ _ _ _ (by rw [hso]; show _ = ![2 * b.val + kv.val]; rw [hb])
  unfold OldPre FlyOld
  rw [← hs]
  exact twp_cp C defs 𝒱 c Q (pagPg (pagOf kv) (pageV C t h) (k0_off9_inb _ h2)) (oldBlk off hi) (.dma (semOf cc0_scratch8 so hsi)) k oldN hN
    (Nat.pos_of_ne_zero (by decide)) (qOf b) (lead (uIx kv b).val) (oldBlk_set off hi _ (by rw [ho]; show _ = ![2 * b.val + kv.val, 0, 0]; rw [hb]))
    (G.old kv t h h2 off ho hi)

end Cp

theorem fetch_run (G : Good C) (t : Fin k0_t2_loop.trips) (Q : PUnit → sProp 𝕄) :
    Loop2 C c t.val ⊢ iprop((Loop2 C c (t.val + 1) -∗ Q ⟨⟩) -∗ twp C defs 𝒱 c Q (fetchTr C t)) := by
  unfold Loop2 fetchTr
  iintro ⟨HT, HL, HR⟩ Hk
  have hb : t.val < 12 := lt_of_lt_of_eq t.isLt trips2
  ihave HR' := (reqs_step (FetchPre C c) (FetchPost C c) ⟨t.val, hb⟩) $$ HR
  icases HR' with ⟨Hb, Hr⟩
  have h1 := G.chk1 t
  have h2 := G.chk2 t h1
  iapply (twp_load C defs 𝒱 c Q lenM (len2Rect t).toLoadRect _ (S := Finset.univ) (q := fullShare) (Finset.subset_univ _)) $$ HL
  iintro HL
  iapply (twp_asm C defs 𝒱 c Q h1 _)
  iapply (twp_load C defs 𝒱 c Q tabM (tab1Rect t (len2V C t) h1).toLoadRect _ (S := Finset.univ) (q := fullShare) (Finset.subset_univ _)) $$ HT
  iintro HT
  iapply (twp_asm C defs 𝒱 c Q h2 _)
  unfold FetchPre
  icases Hb with ⟨⟨HR0, HO0⟩, HR1, HO1⟩
  iapply (row_cp C defs 𝒱 c Q G 0 t ⟨t.val, hb⟩ rfl _ h1 h2 _ (off5 t) _ _ (off4 t) _ rfl) $$ [HR0]
  · iexact HR0
  iintro HR0
  iapply (old_cp C defs 𝒱 c Q G 0 t ⟨t.val, hb⟩ rfl _ h1 h2 _ (off8 t) _ _ (off7 t) _ rfl) $$ [HO0]
  · iexact HO0
  iintro HO0
  iapply (row_cp C defs 𝒱 c Q G 1 t ⟨t.val, hb⟩ rfl _ h1 h2 _ (off10 t) _ _ (off7' t) _ rfl) $$ [HR1]
  · iexact HR1
  iintro HR1
  iapply (old_cp C defs 𝒱 c Q G 1 t ⟨t.val, hb⟩ rfl _ h1 h2 _ (off8' t) _ _ (off7' t) _ rfl) $$ [HO1]
  · iexact HO1
  iintro HO1
  iapply (show Q ⟨⟩ ⊢ twp C defs 𝒱 c Q (.ret ⟨⟩) from Entails.rfl)
  iapply Hk
  isplitl [HT]; · iexact HT
  isplitl [HL]; · iexact HL
  iapply Hr
  unfold FetchPost
  isplitl [HR0 HO0]
  · isplitl [HR0]; · iexact HR0
    iexact HO0
  isplitl [HR1]; · iexact HR1
  iexact HO1

end Cert.Kernel.Run
end
-- ==== Proof.Late.lean ====
/- The pieces after the main loop: the copies out are waited for, and the scales go out. -/
module

public import proofs.«01_k».proof.Proof.Early

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel
open Shapes1.Facts₀ K0.Facts₀

variable {F : FTy → Type} [FloatOps F]

local notation "𝕄" => MT nD τ sig Unit (Elt F) ℕ (Pipeline.UD sig nD τ) ℕ

variable (C : (b : Ref sig .tc) → b.ty.Contents (Elt F)) (defs : Defs nD τ sig (Elt F) Λ₀) (𝒱 : Variants) (c : Dev nD)

theorem outN_pos : 0 < outN := Nat.pos_of_ne_zero (by decide)
theorem scN_pos : 0 < scN := Nat.pos_of_ne_zero (by decide)

def Loop4 (n : ℕ) : sProp 𝕄 :=
  if n < 12 then iprop(OutB C c 24 (2 * n * outN) ∗ Owe c)
  else iprop(bigSep Finset.univ (outD C c) ∗ Z c cc0_scratch11.sem ∗ Owe c)

theorem below (t N : ℕ) (h : t < 12) (hN : 0 < N) : 2 * t * N + N < N * 24 := by
  have h1 := Nat.mul_lt_mul_of_pos_right (show 2 * t + 1 < 24 by omega) hN
  rw [Nat.add_mul, Nat.one_mul] at h1
  omega

theorem below' (t N : ℕ) (h : t + 1 < 12) (hN : 0 < N) : 2 * t * N + N + N < N * 24 := by
  have h1 := Nat.mul_lt_mul_of_pos_right (show 2 * t + 2 < 24 by omega) hN
  rw [Nat.add_mul] at h1
  omega

theorem twice (t N : ℕ) : 2 * t * N + N + N = 2 * (t + 1) * N := by
  rw [show 2 * (t + 1) = 2 * t + 2 by omega, Nat.add_mul]
  omega

theorem trips4 : k0_t4_loop.trips = 12 := by decide

theorem drain_run (t : Fin k0_t4_loop.trips) (Q : PUnit → sProp 𝕄) :
    Loop4 C c t.val ⊢ iprop((Loop4 C c (t.val + 1) -∗ Q ⟨⟩)
      -∗ twp C defs 𝒱 c Q (.wait cc0_scratch11.sem main_v2_0 S6656x128 .fp8e4m3 (.wait cc0_scratch11.sem main_v2_2 S6656x128 .fp8e4m3 (.ret ⟨⟩)))) := by
  have ht : t.val < 12 := lt_of_lt_of_eq t.isLt trips4
  have hN := outN_pos
  unfold Loop4
  rw [if_pos ht]
  iintro ⟨HB, HO⟩ Hk
  iapply (twp_waitB C defs 𝒱 c Q cc0_scratch11.sem _ outN rfl (outD C c) (2 * t.val * outN) (below _ _ ht hN)) $$ [HB HO]
  · isplitl [HB]; · iexact HB
    iexact HO
  iintro ⟨HB, HO⟩
  by_cases h : t.val + 1 < 12
  · rw [if_pos h]
    iapply (twp_waitB C defs 𝒱 c Q cc0_scratch11.sem _ outN (show (main_v2_2).dmaCredit S6656x128 .fp8e4m3 = outN from rfl) (outD C c) (2 * t.val * outN + outN) (below' _ _ h hN)) $$ [HB HO]
    · isplitl [HB]; · iexact HB
      iexact HO
    rw [twice]
    iintro H
    iapply (show Q ⟨⟩ ⊢ twp C defs 𝒱 c Q (.ret ⟨⟩) from Entails.rfl)
    iapply Hk $$ H
  · rw [if_neg h]
    have ht' : t.val = 11 := by omega
    iapply (twp_waitBLast C defs 𝒱 c Q cc0_scratch11.sem _ outN (show (main_v2_2).dmaCredit S6656x128 .fp8e4m3 = outN from rfl) hN (outD C c) (2 * t.val * outN + outN) (by rw [ht']; omega)) $$ [HB HO]
    · isplitl [HB]; · iexact HB
      iexact HO
    iintro H
    iapply (show Q ⟨⟩ ⊢ twp C defs 𝒱 c Q (.ret ⟨⟩) from Entails.rfl)
    iapply Hk $$ H

abbrev ScHalf (kv : Fin 2) : sProp 𝕄 := (scM.view.loc (c : Thread nD τ) ↦[lead kv.val]{fullShare} (C scM.view.ref))
abbrev ScOutAt (kv : Fin 2) : sProp 𝕄 := ((scOutOf kv).view.loc (c : Thread nD τ) ↦{fullShare} (C (scOutOf kv).view.ref))
abbrev ScOutAny (kv : Fin 2) : sProp 𝕄 := iprop(∃ f, (scOutOf kv).view.loc (c : Thread nD τ) ↦{fullShare} f)

/-- What the copy of a half of the scales leaves. -/
def scD (kv : Fin 2) : sProp 𝕄 := iprop(ScOutAt C c kv ∗ ScHalf C c kv)

abbrev ScB (j u : ℕ) : sProp 𝕄 := Bt c cc0_scratch12.sem scN (scD C c) j u

theorem scOut_set (kv : Fin 2) : (scOutOf kv).view.set = Finset.univ := by
  match kv with
  | 0 => exact View.set_whole _
  | 1 => exact View.set_whole _

theorem sc_cp (Q : PUnit → sProp 𝕄) (G : Good C) (kv : Fin 2) (off : Fin 4 → ℕ) (ho : off = ![kv.val, 0, 0, 0]) (h) (k : Tr F PUnit)
    (hN : (scOutOf kv).view.amount (.dma cc0_scratch12.sem) = scN) :
    iprop(ScHalf C c kv ∗ ScOutAny c kv ∗ ScB C c kv.val 0) ⊢ iprop((ScB C c (kv.val + 1) 0 -∗ twp C defs 𝒱 c Q k)
      -∗ twp C defs 𝒱 c Q (.enq (scBlk off h) (scOutOf kv) .same (.dma cc0_scratch12.sem) k)) := by
  refine twp_cpB C defs 𝒱 c Q (scBlk off h) (scOutOf kv) cc0_scratch12.sem k scN hN fullShare (scD C c) kv.val kv.isLt
    (lead kv.val) (scBlk_set off h _ ho) Finset.univ (scOut_set kv) (G.scOut kv off ho h) ?_
  unfold scD
  exact Entails.rfl

end Cert.Kernel.Run
end
-- ==== Proof.Body.lean ====
/- The kernel's body, from its first copies to its last wait. -/
module

public import proofs.«01_k».proof.Proof.Late

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel
open Shapes1.Facts₀ K0.Facts₀

variable {F : FTy → Type} [FloatOps F]

local notation "𝕄" => MT nD τ sig Unit (Elt F) ℕ (Pipeline.UD sig nD τ) ℕ

variable (C : (b : Ref sig .tc) → b.ty.Contents (Elt F)) (defs : Defs nD τ sig (Elt F) Λ₀) (𝒱 : Variants) (c : Dev nD)

/-- A program whose trace runs. -/
theorem piece {p : Prog (TpuEff nD τ sig (Elt F) Λ₀ .tc) PUnit} {T : Tr F PUnit} (hT : resolve C p = T) {P R : sProp 𝕄}
    (h : ∀ Q : PUnit → sProp 𝕄, P ⊢ iprop((R -∗ Q ⟨⟩) -∗ twp C defs 𝒱 c Q T)) (Q : PUnit → sProp 𝕄) :
    P ⊢ iprop((R -∗ Q ⟨⟩) -∗ wp frame (wpE defs 𝒱 (c : Thread nD τ) none) Set.univ p Q) := by
  subst hT
  iintro HP Hk
  iapply (wp_of_twp C defs 𝒱 c Q p)
  iapply (h Q) $$ HP
  iexact Hk

/-- A piece before the rest of a program. -/
theorem seq {p k : Prog (TpuEff nD τ sig (Elt F) Λ₀ .tc) PUnit} {P R : sProp 𝕄}
    (h : ∀ Q : PUnit → sProp 𝕄, P ⊢ iprop((R -∗ Q ⟨⟩) -∗ wp frame (wpE defs 𝒱 (c : Thread nD τ) none) Set.univ p Q)) (Q : PUnit → sProp 𝕄) :
    P ⊢ iprop((R -∗ wp frame (wpE defs 𝒱 (c : Thread nD τ) none) Set.univ k Q)
      -∗ wp frame (wpE defs 𝒱 (c : Thread nD τ) none) Set.univ (p >>= fun _ => k) Q) := by
  rw [wp_bind]
  exact h fun _ => wp frame (wpE defs 𝒱 (c : Thread nD τ) none) Set.univ k Q

theorem wp_done (Q : PUnit → sProp 𝕄) : Q ⟨⟩ ⊢ wp frame (wpE defs 𝒱 (c : Thread nD τ) none) Set.univ (pure ⟨⟩ : Prog (TpuEff nD τ sig (Elt F) Λ₀ .tc) PUnit) Q :=
  le_wp_ret _ _ _ _ _

theorem twp_done (Q : PUnit → sProp 𝕄) : Q ⟨⟩ ⊢ twp C defs 𝒱 c Q (.ret ⟨⟩) := Entails.rfl

abbrev TabA : sProp 𝕄 := Sh C c tabA fullShare
abbrev LenA : sProp 𝕄 := Sh C c lenA fullShare
abbrev TabPre : sProp 𝕄 := iprop(TabA C c ∗ (∃ f, tabM.view.loc (c : Thread nD τ) ↦{fullShare} f) ∗ Z c (sem2 cc0_scratch10 0))
abbrev LenPre : sProp 𝕄 := iprop(LenA C c ∗ (∃ f, lenM.view.loc (c : Thread nD τ) ↦{fullShare} f) ∗ Z c (sem2 cc0_scratch10 1))
def tabN : ℕ := (cc0_scratch5).dmaCredit S12x141 .i32
def lenN : ℕ := (cc0_scratch6).dmaCredit S12 .i32
abbrev FlyTab : sProp 𝕄 := Fly c (.dma (sem2 cc0_scratch10 0)) tabN (tabA.view.loc (c : Thread nD τ)) fullShare (C tabA.view.ref) (Tab C c)
abbrev FlyLen : sProp 𝕄 := Fly c (.dma (sem2 cc0_scratch10 1)) lenN (lenA.view.loc (c : Thread nD τ)) fullShare (C lenA.view.ref) (Len C c)

variable (G : Good C)
include G

theorem run392 (Q : PUnit → sProp 𝕄) : iprop(TabPre C c ∗ LenPre C c ∗ In C c 0 0 ∗ In C c 1 0)
    ⊢ iprop(((FlyTab C c ∗ FlyLen C c ∗ In C c 0 2 ∗ In C c 1 1) -∗ Q ⟨⟩) -∗ wp frame (wpE defs 𝒱 (c : Thread nD τ) none) Set.univ (part392 (F := F)) Q) := by
  refine piece C defs 𝒱 c (part392_eq C) (fun Q => ?_) Q
  iintro ⟨HT, HL, H0, H1⟩ Hk
  iapply (twp_cp C defs 𝒱 c Q tabA tabM (.dma (sem2 cc0_scratch10 0)) _ tabN rfl (Nat.pos_of_ne_zero (by decide)) fullShare Finset.univ (View.set_whole _) G.tab) $$ [HT]
  · iexact HT
  iintro HT
  iapply (twp_cp C defs 𝒱 c Q lenA lenM (.dma (sem2 cc0_scratch10 1)) _ lenN rfl (Nat.pos_of_ne_zero (by decide)) fullShare Finset.univ (View.set_whole _) G.len) $$ [HL]
  · iexact HL
  iintro HL
  iapply (in_step C defs 𝒱 c Q G 0 0 _) $$ [H0]
  · iexact H0
  iintro H0
  iapply (in_step C defs 𝒱 c Q G 1 0 _) $$ [H1]
  · iexact H1
  iintro H1
  iapply (in_step C defs 𝒱 c Q G 0 1 _) $$ [H0]
  · iexact H0
  iintro H0
  iapply (twp_done C defs 𝒱 c Q)
  iapply Hk
  isplitl [HT]; · iexact HT
  isplitl [HL]; · iexact HL
  isplitl [H0]; · iexact H0
  iexact H1

theorem in_piece {p : Prog (TpuEff nD τ sig (Elt F) Λ₀ .tc) PUnit} (kv : Fin 2) (b : Fin 12) (hp : resolve C p = inCp b kv (.ret ⟨⟩)) (Q : PUnit → sProp 𝕄) :
    In C c kv b.val ⊢ iprop((In C c kv (b.val + 1) -∗ Q ⟨⟩) -∗ wp frame (wpE defs 𝒱 (c : Thread nD τ) none) Set.univ p Q) := by
  refine piece C defs 𝒱 c hp (fun Q => ?_) Q
  exact in_step C defs 𝒱 c Q G kv b (.ret ⟨⟩)

theorem run394 (Q : PUnit → sProp 𝕄) : iprop(In C c 0 3 ∗ In C c 1 3)
    ⊢ iprop(((In C c 0 5 ∗ In C c 1 5) -∗ Q ⟨⟩) -∗ wp frame (wpE defs 𝒱 (c : Thread nD τ) none) Set.univ (part394 (F := F)) Q) := by
  refine piece C defs 𝒱 c (part394_eq C) (fun Q => ?_) Q
  iintro ⟨H0, H1⟩ Hk
  iapply (in_step C defs 𝒱 c Q G 0 3 _) $$ [H0]
  · iexact H0
  iintro H0
  iapply (in_step C defs 𝒱 c Q G 1 3 _) $$ [H1]
  · iexact H1
  iintro H1
  iapply (in_step C defs 𝒱 c Q G 0 4 _) $$ [H0]
  · iexact H0
  iintro H0
  iapply (in_step C defs 𝒱 c Q G 1 4 _) $$ [H1]
  · iexact H1
  iintro H1
  iapply (twp_done C defs 𝒱 c Q)
  iapply Hk
  isplitl [H0]; · iexact H0
  iexact H1

theorem run395 (Q : PUnit → sProp 𝕄) : iprop(In C c 0 5 ∗ In C c 1 5)
    ⊢ iprop(((In C c 0 8 ∗ In C c 1 7) -∗ Q ⟨⟩) -∗ wp frame (wpE defs 𝒱 (c : Thread nD τ) none) Set.univ (part395 (F := F)) Q) := by
  refine piece C defs 𝒱 c (part395_eq C) (fun Q => ?_) Q
  iintro ⟨H0, H1⟩ Hk
  iapply (in_step C defs 𝒱 c Q G 0 5 _) $$ [H0]
  · iexact H0
  iintro H0
  iapply (in_step C defs 𝒱 c Q G 1 5 _) $$ [H1]
  · iexact H1
  iintro H1
  iapply (in_step C defs 𝒱 c Q G 0 6 _) $$ [H0]
  · iexact H0
  iintro H0
  iapply (in_step C defs 𝒱 c Q G 1 6 _) $$ [H1]
  · iexact H1
  iintro H1
  iapply (in_step C defs 𝒱 c Q G 0 7 _) $$ [H0]
  · iexact H0
  iintro H0
  iapply (twp_done C defs 𝒱 c Q)
  iapply Hk
  isplitl [H0]; · iexact H0
  iexact H1

theorem run396 (Q : PUnit → sProp 𝕄) : iprop(In C c 0 8 ∗ In C c 1 7)
    ⊢ iprop(((In C c 0 10 ∗ In C c 1 9) -∗ Q ⟨⟩) -∗ wp frame (wpE defs 𝒱 (c : Thread nD τ) none) Set.univ (part396 (F := F)) Q) := by
  refine piece C defs 𝒱 c (part396_eq C) (fun Q => ?_) Q
  iintro ⟨H0, H1⟩ Hk
  iapply (in_step C defs 𝒱 c Q G 1 7 _) $$ [H1]
  · iexact H1
  iintro H1
  iapply (in_step C defs 𝒱 c Q G 0 8 _) $$ [H0]
  · iexact H0
  iintro H0
  iapply (in_step C defs 𝒱 c Q G 1 8 _) $$ [H1]
  · iexact H1
  iintro H1
  iapply (in_step C defs 𝒱 c Q G 0 9 _) $$ [H0]
  · iexact H0
  iintro H0
  iapply (twp_done C defs 𝒱 c Q)
  iapply Hk
  isplitl [H0]; · iexact H0
  iexact H1

theorem run397 (Q : PUnit → sProp 𝕄) : iprop(In C c 0 10 ∗ In C c 1 9)
    ⊢ iprop(((In C c 0 12 ∗ In C c 1 11) -∗ Q ⟨⟩) -∗ wp frame (wpE defs 𝒱 (c : Thread nD τ) none) Set.univ (part397 (F := F)) Q) := by
  refine piece C defs 𝒱 c (part397_eq C) (fun Q => ?_) Q
  iintro ⟨H0, H1⟩ Hk
  iapply (in_step C defs 𝒱 c Q G 1 9 _) $$ [H1]
  · iexact H1
  iintro H1
  iapply (in_step C defs 𝒱 c Q G 0 10 _) $$ [H0]
  · iexact H0
  iintro H0
  iapply (in_step C defs 𝒱 c Q G 1 10 _) $$ [H1]
  · iexact H1
  iintro H1
  iapply (in_step C defs 𝒱 c Q G 0 11 _) $$ [H0]
  · iexact H0
  iintro H0
  iapply (twp_done C defs 𝒱 c Q)
  iapply Hk
  isplitl [H0]; · iexact H0
  iexact H1

/-- What the copies of the table and the lengths leave, besides the tables. -/
abbrev TabBack : sProp 𝕄 := iprop((TabA C c ∗ Z c (sem2 cc0_scratch10 0)) ∗ LenA C c ∗ Z c (sem2 cc0_scratch10 1))

theorem loop1 (b1 : Fin k0_t1_loop.trips → PUnit → Prog (TpuEff nD τ sig (Elt F) Λ₀ .tc) PUnit) (h : ∀ C t, resolve C (b1 t ⟨⟩) = padTr (F := F) t)
    (k : Prog (TpuEff nD τ sig (Elt F) Λ₀ .tc) PUnit) (Q : PUnit → sProp 𝕄) :
    Zeroed C c 0 ⊢ iprop((Zeroed C c k0_t1_loop.trips -∗ wp frame (wpE defs 𝒱 (c : Thread nD τ) none) Set.univ k Q)
      -∗ wp frame (wpE defs 𝒱 (c : Thread nD τ) none) Set.univ (Scf.Loop.for k0_t1_loop k0_t1_ok ⟨⟩ b1 >>= fun _ => k) Q) := by
  have X := Scf.wp_for_bind frame (wpE defs 𝒱 (c : Thread nD τ) none) Set.univ k0_t1_loop.lb k0_t1_loop.ub k0_t1_loop.st k0_t1_ok PUnit.unit b1 (fun n _ => Zeroed C c n)
    (fun t _ => pad_body C defs 𝒱 c G t (b1 t ⟨⟩) fun C' => h C' t) (kk := fun _ => k) (Q := Q)
  refine X.trans ?_
  iintro Hk Hk'
  iapply Hk
  iintro %_ H
  iapply Hk' $$ H

theorem loop2 (b2 : Fin k0_t2_loop.trips → PUnit → Prog (TpuEff nD τ sig (Elt F) Λ₀ .tc) PUnit) (h : ∀ C t, resolve C (b2 t ⟨⟩) = fetchTr (F := F) C t)
    (k : Prog (TpuEff nD τ sig (Elt F) Λ₀ .tc) PUnit) (Q : PUnit → sProp 𝕄) :
    Loop2 C c 0 ⊢ iprop((Loop2 C c k0_t2_loop.trips -∗ wp frame (wpE defs 𝒱 (c : Thread nD τ) none) Set.univ k Q)
      -∗ wp frame (wpE defs 𝒱 (c : Thread nD τ) none) Set.univ (Scf.Loop.for k0_t2_loop k0_t2_ok ⟨⟩ b2 >>= fun _ => k) Q) := by
  have X := Scf.wp_for_bind frame (wpE defs 𝒱 (c : Thread nD τ) none) Set.univ k0_t2_loop.lb k0_t2_loop.ub k0_t2_loop.st k0_t2_ok PUnit.unit b2 (fun n _ => Loop2 C c n)
    (fun t _ => by
      iintro H
      iapply (piece C defs 𝒱 c (h C t) (fun Q => fetch_run C defs 𝒱 c G t Q) _) $$ [H]
      · iexact H
      iintro H
      iexact H) (kk := fun _ => k) (Q := Q)
  refine X.trans ?_
  iintro Hk Hk'
  iapply Hk
  iintro %_ H
  iapply Hk' $$ H

omit G in
theorem wait_tab {p : Prog (TpuEff nD τ sig (Elt F) Λ₀ .tc) PUnit} (hp : resolve C p = .wait (sem2 cc0_scratch10 0) cc0_scratch5 S12x141 .i32 (.ret ⟨⟩)) (Q : PUnit → sProp 𝕄) :
    iprop(FlyTab C c ∗ Owe c) ⊢ iprop(((Tab C c ∗ TabA C c ∗ Z c (sem2 cc0_scratch10 0) ∗ Owe c) -∗ Q ⟨⟩) -∗ wp frame (wpE defs 𝒱 (c : Thread nD τ) none) Set.univ p Q) := by
  refine piece C defs 𝒱 c hp (fun Q => ?_) Q
  exact twp_wait C defs 𝒱 c Q (sem2 cc0_scratch10 0) (.ret ⟨⟩) tabN rfl (tabA.view.loc (c : Thread nD τ)) fullShare (C tabA.view.ref) (Tab C c)

omit G in
theorem wait_len {p : Prog (TpuEff nD τ sig (Elt F) Λ₀ .tc) PUnit} (hp : resolve C p = .wait (sem2 cc0_scratch10 1) cc0_scratch6 S12 .i32 (.ret ⟨⟩)) (Q : PUnit → sProp 𝕄) :
    iprop(FlyLen C c ∗ Owe c) ⊢ iprop(((Len C c ∗ LenA C c ∗ Z c (sem2 cc0_scratch10 1) ∗ Owe c) -∗ Q ⟨⟩) -∗ wp frame (wpE defs 𝒱 (c : Thread nD τ) none) Set.univ p Q) := by
  refine piece C defs 𝒱 c hp (fun Q => ?_) Q
  exact twp_wait C defs 𝒱 c Q (sem2 cc0_scratch10 1) (.ret ⟨⟩) lenN rfl (lenA.view.loc (c : Thread nD τ)) fullShare (C lenA.view.ref) (Len C c)

theorem run393 (Q : PUnit → sProp 𝕄) : iprop((FlyTab C c ∗ FlyLen C c ∗ In C c 0 2 ∗ In C c 1 1) ∗ Zeroed C c 0 ∗ Owe c
      ∗ bigSep Finset.univ fun b : Fin 12 => if b.val < 0 then FetchPost C c b else FetchPre C c b)
    ⊢ iprop(((In C c 0 3 ∗ In C c 1 3 ∗ TabBack C c ∗ Zeroed C c k0_t1_loop.trips ∗ Owe c ∗ Loop2 C c k0_t2_loop.trips) -∗ Q ⟨⟩)
      -∗ wp frame (wpE defs 𝒱 (c : Thread nD τ) none) Set.univ (part393 (F := F)) Q) := by
  obtain ⟨e1, e2, e3, w1, w2, b1, b2, heq, h1, h2, h3, h4, h5, h6, h7⟩ := part393_eq (F := F)
  rw [heq]
  iintro ⟨⟨HT, HL, H0, H1⟩, HZ, HO, HF⟩ Hk
  iapply (seq defs 𝒱 c (in_piece C defs 𝒱 c G 1 1 (h1 C)) Q) $$ [H1]
  · iexact H1
  iintro H1
  iapply (seq defs 𝒱 c (in_piece C defs 𝒱 c G 0 2 (h2 C)) Q) $$ [H0]
  · iexact H0
  iintro H0
  iapply (seq defs 𝒱 c (in_piece C defs 𝒱 c G 1 2 (h3 C)) Q) $$ [H1]
  · iexact H1
  iintro H1
  iapply (loop1 C defs 𝒱 c G b1 h6 _ Q) $$ [HZ]
  · iexact HZ
  iintro HZ
  iapply (seq defs 𝒱 c (wait_tab C defs 𝒱 c (h4 C)) Q) $$ [HT HO]
  · isplitl [HT]; · iexact HT
    iexact HO
  iintro ⟨HT, HTA, HTZ, HO⟩
  iapply (seq defs 𝒱 c (wait_len C defs 𝒱 c (h5 C)) Q) $$ [HL HO]
  · isplitl [HL]; · iexact HL
    iexact HO
  iintro ⟨HL, HLA, HLZ, HO⟩
  iapply (loop2 C defs 𝒱 c G b2 h7 _ Q) $$ [HT HL HF]
  · unfold Loop2
    isplitl [HT]; · iexact HT
    isplitl [HL]; · iexact HL
    iexact HF
  iintro HF
  iapply (wp_done defs 𝒱 c Q)
  iapply Hk
  isplitl [H0]; · iexact H0
  isplitl [H1]; · iexact H1
  isplitl [HTA HTZ HLA HLZ]
  · isplitl [HTA HTZ]
    · isplitl [HTA]; · iexact HTA
      iexact HTZ
    isplitl [HLA]; · iexact HLA
    iexact HLZ
  isplitl [HZ]; · iexact HZ
  isplitl [HO]; · iexact HO
  iexact HF

end Cert.Kernel.Run
end
-- ==== Proof.Whole.lean ====
/- The whole body: what it starts from, and what it leaves. -/
module

public import proofs.«01_k».proof.Proof.Body

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel
open Shapes1.Facts₀ K0.Facts₀

variable {F : FTy → Type} [FloatOps F]

local notation "𝕄" => MT nD τ sig Unit (Elt F) ℕ (Pipeline.UD sig nD τ) ℕ

variable (C : (b : Ref sig .tc) → b.ty.Contents (Elt F)) (defs : Defs nD τ sig (Elt F) Λ₀) (𝒱 : Variants) (c : Dev nD)

/-- A unit's own buffers before the main loop. -/
abbrev Rest1 (kv : Fin 2) (b : Fin 12) : sProp 𝕄 := iprop(OutAny c kv b ∗ ScAny c kv b ∗ ResAny c kv b)
abbrev Rest (b : Fin 12) : sProp 𝕄 := iprop(Rest1 c 0 b ∗ Rest1 c 1 b)

/-- A unit's buffers after it, the scales apart. -/
abbrev Done' (kv : Fin 2) (b : Fin 12) : sProp 𝕄 := iprop((InAt C c kv b ∗ Sh C c (tokOf kv) (qOf b) ∗ Z c (sem24 cc0_scratch7 (uIx kv b)))
  ∗ (RowAt C c kv b ∗ Sh C c (scaOf kv) (qOf b) ∗ Z c (sem24 cc0_scratch9 (uIx kv b)))
  ∗ (OldAt C c kv b ∗ Sh C c (pagOf kv) (qOf b) ∗ Z c (sem24 cc0_scratch8 (uIx kv b))))
abbrev DoneN (b : Fin 12) : sProp 𝕄 := iprop(Done' C c 0 b ∗ Done' C c 1 b)

theorem bigSep_lt12 (P R : Fin 12 → sProp 𝕄) : (bigSep Finset.univ fun b : Fin 12 => if b.val < 12 then R b else P b) = bigSep Finset.univ R :=
  bigSep_congr fun b _ => if_pos b.isLt

theorem bigSep_lt0 (P R : Fin 12 → sProp 𝕄) : (bigSep Finset.univ fun b : Fin 12 => if b.val < 0 then R b else P b) = bigSep Finset.univ P :=
  bigSep_congr fun b _ => if_neg (Nat.not_lt_zero _)

theorem big2 {T : Type} (s : Finset T) (A B : T → sProp 𝕄) : iprop(bigSep s A ∗ bigSep s B) = bigSep s fun b => iprop(A b ∗ B b) :=
  (BI.bigSep_sep s A B).symm

theorem big_mono {T : Type} (s : Finset T) (A B : T → sProp 𝕄) (h : ∀ b ∈ s, A b ⊢ B b) : bigSep s A ⊢ bigSep s B := bigSep_mono h

theorem zeroed_all : Zeroed C c k0_t1_loop.trips ⊢ Pads C c := by
  unfold Zeroed Pads
  iintro ⟨%f, %hf, Hp⟩
  have hT : k0_t1_loop.trips = 25 := by decide
  have e : (inM.view.loc (c : Thread nD τ) ↦[pads]{fullShare} f : sProp 𝕄) = (inM.view.loc (c : Thread nD τ) ↦[pads]{fullShare} (C inM.view.ref)) := pointsTo_congr (fun i hi => hf i hi (by
    have : (i 0).val < 10016 := (i 0).isLt
    omega))
  rw [← e]
  iexact Hp

theorem pend_all : iprop(In C c 0 12 ∗ In C c 1 12 ∗ (bigSep Finset.univ fun b : Fin 12 => if b.val < 12 then FetchPost C c b else FetchPre C c b)
      ∗ bigSep Finset.univ (Rest c)) ⊢ bigSep Finset.univ fun b : Fin 12 => if b.val < 0 then DoneB C c b else PendB C c b := by
  unfold In
  rw [bigSep_lt12, bigSep_lt12, bigSep_lt12, bigSep_lt0, big2, big2, big2]
  refine big_mono _ _ _ fun b _ => ?_
  unfold FetchPost PendB Pend
  iintro ⟨HI0, HI1, ⟨⟨HR0, HO0⟩, HR1, HO1⟩, ⟨HA0, HB0, HC0⟩, HA1, HB1, HC1⟩
  isplitl [HI0 HR0 HO0 HA0 HB0]
  · isplitl [HI0]; · iexact HI0
    isplitl [HR0]; · iexact HR0
    isplitl [HO0]; · iexact HO0
    isplitl [HA0]; · iexact HA0
    iexact HB0
  isplitl [HI1 HR1 HO1 HA1 HB1]
  · isplitl [HI1]; · iexact HI1
    isplitl [HR1]; · iexact HR1
    isplitl [HO1]; · iexact HO1
    isplitl [HA1]; · iexact HA1
    iexact HB1
  isplitl [HC0]; · iexact HC0
  iexact HC1

theorem sc_lead (kv : Fin 2) : (bigSep Finset.univ fun b : Fin 12 => ScAt C c kv b) = ScHalf C c kv := by
  have hd : ∀ t ∈ (Finset.univ : Finset (Fin 12)), ∀ t' ∈ (Finset.univ : Finset (Fin 12)), t ≠ t' → Disjoint (scU kv.val t.val) (scU kv.val t'.val) := by
    intro t _ t' _ hne
    rw [Finset.disjoint_left]
    intro x hx hx'
    exact hne (Fin.ext ((Finset.mem_filter.1 hx).2.2.symm.trans (Finset.mem_filter.1 hx').2.2))
  have hu : (Finset.univ : Finset (Fin 12)).biUnion (fun b => scU kv.val b.val) = lead kv.val := by
    ext x
    rw [Finset.mem_biUnion, mem_lead]
    constructor
    · rintro ⟨b, -, hb⟩
      exact (Finset.mem_filter.1 hb).2.1
    · intro hx
      exact ⟨⟨(x 1).val, (x 1).isLt⟩, Finset.mem_univ _, Finset.mem_filter.2 ⟨Finset.mem_univ _, hx, rfl⟩⟩
  have e := pointsTo_biUnion (Ix := Unit) (Name := ℕ) (U := Pipeline.UD sig nD τ) (Lvl := ℕ) (ℓ := scM.view.loc (c : Thread nD τ)) (q := fullShare) (f := C scM.view.ref) Finset.univ (fun b : Fin 12 => scU kv.val b.val) hd
  rw [hu] at e
  exact e.symm

theorem done_all : (bigSep Finset.univ fun b : Fin 12 => if b.val < 12 then DoneB C c b else PendB C c b)
    ⊢ iprop(bigSep Finset.univ (DoneN C c) ∗ ScHalf C c 0 ∗ ScHalf C c 1) := by
  rw [bigSep_lt12, ← sc_lead C c 0, ← sc_lead C c 1, big2, big2]
  refine big_mono _ _ _ fun b _ => ?_
  unfold DoneB Done
  iintro ⟨⟨H0, H1, H2, H3⟩, H4, H5, H6, H7⟩
  isplitl [H0 H1 H2 H4 H5 H6]
  · isplitl [H0 H1 H2]
    · isplitl [H0]; · iexact H0
      isplitl [H1]; · iexact H1
      iexact H2
    · isplitl [H4]; · iexact H4
      isplitl [H5]; · iexact H5
      iexact H6
  isplitl [H3]; · iexact H3
  iexact H7

/-- The body's starting state. -/
def Start : sProp 𝕄 := iprop((TabPre C c ∗ LenPre C c ∗ In C c 0 0 ∗ In C c 1 0) ∗ Zeroed C c 0 ∗ Owe c ∗ bigSep Finset.univ (FetchPre C c) ∗ bigSep Finset.univ (Rest c)
  ∗ ScOutAny c 0 ∗ ScOutAny c 1 ∗ Z c cc0_scratch11.sem ∗ Z c cc0_scratch12.sem)

/-- The body's last state. -/
def End : sProp 𝕄 := iprop(Pads C c ∗ Owe c ∗ Len C c ∗ Tab C c ∗ TabBack C c ∗ bigSep Finset.univ (DoneN C c)
  ∗ (bigSep Finset.univ (outD C c) ∗ Z c cc0_scratch11.sem) ∗ bigSep Finset.univ (scD C c) ∗ Z c cc0_scratch12.sem)

section Loops

theorem wait_sc0 {p : Prog (TpuEff nD τ sig (Elt F) Λ₀ .tc) PUnit} (hp : resolve C p = .wait cc0_scratch12.sem main_v2_1 S12x13x16 .f32 (.ret ⟨⟩)) (Q : PUnit → sProp 𝕄) :
    iprop(ScB C c 2 0 ∗ Owe c) ⊢ iprop(((ScB C c 2 scN ∗ Owe c) -∗ Q ⟨⟩) -∗ wp frame (wpE defs 𝒱 (c : Thread nD τ) none) Set.univ p Q) := by
  refine piece C defs 𝒱 c hp (fun Q => ?_) Q
  have X := twp_waitB C defs 𝒱 c Q cc0_scratch12.sem (.ret ⟨⟩) scN (show (main_v2_1).dmaCredit S12x13x16 .f32 = scN from rfl) (scD C c) 0 (by have := scN_pos; omega)
  rw [Nat.zero_add] at X
  exact X

theorem wait_sc1 {p : Prog (TpuEff nD τ sig (Elt F) Λ₀ .tc) PUnit} (hp : resolve C p = .wait cc0_scratch12.sem main_v2_3 S12x13x16 .f32 (.ret ⟨⟩)) (Q : PUnit → sProp 𝕄) :
    iprop(ScB C c 2 scN ∗ Owe c) ⊢ iprop(((bigSep Finset.univ (scD C c) ∗ Z c cc0_scratch12.sem ∗ Owe c) -∗ Q ⟨⟩) -∗ wp frame (wpE defs 𝒱 (c : Thread nD τ) none) Set.univ p Q) := by
  refine piece C defs 𝒱 c hp (fun Q => ?_) Q
  exact twp_waitBLast C defs 𝒱 c Q cc0_scratch12.sem (.ret ⟨⟩) scN (show (main_v2_3).dmaCredit S12x13x16 .f32 = scN from rfl) scN_pos (scD C c) scN (by omega)

theorem loop4 (b4 : Fin k0_t4_loop.trips → PUnit → Prog (TpuEff nD τ sig (Elt F) Λ₀ .tc) PUnit)
    (h : ∀ C t, resolve C (b4 t ⟨⟩) = .wait cc0_scratch11.sem main_v2_0 S6656x128 .fp8e4m3 (.wait cc0_scratch11.sem main_v2_2 S6656x128 .fp8e4m3 (.ret ⟨⟩)))
    (k : Prog (TpuEff nD τ sig (Elt F) Λ₀ .tc) PUnit) (Q : PUnit → sProp 𝕄) :
    Loop4 C c 0 ⊢ iprop((Loop4 C c k0_t4_loop.trips -∗ wp frame (wpE defs 𝒱 (c : Thread nD τ) none) Set.univ k Q)
      -∗ wp frame (wpE defs 𝒱 (c : Thread nD τ) none) Set.univ (Scf.Loop.for k0_t4_loop k0_t4_ok ⟨⟩ b4 >>= fun _ => k) Q) := by
  have X := Scf.wp_for_bind frame (wpE defs 𝒱 (c : Thread nD τ) none) Set.univ k0_t4_loop.lb k0_t4_loop.ub k0_t4_loop.st k0_t4_ok PUnit.unit b4 (fun n _ => Loop4 C c n)
    (fun t _ => by
      iintro H
      iapply (piece C defs 𝒱 c (h C t) (fun Q => drain_run C defs 𝒱 c t Q) _) $$ [H]
      · iexact H
      iintro H
      iexact H) (kk := fun _ => k) (Q := Q)
  refine X.trans ?_
  iintro Hk Hk'
  iapply Hk
  iintro %_ H
  iapply Hk' $$ H

variable (G : Good C)
include G

theorem loop3_body (b3 : Fin k0_t3_loop.trips → PUnit → Prog (TpuEff nD τ sig (Elt F) Λ₀ .tc) PUnit)
    (h : ∀ C t (hc : k0_cond1 t = 1#1), resolve C (b3 t ⟨⟩) = stepTr C t (midTr t hc))
    (h' : ∀ C t (_ : ¬ k0_cond1 t = 1#1), resolve C (b3 t ⟨⟩) = stepTr C t id) (t : Fin k0_t3_loop.trips) :
    Loop3 C c t.val ⊢ wp frame (wpE defs 𝒱 (c : Thread nD τ) none) Set.univ (b3 t ⟨⟩) fun _ => Loop3 C c (t.val + 1) := by
  refine BIBase.Entails.trans ?_ (wp_of_twp C defs 𝒱 c _ (b3 t ⟨⟩))
  have hb : t.val < 12 := lt_of_lt_of_eq t.isLt trips3
  have ht : trip ⟨t.val, hb⟩ = t := rfl
  by_cases hc : k0_cond1 t = 1#1
  · rw [h C t hc]
    exact loop3_pos C defs 𝒱 c G ⟨t.val, hb⟩ ((cond1 t).1 hc) hc
  · rw [h' C t hc]
    have h0 : t.val = 0 := by
      have := mt (cond1 t).2 hc
      omega
    exact loop3_zero C defs 𝒱 c G ⟨t.val, hb⟩ h0

theorem loop3 (b3 : Fin k0_t3_loop.trips → PUnit → Prog (TpuEff nD τ sig (Elt F) Λ₀ .tc) PUnit)
    (h : ∀ C t (hc : k0_cond1 t = 1#1), resolve C (b3 t ⟨⟩) = stepTr C t (midTr t hc))
    (h' : ∀ C t (_ : ¬ k0_cond1 t = 1#1), resolve C (b3 t ⟨⟩) = stepTr C t id)
    (k : Prog (TpuEff nD τ sig (Elt F) Λ₀ .tc) PUnit) (Q : PUnit → sProp 𝕄) :
    Loop3 C c 0 ⊢ iprop((Loop3 C c k0_t3_loop.trips -∗ wp frame (wpE defs 𝒱 (c : Thread nD τ) none) Set.univ k Q)
      -∗ wp frame (wpE defs 𝒱 (c : Thread nD τ) none) Set.univ (Scf.Loop.for k0_t3_loop k0_t3_ok ⟨⟩ b3 >>= fun _ => k) Q) := by
  have X := Scf.wp_for_bind frame (wpE defs 𝒱 (c : Thread nD τ) none) Set.univ k0_t3_loop.lb k0_t3_loop.ub k0_t3_loop.st k0_t3_ok PUnit.unit b3 (fun n _ => Loop3 C c n)
    (fun t _ => loop3_body C defs 𝒱 c G b3 h h' t) (kk := fun _ => k) (Q := Q)
  refine X.trans ?_
  iintro Hk Hk'
  iapply Hk
  iintro %_ H
  iapply Hk' $$ H

theorem last_out {p : Prog (TpuEff nD τ sig (Elt F) Λ₀ .tc) PUnit}
    (hp : resolve C p = .enq (outBlk ![23, 0, 0] inb_S24x6656x128_S1x6656x128_23_0_0) (resBlk vOutM ![11, 0, 0] inb_S12x6656x128_S1x6656x128_11_0_0) .same (.dma cc0_scratch11.sem) (.ret ⟨⟩))
    (Q : PUnit → sProp 𝕄) : Carry C c 12 ⊢ iprop((OutB C c 24 0 -∗ Q ⟨⟩) -∗ wp frame (wpE defs 𝒱 (c : Thread nD τ) none) Set.univ p Q) := by
  refine piece C defs 𝒱 c hp (fun Q => ?_) Q
  unfold Carry
  rw [dif_pos ⟨by decide, by decide⟩]
  have X := twp_copyOut C defs 𝒱 c Q G 1 11 ![23, 0, 0] inb_S24x6656x128_S1x6656x128_23_0_0 rfl ![11, 0, 0] inb_S12x6656x128_S1x6656x128_11_0_0 rfl (.ret PUnit.unit) rfl
  iintro ⟨HB, HO, HR⟩ Hk
  iapply X $$ [HO HR HB]
  · isplitl [HO]; · iexact HO
    isplitl [HR]; · iexact HR
    iexact HB
  iexact Hk

theorem sc_out0 {p : Prog (TpuEff nD τ sig (Elt F) Λ₀ .tc) PUnit}
    (hp : resolve C p = .enq (scBlk ![0, 0, 0, 0] inb_S2x12x13x16_S1x12x13x16_0_0_0_0) kScOutM .same (.dma cc0_scratch12.sem) (.ret ⟨⟩))
    (Q : PUnit → sProp 𝕄) : iprop(ScHalf C c 0 ∗ ScOutAny c 0 ∗ ScB C c 0 0) ⊢ iprop((ScB C c 1 0 -∗ Q ⟨⟩) -∗ wp frame (wpE defs 𝒱 (c : Thread nD τ) none) Set.univ p Q) := by
  refine piece C defs 𝒱 c hp (fun Q => ?_) Q
  exact sc_cp C defs 𝒱 c Q G 0 ![0, 0, 0, 0] rfl inb_S2x12x13x16_S1x12x13x16_0_0_0_0 (.ret PUnit.unit) rfl

theorem sc_out1 {p : Prog (TpuEff nD τ sig (Elt F) Λ₀ .tc) PUnit}
    (hp : resolve C p = .enq (scBlk ![1, 0, 0, 0] inb_S2x12x13x16_S1x12x13x16_1_0_0_0) vScOutM .same (.dma cc0_scratch12.sem) (.ret ⟨⟩))
    (Q : PUnit → sProp 𝕄) : iprop(ScHalf C c 1 ∗ ScOutAny c 1 ∗ ScB C c 1 0) ⊢ iprop((ScB C c 2 0 -∗ Q ⟨⟩) -∗ wp frame (wpE defs 𝒱 (c : Thread nD τ) none) Set.univ p Q) := by
  refine piece C defs 𝒱 c hp (fun Q => ?_) Q
  exact sc_cp C defs 𝒱 c Q G 1 ![1, 0, 0, 0] rfl inb_S2x12x13x16_S1x12x13x16_1_0_0_0 (.ret PUnit.unit) rfl

theorem run398 (Q : PUnit → sProp 𝕄) : iprop((In C c 0 12 ∗ In C c 1 11 ∗ Zeroed C c k0_t1_loop.trips ∗ Owe c ∗ Loop2 C c k0_t2_loop.trips)
      ∗ bigSep Finset.univ (Rest c) ∗ OutB C c 0 0 ∗ ScB C c 0 0 ∗ ScOutAny c 0 ∗ ScOutAny c 1)
    ⊢ iprop(((Pads C c ∗ Owe c ∗ Len C c ∗ Tab C c ∗ bigSep Finset.univ (DoneN C c)
        ∗ (bigSep Finset.univ (outD C c) ∗ Z c cc0_scratch11.sem) ∗ bigSep Finset.univ (scD C c) ∗ Z c cc0_scratch12.sem) -∗ Q ⟨⟩)
      -∗ wp frame (wpE defs 𝒱 (c : Thread nD τ) none) Set.univ (part398 (F := F)) Q) := by
  obtain ⟨e0, e1, e2, e3, w1, w2, b3, b4, heq, h1, h2, h3, h4, h5, h6, h7, h8, h9⟩ := part398_eq (F := F)
  rw [heq]
  have hl2 : Loop2 C c k0_t2_loop.trips ⊢ iprop(Tab C c ∗ Len C c ∗ bigSep Finset.univ fun b : Fin 12 => if b.val < 12 then FetchPost C c b else FetchPre C c b) := by
    rw [trips2]; unfold Loop2; exact Entails.rfl
  have hl3 : Loop3 C c k0_t3_loop.trips ⊢ iprop(Pads C c ∗ Owe c ∗ Len C c ∗ (bigSep Finset.univ fun b : Fin 12 => if b.val < 12 then DoneB C c b else PendB C c b) ∗ Carry C c 12) := by
    rw [trips3]; unfold Loop3; exact Entails.rfl
  have hl4 : Loop4 C c k0_t4_loop.trips ⊢ iprop(bigSep Finset.univ (outD C c) ∗ Z c cc0_scratch11.sem ∗ Owe c) := by
    rw [trips4]; unfold Loop4; exact Entails.rfl
  have hl40 : iprop(OutB C c 24 0 ∗ Owe c) ⊢ Loop4 C c 0 := by
    unfold Loop4; rw [if_pos (by decide), Nat.mul_zero, Nat.zero_mul]
  have hl30 : iprop(Pads C c ∗ Owe c ∗ Len C c ∗ (bigSep Finset.univ fun b : Fin 12 => if b.val < 0 then DoneB C c b else PendB C c b) ∗ OutB C c 0 0) ⊢ Loop3 C c 0 := by
    unfold Loop3 Carry; rw [dif_neg (by decide)]
  iintro ⟨⟨H0, H1, HZ, HO, HF⟩, HR, HB, HS, HSA, HSB⟩ Hk
  ihave HP := (zeroed_all C c) $$ HZ
  ihave HF' := hl2 $$ HF
  icases HF' with ⟨HT, HL, HF⟩
  iapply (seq defs 𝒱 c (in_piece C defs 𝒱 c G 1 11 (h3 C)) Q) $$ [H1]
  · iexact H1
  iintro H1
  ihave HA := (pend_all C c) $$ [H0 H1 HF HR]
  · isplitl [H0]; · iexact H0
    isplitl [H1]; · iexact H1
    isplitl [HF]; · iexact HF
    iexact HR
  ihave HL3 := hl30 $$ [HP HO HL HA HB]
  · isplitl [HP]; · iexact HP
    isplitl [HO]; · iexact HO
    isplitl [HL]; · iexact HL
    isplitl [HA]; · iexact HA
    iexact HB
  iapply (loop3 C defs 𝒱 c G b3 h1 h2 _ Q) $$ [HL3]
  · iexact HL3
  iintro HL3
  ihave HL3' := hl3 $$ HL3
  icases HL3' with ⟨HP, HO, HL, HD, HC⟩
  iapply (seq defs 𝒱 c (last_out C defs 𝒱 c G (h4 C)) Q) $$ [HC]
  · iexact HC
  iintro HB
  ihave HD' := (done_all C c) $$ HD
  icases HD' with ⟨HD, HS0, HS1⟩
  iapply (seq defs 𝒱 c (sc_out0 C defs 𝒱 c G (h5 C)) Q) $$ [HS0 HSA HS]
  · isplitl [HS0]; · iexact HS0
    isplitl [HSA]; · iexact HSA
    iexact HS
  iintro HS
  iapply (seq defs 𝒱 c (sc_out1 C defs 𝒱 c G (h6 C)) Q) $$ [HS1 HSB HS]
  · isplitl [HS1]; · iexact HS1
    isplitl [HSB]; · iexact HSB
    iexact HS
  iintro HS
  ihave HL4 := hl40 $$ [HB HO]
  · isplitl [HB]; · iexact HB
    iexact HO
  iapply (loop4 C defs 𝒱 c b4 h7 _ Q) $$ [HL4]
  · iexact HL4
  iintro HL4
  ihave HL4' := hl4 $$ HL4
  icases HL4' with ⟨HOD, HZ, HO⟩
  iapply (seq defs 𝒱 c (wait_sc0 C defs 𝒱 c (h8 C)) Q) $$ [HS HO]
  · isplitl [HS]; · iexact HS
    iexact HO
  iintro ⟨HS, HO⟩
  iapply (seq defs 𝒱 c (wait_sc1 C defs 𝒱 c (h9 C)) Q) $$ [HS HO]
  · isplitl [HS]; · iexact HS
    iexact HO
  iintro ⟨HS, HSZ, HO⟩
  iapply (wp_done defs 𝒱 c Q)
  iapply Hk
  isplitl [HP]; · iexact HP
  isplitl [HO]; · iexact HO
  isplitl [HL]; · iexact HL
  isplitl [HT]; · iexact HT
  isplitl [HD]; · iexact HD
  isplitl [HOD HZ]
  · isplitl [HOD]; · iexact HOD
    iexact HZ
  isplitl [HS]; · iexact HS
  iexact HSZ

instance outD_storable (u : Fin 24) : Storable (upEmb : UEmb _ 𝕄) (outD C c u) := by
  unfold outD; infer_instance

instance scD_storable (kv : Fin 2) : Storable (upEmb : UEmb _ 𝕄) (scD C c kv) := by
  unfold scD; infer_instance

theorem run_body (t : Fin cfg0.N) (Q : PUnit → sProp 𝕄) : Start C c ⊢ iprop((End C c -∗ Q ⟨⟩) -∗ wp frame (wpE defs 𝒱 (c : Thread nD τ) none) Set.univ (Gen.bodyAt0 (F := F) t) Q) := by
  rw [body_eq]
  unfold Start
  iintro ⟨H, HZ, HO, HF, HR, HSA, HSB, Hz1, Hz2⟩ Hk
  imod (Transfers.batch_alloc' (Lvl := ℕ) (countersEmb (U := Pipeline.UD sig nD τ)) (c : Thread nD τ) () outN (outD C c) (sm := .dma cc0_scratch11.sem) (E := Set.univ)) $$ Hz1 with HB
  imod (Transfers.batch_alloc' (Lvl := ℕ) (countersEmb (U := Pipeline.UD sig nD τ)) (c : Thread nD τ) () scN (scD C c) (sm := .dma cc0_scratch12.sem) (E := Set.univ)) $$ Hz2 with HS
  iapply (seq defs 𝒱 c (run392 C defs 𝒱 c G) Q) $$ [H]
  · iexact H
  iintro H
  iapply (seq defs 𝒱 c (run393 C defs 𝒱 c G) Q) $$ [H HZ HO HF]
  · isplitl [H]; · iexact H
    isplitl [HZ]; · iexact HZ
    isplitl [HO]; · iexact HO
    rw [bigSep_lt0]
    iexact HF
  iintro ⟨H0, H1, HT, HZ, HO, HF⟩
  iapply (seq defs 𝒱 c (run394 C defs 𝒱 c G) Q) $$ [H0 H1]
  · isplitl [H0]; · iexact H0
    iexact H1
  iintro H
  iapply (seq defs 𝒱 c (run395 C defs 𝒱 c G) Q) $$ [H]
  · iexact H
  iintro H
  iapply (seq defs 𝒱 c (run396 C defs 𝒱 c G) Q) $$ [H]
  · iexact H
  iintro H
  iapply (seq defs 𝒱 c (run397 C defs 𝒱 c G) Q) $$ [H]
  · iexact H
  iintro ⟨H0, H1⟩
  iapply (seq defs 𝒱 c (run398 C defs 𝒱 c G) Q) $$ [H0 H1 HZ HO HF HR HB HS HSA HSB]
  · isplitl [H0 H1 HZ HO HF]
    · isplitl [H0]; · iexact H0
      isplitl [H1]; · iexact H1
      isplitl [HZ]; · iexact HZ
      isplitl [HO]; · iexact HO
      iexact HF
    isplitl [HR]; · iexact HR
    isplitl [HB]; · iexact HB
    isplitl [HS]; · iexact HS
    isplitl [HSA]; · iexact HSA
    iexact HSB
  iintro ⟨HP, HO, HL, HTB, HD⟩
  iapply (wp_done defs 𝒱 c Q)
  iapply Hk
  unfold End
  isplitl [HP]; · iexact HP
  isplitl [HO]; · iexact HO
  isplitl [HL]; · iexact HL
  isplitl [HTB]; · iexact HTB
  isplitl [HT]; · iexact HT
  iexact HD

end Loops

end Cert.Kernel.Run
end
-- ==== Proof.Split.lean ====
/- The kernel's buffers in the pieces the body works on, and put together again. -/
module

public import proofs.«01_k».proof.Proof.Whole

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

local notation "𝕄" => MT nD τ sig Unit (Elt F) ℕ (Pipeline.UD sig nD τ) ℕ

variable (C : (b : Ref sig .tc) → b.ty.Contents (Elt F)) (c : Dev nD)

/-- Requests and the two kinds, as units. -/
def unitEquiv : Fin 12 × Fin 2 ≃ Fin 24 where
  toFun p := uIx p.2 p.1
  invFun u := (⟨u.val / 2, by omega⟩, ⟨u.val % 2, by omega⟩)
  left_inv p := by
    refine Prod.ext (Fin.ext ?_) (Fin.ext ?_)
    · show (2 * p.1.val + p.2.val) / 2 = p.1.val; omega
    · show (2 * p.1.val + p.2.val) % 2 = p.2.val; omega
  right_inv u := Fin.ext (by show 2 * (u.val / 2) + u.val % 2 = u.val; omega)

theorem big24 (Φ : Fin 24 → sProp 𝕄) : bigSep Finset.univ Φ = bigSep Finset.univ fun b : Fin 12 => iprop(Φ (uIx 0 b) ∗ Φ (uIx 1 b)) := by
  rw [bigSep_univ_equiv unitEquiv, bigSep_univ_prod]
  refine bigSep_congr fun b _ => ?_
  exact bigSep_fin_two _

theorem split2 (ℓ : Loc nD τ sig) (K : Fin 2 → Fin 12 → Finset (Idx ℓ)) (S : Finset (Idx ℓ)) (f : Buf (Elt F) ℓ)
    (hd : ∀ kv b kv' b' x, x ∈ K kv b → x ∈ K kv' b' → kv = kv' ∧ b = b') (hu : ∀ x, x ∈ S ↔ ∃ kv b, x ∈ K kv b) :
    (ℓ ↦[S]{fullShare} f : sProp 𝕄) = bigSep Finset.univ fun b : Fin 12 => iprop((ℓ ↦[K 0 b]{fullShare} f) ∗ (ℓ ↦[K 1 b]{fullShare} f)) := by
  have hu' : S = (Finset.univ : Finset (Fin 12 × Fin 2)).biUnion fun p => K p.2 p.1 := by
    ext x
    rw [hu x, Finset.mem_biUnion]
    constructor
    · rintro ⟨kv, b, h⟩; exact ⟨(b, kv), Finset.mem_univ _, h⟩
    · rintro ⟨p, -, h⟩; exact ⟨p.2, p.1, h⟩
  have hdis : ∀ t ∈ (Finset.univ : Finset (Fin 12 × Fin 2)), ∀ t' ∈ (Finset.univ : Finset (Fin 12 × Fin 2)), t ≠ t' → Disjoint (K t.2 t.1) (K t'.2 t'.1) := by
    intro t _ t' _ hne
    rw [Finset.disjoint_left]
    intro x hx hx'
    obtain ⟨h1, h2⟩ := hd _ _ _ _ x hx hx'
    exact hne (Prod.ext h2 h1)
  rw [hu', pointsTo_biUnion _ _ hdis, bigSep_univ_prod]
  refine bigSep_congr fun b _ => ?_
  exact bigSep_fin_two _

theorem split1 (ℓ : Loc nD τ sig) (K : Fin 12 → Finset (Idx ℓ)) (S : Finset (Idx ℓ)) (f : Buf (Elt F) ℓ)
    (hd : ∀ b b' x, x ∈ K b → x ∈ K b' → b = b') (hu : ∀ x, x ∈ S ↔ ∃ b, x ∈ K b) :
    (ℓ ↦[S]{fullShare} f : sProp 𝕄) = bigSep Finset.univ fun b : Fin 12 => (ℓ ↦[K b]{fullShare} f) := by
  have hu' : S = (Finset.univ : Finset (Fin 12)).biUnion K := by
    ext x
    rw [hu x, Finset.mem_biUnion]
    constructor
    · rintro ⟨b, h⟩; exact ⟨b, Finset.mem_univ _, h⟩
    · rintro ⟨p, -, h⟩; exact ⟨p, h⟩
  rw [hu', pointsTo_biUnion _ _ fun t _ t' _ hne => ?_]
  rw [Finset.disjoint_left]
  intro x hx hx'
  exact hne (hd _ _ x hx hx')

theorem any2 (ℓ : Loc nD τ sig) (K : Fin 2 → Fin 12 → Finset (Idx ℓ)) (S : Finset (Idx ℓ))
    (hd : ∀ kv b kv' b' x, x ∈ K kv b → x ∈ K kv' b' → kv = kv' ∧ b = b') (hu : ∀ x, x ∈ S ↔ ∃ kv b, x ∈ K kv b) :
    iprop(∃ f, ℓ ↦[S]{fullShare} f) ⊢ (bigSep Finset.univ fun b : Fin 12 => iprop((∃ f, ℓ ↦[K 0 b]{fullShare} f) ∗ (∃ f, ℓ ↦[K 1 b]{fullShare} f)) : sProp 𝕄) := by
  iintro ⟨%f, H⟩
  rw [split2 ℓ K S f hd hu]
  have Y : iprop(bigSep Finset.univ fun b : Fin 12 => iprop((ℓ ↦[K 0 b]{fullShare} f) ∗ (ℓ ↦[K 1 b]{fullShare} f)))
      ⊢ (iprop(bigSep Finset.univ fun b : Fin 12 => iprop((∃ f, ℓ ↦[K 0 b]{fullShare} f) ∗ (∃ f, ℓ ↦[K 1 b]{fullShare} f))) : sProp 𝕄) := big_mono _ _ _ (fun b _ => by
    iintro ⟨H0, H1⟩
    isplitl [H0]
    · iexists f; iexact H0
    · iexists f; iexact H1)
  exact Y

theorem any1 (ℓ : Loc nD τ sig) (K : Fin 12 → Finset (Idx ℓ)) (S : Finset (Idx ℓ))
    (hd : ∀ b b' x, x ∈ K b → x ∈ K b' → b = b') (hu : ∀ x, x ∈ S ↔ ∃ b, x ∈ K b) :
    iprop(∃ f, ℓ ↦[S]{fullShare} f) ⊢ (bigSep Finset.univ fun b : Fin 12 => iprop(∃ f, ℓ ↦[K b]{fullShare} f) : sProp 𝕄) := by
  iintro ⟨%f, H⟩
  rw [split1 ℓ K S f hd hu]
  have Y : iprop(bigSep Finset.univ fun b : Fin 12 => (ℓ ↦[K b]{fullShare} f))
      ⊢ (iprop(bigSep Finset.univ fun b : Fin 12 => iprop(∃ f, ℓ ↦[K b]{fullShare} f)) : sProp 𝕄) := big_mono _ _ _ (fun b _ => by
    iintro H0
    iexists f; iexact H0)
  exact Y

/-! ## The partitions -/

theorem lead_dis {n : ℕ} {d : Fin (n + 1) → ℕ} (kv : Fin 2) (b : Fin 12) (kv' : Fin 2) (b' : Fin 12) (x : Shape.Idx ⟨n + 1, d⟩)
    (h : x ∈ (lead (uIx kv b).val : Finset (Shape.Idx ⟨n + 1, d⟩))) (h' : x ∈ (lead (uIx kv' b').val : Finset (Shape.Idx ⟨n + 1, d⟩))) : kv = kv' ∧ b = b' := by
  have e : 2 * b.val + kv.val = 2 * b'.val + kv'.val := (mem_lead.1 h).symm.trans (mem_lead.1 h')
  exact ⟨Fin.ext (by omega), Fin.ext (by omega)⟩

theorem lead_all {n : ℕ} {d : Fin (n + 1) → ℕ} (hd : d 0 = 24) (x : Shape.Idx ⟨n + 1, d⟩) :
    x ∈ (Finset.univ : Finset (Shape.Idx ⟨n + 1, d⟩)) ↔ ∃ kv b, x ∈ (lead (uIx kv b).val : Finset (Shape.Idx ⟨n + 1, d⟩)) := by
  refine ⟨fun _ => ?_, fun _ => Finset.mem_univ _⟩
  have hx : (x 0).val < 24 := hd ▸ (x 0).isLt
  refine ⟨⟨(x 0).val % 2, by omega⟩, ⟨(x 0).val / 2, by omega⟩, mem_lead.2 ?_⟩
  show (x 0).val = 2 * ((x 0).val / 2) + (x 0).val % 2
  omega

theorem mem_wIn (u : ℕ) (x : S10016x16x128.Idx) : x ∈ wIn u ↔ 32 + 416 * u ≤ (x 0).val ∧ (x 0).val < 416 * u + 416 := by
  simp only [wIn, Finset.mem_filter, Finset.mem_univ, true_and]

theorem wIn_dis (kv : Fin 2) (b : Fin 12) (kv' : Fin 2) (b' : Fin 12) (x : S10016x16x128.Idx)
    (h : x ∈ wIn (uIx kv b).val) (h' : x ∈ wIn (uIx kv' b').val) : kv = kv' ∧ b = b' := by
  have h1 : 32 + 416 * (2 * b.val + kv.val) ≤ (x 0).val ∧ (x 0).val < 416 * (2 * b.val + kv.val) + 416 := (mem_wIn _ x).1 h
  have h2 : 32 + 416 * (2 * b'.val + kv'.val) ≤ (x 0).val ∧ (x 0).val < 416 * (2 * b'.val + kv'.val) + 416 := (mem_wIn _ x).1 h'
  exact ⟨Fin.ext (by omega), Fin.ext (by omega)⟩

theorem wIn_all (x : S10016x16x128.Idx) : x ∈ Finset.univ \ pads ↔ ∃ kv b, x ∈ wIn (uIx kv b).val := by
  rw [Finset.mem_sdiff, mem_pads]
  have hx : (x 0).val < 10016 := (x 0).isLt
  constructor
  · rintro ⟨-, h⟩
    refine ⟨⟨(x 0).val / 416 % 2, by omega⟩, ⟨(x 0).val / 416 / 2, by omega⟩, (mem_wIn _ x).2 ?_⟩
    show 32 + 416 * (2 * ((x 0).val / 416 / 2) + (x 0).val / 416 % 2) ≤ (x 0).val ∧ (x 0).val < 416 * (2 * ((x 0).val / 416 / 2) + (x 0).val / 416 % 2) + 416
    omega
  · rintro ⟨kv, b, h⟩
    have h1 : 32 + 416 * (2 * b.val + kv.val) ≤ (x 0).val ∧ (x 0).val < 416 * (2 * b.val + kv.val) + 416 := (mem_wIn _ x).1 h
    exact ⟨Finset.mem_univ _, by omega⟩

theorem mem_scU (kv b : ℕ) (x : S2x12x13x16.Idx) : x ∈ scU kv b ↔ (x 0).val = kv ∧ (x 1).val = b := by
  simp only [scU, Finset.mem_filter, Finset.mem_univ, true_and]

theorem scU_dis (kv : Fin 2) (b : Fin 12) (kv' : Fin 2) (b' : Fin 12) (x : S2x12x13x16.Idx)
    (h : x ∈ scU kv.val b.val) (h' : x ∈ scU kv'.val b'.val) : kv = kv' ∧ b = b' := by
  have h1 := (mem_scU _ _ x).1 h
  have h2 := (mem_scU _ _ x).1 h'
  exact ⟨Fin.ext (h1.1.symm.trans h2.1), Fin.ext (h1.2.symm.trans h2.2)⟩

theorem scU_all (x : S2x12x13x16.Idx) : x ∈ (Finset.univ : Finset S2x12x13x16.Idx) ↔ ∃ kv : Fin 2, ∃ b : Fin 12, x ∈ scU kv.val b.val :=
  ⟨fun _ => ⟨⟨(x 0).val, (x 0).isLt⟩, ⟨(x 1).val, (x 1).isLt⟩, (mem_scU _ _ x).2 ⟨rfl, rfl⟩⟩, fun _ => Finset.mem_univ _⟩

theorem resSet_dis (kv : Fin 2) (b b' : Fin 12) (x) (h : x ∈ resSet c kv b.val) (h' : x ∈ resSet c kv b'.val) : b = b' := by
  match kv with
  | 0 =>
    exact Fin.ext ((mem_lead (n := 2) (d := ![12, 6656, 128]).1 h).symm.trans (mem_lead (n := 2) (d := ![12, 6656, 128]).1 h'))
  | 1 =>
    exact Fin.ext ((mem_lead (n := 2) (d := ![12, 6656, 128]).1 h).symm.trans (mem_lead (n := 2) (d := ![12, 6656, 128]).1 h'))

theorem resSet_all (kv : Fin 2) (x) : x ∈ (Finset.univ : Finset (Idx ((resOf kv).view.loc (c : Thread nD τ)))) ↔ ∃ b : Fin 12, x ∈ resSet c kv b.val := by
  match kv with
  | 0 =>
    have hx : ((show S12x6656x128.Idx from x) 0).val < 12 := ((show S12x6656x128.Idx from x) 0).isLt
    exact ⟨fun _ => ⟨⟨_, hx⟩, mem_lead (n := 2) (d := ![12, 6656, 128]).2 rfl⟩, fun _ => Finset.mem_univ _⟩
  | 1 =>
    have hx : ((show S12x6656x128.Idx from x) 0).val < 12 := ((show S12x6656x128.Idx from x) 0).isLt
    exact ⟨fun _ => ⟨⟨_, hx⟩, mem_lead (n := 2) (d := ![12, 6656, 128]).2 rfl⟩, fun _ => Finset.mem_univ _⟩

/-! ## Whole buffers, taken apart -/

abbrev Any {sp : Space} {s : Shape} {e : EltTy} (m : Memref sig .tc sp s e) : sProp 𝕄 := iprop(∃ f, m.view.loc (c : Thread nD τ) ↦{fullShare} f)

/-- What is left of an input beside the shares the copies read with. -/
abbrev Left {sp : Space} {s : Shape} {e : EltTy} (m : Memref sig .tc sp s e) : sProp 𝕄 := Sh C c m (shareDrop fullShare 12)

theorem toks {sp : Space} {s : Shape} {e : EltTy} (m : Memref sig .tc sp s e) :
    Sh C c m fullShare ⊢ iprop(Left C c m ∗ bigSep Finset.univ fun b : Fin 12 => Sh C c m (qOf b)) := pointsTo_toks_split _ _

theorem toks' {sp : Space} {s : Shape} {e : EltTy} (m : Memref sig .tc sp s e) :
    iprop(Left C c m ∗ bigSep Finset.univ fun b : Fin 12 => Sh C c m (qOf b)) ⊢ Sh C c m fullShare := pointsTo_toks_join _ _

theorem in_any : Any (F := F) c inM ⊢ iprop((∃ f, inM.view.loc (c : Thread nD τ) ↦[pads]{fullShare} f) ∗ (bigSep Finset.univ fun b : Fin 12 =>
    iprop((∃ f, inM.view.loc (c : Thread nD τ) ↦[wIn (uIx 0 b).val]{fullShare} f) ∗ (∃ f, inM.view.loc (c : Thread nD τ) ↦[wIn (uIx 1 b).val]{fullShare} f)))) := by
  refine BIBase.Entails.trans ?_ (Laws.sep_mono Entails.rfl (any2 (inM.view.loc (c : Thread nD τ)) (fun kv b => wIn (uIx kv b).val) (Finset.univ \ pads) wIn_dis wIn_all))
  iintro ⟨%f, H⟩
  have X : (inM.view.loc (c : Thread nD τ) ↦{fullShare} f : sProp 𝕄) ⊢ iprop((inM.view.loc (c : Thread nD τ) ↦[pads]{fullShare} f) ∗ (inM.view.loc (c : Thread nD τ) ↦[Finset.univ \ pads]{fullShare} f)) :=
    (pointsTo_split_subset (ℓ := inM.view.loc (c : Thread nD τ)) (Finset.subset_univ pads)).1
  ihave H' := X $$ H
  icases H' with ⟨H0, H1⟩
  isplitl [H0]
  · iexists f; iexact H0
  · iexists f; iexact H1

theorem in_at : iprop(Pads C c ∗ bigSep Finset.univ fun b : Fin 12 => iprop(InAt C c 0 b ∗ InAt C c 1 b)) ⊢ Sh C c inM fullShare := by
  have e := split2 (F := F) (inM.view.loc (c : Thread nD τ)) (fun kv b => wIn (uIx kv b).val) (Finset.univ \ pads) (C inM.view.ref) wIn_dis wIn_all
  have X : iprop((inM.view.loc (c : Thread nD τ) ↦[pads]{fullShare} (C inM.view.ref)) ∗ (inM.view.loc (c : Thread nD τ) ↦[Finset.univ \ pads]{fullShare} (C inM.view.ref))) ⊢ (inM.view.loc (c : Thread nD τ) ↦{fullShare} (C inM.view.ref) : sProp 𝕄) :=
    (pointsTo_split_subset (ℓ := inM.view.loc (c : Thread nD τ)) (Finset.subset_univ pads)).2
  rw [e] at X
  exact X

theorem row_any : Any (F := F) c rowM ⊢ bigSep Finset.univ fun b : Fin 12 => iprop((∃ f, rowM.view.loc (c : Thread nD τ) ↦[lead (uIx 0 b).val]{fullShare} f) ∗ (∃ f, rowM.view.loc (c : Thread nD τ) ↦[lead (uIx 1 b).val]{fullShare} f)) :=
  any2 (rowM.view.loc (c : Thread nD τ)) (fun kv b => (lead (uIx kv b).val : Finset S24x1x16.Idx)) Finset.univ lead_dis (lead_all rfl)

theorem old_any : Any (F := F) c oldM ⊢ bigSep Finset.univ fun b : Fin 12 => iprop((∃ f, oldM.view.loc (c : Thread nD τ) ↦[lead (uIx 0 b).val]{fullShare} f) ∗ (∃ f, oldM.view.loc (c : Thread nD τ) ↦[lead (uIx 1 b).val]{fullShare} f)) :=
  any2 (oldM.view.loc (c : Thread nD τ)) (fun kv b => (lead (uIx kv b).val : Finset S24x512x128.Idx)) Finset.univ lead_dis (lead_all rfl)

theorem out_any : Any (F := F) c outM ⊢ bigSep Finset.univ fun b : Fin 12 => iprop(OutAny c 0 b ∗ OutAny c 1 b) :=
  any2 (outM.view.loc (c : Thread nD τ)) (fun kv b => (lead (uIx kv b).val : Finset S24x6656x128.Idx)) Finset.univ lead_dis (lead_all rfl)

theorem sc_any : Any (F := F) c scM ⊢ bigSep Finset.univ fun b : Fin 12 => iprop(ScAny c 0 b ∗ ScAny c 1 b) :=
  any2 (scM.view.loc (c : Thread nD τ)) (fun kv b => (scU kv.val b.val : Finset S2x12x13x16.Idx)) Finset.univ scU_dis scU_all

theorem res_any (kv : Fin 2) : Any (F := F) c (resOf kv) ⊢ bigSep Finset.univ fun b : Fin 12 => ResAny c kv b :=
  any1 ((resOf kv).view.loc (c : Thread nD τ)) (fun b => resSet c kv b.val) Finset.univ (resSet_dis c kv) (resSet_all c kv)

theorem row_at : (bigSep Finset.univ fun b : Fin 12 => iprop(RowAt C c 0 b ∗ RowAt C c 1 b)) = Sh C c rowM fullShare :=
  (split2 (rowM.view.loc (c : Thread nD τ)) (fun kv b => (lead (uIx kv b).val : Finset S24x1x16.Idx)) Finset.univ _ lead_dis (lead_all rfl)).symm

theorem old_at : (bigSep Finset.univ fun b : Fin 12 => iprop(OldAt C c 0 b ∗ OldAt C c 1 b)) = Sh C c oldM fullShare :=
  (split2 (oldM.view.loc (c : Thread nD τ)) (fun kv b => (lead (uIx kv b).val : Finset S24x512x128.Idx)) Finset.univ _ lead_dis (lead_all rfl)).symm

theorem out_at : (bigSep Finset.univ fun b : Fin 12 => iprop(OutAt C c 0 b ∗ OutAt C c 1 b)) = Sh C c outM fullShare :=
  (split2 (outM.view.loc (c : Thread nD τ)) (fun kv b => (lead (uIx kv b).val : Finset S24x6656x128.Idx)) Finset.univ _ lead_dis (lead_all rfl)).symm

theorem res_at (kv : Fin 2) : (bigSep Finset.univ fun b : Fin 12 => ResAt C c kv b) = Sh C c (resOf kv) fullShare :=
  (split1 ((resOf kv).view.loc (c : Thread nD τ)) (fun b => resSet c kv b.val) Finset.univ _ (resSet_dis c kv) (resSet_all c kv)).symm

theorem sc_at : iprop(ScHalf C c 0 ∗ ScHalf C c 1) ⊢ Sh C c scM fullShare := by
  have e := split2 (F := F) (scM.view.loc (c : Thread nD τ)) (fun kv b => (scU kv.val b.val : Finset S2x12x13x16.Idx)) Finset.univ (C scM.view.ref) scU_dis scU_all
  rw [← sc_lead C c 0, ← sc_lead C c 1, big2]
  exact Entails.of_eq e.symm

/-! ## The semaphores -/

def arr3 : Fin 3 → DmaSems sig S24 := fun | 0 => cc0_scratch7 | 1 => cc0_scratch8 | 2 => cc0_scratch9

/-- The kernel's semaphores. -/
def osem : ((Fin 12 × Fin 2) × Fin 3) ⊕ Fin 4 → SemLoc sig
  | .inl ((b, kv), a) => .dma (sem24 (arr3 a) (uIx kv b))
  | .inr 0 => .dma (sem2 cc0_scratch10 0)
  | .inr 1 => .dma (sem2 cc0_scratch10 1)
  | .inr 2 => .dma cc0_scratch11.sem
  | .inr 3 => .dma cc0_scratch12.sem

abbrev Z3 (kv : Fin 2) (b : Fin 12) : sProp 𝕄 := iprop(Z c (sem24 cc0_scratch7 (uIx kv b)) ∗ Z c (sem24 cc0_scratch8 (uIx kv b)) ∗ Z c (sem24 cc0_scratch9 (uIx kv b)))

theorem sems_eq : (Pipeline.ownSems0 (Ix := Unit) (Name := ℕ) (U := Pipeline.UD sig nD τ) (Lvl := ℕ) (Val := Elt F) (τ := τ) osem c : sProp 𝕄)
    = iprop((bigSep Finset.univ fun b : Fin 12 => iprop(Z3 c 0 b ∗ Z3 c 1 b)) ∗ Z c (sem2 cc0_scratch10 0) ∗ Z c (sem2 cc0_scratch10 1) ∗ Z c cc0_scratch11.sem ∗ Z c cc0_scratch12.sem) := by
  unfold Pipeline.ownSems0
  rw [bigSep_univ_sum, bigSep_univ_prod, bigSep_univ_prod, bigSep_univ_eq_bigSepL (I := Fin 4) [0, 1, 2, 3] (by decide) (by decide)]
  congr 1
  refine bigSep_congr fun b _ => ?_
  refine (bigSep_fin_two _).trans ?_
  congr 1
  · exact bigSep_univ_eq_bigSepL (I := Fin 3) [0, 1, 2] (by decide) (by decide) _
  · exact bigSep_univ_eq_bigSepL (I := Fin 3) [0, 1, 2] (by decide) (by decide) _

end Cert.Kernel.Run
end
-- ==== Proof.Enter.lean ====
/- From the launch's buffers to the body's starting state, and from its last state back. -/
module

public import proofs.«01_k».proof.Proof.Split

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel

variable {F : FTy → Type} [FloatOps F]

local notation "𝕄" => MT nD τ sig Unit (Elt F) ℕ (Pipeline.UD sig nD τ) ℕ

variable (C : (b : Ref sig .tc) → b.ty.Contents (Elt F)) (c : Dev nD)

abbrev Scr : sProp 𝕄 := iprop(Any c inM ∗ Any c oldM ∗ Any c outM ∗ Any c rowM ∗ Any c scM ∗ Any c tabM ∗ Any c lenM)
abbrev Sems : sProp 𝕄 := iprop((bigSep Finset.univ fun b : Fin 12 => iprop(Z3 c 0 b ∗ Z3 c 1 b)) ∗ Z c (sem2 cc0_scratch10 0) ∗ Z c (sem2 cc0_scratch10 1) ∗ Z c cc0_scratch11.sem ∗ Z c cc0_scratch12.sem)
abbrev Ins : sProp 𝕄 := iprop(Sh C c kPagM fullShare ∗ Sh C c vPagM fullShare ∗ Sh C c kScaM fullShare ∗ Sh C c vScaM fullShare
  ∗ Sh C c tabA fullShare ∗ Sh C c lenA fullShare ∗ Sh C c kTokM fullShare ∗ Sh C c vTokM fullShare)
abbrev OutsAny : sProp 𝕄 := iprop(Any c kOutM ∗ Any c kScOutM ∗ Any c vOutM ∗ Any c vScOutM)
abbrev OutsAt : sProp 𝕄 := iprop(Sh C c kOutM fullShare ∗ Sh C c kScOutM fullShare ∗ Sh C c vOutM fullShare ∗ Sh C c vScOutM fullShare)
def Rem : sProp 𝕄 := iprop(Left C c kPagM ∗ Left C c vPagM ∗ Left C c kScaM ∗ Left C c vScaM ∗ Left C c kTokM ∗ Left C c vTokM)

/-- A request's pieces of everything, before. -/
abbrev Piece (b : Fin 12) : sProp 𝕄 := iprop(Sh C c kPagM (qOf b) ∗ Sh C c vPagM (qOf b) ∗ Sh C c kScaM (qOf b) ∗ Sh C c vScaM (qOf b) ∗ Sh C c kTokM (qOf b) ∗ Sh C c vTokM (qOf b)
  ∗ ((∃ f, inM.view.loc (c : Thread nD τ) ↦[wIn (uIx 0 b).val]{fullShare} f) ∗ (∃ f, inM.view.loc (c : Thread nD τ) ↦[wIn (uIx 1 b).val]{fullShare} f))
  ∗ ((∃ f, rowM.view.loc (c : Thread nD τ) ↦[lead (uIx 0 b).val]{fullShare} f) ∗ (∃ f, rowM.view.loc (c : Thread nD τ) ↦[lead (uIx 1 b).val]{fullShare} f))
  ∗ ((∃ f, oldM.view.loc (c : Thread nD τ) ↦[lead (uIx 0 b).val]{fullShare} f) ∗ (∃ f, oldM.view.loc (c : Thread nD τ) ↦[lead (uIx 1 b).val]{fullShare} f))
  ∗ (OutAny c 0 b ∗ OutAny c 1 b) ∗ (ScAny c 0 b ∗ ScAny c 1 b) ∗ ResAny c 0 b ∗ ResAny c 1 b ∗ Z3 c 0 b ∗ Z3 c 1 b)

theorem piece_start (b : Fin 12) : Piece C c b ⊢ iprop(InPre C c 0 b ∗ InPre C c 1 b ∗ FetchPre C c b ∗ Rest c b) := by
  unfold FetchPre
  iintro ⟨HP0, HP1, HS0, HS1, HT0, HT1, ⟨HI0, HI1⟩, ⟨HR0, HR1⟩, ⟨HO0, HO1⟩, ⟨HU0, HU1⟩, ⟨HC0, HC1⟩, HE0, HE1, ⟨HZ0, HZ1, HZ2⟩, HZ3, HZ4, HZ5⟩
  isplitl [HT0 HI0 HZ0]
  · isplitl [HT0]; · iexact HT0
    isplitl [HI0]; · iexact HI0
    iexact HZ0
  isplitl [HT1 HI1 HZ3]
  · isplitl [HT1]; · iexact HT1
    isplitl [HI1]; · iexact HI1
    iexact HZ3
  isplitl [HS0 HR0 HZ2 HP0 HO0 HZ1 HS1 HR1 HZ5 HP1 HO1 HZ4]
  · isplitl [HS0 HR0 HZ2 HP0 HO0 HZ1]
    · isplitl [HS0 HR0 HZ2]
      · isplitl [HS0]; · iexact HS0
        isplitl [HR0]; · iexact HR0
        iexact HZ2
      · isplitl [HP0]; · iexact HP0
        isplitl [HO0]; · iexact HO0
        iexact HZ1
    · isplitl [HS1 HR1 HZ5]
      · isplitl [HS1]; · iexact HS1
        isplitl [HR1]; · iexact HR1
        iexact HZ5
      · isplitl [HP1]; · iexact HP1
        isplitl [HO1]; · iexact HO1
        iexact HZ4
  isplitl [HU0 HC0 HE0]
  · isplitl [HU0]; · iexact HU0
    isplitl [HC0]; · iexact HC0
    iexact HE0
  · isplitl [HU1]; · iexact HU1
    isplitl [HC1]; · iexact HC1
    iexact HE1

/-- All requests' pieces, listed by kind. -/
theorem pieces_start : iprop((bigSep Finset.univ fun b : Fin 12 => Sh C c kPagM (qOf b)) ∗ (bigSep Finset.univ fun b : Fin 12 => Sh C c vPagM (qOf b))
      ∗ (bigSep Finset.univ fun b : Fin 12 => Sh C c kScaM (qOf b)) ∗ (bigSep Finset.univ fun b : Fin 12 => Sh C c vScaM (qOf b))
      ∗ (bigSep Finset.univ fun b : Fin 12 => Sh C c kTokM (qOf b)) ∗ (bigSep Finset.univ fun b : Fin 12 => Sh C c vTokM (qOf b))
      ∗ (bigSep Finset.univ fun b : Fin 12 => iprop((∃ f, inM.view.loc (c : Thread nD τ) ↦[wIn (uIx 0 b).val]{fullShare} f) ∗ (∃ f, inM.view.loc (c : Thread nD τ) ↦[wIn (uIx 1 b).val]{fullShare} f)))
      ∗ (bigSep Finset.univ fun b : Fin 12 => iprop((∃ f, rowM.view.loc (c : Thread nD τ) ↦[lead (uIx 0 b).val]{fullShare} f) ∗ (∃ f, rowM.view.loc (c : Thread nD τ) ↦[lead (uIx 1 b).val]{fullShare} f)))
      ∗ (bigSep Finset.univ fun b : Fin 12 => iprop((∃ f, oldM.view.loc (c : Thread nD τ) ↦[lead (uIx 0 b).val]{fullShare} f) ∗ (∃ f, oldM.view.loc (c : Thread nD τ) ↦[lead (uIx 1 b).val]{fullShare} f)))
      ∗ (bigSep Finset.univ fun b : Fin 12 => iprop(OutAny c 0 b ∗ OutAny c 1 b)) ∗ (bigSep Finset.univ fun b : Fin 12 => iprop(ScAny c 0 b ∗ ScAny c 1 b))
      ∗ (bigSep Finset.univ fun b : Fin 12 => ResAny c 0 b) ∗ (bigSep Finset.univ fun b : Fin 12 => ResAny c 1 b)
      ∗ (bigSep Finset.univ fun b : Fin 12 => iprop(Z3 c 0 b ∗ Z3 c 1 b)))
    ⊢ iprop(In C c 0 0 ∗ In C c 1 0 ∗ bigSep Finset.univ (FetchPre C c) ∗ bigSep Finset.univ (Rest c)) := by
  unfold In
  rw [bigSep_lt0, bigSep_lt0]
  rw [big2, big2, big2, big2, big2, big2, big2, big2, big2, big2, big2, big2, big2, big2, big2, big2]
  exact big_mono _ _ _ fun b _ => piece_start C c b

theorem res_any0 : Any c kOutM ⊢ (bigSep Finset.univ fun b : Fin 12 => ResAny (F := F) c 0 b : sProp 𝕄) := res_any c 0
theorem res_any1 : Any c vOutM ⊢ (bigSep Finset.univ fun b : Fin 12 => ResAny (F := F) c 1 b : sProp 𝕄) := res_any c 1
theorem scOut_any0 : Any c kScOutM ⊢ (ScOutAny (F := F) c 0 : sProp 𝕄) := by first | exact Entails.rfl | (unfold ScOutAny; exact Entails.rfl)
theorem scOut_any1 : Any c vScOutM ⊢ (ScOutAny (F := F) c 1 : sProp 𝕄) := by first | exact Entails.rfl | (unfold ScOutAny; exact Entails.rfl)
theorem res_at0 : (bigSep Finset.univ fun b : Fin 12 => ResAt C c 0 b) ⊢ Sh C c kOutM fullShare := Entails.of_eq (res_at C c 0)
theorem res_at1 : (bigSep Finset.univ fun b : Fin 12 => ResAt C c 1 b) ⊢ Sh C c vOutM fullShare := Entails.of_eq (res_at C c 1)
theorem scOut_at0 : ScOutAt C c 0 ⊢ Sh C c kScOutM fullShare := by first | exact Entails.rfl | (unfold ScOutAt; exact Entails.rfl)
theorem scOut_at1 : ScOutAt C c 1 ⊢ Sh C c vScOutM fullShare := by first | exact Entails.rfl | (unfold ScOutAt; exact Entails.rfl)

theorem to_start : iprop(Scr c ∗ Sems c ∗ Ins C c ∗ OutsAny c ∗ Owe c) ⊢ iprop(Start C c ∗ Rem C c) := by
  unfold Start Rem
  iintro ⟨⟨HI, HO, HU, HR, HC, HT, HL⟩, ⟨HZ, HZ0, HZ1, HZ2, HZ3⟩, ⟨HA0, HA1, HA2, HA3, HA4, HA5, HA6, HA7⟩, ⟨HB0, HB1, HB2, HB3⟩, HW⟩
  ihave HI' := (in_any c) $$ HI
  icases HI' with ⟨HP, HI⟩
  ihave HO' := (old_any c) $$ HO
  ihave HU' := (out_any c) $$ HU
  ihave HR' := (row_any c) $$ HR
  ihave HC' := (sc_any c) $$ HC
  ihave HB0' := (res_any0 c) $$ HB0
  ihave HB2' := (res_any1 c) $$ HB2
  ihave HA0' := (toks C c kPagM) $$ HA0
  icases HA0' with ⟨HL0, HA0⟩
  ihave HA1' := (toks C c vPagM) $$ HA1
  icases HA1' with ⟨HL1, HA1⟩
  ihave HA2' := (toks C c kScaM) $$ HA2
  icases HA2' with ⟨HL2, HA2⟩
  ihave HA3' := (toks C c vScaM) $$ HA3
  icases HA3' with ⟨HL3, HA3⟩
  ihave HA6' := (toks C c kTokM) $$ HA6
  icases HA6' with ⟨HL6, HA6⟩
  ihave HA7' := (toks C c vTokM) $$ HA7
  icases HA7' with ⟨HL7, HA7⟩
  ihave HX := (pieces_start C c) $$ [HA0 HA1 HA2 HA3 HA6 HA7 HI HR' HO' HU' HC' HB0' HB2' HZ]
  · isplitl [HA0]; · iexact HA0
    isplitl [HA1]; · iexact HA1
    isplitl [HA2]; · iexact HA2
    isplitl [HA3]; · iexact HA3
    isplitl [HA6]; · iexact HA6
    isplitl [HA7]; · iexact HA7
    isplitl [HI]; · iexact HI
    isplitl [HR']; · iexact HR'
    isplitl [HO']; · iexact HO'
    isplitl [HU']; · iexact HU'
    isplitl [HC']; · iexact HC'
    isplitl [HB0']; · iexact HB0'
    isplitl [HB2']; · iexact HB2'
    iexact HZ
  icases HX with ⟨HX0, HX1, HX2, HX3⟩
  isplitr [HL0 HL1 HL2 HL3 HL6 HL7]
  · isplitl [HA4 HT HZ0 HA5 HL HZ1 HX0 HX1]
    · isplitl [HA4 HT HZ0]
      · isplitl [HA4]; · iexact HA4
        isplitl [HT]; · iexact HT
        iexact HZ0
      isplitl [HA5 HL HZ1]
      · isplitl [HA5]; · iexact HA5
        isplitl [HL]; · iexact HL
        iexact HZ1
      isplitl [HX0]; · iexact HX0
      iexact HX1
    isplitl [HP]
    · unfold Zeroed
      icases HP with ⟨%f, HP⟩
      iexists f
      isplitr
      · ipureintro
        intro i _ h
        exact absurd h (Nat.not_lt_zero _)
      · iexact HP
    isplitl [HW]; · iexact HW
    isplitl [HX2]; · iexact HX2
    isplitl [HX3]; · iexact HX3
    isplitl [HB1]; · iapply (scOut_any0 c) $$ HB1
    isplitl [HB3]; · iapply (scOut_any1 c) $$ HB3
    isplitl [HZ2]; · iexact HZ2
    iexact HZ3
  isplitl [HL0]; · iexact HL0
  isplitl [HL1]; · iexact HL1
  isplitl [HL2]; · iexact HL2
  isplitl [HL3]; · iexact HL3
  isplitl [HL6]; · iexact HL6
  iexact HL7

/-! ## And back -/

theorem piece_end (b : Fin 12) : iprop(DoneN C c b ∗ outD C c (uIx 0 b) ∗ outD C c (uIx 1 b)) ⊢ iprop(Sh C c kPagM (qOf b) ∗ Sh C c vPagM (qOf b) ∗ Sh C c kScaM (qOf b) ∗ Sh C c vScaM (qOf b) ∗ Sh C c kTokM (qOf b) ∗ Sh C c vTokM (qOf b)
    ∗ (InAt C c 0 b ∗ InAt C c 1 b) ∗ (RowAt C c 0 b ∗ RowAt C c 1 b) ∗ (OldAt C c 0 b ∗ OldAt C c 1 b) ∗ (OutAt C c 0 b ∗ OutAt C c 1 b) ∗ ResAt C c 0 b ∗ ResAt C c 1 b ∗ Z3 c 0 b ∗ Z3 c 1 b) := by
  rw [outD_eq C c 0 b _ rfl, outD_eq C c 1 b _ rfl]
  iintro ⟨⟨⟨⟨HI0, HT0, HZ0⟩, ⟨HR0, HS0, HZ2⟩, ⟨HO0, HP0, HZ1⟩⟩, ⟨HI1, HT1, HZ3⟩, ⟨HR1, HS1, HZ5⟩, ⟨HO1, HP1, HZ4⟩⟩, ⟨HE0, HU0⟩, ⟨HE1, HU1⟩⟩
  isplitl [HP0]; · iexact HP0
  isplitl [HP1]; · iexact HP1
  isplitl [HS0]; · iexact HS0
  isplitl [HS1]; · iexact HS1
  isplitl [HT0]; · iexact HT0
  isplitl [HT1]; · iexact HT1
  isplitl [HI0 HI1]
  · isplitl [HI0]; · iexact HI0
    iexact HI1
  isplitl [HR0 HR1]
  · isplitl [HR0]; · iexact HR0
    iexact HR1
  isplitl [HO0 HO1]
  · isplitl [HO0]; · iexact HO0
    iexact HO1
  isplitl [HU0 HU1]
  · isplitl [HU0]; · iexact HU0
    iexact HU1
  isplitl [HE0]; · iexact HE0
  isplitl [HE1]; · iexact HE1
  isplitl [HZ0 HZ1 HZ2]
  · isplitl [HZ0]; · iexact HZ0
    isplitl [HZ1]; · iexact HZ1
    iexact HZ2
  · isplitl [HZ3]; · iexact HZ3
    isplitl [HZ4]; · iexact HZ4
    iexact HZ5

theorem pieces_end : iprop(bigSep Finset.univ (DoneN C c) ∗ bigSep Finset.univ (outD C c))
    ⊢ iprop((bigSep Finset.univ fun b : Fin 12 => Sh C c kPagM (qOf b)) ∗ (bigSep Finset.univ fun b : Fin 12 => Sh C c vPagM (qOf b))
      ∗ (bigSep Finset.univ fun b : Fin 12 => Sh C c kScaM (qOf b)) ∗ (bigSep Finset.univ fun b : Fin 12 => Sh C c vScaM (qOf b))
      ∗ (bigSep Finset.univ fun b : Fin 12 => Sh C c kTokM (qOf b)) ∗ (bigSep Finset.univ fun b : Fin 12 => Sh C c vTokM (qOf b))
      ∗ (bigSep Finset.univ fun b : Fin 12 => iprop(InAt C c 0 b ∗ InAt C c 1 b)) ∗ (bigSep Finset.univ fun b : Fin 12 => iprop(RowAt C c 0 b ∗ RowAt C c 1 b))
      ∗ (bigSep Finset.univ fun b : Fin 12 => iprop(OldAt C c 0 b ∗ OldAt C c 1 b)) ∗ (bigSep Finset.univ fun b : Fin 12 => iprop(OutAt C c 0 b ∗ OutAt C c 1 b))
      ∗ (bigSep Finset.univ fun b : Fin 12 => ResAt C c 0 b) ∗ (bigSep Finset.univ fun b : Fin 12 => ResAt C c 1 b)
      ∗ (bigSep Finset.univ fun b : Fin 12 => iprop(Z3 c 0 b ∗ Z3 c 1 b))) := by
  rw [big24 (outD C c)]
  rw [big2, big2, big2, big2, big2, big2, big2, big2, big2, big2, big2, big2, big2]
  exact big_mono _ _ _ fun b _ => piece_end C c b

theorem scD_pair : bigSep Finset.univ (scD C c) ⊢ iprop((ScOutAt C c 0 ∗ ScHalf C c 0) ∗ ScOutAt C c 1 ∗ ScHalf C c 1) :=
  Entails.of_eq (bigSep_fin_two (scD C c))

theorem from_end : iprop(End C c ∗ Rem C c) ⊢ iprop(Scr c ∗ Sems c ∗ Ins C c ∗ OutsAt C c ∗ Owe c) := by
  unfold End Rem
  iintro ⟨⟨HP, HW, HL, HT, ⟨⟨HA4, HZ0⟩, HA5, HZ1⟩, HD, ⟨HU, HZ2⟩, HS, HZ3⟩, HL0, HL1, HL2, HL3, HL6, HL7⟩
  ihave HX := (pieces_end C c) $$ [HD HU]
  · isplitl [HD]; · iexact HD
    iexact HU
  rw [row_at, old_at, out_at]
  icases HX with ⟨HA0, HA1, HA2, HA3, HA6, HA7, HI, HR, HO, HU, HB0, HB2, HZ⟩
  ihave HS' := (scD_pair C c) $$ HS
  icases HS' with ⟨⟨HB1, HS0⟩, HB3, HS1⟩
  ihave HC := (sc_at C c) $$ [HS0 HS1]
  · isplitl [HS0]; · iexact HS0
    iexact HS1
  ihave HI' := (in_at C c) $$ [HP HI]
  · isplitl [HP]; · iexact HP
    iexact HI
  ihave HA0' := (toks' C c kPagM) $$ [HL0 HA0]
  · isplitl [HL0]; · iexact HL0
    iexact HA0
  ihave HA1' := (toks' C c vPagM) $$ [HL1 HA1]
  · isplitl [HL1]; · iexact HL1
    iexact HA1
  ihave HA2' := (toks' C c kScaM) $$ [HL2 HA2]
  · isplitl [HL2]; · iexact HL2
    iexact HA2
  ihave HA3' := (toks' C c vScaM) $$ [HL3 HA3]
  · isplitl [HL3]; · iexact HL3
    iexact HA3
  ihave HA6' := (toks' C c kTokM) $$ [HL6 HA6]
  · isplitl [HL6]; · iexact HL6
    iexact HA6
  ihave HA7' := (toks' C c vTokM) $$ [HL7 HA7]
  · isplitl [HL7]; · iexact HL7
    iexact HA7
  ihave HB0' := (res_at0 C c) $$ HB0
  ihave HB2' := (res_at1 C c) $$ HB2
  isplitl [HI' HO HU HR HC HT HL]
  · isplitl [HI']; · iexists _; iexact HI'
    isplitl [HO]; · iexists _; iexact HO
    isplitl [HU]; · iexists _; iexact HU
    isplitl [HR]; · iexists _; iexact HR
    isplitl [HC]; · iexists _; iexact HC
    isplitl [HT]; · iexists _; iexact HT
    iexists _; iexact HL
  isplitl [HZ HZ0 HZ1 HZ2 HZ3]
  · isplitl [HZ]; · iexact HZ
    isplitl [HZ0]; · iexact HZ0
    isplitl [HZ1]; · iexact HZ1
    isplitl [HZ2]; · iexact HZ2
    iexact HZ3
  isplitl [HA0' HA1' HA2' HA3' HA4 HA5 HA6' HA7']
  · isplitl [HA0']; · iexact HA0'
    isplitl [HA1']; · iexact HA1'
    isplitl [HA2']; · iexact HA2'
    isplitl [HA3']; · iexact HA3'
    isplitl [HA4]; · iexact HA4
    isplitl [HA5]; · iexact HA5
    isplitl [HA6']; · iexact HA6'
    iexact HA7'
  isplitl [HB0' HB1 HB2' HB3]
  · isplitl [HB0']; · iexact HB0'
    isplitl [HB1]; · iapply (scOut_at0 C c) $$ HB1
    isplitl [HB2']; · iexact HB2'
    iapply (scOut_at1 C c) $$ HB3
  iexact HW

end Cert.Kernel.Run
end
-- ==== Proof.Launch.lean ====
/- The launch: the body's run put under the pipeline's rule, and what the program leaves behind. -/
module

public import proofs.«01_k».proof.Proof.Enter
public import Idealize.ShloMosaic.Lib.Pipeline.FrameValue

@[expose] public section

noncomputable section

namespace Cert.Kernel.Run

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (C : Dev nD → (b : Ref sig .tc) → b.ty.Contents (Elt F))

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main Gen.hostOps0 Gen.hostOps0_sub Gen.hostOps0_fresh Gen.main_chain

/-- The buffers the body reads. -/
def H0 : Finset (Ref sig .tc) := {main_v0, main_v1, main_arg2, main_arg3, main_arg4, main_arg5, main_arg6, main_arg7}
/-- The buffers the body writes. -/
def R0 : Finset (Ref sig .tc) := {main_v2_0, main_v2_1, main_v2_2, main_v2_3}
theorem H0_sub : H0 ⊆ Pipeline.restRefs sig cfg0.spec := by decide
theorem R0_sub : R0 ⊆ Pipeline.restRefs sig cfg0.spec \ H0 := by decide

theorem ownFacts : Pipeline.OwnSemFacts cfg0.spec osem := by decide +kernel

theorem ins_eq (c : Dev nD) (W : (c : Dev nD) → (b : Ref sig .tc) → Buf (Elt F) ((c.tc : Thread nD τ).loc b)) (hW : ∀ b ∈ H0, W c b = C c b) :
    (bigSep H0 (fun b => ((c.tc : Thread nD τ).loc b) ↦{fullShare} W c b) : sProp 𝕄) = Ins (C c) c := by
  rw [show (bigSep H0 (fun b => ((c.tc : Thread nD τ).loc b) ↦{fullShare} W c b) : sProp 𝕄) = bigSep H0 (fun b => ((c.tc : Thread nD τ).loc b) ↦{fullShare} (C c b)) from bigSep_congr fun b hb => by rw [hW b hb]]
  rw [BI.bigSep_eq_bigSepL_of_eq [main_v0, main_v1, main_arg2, main_arg3, main_arg4, main_arg5, main_arg6, main_arg7] (by decide) (by decide)]
  rfl

theorem outs_eq (c : Dev nD) : (Pipeline.routed R0 c (C c) : sProp 𝕄) = OutsAt (C c) c := by
  unfold Pipeline.routed
  rw [BI.bigSep_eq_bigSepL_of_eq [main_v2_0, main_v2_1, main_v2_2, main_v2_3] (by decide) (by decide)]
  rfl

theorem outs_any (c : Dev nD) (W : (b : Ref sig .tc) → Buf (Elt F) ((c.tc : Thread nD τ).loc b)) : (Pipeline.routed R0 c W : sProp 𝕄) ⊢ OutsAny (F := F) c := by
  refine BIBase.Entails.trans (Entails.of_eq (outs_eq (fun _ => W) c)) ?_
  iintro ⟨H0, H1, H2, H3⟩
  isplitl [H0]; · iexists _; iexact H0
  isplitl [H1]; · iexists _; iexact H1
  isplitl [H2]; · iexists _; iexact H2
  iexists _; iexact H3

/-- The invariant: everything at hand, the results as found before the point and as left after it. -/
abbrev Inv (G : (c : Dev nD) → (b : Ref sig .tc) → Buf (Elt F) ((c.tc : Thread nD τ).loc b)) (c : Dev nD) : sProp 𝕄 :=
  Pipeline.ΦDRG osem cfg0.spec H0 R0 (Gen.V m) G c

/-- The invariant before the point and after it. -/
def invAt (c : Dev nD) : ℕ → sProp 𝕄
  | 0 => Inv m (Gen.V m) c
  | _ + 1 => Inv m C c

def dats (_ : Fin 1) (c : Dev nD) : Dat τ (Elt F) Unit ℕ (Pipeline.UD sig nD τ) ℕ cfg0 c where
  A w := Gen.V m c (Pipeline.arrRef cfg0.spec w)
  after w _ := w.elim0
  Φ t := invAt m C c t.val
  q _ := fullShare
  owed _ := 0

theorem inv_enter (c : Dev nD) (hV : ∀ b ∈ H0, Gen.V m c b = C c b) :
    Inv m (Gen.V m) c ⊢ iprop((∃ r, prngReg c r) ∗ Scr (F := F) c ∗ Sems c ∗ Ins (C c) c ∗ OutsAny c) := by
  unfold Inv
  rw [Pipeline.ΦDRG_eq, Gen.scopedRest0_eq c, sems_eq, ins_eq C c (Gen.V m) hV]
  iintro ⟨HS, Hg, HZ, HI, HR⟩
  ihave HR' := (outs_any c (Gen.V m c)) $$ HR
  isplitl [Hg]; · iexact Hg
  isplitl [HS]; · iexact HS
  isplitl [HZ]; · iexact HZ
  isplitl [HI]; · iexact HI
  iexact HR'

theorem inv_exit (c : Dev nD) (hV : ∀ b ∈ H0, Gen.V m c b = C c b) :
    iprop((∃ r, prngReg c r) ∗ Scr (F := F) c ∗ Sems c ∗ Ins (C c) c ∗ OutsAt (C c) c) ⊢ Inv m C c := by
  unfold Inv
  rw [Pipeline.ΦDRG_eq, Gen.scopedRest0_eq c, sems_eq, ins_eq C c (Gen.V m) hV, outs_eq]
  iintro ⟨Hg, HS, HZ, HI, HR⟩
  isplitl [HS]; · iexact HS
  isplitl [Hg]; · iexact Hg
  isplitl [HZ]; · iexact HZ
  isplitl [HI]; · iexact HI
  iexact HR

theorem sound_body (c : Dev nD) (t : Fin cfg0.N) (hG : Good (C c)) (hV : ∀ b ∈ H0, Gen.V m c b = C c b) :
    iprop(Inv m (Gen.V m) c ∗ Owe c) ⊢ wp frame (wpE (defs₀ (F := F)) Variants.none c none) Set.univ (Gen.bodyAt0 (F := F) t) (fun _ => iprop(Inv m C c ∗ Owe c)) := by
  iintro ⟨HI, HO⟩
  ihave HI' := (inv_enter m C c hV) $$ HI
  icases HI' with ⟨Hg, HS, HZ, HA, HR⟩
  ihave HB := (to_start (C c) c) $$ [HS HZ HA HR HO]
  · isplitl [HS]; · iexact HS
    isplitl [HZ]; · iexact HZ
    isplitl [HA]; · iexact HA
    isplitl [HR]; · iexact HR
    iexact HO
  icases HB with ⟨HB, HM⟩
  iapply (run_body (C c) (defs₀ (F := F)) Variants.none c hG t (fun _ => iprop(Inv m C c ∗ Owe c))) $$ HB
  iintro HE
  ihave HX := (from_end (C c) c) $$ [HE HM]
  · isplitl [HE]; · iexact HE
    iexact HM
  icases HX with ⟨HS, HZ, HA, HR, HO⟩
  isplitr [HO]
  · iapply (inv_exit m C c hV)
    isplitl [Hg]; · iexact Hg
    isplitl [HS]; · iexact HS
    isplitl [HZ]; · iexact HZ
    isplitl [HA]; · iexact HA
    iexact HR
  iexact HO

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) (hG : Good (C c)) (hV : ∀ b ∈ H0, Gen.V m c b = C c b) :
    BodyObligation (dats m C 0 c) (defs₀ (F := F)) Variants.none () Set.univ := fun t => by
  have ht : t.val = 0 := by rw [Gen.fin_N0 t]; rfl
  have hΦ0 : (dats m C 0 c).Φ t.castSucc = Inv m (Gen.V m) c := show invAt m C c t.val = _ by rw [ht]; rfl
  have hΦ1 : (dats m C 0 c).Φ t.succ = Inv m C c := show invAt m C c (t.val + 1) = _ from rfl
  rw [defs₀_row, hΦ0, hΦ1]
  unfold Dat.owesAt Pipeline.owesWithin
  rw [show (dats m C 0 c).owed t.castSucc = 0 from rfl, show (dats m C 0 c).owed t.succ = 0 from rfl]
  have e : (Finset.univ : Finset (Fin cfg0.W)) = ∅ := rfl
  rw [e, BI.bigSep_empty, BI.bigSep_empty]
  refine BIBase.Entails.trans ?_ (BIBase.Entails.trans (sound_body m C c t hG hV) (wp_mono _ _ _ fun _ => ?_))
  · iintro ⟨HI, ⟨%W, -, HW⟩, -⟩
    isplitl [HI]; · iexact HI
    unfold Owe
    iexists W; iexact HW
  · unfold Owe
    iintro ⟨HI, ⟨%W, HW⟩⟩
    isplitl [HI]; · iexact HI
    isplitl [HW]
    · iexists W
      isplitr
      · ipureintro; exact fun _ _ => Or.inl trivial
      iexact HW
    iempintro

set_option backward.isDefEq.respectTransparency.types false in
theorem run_main (hG : ∀ c, Good (C c)) (hV : ∀ c, ∀ b ∈ H0, Gen.V m c b = C c b) :
    θ_run defs (onTc (τ := τ) (main (F := F))) (s₀ m ρ) (fun r => Pipeline.FramePostRG cfgs (dats m C) 0 R0 (Gen.V m) C r ∧ r.2.sem = fun _ => 0) :=
  Pipeline.θ_run_frame_dmaRG (Q' := _) cfgs (dats m C) (0 : Fin 1) Gen.launch0 osem defs₀ Variants.none ownFacts H0 R0 H0_sub R0_sub m ρ main
    (hbody := fun c => (body_obligation m C c (hG c) (hV c)).loose) (hshare := fun c => (dats m C 0 c).share_full fun _ => rfl)
    (howed := fun _ _ => rfl) (V := Gen.V m) (hmain := hmain m Variants.none) (hA := fun _ _ => rfl) (G := C)
    (hin := fun _ => .rfl) (hout := fun c => Entails.of_eq (show invAt m C c cfg0.N = Inv m C c by rw [show cfg0.N = 1 from Gen.N_0]; rfl))

/-- What the program leaves: the arguments as they were, no counter raised, the results at the final contents. -/
theorem run (hG : ∀ c, Good (C c)) (hV : ∀ c, ∀ b ∈ H0, Gen.V m c b = C c b) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) ∧ ∀ c : Dev nD, ∀ b ∈ R0, r.2.mem ((c.tc : Thread nD τ).loc b) = C c b) :=
  (θ_run defs _ _).mono (fun _ h => ⟨⟨fun c => ⟨
      ((h.1.1 c).2 main_arg0 (Finset.mem_sdiff.mpr ⟨Pipeline.mem_restRefs_of main_arg0 (by decide) (by decide), by decide⟩)).trans (Gen.V_main_arg0 m c),
      ((h.1.1 c).2 main_arg1 (Finset.mem_sdiff.mpr ⟨Pipeline.mem_restRefs_of main_arg1 (by decide) (by decide), by decide⟩)).trans (Gen.V_main_arg1 m c),
      ((h.1.1 c).2 main_arg2 (Finset.mem_sdiff.mpr ⟨Pipeline.mem_restRefs_of main_arg2 (by decide) (by decide), by decide⟩)).trans (Gen.V_main_arg2 m c),
      ((h.1.1 c).2 main_arg3 (Finset.mem_sdiff.mpr ⟨Pipeline.mem_restRefs_of main_arg3 (by decide) (by decide), by decide⟩)).trans (Gen.V_main_arg3 m c),
      ((h.1.1 c).2 main_arg4 (Finset.mem_sdiff.mpr ⟨Pipeline.mem_restRefs_of main_arg4 (by decide) (by decide), by decide⟩)).trans (Gen.V_main_arg4 m c),
      ((h.1.1 c).2 main_arg5 (Finset.mem_sdiff.mpr ⟨Pipeline.mem_restRefs_of main_arg5 (by decide) (by decide), by decide⟩)).trans (Gen.V_main_arg5 m c),
      ((h.1.1 c).2 main_arg6 (Finset.mem_sdiff.mpr ⟨Pipeline.mem_restRefs_of main_arg6 (by decide) (by decide), by decide⟩)).trans (Gen.V_main_arg6 m c),
      ((h.1.1 c).2 main_arg7 (Finset.mem_sdiff.mpr ⟨Pipeline.mem_restRefs_of main_arg7 (by decide) (by decide), by decide⟩)).trans (Gen.V_main_arg7 m c)⟩, h.2⟩,
      fun c b hb => h.1.2 c b hb⟩) (run_main m ρ C hG hV)

end Cert.Kernel.Run
end
-- ==== Proof.Fill.lean ====
/- Final contents that agree with every copy and every store exist. -/
module

public import proofs.«01_k».proof.Proof.Glue
public import proofs.«01_k».proof.Proof.Words
public import proofs.«01_k».proof.Proof.Launch

@[expose] public section

noncomputable section

namespace Cert.Kernel.Run

open Idealize.ShloMosaic Idealize.ShloMosaic.TcCoe Idealize.ShloMosaic.Tactic
open Cert.Kernel
open Shapes1.Facts₀ K0.Facts₀

variable {F : FTy → Type} [FloatOps F]

section Congr

variable (C C' : (b : Ref sig .tc) → b.ty.Contents (Elt F)) (kv : Fin 2) (t : Fin k0_t3_loop.trips)

theorem amaxV_congr (hi : C inM.view.ref = C' inM.view.ref) (v v' : BitVec 32) (e : v = v') (h h') (p) :
    amaxV C kv t v h p = amaxV C' kv t v' h' p := by
  subst e
  have : ∀ i, tokV C kv t v h p i = tokV C' kv t v h p i := fun i => by unfold tokV; rw [hi]
  unfold amaxV
  rw [funext this]

theorem codeV_congr (hi : C inM.view.ref = C' inM.view.ref) (v v' : BitVec 32) (e : v = v') (h h') (p i) :
    codeV C kv t v h p i = codeV C' kv t v' h' p i := by
  subst e
  unfold codeV wordV
  rw [amaxV_congr C C' kv t hi v v rfl h h', hi]

theorem oscV_congr (hr : C rowM.view.ref = C' rowM.view.ref) : oscV C kv t = oscV C' kv t := by
  unfold oscV
  rw [hr]

theorem scale0V_congr (hi : C inM.view.ref = C' inM.view.ref) (hr : C rowM.view.ref = C' rowM.view.ref) (v v' : BitVec 32) (e : v = v') (h h') :
    scale0V C kv t v h = scale0V C' kv t v' h' := by
  subst e
  unfold scale0V
  rw [amaxV_congr C C' kv t hi v v rfl h h', oscV_congr C C' kv t hr]

theorem code0V_congr (hi : C inM.view.ref = C' inM.view.ref) (hr : C rowM.view.ref = C' rowM.view.ref) (ho : C oldM.view.ref = C' oldM.view.ref)
    (v v' : BitVec 32) (e : v = v') (h h') (i) :
    code0V C kv t v h i = code0V C' kv t v' h' i := by
  subst e
  unfold code0V
  rw [scale0V_congr C C' kv t hi hr v v rfl h h', oscV_congr C C' kv t hr, hi, ho]

theorem colV_congr (hi : C inM.view.ref = C' inM.view.ref) (v : BitVec 32) (h h') (n) (hn) :
    colV C kv t v h n hn = colV C' kv t v h' n hn := by
  induction n with
  | zero => rfl
  | succ n ih =>
    unfold colV wordV
    rw [ih, amaxV_congr C C' kv t hi v v rfl h h']

theorem scV_congr (hi : C inM.view.ref = C' inM.view.ref) (hr : C rowM.view.ref = C' rowM.view.ref) (v v' : BitVec 32) (e : v = v') (h h') :
    scV C kv t v h = scV C' kv t v' h' := by
  subst e
  unfold scV
  rw [scale0V_congr C C' kv t hi hr v v rfl h h', colV_congr C C' kv t hi v h h']

theorem lenV_congr (hl : C lenM.view.ref = C' lenM.view.ref) : lenV C t = lenV C' t := by
  unfold lenV
  rw [hl]

theorem len2V_congr (t : Fin k0_t2_loop.trips) (hl : C lenM.view.ref = C' lenM.view.ref) : len2V C t = len2V C' t := by
  unfold len2V
  rw [hl]

theorem pageV_congr (t : Fin k0_t2_loop.trips) (hl : C lenM.view.ref = C' lenM.view.ref) (ht : C tabM.view.ref = C' tabM.view.ref) (h h') :
    pageV C t h = pageV C' t h' := by
  have e := len2V_congr C C' t hl
  unfold pageV
  rw [ht]
  generalize len2V C t = a at *
  generalize len2V C' t = a' at *
  subst e
  rfl

end Congr

variable (V : (b : Ref sig .tc) → b.ty.Contents (Elt F))

/-- Lengths and pages within bounds. -/
structure Fits : Prop where
  len : ∀ i : S12.Idx, (V main_arg5 i : BitVec 32).toNat < 4512
  tab : ∀ (i : S12.Idx) (j : S12x141.Idx), (j 0).val = (i 0).val → (j 1).val = (V main_arg5 i : BitVec 32).toNat / 32 → (V main_arg4 j : BitVec 32).toNat < 2115

theorem lenV_lt (hf : Fits V) (C : (b : Ref sig .tc) → b.ty.Contents (Elt F)) (hC : C lenM.view.ref = V main_arg5) (t) : (lenV C t).toNat < 4512 := by
  unfold lenV
  rw [hC]
  exact hf.len _

theorem len2V_lt (hf : Fits V) (C : (b : Ref sig .tc) → b.ty.Contents (Elt F)) (hC : C lenM.view.ref = V main_arg5) (t) : (len2V C t).toNat < 4512 := by
  unfold len2V
  rw [hC]
  exact hf.len _

theorem pageV_lt (hf : Fits V) (C : (b : Ref sig .tc) → b.ty.Contents (Elt F)) (hC : C lenM.view.ref = V main_arg5) (hT : C tabM.view.ref = V main_arg4) (t) (h) :
    (pageV C t h).toNat < 2115 := by
  have h0 := off3_req t (len2V C t)
  have h1 := off3_page t (len2V_lt V hf C hC t)
  unfold pageV
  rw [hT]
  refine hf.tab ((len2Rect t).idx (Shape.Idx.first (numel1_S1.symm ▸ Nat.one_pos))) _ ?_ ?_
  · exact (Nat.add_zero _).trans (h0.trans (by
      have h' : t.val < 12 := lt_of_lt_of_eq t.isLt trips2
      show t.val = (req2W t).toNat + 0
      simp only [req2W, Scf.iv, BitVec.mul_one, BitVec.zero_add, BitVec.toNat_ofNat]
      omega))
  · refine (Nat.add_zero _).trans (h1.trans ?_)
    unfold len2V
    rw [hC]
    rfl

/-- Contents put in place of the scratch buffers' and the results'. -/
def mk (IN : S10016x16x128.Idx → Elt F .bf16) (OLD : S24x512x128.Idx → Elt F .fp8e4m3) (ROW : S24x1x16.Idx → Elt F .f32)
    (OUT : S24x6656x128.Idx → Elt F .fp8e4m3) (SC : S2x12x13x16.Idx → Elt F .f32)
    (RK RV : S12x6656x128.Idx → Elt F .fp8e4m3) (SK SV : S12x13x16.Idx → Elt F .f32) : (b : Ref sig .tc) → b.ty.Contents (Elt F) :=
  Function.update (Function.update (Function.update (Function.update (Function.update (Function.update (Function.update (Function.update (Function.update (Function.update (Function.update V
    main_v2_0 RK) main_v2_1 SK) main_v2_2 RV) main_v2_3 SV)
    cc0_scratch6 (V main_arg5)) cc0_scratch5 (V main_arg4))
    cc0_scratch4 SC) cc0_scratch2 OUT) cc0_scratch3 ROW) cc0_scratch1 OLD) cc0_scratch0 IN

section Look

variable (IN : S10016x16x128.Idx → Elt F .bf16) (OLD : S24x512x128.Idx → Elt F .fp8e4m3) (ROW : S24x1x16.Idx → Elt F .f32)
    (OUT : S24x6656x128.Idx → Elt F .fp8e4m3) (SC : S2x12x13x16.Idx → Elt F .f32)
    (RK RV : S12x6656x128.Idx → Elt F .fp8e4m3) (SK SV : S12x13x16.Idx → Elt F .f32)

theorem mk_in : mk V IN OLD ROW OUT SC RK RV SK SV cc0_scratch0 = IN := rfl
theorem mk_old : mk V IN OLD ROW OUT SC RK RV SK SV cc0_scratch1 = OLD := rfl
theorem mk_row : mk V IN OLD ROW OUT SC RK RV SK SV cc0_scratch3 = ROW := rfl
theorem mk_out : mk V IN OLD ROW OUT SC RK RV SK SV cc0_scratch2 = OUT := rfl
theorem mk_sc : mk V IN OLD ROW OUT SC RK RV SK SV cc0_scratch4 = SC := rfl
theorem mk_tab : mk V IN OLD ROW OUT SC RK RV SK SV cc0_scratch5 = V main_arg4 := rfl
theorem mk_len : mk V IN OLD ROW OUT SC RK RV SK SV cc0_scratch6 = V main_arg5 := rfl
theorem mk_rk : mk V IN OLD ROW OUT SC RK RV SK SV main_v2_0 = RK := rfl
theorem mk_sk : mk V IN OLD ROW OUT SC RK RV SK SV main_v2_1 = SK := rfl
theorem mk_rv : mk V IN OLD ROW OUT SC RK RV SK SV main_v2_2 = RV := rfl
theorem mk_sv : mk V IN OLD ROW OUT SC RK RV SK SV main_v2_3 = SV := rfl
theorem mk_v0 : mk V IN OLD ROW OUT SC RK RV SK SV main_v0 = V main_v0 := rfl
theorem mk_v1 : mk V IN OLD ROW OUT SC RK RV SK SV main_v1 = V main_v1 := rfl
theorem mk_a2 : mk V IN OLD ROW OUT SC RK RV SK SV main_arg2 = V main_arg2 := rfl
theorem mk_a3 : mk V IN OLD ROW OUT SC RK RV SK SV main_arg3 = V main_arg3 := rfl
theorem mk_a4 : mk V IN OLD ROW OUT SC RK RV SK SV main_arg4 = V main_arg4 := rfl
theorem mk_a5 : mk V IN OLD ROW OUT SC RK RV SK SV main_arg5 = V main_arg5 := rfl
theorem mk_a6 : mk V IN OLD ROW OUT SC RK RV SK SV main_arg6 = V main_arg6 := rfl
theorem mk_a7 : mk V IN OLD ROW OUT SC RK RV SK SV main_arg7 = V main_arg7 := rfl

end Look

theorem pageAll (hf : Fits V) (C : (b : Ref sig .tc) → b.ty.Contents (Elt F)) (hC : C lenM.view.ref = V main_arg5) (hT : C tabM.view.ref = V main_arg4) (t h) :
    k0_chk2 (pageV C t h) := chk2_of (pageV_lt V hf C hC hT t h)

theorem lt12 (b : Fin 12) : b.val < k0_t2_loop.trips := lt_of_lt_of_eq b.isLt trips2.symm

/-- The page loop 2 reads for a request. -/
def pg (C : (b : Ref sig .tc) → b.ty.Contents (Elt F)) (hl : ∀ t, (len2V C t).toNat < 4512) (b : Fin 12) : BitVec 32 :=
  pageV C ⟨b.val, lt12 b⟩ (chk1_of _ (hl _))

theorem pg_eq (C C' : (b : Ref sig .tc) → b.ty.Contents (Elt F)) (hl) (e1 : C lenM.view.ref = C' lenM.view.ref) (e2 : C tabM.view.ref = C' tabM.view.ref)
    (t : Fin k0_t2_loop.trips) (h) : pageV C t h = pg C' hl ⟨t.val, lt_of_lt_of_eq t.isLt trips2⟩ := pageV_congr C C' t e1 e2 _ _

theorem scaPg_read (m : Memref sig .tc .hbm S2115x16 .f32) (v v' : BitVec 32) (e : v = v') (h h') (f : _) :
    (scaPg m v h).view.read (Elt F) f = (scaPg m v' h').view.read (Elt F) f := by
  subst e
  rfl

theorem pagPg_read (m : Memref sig .tc .hbm S2115x512x128 .fp8e4m3) (v v' : BitVec 32) (e : v = v') (h h') (f : _) :
    (pagPg m v h).view.read (Elt F) f = (pagPg m v' h').view.read (Elt F) f := by
  subst e
  rfl

theorem exists_good (hf : Fits V) : ∃ C : (b : Ref sig .tc) → b.ty.Contents (Elt F), Good C ∧ ∀ b ∈ H0, C b = V b := by
  have hX : ∀ (IN : S10016x16x128.Idx → Elt F .bf16) (OLD : S24x512x128.Idx → Elt F .fp8e4m3) (ROW : S24x1x16.Idx → Elt F .f32) OUT SC RK RV SK SV t,
      (lenV (mk V IN OLD ROW OUT SC RK RV SK SV) t).toNat < 4512 := fun _ _ _ _ _ _ _ _ _ t => lenV_lt V hf _ (mk_len V _ _ _ _ _ _ _ _ _) t
  have hX2 : ∀ (IN : S10016x16x128.Idx → Elt F .bf16) (OLD : S24x512x128.Idx → Elt F .fp8e4m3) (ROW : S24x1x16.Idx → Elt F .f32) OUT SC RK RV SK SV t,
      (len2V (mk V IN OLD ROW OUT SC RK RV SK SV) t).toNat < 4512 := fun _ _ _ _ _ _ _ _ _ t => len2V_lt V hf _ (mk_len V _ _ _ _ _ _ _ _ _) t
  obtain ⟨IN, hin, hpad⟩ := fill_in (F := F) (fun k => (tokBlk (tokOf k.1) k.2).view.read (Elt F) (V (tokOf k.1).view.ref)) (Scalar.ofBits (F := F) .bf16 0x0000#16)
  let z8 : ∀ {s : Shape}, s.Idx → Elt F .fp8e4m3 := fun _ => Scalar.ofBits (F := F) .fp8e4m3 0#8
  let z32 : ∀ {s : Shape}, s.Idx → Elt F .f32 := fun _ => Scalar.ofBits (F := F) .f32 0#32
  obtain ⟨A, hA⟩ : ∃ A, A = mk V IN z8 z32 z8 z32 z8 z8 z32 z32 := ⟨_, rfl⟩
  have hA2 : ∀ t, (len2V A t).toNat < 4512 := fun t => hA ▸ hX2 _ _ _ _ _ _ _ _ _ t
  have hAl : A lenM.view.ref = V main_arg5 := by rw [hA]; exact mk_len V _ _ _ _ _ _ _ _ _
  have hAt : A tabM.view.ref = V main_arg4 := by rw [hA]; exact mk_tab V _ _ _ _ _ _ _ _ _
  have hpg : ∀ b, k0_chk2 (pg A hA2 b) := fun b => pageAll V hf A hAl hAt _ _
  obtain ⟨ROW, hrow⟩ := fill_row (F := F) (fun k => (scaPg (scaOf k.1) (pg A hA2 k.2) (k0_off6_inb _ (hpg k.2))).view.read (Elt F) (V (scaOf k.1).view.ref))
  obtain ⟨OLD, hold⟩ := fill_old (F := F) (fun k => (pagPg (pagOf k.1) (pg A hA2 k.2) (k0_off9_inb _ (hpg k.2))).view.read (Elt F) (V (pagOf k.1).view.ref))
  obtain ⟨B, hB⟩ : ∃ B, B = mk V IN OLD ROW z8 z32 z8 z8 z32 z32 := ⟨_, rfl⟩
  have hBl : ∀ t, (lenV B t).toNat < 4512 := fun t => hB ▸ hX _ _ _ _ _ _ _ _ _ t
  obtain ⟨OUT, hout⟩ := fill_out (F := F) (fun k => match k.2.1 with
    | ⟨0, _⟩ => code0V B k.1.1 (trip k.1.2) (lenV B (trip k.1.2)) (chk_of _ _ (hBl _)) k.2.2
    | ⟨n + 1, hn⟩ => codeV B k.1.1 (trip k.1.2) (lenV B (trip k.1.2)) (chk_of _ _ (hBl _)) ⟨n, by omega⟩ k.2.2)
  obtain ⟨SC, hsc⟩ := fill_sc (F := F) (fun k => scV B k.1 (trip k.2) (lenV B (trip k.2)) (chk_of _ _ (hBl _)))
  obtain ⟨RK, hrk⟩ := fill_res0 (F := F) (fun b => (outBlk ![2 * b.val + 0, 0, 0] (off24 (uIx 0 b))).view.read (Elt F) OUT)
  obtain ⟨RV, hrv⟩ := fill_res1 (F := F) (fun b => (outBlk ![2 * b.val + 1, 0, 0] (off24 (uIx 1 b))).view.read (Elt F) OUT)
  obtain ⟨C, hC⟩ : ∃ C, C = mk V IN OLD ROW OUT SC RK RV
    ((scBlk ![0, 0, 0, 0] (by decide)).view.read (Elt F) SC) ((scBlk ![1, 0, 0, 0] (by decide)).view.read (Elt F) SC) := ⟨_, rfl⟩
  have eIn : C inM.view.ref = IN := by rw [hC]; exact mk_in V _ _ _ _ _ _ _ _ _
  have eOld : C oldM.view.ref = OLD := by rw [hC]; exact mk_old V _ _ _ _ _ _ _ _ _
  have eRow : C rowM.view.ref = ROW := by rw [hC]; exact mk_row V _ _ _ _ _ _ _ _ _
  have eOut : C outM.view.ref = OUT := by rw [hC]; exact mk_out V _ _ _ _ _ _ _ _ _
  have eSc : C scM.view.ref = SC := by rw [hC]; exact mk_sc V _ _ _ _ _ _ _ _ _
  have eTab : C tabM.view.ref = V main_arg4 := by rw [hC]; exact mk_tab V _ _ _ _ _ _ _ _ _
  have eLen : C lenM.view.ref = V main_arg5 := by rw [hC]; exact mk_len V _ _ _ _ _ _ _ _ _
  have bIn : C inM.view.ref = B inM.view.ref := by rw [eIn, hB]; exact (mk_in V _ _ _ _ _ _ _ _ _).symm
  have bOld : C oldM.view.ref = B oldM.view.ref := by rw [eOld, hB]; exact (mk_old V _ _ _ _ _ _ _ _ _).symm
  have bRow : C rowM.view.ref = B rowM.view.ref := by rw [eRow, hB]; exact (mk_row V _ _ _ _ _ _ _ _ _).symm
  have bLen : C lenM.view.ref = B lenM.view.ref := by rw [eLen, hB]; exact (mk_len V _ _ _ _ _ _ _ _ _).symm
  have e0 : C main_v0 = V main_v0 := by rw [hC]; exact mk_v0 V _ _ _ _ _ _ _ _ _
  have e1 : C main_v1 = V main_v1 := by rw [hC]; exact mk_v1 V _ _ _ _ _ _ _ _ _
  have e2 : C main_arg2 = V main_arg2 := by rw [hC]; exact mk_a2 V _ _ _ _ _ _ _ _ _
  have e3 : C main_arg3 = V main_arg3 := by rw [hC]; exact mk_a3 V _ _ _ _ _ _ _ _ _
  have e4 : C main_arg4 = V main_arg4 := by rw [hC]; exact mk_a4 V _ _ _ _ _ _ _ _ _
  have e5 : C main_arg5 = V main_arg5 := by rw [hC]; exact mk_a5 V _ _ _ _ _ _ _ _ _
  have e6 : C main_arg6 = V main_arg6 := by rw [hC]; exact mk_a6 V _ _ _ _ _ _ _ _ _
  have e7 : C main_arg7 = V main_arg7 := by rw [hC]; exact mk_a7 V _ _ _ _ _ _ _ _ _
  have eRK : C main_v2_0 = RK := by rw [hC]; exact mk_rk V _ _ _ _ _ _ _ _ _
  have eRV : C main_v2_2 = RV := by rw [hC]; exact mk_rv V _ _ _ _ _ _ _ _ _
  have eSK : C main_v2_1 = ((scBlk ![0, 0, 0, 0] (by decide)).view.read (Elt F) SC) := by rw [hC]; exact mk_sk V _ _ _ _ _ _ _ _ _
  have eSV : C main_v2_3 = ((scBlk ![1, 0, 0, 0] (by decide)).view.read (Elt F) SC) := by rw [hC]; exact mk_sv V _ _ _ _ _ _ _ _ _
  refine ⟨C, ?_, ?_⟩
  · refine { chk := ?_, rem := ?_, chk1 := ?_, chk2 := ?_, out := ?_, out0 := ?_, sc := ?_, tok := ?_, pad := ?_, tab := ?_, len := ?_, row := ?_, old := ?_, res := ?_, scOut := ?_ }
    · exact fun kv b => chk_of kv _ (lenV_lt V hf C eLen _)
    · intro b
      rw [rem_toNat (lenV_lt V hf C eLen _)]
      omega
    · exact fun t => chk1_of t (len2V_lt V hf C eLen t)
    · exact fun t h => pageAll V hf C eLen eTab t h
    · intro kv b h p i
      rw [eOut]
      refine (hout ((kv, b), p.succ, i)).trans ?_
      exact (codeV_congr C B kv (trip b) bIn _ _ (lenV_congr C B _ bLen) _ _ p i).symm
    · intro kv b h i
      rw [eOut]
      refine (hout ((kv, b), 0, i)).trans ?_
      exact (code0V_congr C B kv (trip b) bIn bRow bOld _ _ (lenV_congr C B _ bLen) _ _ i).symm
    · intro kv b h
      rw [eSc]
      refine (hsc (kv, b)).trans ?_
      exact (scV_congr C B kv (trip b) bIn bRow _ _ (lenV_congr C B _ bLen) _ _).symm
    · intro kv b
      rw [eIn]
      refine (hin (kv, b)).trans ?_
      match kv with
      | 0 => exact (congrArg ((tokBlk (tokOf 0) b).view.read (Elt F)) e6).symm
      | 1 => exact (congrArg ((tokBlk (tokOf 1) b).view.read (Elt F)) e7).symm
    · intro i hi
      rw [eIn]
      exact hpad i hi
    · exact eTab.trans e4.symm
    · exact eLen.trans e5.symm
    · intro kv t h h2 off ho hi
      subst ho
      rw [eRow]
      refine (hrow (kv, ⟨t.val, lt_of_lt_of_eq t.isLt trips2⟩)).trans ?_
      refine (scaPg_read _ _ _ (pg_eq C A hA2 (eLen.trans hAl.symm) (eTab.trans hAt.symm) t h).symm _ (k0_off6_inb _ h2) _).trans ?_
      match kv with
      | 0 => exact (congrArg ((scaPg (scaOf 0) _ _).view.read (Elt F)) e2).symm
      | 1 => exact (congrArg ((scaPg (scaOf 1) _ _).view.read (Elt F)) e3).symm
    · intro kv t h h2 off ho hi
      subst ho
      rw [eOld]
      refine (hold (kv, ⟨t.val, lt_of_lt_of_eq t.isLt trips2⟩)).trans ?_
      refine (pagPg_read _ _ _ (pg_eq C A hA2 (eLen.trans hAl.symm) (eTab.trans hAt.symm) t h).symm _ (k0_off9_inb _ h2) _).trans ?_
      match kv with
      | 0 => exact (congrArg ((pagPg (pagOf 0) _ _).view.read (Elt F)) e0).symm
      | 1 => exact (congrArg ((pagPg (pagOf 1) _ _).view.read (Elt F)) e1).symm
    · intro kv b off ho h off' ho' h'
      subst ho ho'
      have hb : b < 12 := by have := h' 0; exact Nat.lt_of_succ_le this
      rw [eOut]
      match kv with
      | 0 =>
        refine (congrArg ((resBlk kOutM ![b, 0, 0] h').view.read (Elt F)) eRK).trans ?_
        exact hrk ⟨b, hb⟩
      | 1 =>
        refine (congrArg ((resBlk vOutM ![b, 0, 0] h').view.read (Elt F)) eRV).trans ?_
        exact hrv ⟨b, hb⟩
    · intro kv off ho h
      subst ho
      rw [eSc]
      match kv with
      | 0 => exact eSK
      | 1 => exact eSV
  · intro b hb
    simp only [H0, Finset.mem_insert, Finset.mem_singleton] at hb
    rcases hb with rfl | rfl | rfl | rfl | rfl | rfl | rfl | rfl
    · exact e0
    · exact e1
    · exact e2
    · exact e3
    · exact e4
    · exact e5
    · exact e6
    · exact e7

end Cert.Kernel.Run
end
-- ==== Proof.Range.lean ====
/- The precondition as bounds on the words it speaks of. -/
module

public import proofs.«01_k».proof.Proof.Fill
public import proofs.«01_k».proof.Proof.Gen.Pre_in_range
public import Idealize.ShloMosaic.Lib.WordCmp

@[expose] public section

noncomputable section

namespace Cert.Kernel.Run

open Idealize.ShloMosaic Idealize.ShloMosaic.TcCoe Idealize.ShloMosaic.Tactic
open Idealize.SL.Sem
open Cert.Kernel
open Idealize.ShloMosaic.WordCmp

variable {F : FTy → Type} [FloatOps F]

theorem not_ofBool (b : Bool) : ~~~(BitVec.ofBool b) = BitVec.ofBool (!b) := by cases b <;> decide

theorem range_word (n T k : BitVec 32) (hk : k.toNat < 141)
    (h : IntOp.andi (IntOp.andi (IntOp.cmpi .sge n 0#32) (IntOp.cmpi .slt n 4512#32))
      (IntOp.ori (~~~(IntOp.andi (IntOp.cmpi .sge n (IntOp.muli 32#32 k)) (IntOp.cmpi .slt n (IntOp.addi (IntOp.muli 32#32 k) 32#32))))
        (IntOp.andi (IntOp.cmpi .sge T 0#32) (IntOp.cmpi .slt T 2115#32))) = 1#1) :
    n.toNat < 4512 ∧ (k.toNat = n.toNat / 32 → T.toNat < 2115) := by
  have e1 : (IntOp.muli 32#32 k).toNat = 32 * k.toNat := by
    show (32#32 * k).toNat = _
    rw [BitVec.toNat_mul, BitVec.toNat_ofNat]
    omega
  have e2 : (IntOp.addi (IntOp.muli 32#32 k) 32#32).toNat = 32 * k.toNat + 32 := by
    show (IntOp.muli 32#32 k + 32#32).toNat = _
    rw [BitVec.toNat_add, e1, BitVec.toNat_ofNat]
    omega
  have i1 : (IntOp.muli 32#32 k).toInt = 32 * (k.toNat : Int) := by
    rw [BitVec.toInt_eq_toNat_cond, e1, if_pos (by omega)]
    omega
  have i2 : (IntOp.addi (IntOp.muli 32#32 k) 32#32).toInt = 32 * (k.toNat : Int) + 32 := by
    rw [BitVec.toInt_eq_toNat_cond, e2, if_pos (by omega)]
    omega
  have c0 : (0#32).toInt = 0 := by decide
  have c1 : (4512#32).toInt = 4512 := by decide
  have c2 : (2115#32).toInt = 2115 := by decide
  simp only [cmpi_sge_eq, cmpi_slt_eq, andi_ofBool, ori_ofBool, not_ofBool, ofBool_eq_one_iff, Bool.and_eq_true, Bool.or_eq_true,
    Bool.not_eq_true', Bool.and_eq_false_iff, decide_eq_true_eq, decide_eq_false_iff_not, i1, i2, c0, c1, c2] at h
  obtain ⟨⟨h1, h2⟩, h3⟩ := h
  have hn := BitVec.toInt_eq_toNat_cond n
  have hT := BitVec.toInt_eq_toNat_cond T
  have := n.isLt
  have := T.isLt
  have hn' : n.toInt = n.toNat := by
    rw [hn] at h1 ⊢
    split at h1 <;> split <;> omega
  refine ⟨by omega, fun hk' => ?_⟩
  rcases h3 with h3 | ⟨h4, h5⟩
  · rcases h3 with h3 | h3 <;> omega
  · have hT' : T.toInt = T.toNat := by
      rw [hT] at h4 ⊢
      split at h4 <;> split <;> omega
    omega

/-- What the precondition says of one request and one page of its table. -/
theorem range_at (x0 x1 x2 x3 x6 x7) (T : IVec Cert.Pre_in_range.S12x141 32) (N : IVec Cert.Pre_in_range.S12 32)
    (h : Cert.Pre_in_range.fn (F := F) x0 x1 x2 x3 T N x6 x7 = fun _ => 1#1) (i : S12.Idx) (j : S12x141.Idx) (hj : (j 0).val = (i 0).val) :
    (N i).toNat < 4512 ∧ ((j 1).val = (N i).toNat / 32 → (T j).toNat < 2115) := by
  have hk : (j 1).val < 141 := (j 1).isLt
  have hw := range_word (N i) (T j) (BitVec.ofNat 32 (j 1).val) (by rw [BitVec.toNat_ofNat]; omega)
  rw [BitVec.toNat_ofNat, Nat.mod_eq_of_lt (by omega)] at hw
  apply hw
  have eN : broadcastInDim Cert.Pre_in_range.S12x141 ![0, 1] Cert.Pre_in_range.Facts.bcast_S12x1_S12x141_0_1
      (broadcastInDim Cert.Pre_in_range.S12x1 ![0] Cert.Pre_in_range.Facts.bcast_S12_S12x1_0 N) j = N i :=
    congrArg N (funext fun a => match a with | ⟨0, _⟩ => Fin.ext hj)
  rw [← eN]
  exact congrFun h j

variable (m : (ℓ : Loc nD τ sig) → Buf (Elt F) ℓ)

/-- The precondition of the kernel's claims, at any number format. -/
def InRange : Prop := ∀ c : Dev nD,
  Cert.Pre_in_range.fn (F := F) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) = (fun _ => 1#1)

theorem fits (hm : InRange m) (c : Dev nD) : Fits (Gen.V m c) := by
  have h := fun i j => range_at _ _ _ _ _ _ _ _ (hm c) i j
  rw [← Gen.V_main_arg4 m c, ← Gen.V_main_arg5 m c] at h
  refine ⟨fun i => ?_, fun i j h0 h1 => (h i j h0).2 h1⟩
  exact (h i (fun a => match a with | ⟨0, _⟩ => ⟨(i 0).val, (i 0).isLt⟩ | ⟨1, _⟩ => ⟨0, (by decide : 0 < 141)⟩) rfl).1

variable (ρ : Dev nD → PrngReg)

/-- The run of the kernel, ending in contents that agree with its copies and stores. -/
theorem run_in_range (hm : InRange m) : ∃ C : Dev nD → (b : Ref sig .tc) → b.ty.Contents (Elt F), (∀ c, Good (C c)) ∧ (∀ c, ∀ b ∈ H0, C c b = Gen.V m c b) ∧
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) ∧
      ∀ c : Dev nD, ∀ b ∈ R0, r.2.mem ((c.tc : Thread nD τ).loc b) = C c b) := by
  have h := fun c => exists_good (Gen.V m c) (fits m hm c)
  choose C hC using h
  exact ⟨C, fun c => (hC c).1, fun c => (hC c).2, run m ρ C (fun c => (hC c).1) (fun c b hb => ((hC c).2 b hb).symm)⟩

/-- The frame claim, at any number format. -/
def Framed (F : FTy → Type) [FloatOps F] : Prop :=
  ∀ (m : (ℓ : Loc nD τ sig) → Buf (Elt F) ℓ) (g : Dev nD → PrngReg), InRange m →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0)

theorem framed : Framed F := by
  intro m g hm
  obtain ⟨C, -, -, h⟩ := run_in_range m g hm
  exact (θ_run defs _ _).mono (fun _ h => h.1) h

end Cert.Kernel.Run
end
-- ==== Proof.Frames.lean ====
/- The frame claims. -/
module

public import proofs.«01_k».proof.Defs
public import proofs.«01_k».proof.Proof.Range
public import proofs.«01_k».proof.Proof.Gen.KernelIdeal
public import proofs.«01_k».proof.Proof.Gen.ReferenceIdeal
public import proofs.«01_k».proof.Proof.Gen.ReferenceIdeal.Frame
public import Idealize.ShloMosaic.Lib.Pipeline.Regions

@[expose] public section

noncomputable section

namespace Cert.Proof

open Idealize.ShloMosaic Idealize.ShloMosaic.Tactic Idealize.SL.Sem

theorem framesK : quiescent_Kernel (hKernel := Cert.Kernel.Gen.facts) (hPre_in_range := Cert.Pre_in_range.Gen.facts) :=
  fun m g hm => Cert.Kernel.Run.framed (F := Bits) m g hm

theorem framesKI_eq : quiescent_KernelIdeal (hKernelIdeal := Cert.KernelIdeal.Gen.facts) (hPre_in_range := Cert.Pre_in_range.Gen.facts) = Cert.Kernel.Run.Framed Ideal := by
  chain_rfl

theorem framesKI : quiescent_KernelIdeal (hKernelIdeal := Cert.KernelIdeal.Gen.facts) (hPre_in_range := Cert.Pre_in_range.Gen.facts) :=
  framesKI_eq ▸ Cert.Kernel.Run.framed (F := Ideal)

theorem framesR : quiescent_ReferenceIdeal (hReferenceIdeal := Cert.ReferenceIdeal.Gen.facts) :=
  fun m g _ => Cert.ReferenceIdeal.Gen.frame m g

end Cert.Proof
end
-- ==== Proof.Pow.lean ====
/- Powers of two as words, as numbers, and as what a quotient of a page's maximum picks. -/
module

public import Idealize.ShloMosaic.PureOps.Ideal.Laws
public import Mathlib.Algebra.Order.Archimedean.Basic

@[expose] public section

noncomputable section

namespace Cert.Pow

open Idealize.ShloMosaic

/-- The word whose exponent field is `k` and whose other bits are zero. -/
abbrev pword (k : Nat) : BitVec 32 := BitVec.ofNat 32 k <<< 23

/-- The number of that word. -/
def fl (k : Nat) : EReal := Ideal.ofBits .f32 (pword k)

theorem pword_fields : ∀ k : Fin 256, ((pword k.val).extractLsb' 31 1 == 1#1) = false
    ∧ ((pword k.val).extractLsb' 23 8).toNat = k.val ∧ ((pword k.val).extractLsb' 0 23).toNat = 0 := by decide +kernel

theorem fl_eq (k : Nat) (h1 : 1 ≤ k) (h2 : k ≤ 254) : fl k = (((2 : ℝ) ^ ((k : Int) - 127) : ℝ) : EReal) := by
  obtain ⟨h, hx, hf⟩ := pword_fields ⟨k, by omega⟩
  show Ideal.ieee 8 23 (pword k) = _
  simp only at h hx hf
  unfold Ideal.ieee
  simp only [Nat.reduceAdd, h, hx, hf]
  rw [if_neg (by omega), if_neg (by omega)]
  refine congrArg Real.toEReal ?_
  simp only [Bool.false_eq_true, if_false, one_mul, Nat.add_zero]
  rw [Nat.cast_pow, Nat.cast_ofNat, ← zpow_natCast, ← zpow_add₀ (two_ne_zero)]
  refine congrArg (fun z : Int => (2 : ℝ) ^ z) ?_
  norm_num

theorem fl_zero : fl 0 = 0 := by
  obtain ⟨h, hx, hf⟩ := pword_fields ⟨0, by omega⟩
  show Ideal.ieee 8 23 (pword 0) = _
  simp only at h hx hf
  unfold Ideal.ieee
  simp [Nat.reduceAdd, h, hx, hf]

theorem fl_top : fl 255 = ⊤ := by
  obtain ⟨h, hx, hf⟩ := pword_fields ⟨255, by omega⟩
  show Ideal.ieee 8 23 (pword 255) = _
  simp only at h hx hf
  unfold Ideal.ieee
  simp [Nat.reduceAdd, h, hx, hf]

/-- A number from the least normal one up to `2 ^ 120` lies between two neighbouring powers of two. -/
theorem between (x : ℝ) (h0 : (2 : ℝ) ^ (-126 : Int) ≤ x) (h1 : x < (2 : ℝ) ^ (120 : Int)) :
    ∃ k : Nat, 1 ≤ k ∧ k ≤ 246 ∧ (2 : ℝ) ^ ((k : Int) - 127) ≤ x ∧ x < (2 : ℝ) ^ ((k : Int) - 126) := by
  have hx : 0 < x := lt_of_lt_of_le (zpow_pos (by norm_num) _) h0
  obtain ⟨n, hn⟩ := exists_mem_Ico_zpow hx (show (1 : ℝ) < 2 by norm_num)
  have a : (-126 : Int) < n + 1 := (zpow_lt_zpow_iff_right₀ (show (1 : ℝ) < 2 by norm_num)).mp (lt_of_le_of_lt h0 hn.2)
  have b : n < 120 := (zpow_lt_zpow_iff_right₀ (show (1 : ℝ) < 2 by norm_num)).mp (lt_of_le_of_lt hn.1 h1)
  refine ⟨(n + 127).toNat, by omega, by omega, ?_, ?_⟩
  · rw [show (((n + 127).toNat : Nat) : Int) - 127 = n by omega]; exact hn.1
  · rw [show (((n + 127).toNat : Nat) : Int) - 126 = n + 1 by omega]; exact hn.2

/-- Which of the powers of two lie at or below a number, once its neighbours are known. -/
theorem fl_le_iff (x : ℝ) (K : Nat) (hK : K ≤ 246) (h0 : K = 0 ∧ 0 ≤ x ∨ 1 ≤ K ∧ (2 : ℝ) ^ ((K : Int) - 127) ≤ x)
    (h1 : x < (2 : ℝ) ^ ((K : Int) - 126)) (k : Fin 256) : fl k.val ≤ (x : EReal) ↔ k.val ≤ K := by
  have hk := k.isLt
  have hx : 0 ≤ x := by
    rcases h0 with h | h
    · exact h.2
    · exact le_trans (le_of_lt (zpow_pos (by norm_num) _)) h.2
  rcases Nat.lt_or_ge k.val 1 with h | h
  · have : k.val = 0 := by omega
    rw [this, fl_zero]
    exact ⟨fun _ => by omega, fun _ => by exact_mod_cast hx⟩
  rcases Nat.lt_or_ge 254 k.val with h' | h'
  · have : k.val = 255 := by omega
    rw [this, fl_top]
    exact ⟨fun e => absurd (top_le_iff.mp e) (EReal.coe_ne_top x), fun e => by omega⟩
  rw [fl_eq _ h h', EReal.coe_le_coe_iff]
  constructor
  · intro e
    have := (zpow_lt_zpow_iff_right₀ (show (1 : ℝ) < 2 by norm_num)).mp (lt_of_le_of_lt e h1)
    omega
  · intro e
    rcases h0 with h0 | h0
    · omega
    · exact le_trans (zpow_le_zpow_right₀ (by norm_num) (by omega)) h0.2

theorem fold_word : ∀ K : Fin 247, (Finset.univ : Finset (Fin 256)).fold IntOp.maxsi 2147483648#32
    (fun k => if k.val ≤ K.val then pword k.val else 0#32) = pword K.val := by decide +kernel

/-- The word of the largest power of two at most `x`. -/
def expS (x : EReal) : BitVec 32 := (Finset.univ : Finset (Fin 256)).fold IntOp.maxsi 2147483648#32
  (fun k => if fl k.val ≤ x then pword k.val else 0#32)

theorem expS_eq (x : ℝ) (K : Nat) (hK : K ≤ 246) (h0 : K = 0 ∧ 0 ≤ x ∨ 1 ≤ K ∧ (2 : ℝ) ^ ((K : Int) - 127) ≤ x)
    (h1 : x < (2 : ℝ) ^ ((K : Int) - 126)) : expS (x : EReal) = pword K := by
  refine Eq.trans ?_ (fold_word ⟨K, by omega⟩)
  unfold expS
  refine Finset.fold_congr fun k _ => ?_
  simp only [fl_le_iff x K hK h0 h1 k]

/-- The word of the next power of two, or of one. -/
def nextS (e : BitVec 32) : BitVec 32 := if e = 0#32 ∨ e = 2139095040#32 then 1065353216#32 else e + 8388608#32

theorem next_word : ∀ K : Fin 247, nextS (pword K.val) = if K.val = 0 then pword 127 else pword (K.val + 1) := by
  unfold nextS; decide +kernel

theorem inv_word : ∀ k : Fin 254, 2130706432#32 - pword k.val = pword (254 - k.val) := by decide +kernel

/-- The least power of two above `x`, or one. -/
def powS (x : EReal) : EReal :=
  if ((2 : ℝ) ^ (-126 : Int) : ℝ) ≤ x ∧ x < ⊤ then
    (Finset.univ : Finset (Fin 253)).fold min ⊤ (fun i => if x < (((2 : ℝ) ^ ((i.val : Int) - 125) : ℝ) : EReal) then (((2 : ℝ) ^ ((i.val : Int) - 125) : ℝ) : EReal) else ⊤)
  else 1

theorem powS_small (x : ℝ) (h : x < (2 : ℝ) ^ (-126 : Int)) : powS (x : EReal) = 1 := by
  unfold powS
  rw [if_neg]
  rintro ⟨a, _⟩
  exact absurd (EReal.coe_le_coe_iff.mp a) (not_le.mpr h)

theorem powS_eq (x : ℝ) (K : Nat) (hK1 : 1 ≤ K) (hK : K ≤ 246) (h0 : (2 : ℝ) ^ ((K : Int) - 127) ≤ x)
    (h1 : x < (2 : ℝ) ^ ((K : Int) - 126)) : powS (x : EReal) = (((2 : ℝ) ^ ((K : Int) - 126) : ℝ) : EReal) := by
  unfold powS
  rw [if_pos ⟨EReal.coe_le_coe_iff.mpr (le_trans (zpow_le_zpow_right₀ (by norm_num) (by omega)) h0), EReal.coe_lt_top x⟩]
  apply le_antisymm
  · refine Finset.fold_min_le _ |>.mpr (Or.inr ⟨⟨K - 1, by omega⟩, Finset.mem_univ _, ?_⟩)
    have e : (((K - 1 : Nat) : Int) - 125) = (K : Int) - 126 := by omega
    show (if (x : EReal) < (((2 : ℝ) ^ (((K - 1 : Nat) : Int) - 125) : ℝ) : EReal) then (((2 : ℝ) ^ (((K - 1 : Nat) : Int) - 125) : ℝ) : EReal) else ⊤) ≤ _
    rw [e, if_pos (EReal.coe_lt_coe_iff.mpr h1)]
  · refine Finset.le_fold_min _ |>.mpr ⟨le_top, fun i _ => ?_⟩
    split
    · rename_i hi
      rw [EReal.coe_lt_coe_iff] at hi
      rw [EReal.coe_le_coe_iff]
      have := (zpow_lt_zpow_iff_right₀ (show (1 : ℝ) < 2 by norm_num)).mp (lt_of_le_of_lt h0 hi)
      exact zpow_le_zpow_right₀ (by norm_num) (by omega)
    · exact le_top

/-- The word picked is a power of two's, and the number picked is that power. -/
theorem pick (x : EReal) (h0 : 0 ≤ x) (h1 : x < (((2 : ℝ) ^ (120 : Int) : ℝ) : EReal)) :
    ∃ k : Nat, 1 ≤ k ∧ k ≤ 253 ∧ nextS (expS x) = pword k ∧ powS x = fl k := by
  induction x with
  | bot => exact absurd (lt_of_lt_of_le EReal.bot_lt_zero h0) (lt_irrefl _)
  | top => exact absurd h1 (not_lt.mpr le_top)
  | coe x =>
    have h0 : 0 ≤ x := by exact_mod_cast h0
    rw [EReal.coe_lt_coe_iff] at h1
    rcases lt_or_ge x ((2 : ℝ) ^ (-126 : Int)) with h | h
    · refine ⟨127, by omega, by omega, ?_, ?_⟩
      · rw [expS_eq x 0 (by omega) (Or.inl ⟨rfl, h0⟩) (by simpa using h), next_word ⟨0, by omega⟩]; rfl
      · rw [powS_small x h, fl_eq 127 (by omega) (by omega)]; norm_num
    · obtain ⟨K, a, b, c, d⟩ := between x h h1
      refine ⟨K + 1, by omega, by omega, ?_, ?_⟩
      · rw [expS_eq x K b (Or.inr ⟨a, c⟩) d, next_word ⟨K, by omega⟩]; exact if_neg (by show ¬ K = 0; omega)
      · rw [powS_eq x K a b c d, fl_eq _ (by omega) (by omega), show (((K + 1 : Nat) : Int)) - 127 = (K : Int) - 126 by omega]

/-- The factor of a picked power, from its word and as a quotient. -/
theorem inv_fl (k : Nat) (h1 : 1 ≤ k) (h2 : k ≤ 253) : Ideal.ofBits .f32 (2130706432#32 - pword k) = Ideal.div 1 (fl k) := by
  have e : 2130706432#32 - pword k = pword (254 - k) := inv_word ⟨k, by omega⟩
  rw [e]
  show fl (254 - k) = _
  rw [fl_eq _ (by omega) (by omega), fl_eq _ h1 (by omega)]
  have hp : (0 : ℝ) < (2 : ℝ) ^ ((k : Int) - 127) := zpow_pos (by norm_num) _
  unfold Ideal.div
  rw [if_neg (by exact_mod_cast ne_of_gt hp), one_mul, ← EReal.coe_inv]
  congr 1
  rw [← zpow_neg]
  congr 1
  omega

theorem fl_pos (k : Nat) (h1 : 1 ≤ k) (h2 : k ≤ 253) : 0 < fl k := by
  rw [fl_eq _ h1 (by omega)]
  exact_mod_cast zpow_pos (show (0 : ℝ) < 2 by norm_num) _

end Cert.Pow
end
-- ==== Proof.Page.lean ====
/- A page's scale and codes, as functions of its numbers. -/
module

public import proofs.«01_k».proof.Proof.Pow
public import Idealize.ShloMosaic.Lib.WordCmp

@[expose] public section

noncomputable section

namespace Cert.Page

open Idealize.ShloMosaic Cert.Pow

/-- The factor taking a page's maximum to the quotient its power of two lies above. -/
def cq : EReal := Ideal.ofBits .f32 0x3B124925#32

/-- The largest magnitude among the page's numbers. -/
def amax (x : Fin 32 → Fin 128 → EReal) : EReal :=
  (Finset.univ : Finset (Fin 32)).fold max ⊥ fun r => (Finset.univ : Finset (Fin 128)).fold max ⊥ fun l => max (x r l) (-(x r l))

/-- The page's scale: the larger of the stored one, where the page has one, and the power of two its new numbers ask for. -/
def scale (A sc : EReal) (live : Prop) [Decidable live] : EReal :=
  let s := max (if live then sc else 0) (if 0 < A then powS (A * cq) else 0)
  if s = 0 then 1 else s

/-- A number's code, given the factor. -/
def code (v i : EReal) : EReal := min (Ideal.ofBits .f32 0x43E00000#32) (max (Ideal.ofBits .f32 0xC3E00000#32) (v * i))

theorem amax_le_iff (x : Fin 32 → Fin 128 → EReal) (z : EReal) :
    amax x ≤ z ↔ ∀ r l, max (x r l) (-(x r l)) ≤ z := by
  unfold amax
  rw [Finset.fold_max_le]
  refine ⟨fun h r l => ?_, fun h => ⟨bot_le, fun r _ => ?_⟩⟩
  · exact ((Finset.fold_max_le _).mp (h.2 r (Finset.mem_univ _))).2 l (Finset.mem_univ _)
  · exact (Finset.fold_max_le _).mpr ⟨bot_le, fun l _ => h r l⟩

theorem abs_nonneg (x : EReal) : 0 ≤ max x (-x) := by
  rcases le_total 0 x with h | h
  · exact le_trans h (le_max_left _ _)
  · exact le_trans (by simpa using EReal.neg_le_neg_iff.mpr h) (le_max_right _ _)

theorem amax_nonneg (x : Fin 32 → Fin 128 → EReal) : 0 ≤ amax x :=
  le_trans (abs_nonneg _) ((amax_le_iff x (amax x)).mp le_rfl 0 0)

theorem one_bits : Ideal.ofBits .f32 0x3F800000#32 = 1 := by
  show fl 127 = 1
  rw [fl_eq 127 (by omega) (by omega)]; norm_num

theorem zero_bits : Ideal.ofBits .f32 0x00000000#32 = 0 := fl_zero

theorem top_bits : Ideal.ofBits .f32 0x7F800000#32 = ⊤ := fl_top

theorem least_bits : Ideal.ofBits .f32 0x00800000#32 = (((2 : ℝ) ^ (-126 : Int) : ℝ) : EReal) := by
  show fl 1 = _
  rw [fl_eq 1 (by omega) (by omega)]; norm_num

theorem bot_bits : Ideal.ofBits .f32 0xFF800000#32 = ⊥ := by
  show Ideal.ieee 8 23 (0xFF800000#32) = _
  unfold Ideal.ieee
  rw [if_pos (by decide), if_pos (by decide), if_pos (by decide)]

theorem zero_bits16 : Ideal.ofBits .bf16 0x0000#16 = 0 := by
  show Ideal.ieee 8 7 (0x0000#16) = _
  unfold Ideal.ieee
  rw [if_neg (by decide), if_pos (by decide)]
  have : ((0x0000#16).extractLsb' 0 7).toNat = 0 := by decide
  rw [this]
  simp

/-- The greatest number of the new tokens' format, as a bound on them. -/
def big : EReal := Ideal.ofBits .bf16 0x7F7F#16

theorem big_eq : big = (((255 : ℝ) * (2 : ℝ) ^ (120 : Int) : ℝ) : EReal) := by
  show Ideal.ieee 8 7 (0x7F7F#16) = _
  unfold Ideal.ieee
  rw [if_neg (by decide), if_neg (by decide)]
  have h1 : ((0x7F7F#16).extractLsb' 0 7).toNat = 127 := by decide
  have h2 : ((0x7F7F#16).extractLsb' 7 8).toNat = 254 := by decide
  have h3 : (((0x7F7F#16).extractLsb' (8 + 7) 1) == 1#1) = false := by decide
  rw [h1, h2, h3]
  refine congrArg Real.toEReal ?_
  norm_num

theorem cq_eq : cq = (((9586981 : ℝ) * (2 : ℝ) ^ (-32 : Int) : ℝ) : EReal) := by
  show Ideal.ieee 8 23 (0x3B124925#32) = _
  unfold Ideal.ieee
  rw [if_neg (by decide), if_neg (by decide)]
  have h1 : ((0x3B124925#32).extractLsb' 0 23).toNat = 1198373 := by decide
  have h2 : ((0x3B124925#32).extractLsb' 23 8).toNat = 118 := by decide
  have h3 : (((0x3B124925#32).extractLsb' (8 + 23) 1) == 1#1) = false := by decide
  rw [h1, h2, h3]
  refine congrArg Real.toEReal ?_
  norm_num

/-- A maximum within the format's range leaves a quotient well below the greatest power of two. -/
theorem quot_range (A : EReal) (h0 : 0 ≤ A) (h1 : A ≤ big) : 0 ≤ A * cq ∧ A * cq < (((2 : ℝ) ^ (120 : Int) : ℝ) : EReal) := by
  rw [big_eq] at h1
  rw [cq_eq]
  induction A with
  | bot => exact absurd (lt_of_lt_of_le EReal.bot_lt_zero h0) (lt_irrefl _)
  | top => exact absurd h1 (not_le.mpr (EReal.coe_lt_top _))
  | coe a =>
    have h0 : 0 ≤ a := by exact_mod_cast h0
    rw [EReal.coe_le_coe_iff] at h1
    rw [← EReal.coe_mul]
    constructor
    · have : 0 ≤ a * ((9586981 : ℝ) * (2 : ℝ) ^ (-32 : Int)) := mul_nonneg h0 (by norm_num)
      exact_mod_cast this
    · rw [EReal.coe_lt_coe_iff]
      refine lt_of_le_of_lt (mul_le_mul_of_nonneg_right h1 (by norm_num)) ?_
      norm_num

/-- What the page's word, its scale and its factor are, once the quotient is in range. -/
theorem picked (A : EReal) (h0 : 0 ≤ A) (h1 : A ≤ big) :
    ∃ k : Nat, 1 ≤ k ∧ k ≤ 253 ∧ nextS (expS (A * cq)) = pword k ∧ powS (A * cq) = fl k :=
  pick _ (quot_range A h0 h1).1 (quot_range A h0 h1).2

/-- A page with no stored scale has the picked power of two as its scale. -/
theorem scale_new (A sc : EReal) (h0 : 0 ≤ A) (h1 : A ≤ big) (live : Prop) [Decidable live] (hl : ¬ live) :
    scale A sc live = Ideal.ofBits .f32 (nextS (expS (A * cq))) ∧
    Ideal.ofBits .f32 (2130706432#32 - nextS (expS (A * cq))) = Ideal.div 1 (scale A sc live) := by
  obtain ⟨k, a, b, c, d⟩ := picked A h0 h1
  have hs : scale A sc live = fl k := by
    unfold scale
    simp only [if_neg hl, d]
    rcases lt_or_eq_of_le h0 with h | h
    · rw [if_pos h, max_eq_right (le_of_lt (fl_pos k a b)), if_neg (ne_of_gt (fl_pos k a b))]
    · subst h
      rw [if_neg (lt_irrefl (0 : EReal)), max_self, if_pos rfl, ← d, zero_mul]
      have := powS_small 0 (zpow_pos (by norm_num) _)
      exact_mod_cast this.symm
  refine ⟨by rw [hs, c]; rfl, ?_⟩
  rw [hs, c]
  exact inv_fl k a b

theorem pow_word (A : EReal) (h0 : 0 ≤ A) (h1 : A ≤ big) : Ideal.ofBits .f32 (nextS (expS (A * cq))) = powS (A * cq) := by
  obtain ⟨k, -, -, c, d⟩ := picked A h0 h1
  rw [c, d]
  rfl

theorem scale_congr (A sc : EReal) {p q : Prop} [Decidable p] [Decidable q] (h : p ↔ q) : scale A sc p = scale A sc q := by
  unfold scale
  simp only [h]

/-! ## One request -/

section

variable (f : ℕ) (old : Fin 32 → Fin 16 → Fin 128 → EReal) (sc : Fin 16 → EReal) (new : Fin 384 → Fin 16 → Fin 128 → EReal)

/-- A page's token, counted from the first new one: the first page holds `f` older tokens. -/
def tok (p : Fin 13) (r : Fin 32) : Int := 32 * (p.val : Int) + r.val - f

/-- The new number of a token, zero where there is none. -/
def newOr (t : Int) (h : Fin 16) (l : Fin 128) : EReal := if ht : 0 ≤ t ∧ t < 384 then new ⟨t.toNat, by omega⟩ h l else 0

/-- The largest magnitude among a page's new numbers, of one head. -/
def top (p : Fin 13) (h : Fin 16) : EReal := amax fun r l => newOr new (tok f p r) h l

/-- The scale of a page, of one head. -/
def want (p : Fin 13) (h : Fin 16) : EReal := scale (top f new p h) (sc h) (p.val = 0 ∧ 0 < f)

/-- The number coded: the older one as stored, or the new one. -/
def val (p : Fin 13) (r : Fin 32) (h : Fin 16) (l : Fin 128) : EReal :=
  if tok f p r < 0 then old r h l * sc h else newOr new (tok f p r) h l

/-- The code of a token, of one head and lane. -/
def wantCode (p : Fin 13) (r : Fin 32) (h : Fin 16) (l : Fin 128) : EReal :=
  code (val f old sc new p r h l) (Ideal.div 1 (want f sc new p h))

theorem top_nonneg (p : Fin 13) (h : Fin 16) : 0 ≤ top f new p h := amax_nonneg _

theorem big_nonneg : 0 ≤ big := by
  rw [big_eq]
  have : (0 : ℝ) ≤ 255 * (2 : ℝ) ^ (120 : Int) := by positivity
  exact_mod_cast this

theorem top_le (hn : ∀ t h l, max (new t h l) (-(new t h l)) ≤ big) (p : Fin 13) (h : Fin 16) : top f new p h ≤ big := by
  refine (amax_le_iff _ _).mpr fun r l => ?_
  unfold newOr
  split
  · exact hn _ _ _
  · simpa using big_nonneg

end

end Cert.Page
end
-- ==== Proof.Finite.lean ====
/- The second precondition: its side conditions, and what it says of the words and numbers. -/
module

public import proofs.«01_k».proof.Pre_finite
public import proofs.«01_k».proof.Proof.Gen.Pre_in_range
public import proofs.«01_k».proof.Proof.Page
public import Idealize.ShloMosaic.Lib.Affine
public import Idealize.ShloMosaic.Lib.Decide
public import Idealize.ShloMosaic.Lib.ReduceAll
public import Idealize.ShloMosaic.Lib.WordCmp
public import Idealize.ShloMosaic.Lib.Pipeline.Regions

@[expose] public section

set_option maxRecDepth 20000

noncomputable section

namespace Cert.Pre_finite.Run

open Idealize.ShloMosaic Idealize.ShloMosaic.Tactic

theorem bcast_S12_S12x1_0 : S12.BroadcastsInDim S12x1 (![0] : Fin 1 → Fin S12x1.rank) := by decide
theorem bcast_S_S12x141 : S_.BroadcastsInDim S12x141 (![] : Fin 0 → Fin S12x141.rank) := by decide
theorem bcast_S12x1_S12x141_0_1 : S12x1.BroadcastsInDim S12x141 (![0, 1] : Fin 2 → Fin S12x141.rank) := by decide
theorem bcast_S_S12x1 : S_.BroadcastsInDim S12x1 (![] : Fin 0 → Fin S12x1.rank) := by decide
theorem reducesTo_S12x141_S_d0_1 : S12x141.ReducesTo [0, 1] S_ := by decide
theorem h_S_ : 0 < S_.numel := by decide
theorem bcast_S_S12x384x16x128 : S_.BroadcastsInDim S12x384x16x128 (![] : Fin 0 → Fin S12x384x16x128.rank) := by decide
theorem reducesTo_S12x384x16x128_S_d0_1_2_3 : S12x384x16x128.ReducesTo [0, 1, 2, 3] S_ := by decide

/-- The function's side conditions. -/
instance facts : Cert.Pre_finite.Facts where
  bcast_S12_S12x1_0 := bcast_S12_S12x1_0
  bcast_S_S12x141 := bcast_S_S12x141
  bcast_S12x1_S12x141_0_1 := bcast_S12x1_S12x141_0_1
  bcast_S_S12x1 := bcast_S_S12x1
  reducesTo_S12x141_S_d0_1 := reducesTo_S12x141_S_d0_1
  h_S_ := h_S_
  bcast_S_S12x384x16x128 := bcast_S_S12x384x16x128
  reducesTo_S12x384x16x128_S_d0_1_2_3 := reducesTo_S12x384x16x128_S_d0_1_2_3

variable (x0 x1 : FVec Ideal S2115x32x16x128 .fp8e4m3) (x2 x3 : FVec Ideal S2115x16 .f32) (T : IVec S12x141 32) (N : IVec S12 32) (x6 x7 : FVec Ideal S12x384x16x128 .bf16)

/-- Whether each number of an array is a finite one of its format. -/
def boundA (x : FVec Ideal S12x384x16x128 .bf16) : IVec S12x384x16x128 1 :=
  cmpf .ole (Host.absf x) (broadcastInDim S12x384x16x128 ![] bcast_S_S12x384x16x128 (constant (F := Ideal) S_ .bf16 0x7F7F#16))

/-- The precondition is the first one at every index and the bound at every number. -/
theorem fn_eq : Cert.Pre_finite.fn (F := Ideal) x0 x1 x2 x3 T N x6 x7
    = andi (andi (Host.reduce IntOp.andi (Cert.Pre_in_range.fn (F := Ideal) x0 x1 x2 x3 T N x6 x7) (constantI S_ 1 1#1) reducesTo_S12x141_S_d0_1 h_S_)
        (Host.reduce IntOp.andi (boundA x6) (constantI S_ 1 1#1) reducesTo_S12x384x16x128_S_d0_1_2_3 h_S_))
      (Host.reduce IntOp.andi (boundA x7) (constantI S_ 1 1#1) reducesTo_S12x384x16x128_S_d0_1_2_3 h_S_) := by
  chain_rfl

theorem and_one : ∀ a b : BitVec 1, IntOp.andi a b = 1#1 → a = 1#1 ∧ b = 1#1 := by decide

theorem bound_at (x : FVec Ideal S12x384x16x128 .bf16) (i : S12x384x16x128.Idx) (h : boundA x i = 1#1) : max (x i : EReal) (-(x i : EReal)) ≤ Cert.Page.big := by
  have h' : BitVec.ofBool (decide (max (x i : EReal) (-(x i : EReal)) ≤ Ideal.ofBits .bf16 0x7F7F#16)) = 1#1 := h
  rw [Idealize.ShloMosaic.WordCmp.ofBool_eq_one_iff, decide_eq_true_eq] at h'
  exact h'

variable {x0 x1 x2 x3 T N x6 x7}

theorem of_fn (h : Cert.Pre_finite.fn (F := Ideal) x0 x1 x2 x3 T N x6 x7 = fun _ => 1#1) :
    Cert.Pre_in_range.fn (F := Ideal) x0 x1 x2 x3 T N x6 x7 = (fun _ => 1#1)
    ∧ (∀ i, max (x6 i : EReal) (-(x6 i : EReal)) ≤ Cert.Page.big) ∧ ∀ i, max (x7 i : EReal) (-(x7 i : EReal)) ≤ Cert.Page.big := by
  rw [fn_eq] at h
  have h0 := congrFun h (fun a => a.elim0)
  obtain ⟨h1, h2⟩ := and_one _ _ h0
  obtain ⟨h3, h4⟩ := and_one _ _ h1
  haveI : Subsingleton S_.Idx := ⟨fun a b => funext fun i => i.elim0⟩
  exact ⟨funext fun i => Host.reduce_andi_all _ _ _ _ _ h3 i, fun i => bound_at x6 i (Host.reduce_andi_all _ _ _ _ _ h4 i),
    fun i => bound_at x7 i (Host.reduce_andi_all _ _ _ _ _ h2 i)⟩

end Cert.Pre_finite.Run
end
-- ==== Proof.KernOps.lean ====
/- One element of each of the kernel's operations on a page. -/
module

public import proofs.«01_k».proof.Proof.Spec
public import proofs.«01_k».proof.Proof.Page
public import Idealize.ShloMosaic.Lib.ValueLayout
public import Idealize.ShloMosaic.Lib.Pipeline.Regions
public import Idealize.ShloMosaic.Lib.Pointwise.Index

@[expose] public section

set_option maxRecDepth 20000

noncomputable section

namespace Cert.Kernel.Run

open Cert.Kernel Cert.Page Cert.Pow
open Idealize.ShloMosaic
open Shapes1.Facts₀ K0.Facts₀

theorem sel_dec {α : Type} (p : Prop) [Decidable p] (a b : α) :
    Scalar.select (BitVec.ofBool (decide p)) a b = if p then a else b := by
  by_cases h : p <;> simp [Scalar.select, h]

theorem comp_eq {α β γ : Type} {f : β → γ} {g : α → β} {a : α} {b : β} (e : g a = b) : (f ∘ g) a = f b := congrArg f e

theorem col_eq {α : Type} (x : S16.Idx → α) (hc : S16.ShapeCasts S16x1) (h : Fin 16) : shapeCast S16x1 x hc (ix2 h (0 : Fin 1)) = x (ix1 h) := by
  refine shapeCast_apply _ _ _ (ix1 h) ?_
  rw [Shape.rowMajor_val_one, Shape.rowMajor_val_two]
  show h.val = h.val * 1 + 0
  omega

theorem bc_col {α : Type} {n : ℕ} (x : S16x1.Idx → α) (hb : S16x1.Broadcasts (⟨2, ![16, n]⟩ : Shape)) (h : Fin 16) (l : Fin n) :
    broadcastTo (⟨2, ![16, n]⟩ : Shape) x hb (ix2 h l) = x (ix2 h (0 : Fin 1)) :=
  broadcastTo_apply _ _ _ (ix2 h (0 : Fin 1)) fun a => match a with
    | ⟨0, _⟩ => rfl
    | ⟨1, _⟩ => rfl

theorem amaxOf_apply (x : FVec Ideal S16x128 .bf16) (h : Fin 16) :
    amaxOf x (ix2 h (0 : Fin 1)) = (Finset.univ : Finset (Fin 128)).fold max ⊥ fun l => x (ix2 h l) := by
  unfold amaxOf
  rw [col_eq]
  refine (Ideal.multiReduction_maximumf_single _ _ _ _ _ _).trans ?_
  show (Finset.univ : Finset (Fin 128)).fold max (Ideal.ofBits .f32 0xFF800000#32) _ = _
  rw [bot_bits]
  refine Finset.fold_congr fun l _ => ?_
  have e : reduces_S16x128_S16.lift (ix1 h) l = ix2 h l := by
    funext a
    match a with
    | ⟨0, _⟩ => rfl
    | ⟨1, _⟩ => rfl
  exact comp_eq (f := x) e

theorem powW_apply (h : Fin 16) (k : Fin 256) : powW (ix2 h k) = pword k.val := by
  have e : powW (ix2 h k) = (iota .tc S16x256 32 [1] iota_S16x256_d1_w32 (ix2 h k)) <<< (23#32 : BitVec 32) := rfl
  rw [e, iota_single_apply]
  rfl

theorem expW_apply (a : FVec Ideal S16x1 .f32) (h : Fin 16) : expW a (ix2 h (0 : Fin 1)) = expS (a (ix2 h (0 : Fin 1)) * cq) := by
  unfold expW
  rw [col_eq]
  refine (multiReductionI_eq_fold _ _ _ _ _ _).trans ?_
  refine (reduces_S16x256_S16.fold_filter_drop_single _ _ _ _).trans ?_
  unfold expS
  refine Finset.fold_congr fun (k : Fin 256) _ => ?_
  have e : reduces_S16x256_S16.lift (ix1 h) k = ix2 h k := by
    funext a
    match a with
    | ⟨0, _⟩ => rfl
    | ⟨1, _⟩ => rfl
  refine (comp_eq e).trans ?_
  show Scalar.select (BitVec.ofBool (decide (Ideal.ofBits .f32 (powW (ix2 h k)) ≤ broadcastTo S16x256 (mulf a (broadcast S16x1 (Scalar.ofBits .f32 0x3B124925#32))) broadcasts_S16x1_S16x256 (ix2 h k))))
    (powW (ix2 h k)) 0#32 = _
  rw [powW_apply, bc_col, sel_dec]
  rfl

theorem nextW_apply (e : IVec S16x1 32) (i : S16x1.Idx) : nextW e i = nextS (e i) := by
  show Scalar.select (BitVec.ofBool (decide (e i = 0#32)) ||| BitVec.ofBool (decide (e i = 2139095040#32))) 1065353216#32 (e i + 8388608#32) = _
  unfold nextS Scalar.select
  by_cases h1 : e i = 0#32 <;> by_cases h2 : e i = 2139095040#32 <;> simp [h1, h2]

theorem pow2W_apply (a : FVec Ideal S16x1 .f32) (h : Fin 16) : pow2W a (ix2 h (0 : Fin 1)) = nextS (expS (a (ix2 h (0 : Fin 1)) * cq)) := by
  unfold pow2W
  rw [nextW_apply, expW_apply]

theorem invOf_apply (w : IVec S16x1 32) (h : Fin 16) (l : Fin 128) :
    invOf (F := Ideal) w (ix2 h l) = Ideal.ofBits .f32 (2130706432#32 - w (ix2 h (0 : Fin 1))) := by
  show broadcastTo S16x128 (shapeCast S16x1 (bitcastToFloat (F := Ideal) .f32 (subi (broadcast S16x1 2130706432#32) w)) shapeCasts_S16x1_S16x1) broadcasts_S16x1_S16x128 (ix2 h l) = _
  rw [bc_col, shapeCast_self]
  rfl

theorem rows_eq {α : Type} (x : S2x16x128.Idx → α) (h1 : S2x16x128.ShapeCasts S32x128) (h2 : S32x128.ShapeCasts S1x32x128)
    (j : Fin 2) (h : Fin 16) (l : Fin 128) (n : Fin 32) (hn : n.val = 16 * j.val + h.val) :
    shapeCast S1x32x128 (shapeCast S32x128 x h1) h2 (ix3 (0 : Fin 1) n l) = x (ix3 j h l) := by
  refine (shapeCast_apply _ _ _ (ix2 n l) ?_).trans (shapeCast_apply _ _ _ (ix3 j h l) ?_)
  · rw [Shape.rowMajor_val_two, Shape.rowMajor_val_three]
    show n.val * 128 + l.val = (0 * 32 + n.val) * 128 + l.val
    omega
  · rw [Shape.rowMajor_val_two, Shape.rowMajor_val_three]
    show (j.val * 16 + h.val) * 128 + l.val = n.val * 128 + l.val
    omega

theorem codeOf_apply (x : FVec Ideal S2x16x128 .bf16) (inv : FVec Ideal S16x128 .bf16) (j : Fin 2) (h : Fin 16) (l : Fin 128) (n : Fin 32)
    (hn : n.val = 16 * j.val + h.val) : codeOf x inv (ix3 (0 : Fin 1) n l) = code (x (ix3 j h l)) (inv (ix2 h l)) := by
  have e : broadcastTo S2x16x128 (shapeCast S1x16x128 inv shapeCasts_S16x128_S1x16x128) broadcasts_S1x16x128_S2x16x128 (ix3 j h l) = inv (ix2 h l) := by
    refine (broadcastTo_apply _ _ _ (ix3 (0 : Fin 1) h l) fun a => ?_).trans (shapeCast_apply _ _ _ (ix2 h l) ?_)
    · match a with
      | ⟨0, _⟩ => rfl
      | ⟨1, _⟩ => rfl
      | ⟨2, _⟩ => rfl
    · rw [Shape.rowMajor_val_two, Shape.rowMajor_val_three]
      show h.val * 128 + l.val = (0 * 16 + h.val) * 128 + l.val
      omega
  have k : codeOf x inv = shapeCast S1x32x128 (shapeCast S32x128 (fun i => code (x i) (broadcastTo S2x16x128 (shapeCast S1x16x128 inv shapeCasts_S16x128_S1x16x128) broadcasts_S1x16x128_S2x16x128 i)) shapeCasts_S2x16x128_S32x128) shapeCasts_S32x128_S1x32x128 := rfl
  rw [k, rows_eq _ _ _ j h l n hn, e]

theorem putCol_apply (n : ℕ) (s : FVec Ideal S16x1 .f32) (prev : FVec Ideal S16x128 .f32) (h : Fin 16) (c : Fin 128) (hn : n < 128) :
    putCol n s prev (ix2 h c) = if c.val = n then s (ix2 h (0 : Fin 1)) else prev (ix2 h c) := by
  have e : putCol n s prev (ix2 h c) = Scalar.select (BitVec.ofBool (decide (iota .tc S16x128 32 [1] iota_S16x128_d1_w32 (ix2 h c) = BitVec.ofNat 32 n)))
    (broadcastTo S16x128 (shapeCast S16x1 s shapeCasts_S16x1_S16x1) broadcasts_S16x1_S16x128 (ix2 h c)) (prev (ix2 h c)) := rfl
  rw [e, sel_dec, bc_col, shapeCast_self, iota_single_apply]
  refine if_congr ?_ rfl rfl
  show BitVec.ofNat 32 c.val = BitVec.ofNat 32 n ↔ _
  have := c.isLt
  constructor
  · intro q
    have := congrArg BitVec.toNat q
    rw [BitVec.toNat_ofNat, BitVec.toNat_ofNat] at this
    omega
  · intro q
    rw [q]

/-- The row of scales along a diagonal. -/
def diag (row : FVec Ideal S1x1x16 .f32) : FVec Ideal S16x16 .f32 :=
  select (cmpi .eq (iota .tc S16x16 32 [0] iota_S16x16_d0_w32) (iota .tc S16x16 32 [1] iota_S16x16_d1_w32))
    (broadcastTo S16x16 (shapeCast S1x16 (shapeCast S1x16 row shapeCasts_S1x1x16_S1x16) shapeCasts_S1x16_S1x16) broadcasts_S1x16_S16x16)
    (broadcast S16x16 (Scalar.ofBits .f32 0x00000000#32))

theorem oldScOf_apply (row : FVec Ideal S1x1x16 .f32) (h : Fin 16) : oldScOf row (ix2 h (0 : Fin 1)) = row (ix3 (0 : Fin 1) (0 : Fin 1) h) := by
  have d : oldScOf row = shapeCast S16x1 (multiReduction .add [1] S16 (diag row) 0x00000000#32 reduces_S16x16_S16 (.inl rfl) rfl) shapeCasts_S16_S16x1 := rfl
  rw [d, col_eq]
  refine (Ideal.multiReduction_add_single _ _ _ _ _ _).trans ?_
  have e : ∀ k : Fin 16, reduces_S16x16_S16.lift (ix1 h) k = ix2 h k := fun k => by
    funext a
    match a with
    | ⟨0, _⟩ => rfl
    | ⟨1, _⟩ => rfl
  have q : ∀ k : Fin 16, broadcastTo S16x16 (shapeCast S1x16 (shapeCast S1x16 row shapeCasts_S1x1x16_S1x16) shapeCasts_S1x16_S1x16) broadcasts_S1x16_S16x16 (ix2 h k)
      = row (ix3 (0 : Fin 1) (0 : Fin 1) k) := fun k => by
    rw [shapeCast_self]
    refine (broadcastTo_apply _ _ _ (ix2 (0 : Fin 1) k) fun a => ?_).trans (shapeCast_apply _ _ _ (ix3 (0 : Fin 1) (0 : Fin 1) k) ?_)
    · match a with
      | ⟨0, _⟩ => rfl
      | ⟨1, _⟩ => rfl
    · rw [Shape.rowMajor_val_two, Shape.rowMajor_val_three]
      show (0 * 1 + 0) * 16 + k.val = 0 * 16 + k.val
      omega
  have z : ∀ k : Fin 16, (BitVec.ofNat 32 h.val = BitVec.ofNat 32 k.val) ↔ h = k := fun k => by
    constructor
    · intro q
      have := congrArg BitVec.toNat q
      rw [BitVec.toNat_ofNat, BitVec.toNat_ofNat] at this
      omega
    · intro q
      rw [q]
  have w : ∀ k : Fin 16, diag row (ix2 h k) = if h = k then row (ix3 (0 : Fin 1) (0 : Fin 1) k) else 0 := fun k => by
    have g : diag row (ix2 h k) = Scalar.select (BitVec.ofBool (decide (iota .tc S16x16 32 [0] iota_S16x16_d0_w32 (ix2 h k) = iota .tc S16x16 32 [1] iota_S16x16_d1_w32 (ix2 h k))))
      (broadcastTo S16x16 (shapeCast S1x16 (shapeCast S1x16 row shapeCasts_S1x1x16_S1x16) shapeCasts_S1x16_S1x16) broadcasts_S1x16_S16x16 (ix2 h k)) (Ideal.ofBits .f32 0x00000000#32) := rfl
    rw [g, sel_dec, iota_single_apply, iota_single_apply, q, zero_bits]
    exact if_congr (z k) rfl rfl
  refine ((Finset.sum_congr rfl fun (k : Fin 16) _ => (congrArg (diag row) (e k)).trans (w k)).trans (Finset.sum_ite_eq Finset.univ h fun k => row (ix3 (0 : Fin 1) (0 : Fin 1) k))).trans (if_pos (Finset.mem_univ _))

/-- The scale of the page the append begins in is the page's. -/
theorem scale0Of_apply (a : FVec Ideal S16x1 .f32) (fill : BitVec 32) (osc : FVec Ideal S16x1 .f32) (h : Fin 16)
    (h0 : 0 ≤ a (ix2 h (0 : Fin 1))) (h1 : a (ix2 h (0 : Fin 1)) ≤ big) :
    scale0Of a fill osc (ix2 h (0 : Fin 1)) = scale (a (ix2 h (0 : Fin 1))) (osc (ix2 h (0 : Fin 1))) (0 < fill.toInt) := by
  have e0 : (0#32 : BitVec 32).toInt = 0 := by decide
  have hs : ∀ {α : Type} (x y : S16x1.Idx → α) (c : BitVec 1) i, Scalar.select c x y i = Scalar.select c (x i) (y i) := fun x y c i => by
    unfold Scalar.select; split <;> rfl
  have k : scale0Of a fill osc (ix2 h (0 : Fin 1)) =
      let s := max (Scalar.select (BitVec.ofBool (decide ((0#32 : BitVec 32).toInt < fill.toInt))) osc (broadcast S16x1 (Ideal.ofBits .f32 0x00000000#32)) (ix2 h (0 : Fin 1)))
        (Scalar.select (BitVec.ofBool (decide (Ideal.ofBits .f32 0x00000000#32 < a (ix2 h (0 : Fin 1))))) (Ideal.ofBits .f32 (pow2W a (ix2 h (0 : Fin 1)))) (Ideal.ofBits .f32 0x00000000#32))
      Scalar.select (BitVec.ofBool (decide (s = Ideal.ofBits .f32 0x00000000#32))) (Ideal.ofBits .f32 0x3F800000#32) s := by chain_rfl
  rw [k, pow2W_apply, pow_word _ h0 h1, hs, e0]
  simp only [sel_dec, zero_bits, one_bits]
  rw [show (broadcast S16x1 (0 : EReal)) (ix2 h (0 : Fin 1)) = 0 from rfl]
  rfl

theorem tok0Of_apply (j : Fin 2) (old new : FVec Ideal S2x16x128 .f32) (bit : BitVec 1) (osc inv : FVec Ideal S16x1 .f32) (hj : S2x16x128.Slices ![j.val, 0, 0] S1x16x128)
    (h : Fin 16) (l : Fin 128) :
    tok0Of j old new bit osc inv hj (ix3 (0 : Fin 1) h l)
      = Scalar.select bit (old (ix3 j h l) * osc (ix2 h (0 : Fin 1))) (new (ix3 j h l)) * inv (ix2 h (0 : Fin 1)) := by
  have s1 : ∀ x : FVec Ideal S16x128 .f32, shapeCast S1x16x128 x shapeCasts_S16x128_S1x16x128 (ix3 (0 : Fin 1) h l) = x (ix2 h l) := fun x => by
    refine shapeCast_apply _ _ _ (ix2 h l) ?_
    rw [Shape.rowMajor_val_two, Shape.rowMajor_val_three]
    show h.val * 128 + l.val = (0 * 16 + h.val) * 128 + l.val
    omega
  have s2 : ∀ x : FVec Ideal S2x16x128 .f32, shapeCast S16x128 (extractStridedSlice S1x16x128 ![j.val, 0, 0] x hj) shapeCasts_S1x16x128_S16x128 (ix2 h l) = x (ix3 j h l) := fun x => by
    refine (shapeCast_apply _ _ _ (ix3 (0 : Fin 1) h l) ?_).trans (extractStridedSlice_apply _ _ _ _ (ix3 j h l) fun a => ?_)
    · rw [Shape.rowMajor_val_two, Shape.rowMajor_val_three]
      show (0 * 16 + h.val) * 128 + l.val = h.val * 128 + l.val
      omega
    · match a with
      | ⟨0, _⟩ => rfl
      | ⟨1, _⟩ => exact (Nat.zero_add _).symm
      | ⟨2, _⟩ => exact (Nat.zero_add _).symm
  have hs : ∀ {α : Type} (x y : S16x128.Idx → α) (c : BitVec 1) i, Scalar.select c x y i = Scalar.select c (x i) (y i) := fun x y c i => by
    unfold Scalar.select; split <;> rfl
  unfold tok0Of
  rw [s1]
  show (Scalar.select bit (mulf (shapeCast S16x128 (extractStridedSlice S1x16x128 ![j.val, 0, 0] old hj) shapeCasts_S1x16x128_S16x128) (broadcastTo S16x128 osc broadcasts_S16x1_S16x128))
    (shapeCast S16x128 (extractStridedSlice S1x16x128 ![j.val, 0, 0] new hj) shapeCasts_S1x16x128_S16x128) : FVec Ideal S16x128 .f32) (ix2 h l)
    * broadcastTo S16x128 inv broadcasts_S16x1_S16x128 (ix2 h l) = _
  rw [hs, bc_col, s2]
  show Scalar.select bit (shapeCast S16x128 (extractStridedSlice S1x16x128 ![j.val, 0, 0] old hj) shapeCasts_S1x16x128_S16x128 (ix2 h l) * broadcastTo S16x128 osc broadcasts_S16x1_S16x128 (ix2 h l)) _ * _ = _
  rw [bc_col, s2]

theorem code0Of_apply (i : ℕ) (oldw : FVec Ideal S1x32x128 .fp8e4m3) (neww : FVec Ideal S2x16x128 .bf16) (fill : BitVec 32) (osc inv : FVec Ideal S16x1 .f32)
    (j : Fin 2) (h : Fin 16) (l : Fin 128) (n : Fin 32) (hn : n.val = 16 * j.val + h.val) :
    code0Of i oldw neww fill osc inv (ix3 (0 : Fin 1) n l)
      = code (if (BitVec.ofNat 32 (i + j.val)).toInt < fill.toInt then oldw (ix3 (0 : Fin 1) n l) * osc (ix2 h (0 : Fin 1)) else neww (ix3 j h l)) (inv (ix2 h (0 : Fin 1))) := by
  have ho : shapeCast S2x16x128 (shapeCast S32x128 oldw shapeCasts_S1x32x128_S32x128) shapeCasts_S32x128_S2x16x128 (ix3 j h l) = oldw (ix3 (0 : Fin 1) n l) := by
    refine (shapeCast_apply _ _ _ (ix2 n l) ?_).trans (shapeCast_apply _ _ _ (ix3 (0 : Fin 1) n l) ?_)
    · rw [Shape.rowMajor_val_two, Shape.rowMajor_val_three]
      show n.val * 128 + l.val = (j.val * 16 + h.val) * 128 + l.val
      omega
    · rw [Shape.rowMajor_val_two, Shape.rowMajor_val_three]
      show (0 * 32 + n.val) * 128 + l.val = n.val * 128 + l.val
      omega
  have k : code0Of i oldw neww fill osc inv = shapeCast S1x32x128 (shapeCast S32x128 (fun q => min (Ideal.ofBits .f32 0x43E00000#32) (max (Ideal.ofBits .f32 0xC3E00000#32)
      (concatenate S2x16x128 0 [⟨S1x16x128, tok0Of (F := Ideal) 0 (shapeCast S2x16x128 (shapeCast S32x128 oldw shapeCasts_S1x32x128_S32x128) shapeCasts_S32x128_S2x16x128) neww (Scalar.cmpi .sgt fill (BitVec.ofNat 32 i)) osc inv slices_S2x16x128_o0_0_0_S1x16x128⟩,
        ⟨S1x16x128, tok0Of (F := Ideal) 1 (shapeCast S2x16x128 (shapeCast S32x128 oldw shapeCasts_S1x32x128_S32x128) shapeCasts_S32x128_S2x16x128) neww (Scalar.cmpi .sgt fill (BitVec.ofNat 32 (i + 1))) osc inv slices_S2x16x128_o1_0_0_S1x16x128⟩] concatenates_S1x16x128_S1x16x128_S2x16x128_d0 q))) shapeCasts_S2x16x128_S32x128) shapeCasts_S32x128_S1x32x128 := by chain_rfl
  rw [k, rows_eq _ _ _ j h l n hn]
  unfold code
  refine congrArg (fun v => min (Ideal.ofBits .f32 0x43E00000#32) (max (Ideal.ofBits .f32 0xC3E00000#32) v)) ?_
  rcases (show j = 0 ∨ j = 1 by omega) with hj | hj
  · subst hj
    refine (concatenate_pair_apply_left (t := S2x16x128) (s₁ := S1x16x128) (s₂ := S1x16x128) 0 _ _ _ _ rfl (ix3 (0 : Fin 1) h l) fun b => ?_).trans ?_
    · match b with
      | ⟨0, _⟩ => rfl
      | ⟨1, _⟩ => rfl
      | ⟨2, _⟩ => rfl
    · rw [tok0Of_apply]
      refine congrArg (· * _) ?_
      show Scalar.select (BitVec.ofBool (decide ((BitVec.ofNat 32 i).toInt < fill.toInt))) _ _ = _
      rw [sel_dec]
      exact if_congr Iff.rfl (congrArg (· * _) ho) rfl
  · subst hj
    refine (concatenate_pair_apply_right (t := S2x16x128) (s₁ := S1x16x128) (s₂ := S1x16x128) 0 _ _ _ _ rfl rfl (ix3 (0 : Fin 1) h l) (fun b hb => ?_) rfl).trans ?_
    · match b, hb with
      | ⟨0, _⟩, hb => exact absurd rfl hb
      | ⟨1, _⟩, _ => rfl
      | ⟨2, _⟩, _ => rfl
    · rw [tok0Of_apply]
      refine congrArg (· * _) ?_
      show Scalar.select (BitVec.ofBool (decide ((BitVec.ofNat 32 (i + 1)).toInt < fill.toInt))) _ _ = _
      rw [sel_dec]
      exact if_congr Iff.rfl (congrArg (· * _) ho) rfl

theorem scRowOf_apply (col : FVec Ideal S16x128 .f32) (p : Fin 13) (h : Fin 16) :
    scRowOf col (ix4 (0 : Fin 1) (0 : Fin 1) p h) = col (ix2 h (⟨p.val, by omega⟩ : Fin 128)) := by
  unfold scRowOf
  refine (shapeCast_apply _ _ _ (ix2 p h) ?_).trans ((extractStridedSlice_apply _ _ _ _ (ix2 (⟨p.val, by omega⟩ : Fin 128) h) fun a => ?_).trans (transpose_apply _ _ _ _ (ix2 h (⟨p.val, by omega⟩ : Fin 128)) fun c => match c with | ⟨0, _⟩ => rfl | ⟨1, _⟩ => rfl))
  · rw [Shape.rowMajor_val_two, Shape.rowMajor_val_four]
    show p.val * 16 + h.val = ((0 * 1 + 0) * 13 + p.val) * 16 + h.val
    omega
  · match a with
    | ⟨0, _⟩ => exact (Nat.zero_add _).symm
    | ⟨1, _⟩ => exact (Nat.zero_add _).symm

theorem maxTree_le {s : Shape} {φ : FTy} (i : s.Idx) (z : EReal) : ∀ (n : ℕ) (f : ℕ → FVec Ideal s φ),
    (maxTree n f i : EReal) ≤ z ↔ ∀ k < 2 ^ n, (f k i : EReal) ≤ z
  | 0, f => by
    show (f 0 i : EReal) ≤ z ↔ _
    exact ⟨fun h k hk => by rw [show k = 0 by omega]; exact h, fun h => h 0 (by omega)⟩
  | n + 1, f => by
    refine (maxTree_le i z n fun q => maximumf (f (2 * q)) (f (2 * q + 1))).trans ?_
    have hp : 2 ^ (n + 1) = 2 * 2 ^ n := by ring
    constructor
    · intro h k hk
      have := max_le_iff.mp (h (k / 2) (by omega))
      rcases Nat.mod_two_eq_zero_or_one k with e | e
      · rw [show k = 2 * (k / 2) by omega]; exact this.1
      · rw [show k = 2 * (k / 2) + 1 by omega]; exact this.2
    · intro h k hk
      exact max_le (h _ (by omega)) (h _ (by omega))

end Cert.Kernel.Run
end
-- ==== Proof.KernUnit.lean ====
/- What the kernel computes for one request's keys or values is the request's scales and codes. -/
module

public import proofs.«01_k».proof.Proof.KernOps
public import proofs.«01_k».proof.Proof.Words

@[expose] public section

set_option maxRecDepth 20000

noncomputable section

namespace Cert.Kernel.Run

open Cert.Kernel Cert.Page Cert.Pow
open Idealize.ShloMosaic
open Shapes1.Facts₀ K0.Facts₀

theorem code_at (x : FVec Ideal S2x16x128 .bf16) (inv : FVec Ideal S16x128 .bf16) (j : Fin 2) (h : Fin 16) (l : Fin 128) (n : Fin 32)
    (hn : n.val = 16 * j.val + h.val) (X : EReal) (hX : x (ix3 j h l) = X) : codeOf x inv (ix3 (0 : Fin 1) n l) = code X (inv (ix2 h l)) := by
  rw [codeOf_apply x inv j h l n hn, hX]

theorem osc_at (row : FVec Ideal S1x1x16 .f32) (h : Fin 16) (X : EReal) (hX : row (ix3 (0 : Fin 1) (0 : Fin 1) h) = X) : oldScOf row (ix2 h (0 : Fin 1)) = X := by
  rw [oldScOf_apply, hX]

theorem code0_at (i : ℕ) (oldw : FVec Ideal S1x32x128 .fp8e4m3) (neww : FVec Ideal S2x16x128 .bf16) (fill : BitVec 32) (osc inv : FVec Ideal S16x1 .f32)
    (j : Fin 2) (h : Fin 16) (l : Fin 128) (n : Fin 32) (hn : n.val = 16 * j.val + h.val) (X Y : EReal) (hX : oldw (ix3 (0 : Fin 1) n l) = X) (hY : neww (ix3 j h l) = Y) :
    code0Of i oldw neww fill osc inv (ix3 (0 : Fin 1) n l)
      = code (if (BitVec.ofNat 32 (i + j.val)).toInt < fill.toInt then X * osc (ix2 h (0 : Fin 1)) else Y) (inv (ix2 h (0 : Fin 1))) := by
  rw [code0Of_apply i oldw neww fill osc inv j h l n hn, hX, hY]

variable (C : (b : Ref sig .tc) → b.ty.Contents (Elt Ideal)) (kv : Fin 2) (b : Fin 12) (v : BitVec 32)

abbrev inA : S10016x16x128.Idx → EReal := C inM.view.ref
abbrev oldA : S24x512x128.Idx → EReal := C oldM.view.ref
abbrev rowA : S24x1x16.Idx → EReal := C rowM.view.ref
abbrev outA : S24x6656x128.Idx → EReal := C outM.view.ref
abbrev scA : S2x12x13x16.Idx → EReal := C scM.view.ref

/-- The kernel's buffers hold the numbers of one request's keys or values. -/
structure Fed (old : Fin 32 → Fin 16 → Fin 128 → EReal) (sc : Fin 16 → EReal) (new : Fin 384 → Fin 16 → Fin 128 → EReal) : Prop where
  len : v.toNat < 4512
  row : ∀ (p : Fin 13) (r : Fin 32) h l (R : Fin 10016), R.val = 32 + 416 * (2 * b.val + kv.val) - v.toNat % 32 + 32 * p.val + r.val →
    inA C (ix3 R h l) = newOr new (tok (v.toNat % 32) p r) h l
  old : ∀ (r : Fin 32) h l (n : Fin 512), n.val = 16 * r.val + h.val → oldA C (ix3 (uIx kv b) n l) = old r h l
  sc : ∀ h, rowA C (ix3 (uIx kv b) (0 : Fin 1) h) = sc h
  le : ∀ t h l, max (new t h l) (-(new t h l)) ≤ big

variable {C kv b v} {old : Fin 32 → Fin 16 → Fin 128 → EReal} {sc : Fin 16 → EReal} {new : Fin 384 → Fin 16 → Fin 128 → EReal}
  (H : Fed C kv b v old sc new) (h : Chk kv (trip b) v)

include H

theorem tokV_apply (p : Fin 13) (i : ℕ) (hi : i < 32) (hd : Fin 16) (l : Fin 128) :
    tokV C kv (trip b) v h p i (ix2 hd l) = max (newOr new (tok (v.toNat % 32) p ⟨i, hi⟩) hd l) (-(newOr new (tok (v.toNat % 32) p ⟨i, hi⟩) hd l)) := by
  have hlt := H.len
  have hp := p.isLt
  have hoff := tokOff_eq kv (trip b) hlt (32 * p.val) i (by omega) hi
  have hu : (trip b).val = b.val := rfl
  have hk := kv.isLt
  have hb := b.isLt
  have hR : 32 + 416 * (2 * b.val + kv.val) - v.toNat % 32 + 32 * p.val + i < 10016 := by omega
  have e : shapeCast S16x128 (inM.view.readAt (Elt Ideal) (rTok kv (trip b) v h p ⟨i % 32, Nat.mod_lt _ (by omega)⟩) (C inM.view.ref)) shapeCasts_S1x16x128_S16x128 (ix2 hd l)
      = newOr new (tok (v.toNat % 32) p ⟨i, hi⟩) hd l := by
    refine (shapeCast_apply _ _ _ (ix3 (0 : Fin 1) hd l) ?_).trans ?_
    · rw [Shape.rowMajor_val_two, Shape.rowMajor_val_three]
      show (0 * 16 + hd.val) * 128 + l.val = hd.val * 128 + l.val
      omega
    refine Eq.trans ?_ (H.row p ⟨i, hi⟩ hd l ⟨_, hR⟩ rfl)
    refine congrArg (inA C) (funext fun a => Fin.ext ?_)
    have hm : i % 32 = i := Nat.mod_eq_of_lt hi
    have ho : ∀ a, tokOff kv (trip b) v (BitVec.ofNat 32 (32 * p.val)) (BitVec.ofNat 32 (i % 32)) a = (![32 + 416 * (2 * b.val + kv.val) - v.toNat % 32 + 32 * p.val + i, 0, 0] : Fin 3 → ℕ) a := by
      intro a; rw [hm, hoff]; rfl
    match a with
    | ⟨0, _⟩ =>
      show tokOff kv (trip b) v (BitVec.ofNat 32 (32 * p.val)) (BitVec.ofNat 32 (i % 32)) 0 + 1 * 0 = _
      rw [ho]; rfl
    | ⟨1, _⟩ =>
      show tokOff kv (trip b) v (BitVec.ofNat 32 (32 * p.val)) (BitVec.ofNat 32 (i % 32)) 1 + 1 * hd.val = hd.val
      rw [ho]; show 0 + 1 * hd.val = hd.val; omega
    | ⟨2, _⟩ =>
      show tokOff kv (trip b) v (BitVec.ofNat 32 (32 * p.val)) (BitVec.ofNat 32 (i % 32)) 2 + 1 * l.val = l.val
      rw [ho]; show 0 + 1 * l.val = l.val; omega
  rw [← e]
  rfl

theorem amaxV_apply (p : Fin 13) (hd : Fin 16) : amaxV C kv (trip b) v h p (ix2 hd (0 : Fin 1)) = top (v.toNat % 32) new p hd := by
  unfold amaxV
  rw [amaxOf_apply]
  refine eq_of_forall_ge_iff fun z => ?_
  unfold top
  rw [amax_le_iff, Finset.fold_max_le]
  constructor
  · intro q r l
    have := (maxTree_le (ix2 hd l) z 5 (tokV C kv (trip b) v h p)).mp (q.2 l (Finset.mem_univ _)) r.val r.isLt
    rwa [tokV_apply H h p r.val r.isLt hd l] at this
  · intro q
    refine ⟨bot_le, fun l _ => (maxTree_le (ix2 hd l) z 5 (tokV C kv (trip b) v h p)).mpr fun k hk => ?_⟩
    rw [tokV_apply H h p k hk hd l]
    exact q ⟨k, hk⟩ l

theorem wordV_apply (p : Fin 13) (hd : Fin 16) : wordV C kv (trip b) v h p (ix2 hd (0 : Fin 1)) = nextS (expS (top (v.toNat % 32) new p hd * cq)) := by
  unfold wordV
  rw [pow2W_apply, amaxV_apply H h]

theorem top_big (p : Fin 13) (hd : Fin 16) : top (v.toNat % 32) new p hd ≤ big := top_le _ _ H.le p hd

theorem pair_at {off : Fin 3 → ℕ} (inb : ∀ a, off a + S2x16x128.size a ≤ S10016x16x128.size a) (p : Fin 13) (i : Fin 16) (j : Fin 2) (hd : Fin 16) (l : Fin 128)
    (ho : off = ![32 + 416 * (2 * b.val + kv.val) - v.toNat % 32 + 32 * p.val + 2 * i.val, 0, 0]) :
    inM.view.readAt (Elt Ideal) (Rect.unit (s := S10016x16x128) off S2x16x128.size inb).toLoadRect (C inM.view.ref) (ix3 j hd l)
      = newOr new (tok (v.toNat % 32) p ⟨2 * i.val + j.val, by omega⟩) hd l := by
  have hk := kv.isLt
  have hb := b.isLt
  have hp := p.isLt
  have hi := i.isLt
  have hj := j.isLt
  have hlt := H.len
  refine Eq.trans ?_ (H.row p ⟨2 * i.val + j.val, by omega⟩ hd l ⟨32 + 416 * (2 * b.val + kv.val) - v.toNat % 32 + 32 * p.val + (2 * i.val + j.val), by omega⟩ rfl)
  subst ho
  refine congrArg (inA C) (funext fun a => Fin.ext ?_)
  match a with
  | ⟨0, _⟩ =>
    show 32 + 416 * (2 * b.val + kv.val) - v.toNat % 32 + 32 * p.val + 2 * i.val + 1 * j.val = 32 + 416 * (2 * b.val + kv.val) - v.toNat % 32 + 32 * p.val + (2 * i.val + j.val)
    omega
  | ⟨1, _⟩ => show 0 + 1 * hd.val = hd.val; omega
  | ⟨2, _⟩ => show 0 + 1 * l.val = l.val; omega

theorem codeV_apply (q : Fin 12) (i : Fin 16) (j : Fin 2) (hd : Fin 16) (l : Fin 128) (n : Fin 32) (hn : n.val = 16 * j.val + hd.val) :
    codeV C kv (trip b) v h q i (ix3 (0 : Fin 1) n l) = wantCode (v.toNat % 32) old sc new q.succ ⟨2 * i.val + j.val, by omega⟩ hd l := by
  have hlt := H.len
  have hq := q.isLt
  have hi := i.isLt
  have hoff := tokOff_eq kv (trip b) hlt (32 + 32 * q.val) (2 * i.val) (by omega) (by omega)
  have hp := pair_at H (h.2.1 q i) q.succ i j hd l (by
    rw [hoff]
    refine congrArg (fun x => (![x, 0, 0] : Fin 3 → ℕ)) ?_
    show 32 + 416 * (2 * b.val + kv.val) - v.toNat % 32 + (32 + 32 * q.val) + 2 * i.val = 32 + 416 * (2 * b.val + kv.val) - v.toNat % 32 + 32 * (q.val + 1) + 2 * i.val
    omega)
  unfold codeV
  refine (code_at _ _ j hd l n hn _ hp).trans ?_
  rw [invOf_apply, wordV_apply H h]
  unfold wantCode want
  rw [(scale_new _ (sc hd) (top_nonneg _ _ _ _) (top_big H q.succ hd) (q.succ.val = 0 ∧ 0 < v.toNat % 32) (fun e => absurd e.1 (by show q.val + 1 ≠ 0; omega))).2]
  refine congrArg (fun x => code x _) ?_
  unfold val
  refine (if_neg ?_).symm
  show ¬ (32 * ((q.val + 1 : ℕ) : Int) + ((2 * i.val + j.val : ℕ) : Int) - ((v.toNat % 32 : ℕ) : Int) < 0)
  omega

theorem oscV_apply (hd : Fin 16) : oscV C kv (trip b) (ix2 hd (0 : Fin 1)) = sc hd := by
  unfold oscV
  refine osc_at _ hd _ ?_
  rw [← H.sc hd]
  refine congrArg (rowA C) (funext fun a => Fin.ext ?_)
  have ho := outOff_eq kv (trip b) 0
  match a with
  | ⟨0, _⟩ =>
    show outOff kv (trip b) 0 0 + 1 * 0 = 2 * b.val + kv.val
    rw [ho]; rfl
  | ⟨1, _⟩ =>
    show outOff kv (trip b) 0 1 + 1 * 0 = 0
    rw [ho]; rfl
  | ⟨2, _⟩ =>
    show outOff kv (trip b) 0 2 + 1 * hd.val = hd.val
    rw [ho]; show 0 + 1 * hd.val = hd.val; omega

theorem fill_toInt : (Scalar.remsi v 32#32).toInt = ((v.toNat % 32 : ℕ) : Int) := by
  have e := rem_toNat H.len
  rw [BitVec.toInt_eq_toNat_cond, e, if_pos (by omega)]

theorem scale0V_apply (hd : Fin 16) : scale0V C kv (trip b) v h (ix2 hd (0 : Fin 1)) = want (v.toNat % 32) sc new 0 hd := by
  have ha := amaxV_apply H h 0 hd
  unfold scale0V
  rw [scale0Of_apply _ _ _ hd (by rw [ha]; exact top_nonneg _ _ _ _) (by rw [ha]; exact top_big H 0 hd), ha, oscV_apply H]
  refine scale_congr _ _ ?_
  rw [fill_toInt H]
  exact ⟨fun e => ⟨rfl, by omega⟩, fun e => by have := e.2; omega⟩

theorem code0V_apply (i : Fin 16) (j : Fin 2) (hd : Fin 16) (l : Fin 128) (n : Fin 32) (hn : n.val = 16 * j.val + hd.val) :
    code0V C kv (trip b) v h i (ix3 (0 : Fin 1) n l) = wantCode (v.toNat % 32) old sc new 0 ⟨2 * i.val + j.val, by omega⟩ hd l := by
  have hlt := H.len
  have hi := i.isLt
  have hj := j.isLt
  have hoff := pairOff_eq kv (trip b) hlt (2 * i.val) (by omega)
  have hp := pair_at H (h.2.2 i) 0 i j hd l (by rw [hoff]; rfl)
  have ho : oldM.view.readAt (Elt Ideal) (rOld kv (trip b) i).toLoadRect (C oldM.view.ref) (ix3 (0 : Fin 1) n l) = old ⟨2 * i.val + j.val, by omega⟩ hd l := by
    refine Eq.trans ?_ (H.old ⟨2 * i.val + j.val, by omega⟩ hd l ⟨32 * i.val + n.val, by omega⟩ (by show 32 * i.val + n.val = 16 * (2 * i.val + j.val) + hd.val; omega))
    refine congrArg (oldA C) (funext fun a => Fin.ext ?_)
    have hw := outOff_eq kv (trip b) (32 * i.val)
    match a with
    | ⟨0, _⟩ =>
      show outOff kv (trip b) (32 * i.val) 0 + 1 * 0 = 2 * b.val + kv.val
      rw [hw]; rfl
    | ⟨1, _⟩ =>
      show outOff kv (trip b) (32 * i.val) 1 + 1 * n.val = 32 * i.val + n.val
      rw [hw]; show 32 * i.val + 1 * n.val = 32 * i.val + n.val; omega
    | ⟨2, _⟩ =>
      show outOff kv (trip b) (32 * i.val) 2 + 1 * l.val = l.val
      rw [hw]; show 0 + 1 * l.val = l.val; omega
  unfold code0V
  refine (code0_at _ _ _ _ _ _ j hd l n hn _ _ ho hp).trans ?_
  rw [oscV_apply H]
  have hinv : inv0Of (scale0V C kv (trip b) v h) (ix2 hd (0 : Fin 1)) = Ideal.div 1 (want (v.toNat % 32) sc new 0 hd) := by
    rw [← scale0V_apply H h hd, ← one_bits]
    rfl
  rw [hinv, fill_toInt H]
  unfold wantCode val
  refine congrArg (fun x => code x _) (if_congr ?_ rfl rfl)
  have e : (BitVec.ofNat 32 (2 * i.val + j.val)).toInt = ((2 * i.val + j.val : ℕ) : Int) := by
    rw [BitVec.toInt_eq_toNat_cond, BitVec.toNat_ofNat, Nat.mod_eq_of_lt (by omega), if_pos (by omega)]
  rw [e]
  show _ ↔ 32 * ((0 : ℕ) : Int) + ((2 * i.val + j.val : ℕ) : Int) - ((v.toNat % 32 : ℕ) : Int) < 0
  omega

theorem colV_apply (hd : Fin 16) (c : Fin 13) : ∀ (n : ℕ) (hn : n ≤ 12), 1 ≤ c.val → c.val ≤ n →
    colV C kv (trip b) v h n hn (ix2 hd (⟨c.val, by omega⟩ : Fin 128)) = want (v.toNat % 32) sc new c hd
  | 0, _, h1, h2 => by omega
  | n + 1, hn, h1, h2 => by
    show putCol (n + 1) _ _ _ = _
    rw [putCol_apply _ _ _ _ _ (by omega)]
    split
    · rename_i e
      have e : c.val = n + 1 := e
      have hc : (⟨n + 1, by omega⟩ : Fin 13) = c := Fin.ext e.symm
      show Ideal.ofBits .f32 (wordV C kv (trip b) v h ⟨n + 1, by omega⟩ (ix2 hd (0 : Fin 1))) = _
      rw [hc, wordV_apply H h]
      unfold want
      exact (scale_new _ (sc hd) (top_nonneg _ _ _ _) (top_big H c hd) (c.val = 0 ∧ 0 < v.toNat % 32) (fun e => absurd e.1 (by omega))).1.symm
    · rename_i e
      have e : ¬ c.val = n + 1 := e
      exact colV_apply hd c n (by omega) h1 (by omega)

theorem scV_apply (p : Fin 13) (hd : Fin 16) : scV C kv (trip b) v h (ix4 (0 : Fin 1) (0 : Fin 1) p hd) = want (v.toNat % 32) sc new p hd := by
  unfold scV
  rw [scRowOf_apply, putCol_apply _ _ _ _ _ (by omega)]
  split
  · rename_i e
    have hp : p = 0 := Fin.ext e
    subst hp
    exact scale0V_apply H h hd
  · rename_i e
    have e : ¬ p.val = 0 := e
    exact colV_apply H h hd p 12 (Nat.le_refl _) (by omega) (by omega)

end Cert.Kernel.Run
end
-- ==== Proof.KernRead.lean ====
/- The kernel's copies, read at an index. -/
module

public import proofs.«01_k».proof.Proof.KernUnit
public import proofs.«01_k».proof.Proof.Fill

@[expose] public section

set_option maxRecDepth 20000

noncomputable section

namespace Cert.Kernel.Run

open Cert.Kernel Cert.Page Cert.Pow
open Idealize.ShloMosaic
open Shapes1.Facts₀ K0.Facts₀

variable (C : (b : Ref sig .tc) → b.ty.Contents (Elt Ideal))

/-- A read of a block with its leading unit axis dropped, three axes left of four. -/
theorem cast_lead4 {n₁ n₂ n₃ : ℕ} (x : (⟨4, ![1, n₁, n₂, n₃]⟩ : Shape).Idx → EReal) (hc) (i : Fin n₁) (j : Fin n₂) (k : Fin n₃) :
    shapeCast (⟨3, ![n₁, n₂, n₃]⟩ : Shape) x hc (ix3 i j k) = x (ix4 (0 : Fin 1) i j k) := by
  refine shapeCast_apply _ _ _ _ ?_
  rw [Shape.rowMajor_val_three, Shape.rowMajor_val_four]
  show ((0 * n₁ + i.val) * n₂ + j.val) * n₃ + k.val = (i.val * n₂ + j.val) * n₃ + k.val
  rw [Nat.zero_mul, Nat.zero_add]

theorem cast_lead3 {n₁ n₂ : ℕ} (x : (⟨3, ![1, n₁, n₂]⟩ : Shape).Idx → EReal) (hc) (i : Fin n₁) (j : Fin n₂) :
    shapeCast (⟨2, ![n₁, n₂]⟩ : Shape) x hc (ix2 i j) = x (ix3 (0 : Fin 1) i j) := by
  refine shapeCast_apply _ _ _ _ ?_
  rw [Shape.rowMajor_val_two, Shape.rowMajor_val_three]
  show (0 * n₁ + i.val) * n₂ + j.val = i.val * n₂ + j.val
  rw [Nat.zero_mul, Nat.zero_add]

theorem kTok_read (b : Fin 12) (t : Fin 384) (h : Fin 16) (l : Fin 128) :
    (tokBlk kTokM b).view.read (Elt Ideal) (C kTokM.view.ref) (ix3 t h l) = (C main_arg6 : S12x384x16x128.Idx → EReal) (ix4 b t h l) := by
  refine (cast_lead4 (n₁ := 384) (n₂ := 16) (n₃ := 128) (kTokM.view.readAt (Elt Ideal) (Rect.unit (s := S12x384x16x128) ![b.val, 0, 0, 0] S1x384x16x128.size _).toLoadRect (C kTokM.view.ref)) (by decide) t h l).trans ?_
  refine congrArg (C main_arg6 : S12x384x16x128.Idx → EReal) (funext fun a => Fin.ext ?_)
  match a with
  | ⟨0, _⟩ => show b.val + 1 * 0 = b.val; omega
  | ⟨1, _⟩ => show 0 + 1 * t.val = t.val; omega
  | ⟨2, _⟩ => show 0 + 1 * h.val = h.val; omega
  | ⟨3, _⟩ => show 0 + 1 * l.val = l.val; omega

theorem vTok_read (b : Fin 12) (t : Fin 384) (h : Fin 16) (l : Fin 128) :
    (tokBlk vTokM b).view.read (Elt Ideal) (C vTokM.view.ref) (ix3 t h l) = (C main_arg7 : S12x384x16x128.Idx → EReal) (ix4 b t h l) := by
  refine (cast_lead4 (n₁ := 384) (n₂ := 16) (n₃ := 128) (vTokM.view.readAt (Elt Ideal) (Rect.unit (s := S12x384x16x128) ![b.val, 0, 0, 0] S1x384x16x128.size _).toLoadRect (C vTokM.view.ref)) (by decide) t h l).trans ?_
  refine congrArg (C main_arg7 : S12x384x16x128.Idx → EReal) (funext fun a => Fin.ext ?_)
  match a with
  | ⟨0, _⟩ => show b.val + 1 * 0 = b.val; omega
  | ⟨1, _⟩ => show 0 + 1 * t.val = t.val; omega
  | ⟨2, _⟩ => show 0 + 1 * h.val = h.val; omega
  | ⟨3, _⟩ => show 0 + 1 * l.val = l.val; omega

theorem kPag_read (v : BitVec 32) (hv : v.toNat < 2115) (hi) (n : Fin 512) (l : Fin 128) :
    (pagPg kPagM v hi).view.read (Elt Ideal) (C kPagM.view.ref) (ix2 n l) = (C main_v0 : S2115x512x128.Idx → EReal) (ix3 (⟨v.toNat, hv⟩ : Fin 2115) n l) := by
  refine (cast_lead3 (n₁ := 512) (n₂ := 128) (kPagM.view.readAt (Elt Ideal) (Rect.unit (s := S2115x512x128) (k0_off9 v) S1x512x128.size hi).toLoadRect (C kPagM.view.ref)) (by decide) n l).trans ?_
  refine congrArg (C main_v0 : S2115x512x128.Idx → EReal) (funext fun a => Fin.ext ?_)
  match a with
  | ⟨0, _⟩ => show v.toNat + 1 * 0 = v.toNat; omega
  | ⟨1, _⟩ => show 0 + 1 * n.val = n.val; omega
  | ⟨2, _⟩ => show 0 + 1 * l.val = l.val; omega

theorem vPag_read (v : BitVec 32) (hv : v.toNat < 2115) (hi) (n : Fin 512) (l : Fin 128) :
    (pagPg vPagM v hi).view.read (Elt Ideal) (C vPagM.view.ref) (ix2 n l) = (C main_v1 : S2115x512x128.Idx → EReal) (ix3 (⟨v.toNat, hv⟩ : Fin 2115) n l) := by
  refine (cast_lead3 (n₁ := 512) (n₂ := 128) (vPagM.view.readAt (Elt Ideal) (Rect.unit (s := S2115x512x128) (k0_off9 v) S1x512x128.size hi).toLoadRect (C vPagM.view.ref)) (by decide) n l).trans ?_
  refine congrArg (C main_v1 : S2115x512x128.Idx → EReal) (funext fun a => Fin.ext ?_)
  match a with
  | ⟨0, _⟩ => show v.toNat + 1 * 0 = v.toNat; omega
  | ⟨1, _⟩ => show 0 + 1 * n.val = n.val; omega
  | ⟨2, _⟩ => show 0 + 1 * l.val = l.val; omega

theorem kSca_read (v : BitVec 32) (hv : v.toNat < 2115) (hi) (h : Fin 16) :
    (scaPg kScaM v hi).view.read (Elt Ideal) (C kScaM.view.ref) (ix2 (0 : Fin 1) h) = (C main_arg2 : S2115x16.Idx → EReal) (ix2 (⟨v.toNat, hv⟩ : Fin 2115) h) := by
  refine congrArg (C main_arg2 : S2115x16.Idx → EReal) (funext fun a => Fin.ext ?_)
  match a with
  | ⟨0, _⟩ => show v.toNat + 1 * 0 = v.toNat; omega
  | ⟨1, _⟩ => show 0 + 1 * h.val = h.val; omega

theorem vSca_read (v : BitVec 32) (hv : v.toNat < 2115) (hi) (h : Fin 16) :
    (scaPg vScaM v hi).view.read (Elt Ideal) (C vScaM.view.ref) (ix2 (0 : Fin 1) h) = (C main_arg3 : S2115x16.Idx → EReal) (ix2 (⟨v.toNat, hv⟩ : Fin 2115) h) := by
  refine congrArg (C main_arg3 : S2115x16.Idx → EReal) (funext fun a => Fin.ext ?_)
  match a with
  | ⟨0, _⟩ => show v.toNat + 1 * 0 = v.toNat; omega
  | ⟨1, _⟩ => show 0 + 1 * h.val = h.val; omega

theorem kRes_read (b : Fin 12) (hi) (n : Fin 6656) (l : Fin 128) :
    (resBlk kOutM ![b.val, 0, 0] hi).view.read (Elt Ideal) (C kOutM.view.ref) (ix2 n l) = (C main_v2_0 : S12x6656x128.Idx → EReal) (ix3 b n l) := by
  refine (cast_lead3 (n₁ := 6656) (n₂ := 128) (kOutM.view.readAt (Elt Ideal) (Rect.unit (s := S12x6656x128) ![b.val, 0, 0] S1x6656x128.size hi).toLoadRect (C kOutM.view.ref)) (by decide) n l).trans ?_
  refine congrArg (C main_v2_0 : S12x6656x128.Idx → EReal) (funext fun a => Fin.ext ?_)
  match a with
  | ⟨0, _⟩ => show b.val + 1 * 0 = b.val; omega
  | ⟨1, _⟩ => show 0 + 1 * n.val = n.val; omega
  | ⟨2, _⟩ => show 0 + 1 * l.val = l.val; omega

theorem vRes_read (b : Fin 12) (hi) (n : Fin 6656) (l : Fin 128) :
    (resBlk vOutM ![b.val, 0, 0] hi).view.read (Elt Ideal) (C vOutM.view.ref) (ix2 n l) = (C main_v2_2 : S12x6656x128.Idx → EReal) (ix3 b n l) := by
  refine (cast_lead3 (n₁ := 6656) (n₂ := 128) (vOutM.view.readAt (Elt Ideal) (Rect.unit (s := S12x6656x128) ![b.val, 0, 0] S1x6656x128.size hi).toLoadRect (C vOutM.view.ref)) (by decide) n l).trans ?_
  refine congrArg (C main_v2_2 : S12x6656x128.Idx → EReal) (funext fun a => Fin.ext ?_)
  match a with
  | ⟨0, _⟩ => show b.val + 1 * 0 = b.val; omega
  | ⟨1, _⟩ => show 0 + 1 * n.val = n.val; omega
  | ⟨2, _⟩ => show 0 + 1 * l.val = l.val; omega

theorem in_read (u : Fin 24) (t : Fin 384) (h : Fin 16) (l : Fin 128) (R : Fin 10016) (hR : R.val = 32 + 416 * u.val + t.val) :
    (inBlk u).view.read (Elt Ideal) (C inM.view.ref) (ix3 t h l) = inA C (ix3 R h l) := by
  refine congrArg (inA C) (funext fun a => Fin.ext ?_)
  match a with
  | ⟨0, _⟩ => show 32 + 416 * u.val + 1 * t.val = R.val; omega
  | ⟨1, _⟩ => show 0 + 1 * h.val = h.val; omega
  | ⟨2, _⟩ => show 0 + 1 * l.val = l.val; omega

theorem row_read (u : Fin 24) (hi) (h : Fin 16) :
    (rowBlk ![u.val, 0, 0] hi).view.read (Elt Ideal) (C rowM.view.ref) (ix2 (0 : Fin 1) h) = rowA C (ix3 u (0 : Fin 1) h) := by
  refine (cast_lead3 (n₁ := 1) (n₂ := 16) (rowM.view.readAt (Elt Ideal) (Rect.unit (s := S24x1x16) ![u.val, 0, 0] S1x1x16.size hi).toLoadRect (C rowM.view.ref)) (by decide) 0 h).trans ?_
  refine congrArg (rowA C) (funext fun a => Fin.ext ?_)
  match a with
  | ⟨0, _⟩ => show u.val + 1 * 0 = u.val; omega
  | ⟨1, _⟩ => show 0 + 1 * 0 = 0; omega
  | ⟨2, _⟩ => show 0 + 1 * h.val = h.val; omega

theorem old_read (u : Fin 24) (hi) (n : Fin 512) (l : Fin 128) :
    (oldBlk ![u.val, 0, 0] hi).view.read (Elt Ideal) (C oldM.view.ref) (ix2 n l) = oldA C (ix3 u n l) := by
  refine (cast_lead3 (n₁ := 512) (n₂ := 128) (oldM.view.readAt (Elt Ideal) (Rect.unit (s := S24x512x128) ![u.val, 0, 0] S1x512x128.size hi).toLoadRect (C oldM.view.ref)) (by decide) n l).trans ?_
  refine congrArg (oldA C) (funext fun a => Fin.ext ?_)
  match a with
  | ⟨0, _⟩ => show u.val + 1 * 0 = u.val; omega
  | ⟨1, _⟩ => show 0 + 1 * n.val = n.val; omega
  | ⟨2, _⟩ => show 0 + 1 * l.val = l.val; omega

theorem out_read (u : Fin 24) (hi) (n : Fin 6656) (l : Fin 128) :
    (outBlk ![u.val, 0, 0] hi).view.read (Elt Ideal) (C outM.view.ref) (ix2 n l) = outA C (ix3 u n l) := by
  refine (cast_lead3 (n₁ := 6656) (n₂ := 128) (outM.view.readAt (Elt Ideal) (Rect.unit (s := S24x6656x128) ![u.val, 0, 0] S1x6656x128.size hi).toLoadRect (C outM.view.ref)) (by decide) n l).trans ?_
  refine congrArg (outA C) (funext fun a => Fin.ext ?_)
  match a with
  | ⟨0, _⟩ => show u.val + 1 * 0 = u.val; omega
  | ⟨1, _⟩ => show 0 + 1 * n.val = n.val; omega
  | ⟨2, _⟩ => show 0 + 1 * l.val = l.val; omega

theorem sc_read (kv : Fin 2) (hi) (b : Fin 12) (p : Fin 13) (h : Fin 16) :
    (scBlk ![kv.val, 0, 0, 0] hi).view.read (Elt Ideal) (C scM.view.ref) (ix3 b p h) = scA C (ix4 kv b p h) := by
  refine (cast_lead4 (n₁ := 12) (n₂ := 13) (n₃ := 16) (scM.view.readAt (Elt Ideal) (Rect.unit (s := S2x12x13x16) ![kv.val, 0, 0, 0] S1x12x13x16.size hi).toLoadRect (C scM.view.ref)) (by decide) b p h).trans ?_
  refine congrArg (scA C) (funext fun a => Fin.ext ?_)
  match a with
  | ⟨0, _⟩ => show kv.val + 1 * 0 = kv.val; omega
  | ⟨1, _⟩ => show 0 + 1 * b.val = b.val; omega
  | ⟨2, _⟩ => show 0 + 1 * p.val = p.val; omega
  | ⟨3, _⟩ => show 0 + 1 * h.val = h.val; omega

theorem outAt_read (kv : Fin 2) (b : Fin 12) (p : Fin 13) (i : Fin 16) (n : Fin 32) (l : Fin 128) (N : Fin 6656) (hN : N.val = 512 * p.val + 32 * i.val + n.val) :
    (outM.access (rOut kv (trip b) p i)).read (Elt Ideal) (C outM.view.ref) (ix3 (0 : Fin 1) n l) = outA C (ix3 (uIx kv b) N l) := by
  refine congrArg (outA C) (funext fun a => Fin.ext ?_)
  have hw := outOff_eq kv (trip b) (512 * p.val + 32 * i.val)
  match a with
  | ⟨0, _⟩ =>
    show outOff kv (trip b) (512 * p.val + 32 * i.val) 0 + 1 * 0 = 2 * b.val + kv.val
    rw [hw]; rfl
  | ⟨1, _⟩ =>
    show outOff kv (trip b) (512 * p.val + 32 * i.val) 1 + 1 * n.val = N.val
    rw [hw]; show 512 * p.val + 32 * i.val + 1 * n.val = N.val; omega
  | ⟨2, _⟩ =>
    show outOff kv (trip b) (512 * p.val + 32 * i.val) 2 + 1 * l.val = l.val
    rw [hw]; show 0 + 1 * l.val = l.val; omega

theorem scAt_read (kv : Fin 2) (b : Fin 12) (p : Fin 13) (h : Fin 16) :
    (scM.access (rSc kv (trip b))).read (Elt Ideal) (C scM.view.ref) (ix4 (0 : Fin 1) (0 : Fin 1) p h) = scA C (ix4 kv b p h) := by
  refine congrArg (scA C) (funext fun a => Fin.ext ?_)
  have hw : scOff kv (trip b) = ![kv.val, b.val, 0, 0] := congrArg (fun x => (![kv.val, x, 0, 0] : Fin 4 → ℕ)) (reqW_toNat (trip b))
  match a with
  | ⟨0, _⟩ =>
    show scOff kv (trip b) 0 + 1 * 0 = kv.val
    rw [hw]; rfl
  | ⟨1, _⟩ =>
    show scOff kv (trip b) 1 + 1 * 0 = b.val
    rw [hw]; rfl
  | ⟨2, _⟩ =>
    show scOff kv (trip b) 2 + 1 * p.val = p.val
    rw [hw]; show 0 + 1 * p.val = p.val; omega
  | ⟨3, _⟩ =>
    show scOff kv (trip b) 3 + 1 * h.val = h.val
    rw [hw]; show 0 + 1 * h.val = h.val; omega

theorem lenV_at (hl : C lenM.view.ref = C lenA.view.ref) (b : Fin 12) : lenV C (trip b) = (C main_arg5 : S12.Idx → BitVec 32) (ix1 b) := by
  unfold lenV
  rw [hl]
  refine congrArg (C main_arg5 : S12.Idx → BitVec 32) (funext fun a => Fin.ext ?_)
  match a with
  | ⟨0, _⟩ => exact (Nat.add_zero _).trans (reqW_toNat (trip b))

/-- The fetching trip of a request. -/
def trip2 (b : Fin 12) : Fin k0_t2_loop.trips := ⟨b.val, lt_of_lt_of_eq b.isLt trips2.symm⟩

theorem len2V_at (hl : C lenM.view.ref = C lenA.view.ref) (b : Fin 12) : len2V C (trip2 b) = (C main_arg5 : S12.Idx → BitVec 32) (ix1 b) := by
  unfold len2V
  rw [hl]
  refine congrArg (C main_arg5 : S12.Idx → BitVec 32) (funext fun a => Fin.ext ?_)
  have := b.isLt
  match a with
  | ⟨0, _⟩ =>
    show (req2W (trip2 b)).toNat + 0 = b.val
    simp only [req2W, Scf.iv, BitVec.mul_one, BitVec.zero_add, BitVec.toNat_ofNat, trip2]
    omega

theorem pageV_at (hl : C lenM.view.ref = C lenA.view.ref) (ht : C tabM.view.ref = C tabA.view.ref) (b : Fin 12) (h)
    (hN : ((C main_arg5 : S12.Idx → BitVec 32) (ix1 b)).toNat < 4512) :
    pageV C (trip2 b) h = (C main_arg4 : S12x141.Idx → BitVec 32) (ix2 b (⟨((C main_arg5 : S12.Idx → BitVec 32) (ix1 b)).toNat / 32, by omega⟩ : Fin 141)) := by
  have e := len2V_at C hl b
  have h0 := off3_req (trip2 b) (len2V C (trip2 b))
  have h1 := off3_page (trip2 b) (v := len2V C (trip2 b)) (by rw [e]; exact hN)
  unfold pageV
  rw [ht]
  refine congrArg (C main_arg4 : S12x141.Idx → BitVec 32) (funext fun a => Fin.ext ?_)
  match a with
  | ⟨0, _⟩ => exact (Nat.add_zero _).trans h0
  | ⟨1, _⟩ => exact (Nat.add_zero _).trans (h1.trans (congrArg (fun x : BitVec 32 => x.toNat / 32) e))

end Cert.Kernel.Run
end
-- ==== Proof.KernIn.lean ====
/- What the kernel leaves in its results, at each index. -/
module

public import proofs.«01_k».proof.Proof.KernRead
public import proofs.«01_k».proof.Proof.Good
public import proofs.«01_k».proof.Proof.Glue

@[expose] public section

set_option maxRecDepth 20000

noncomputable section

namespace Cert.Kernel.Run

open Cert.Kernel Cert.Page Cert.Pow
open Idealize.ShloMosaic
open Shapes1.Facts₀ K0.Facts₀

variable {C : (b : Ref sig .tc) → b.ty.Contents (Elt Ideal)} (G : Good C) (kv : Fin 2) (b : Fin 12)
variable {old : Fin 32 → Fin 16 → Fin 128 → EReal} {sc : Fin 16 → EReal} {new : Fin 384 → Fin 16 → Fin 128 → EReal}

abbrev lenW (C : (b : Ref sig .tc) → b.ty.Contents (Elt Ideal)) : S12.Idx → BitVec 32 := C main_arg5
abbrev tabW (C : (b : Ref sig .tc) → b.ty.Contents (Elt Ideal)) : S12x141.Idx → BitVec 32 := C main_arg4

abbrev kTokA (C : (b : Ref sig .tc) → b.ty.Contents (Elt Ideal)) : S12x384x16x128.Idx → EReal := C main_arg6
abbrev vTokA (C : (b : Ref sig .tc) → b.ty.Contents (Elt Ideal)) : S12x384x16x128.Idx → EReal := C main_arg7
abbrev kPagA (C : (b : Ref sig .tc) → b.ty.Contents (Elt Ideal)) : S2115x512x128.Idx → EReal := C main_v0
abbrev vPagA (C : (b : Ref sig .tc) → b.ty.Contents (Elt Ideal)) : S2115x512x128.Idx → EReal := C main_v1
abbrev kScaA (C : (b : Ref sig .tc) → b.ty.Contents (Elt Ideal)) : S2115x16.Idx → EReal := C main_arg2
abbrev vScaA (C : (b : Ref sig .tc) → b.ty.Contents (Elt Ideal)) : S2115x16.Idx → EReal := C main_arg3
abbrev kOutA (C : (b : Ref sig .tc) → b.ty.Contents (Elt Ideal)) : S12x6656x128.Idx → EReal := C main_v2_0
abbrev vOutA (C : (b : Ref sig .tc) → b.ty.Contents (Elt Ideal)) : S12x6656x128.Idx → EReal := C main_v2_2
abbrev kScOutA (C : (b : Ref sig .tc) → b.ty.Contents (Elt Ideal)) : S12x13x16.Idx → EReal := C main_v2_1
abbrev vScOutA (C : (b : Ref sig .tc) → b.ty.Contents (Elt Ideal)) : S12x13x16.Idx → EReal := C main_v2_3

include G in
/-- The rows of the input buffer: a unit's tokens, and zeros around them. -/
theorem row_new (hT : ∀ t h l, (tokBlk (tokOf kv) b).view.read (Elt Ideal) (C (tokOf kv).view.ref) (ix3 t h l) = new t h l)
    (f : ℕ) (hf : f < 32) (p : Fin 13) (r : Fin 32) (h : Fin 16) (l : Fin 128) (R : Fin 10016) (hR : R.val = 32 + 416 * (2 * b.val + kv.val) - f + 32 * p.val + r.val) :
    inA C (ix3 R h l) = newOr new (tok f p r) h l := by
  have hp := p.isLt
  have hr := r.isLt
  unfold newOr
  by_cases hc : 0 ≤ tok f p r ∧ tok f p r < 384
  · rw [dif_pos hc]
    have hc' := hc
    unfold tok at hc'
    rw [← hT, ← G.tok kv b]
    refine (in_read C (uIx kv b) _ h l R ?_).symm
    show R.val = 32 + 416 * (2 * b.val + kv.val) + (tok f p r).toNat
    unfold tok
    omega
  · rw [dif_neg hc]
    unfold tok at hc
    refine Eq.trans (G.pad (ix3 R h l) (Finset.mem_filter.mpr ⟨Finset.mem_univ _, ?_⟩)) zero_bits16
    show R.val % 416 < 32
    have : ¬ (f ≤ 32 * p.val + r.val ∧ 32 * p.val + r.val < 384 + f) := fun q => hc ⟨by omega, by omega⟩
    omega

include G in
theorem fed_of (hN : (lenW C (ix1 b)).toNat < 4512)
    (hT : ∀ t h l, (tokBlk (tokOf kv) b).view.read (Elt Ideal) (C (tokOf kv).view.ref) (ix3 t h l) = new t h l)
    (hO : ∀ h h2 (r : Fin 32) (hd : Fin 16) (l : Fin 128) (n : Fin 512), n.val = 16 * r.val + hd.val →
      (pagPg (pagOf kv) (pageV C (trip2 b) h) (k0_off9_inb _ h2)).view.read (Elt Ideal) (C (pagOf kv).view.ref) (ix2 n l) = old r hd l)
    (hS : ∀ h h2 (hd : Fin 16), (scaPg (scaOf kv) (pageV C (trip2 b) h) (k0_off6_inb _ h2)).view.read (Elt Ideal) (C (scaOf kv).view.ref) (ix2 (0 : Fin 1) hd) = sc hd)
    (hle : ∀ t h l, max (new t h l) (-(new t h l)) ≤ big) : Fed C kv b (lenV C (trip b)) old sc new := by
  have e := lenV_at C G.len b
  have h1 := G.chk1 (trip2 b)
  have h2 := G.chk2 (trip2 b) h1
  refine ⟨by rw [e]; exact hN, fun p r h l R hR => row_new G kv b hT _ (Nat.mod_lt _ (by omega)) p r h l R hR, fun r h l n hn => ?_, fun h => ?_, hle⟩
  · rw [← hO h1 h2 r h l n hn, ← G.old kv (trip2 b) h1 h2 ![(uIx kv b).val, 0, 0] rfl (off24 _)]
    exact (old_read C (uIx kv b) _ n l).symm
  · rw [← hS h1 h2 h, ← G.row kv (trip2 b) h1 h2 ![(uIx kv b).val, 0, 0] rfl (off24 _)]
    exact (row_read C (uIx kv b) _ h).symm

variable {kv b}

include G in
theorem out_want (H : Fed C kv b (lenV C (trip b)) old sc new) (p : Fin 13) (r : Fin 32) (h : Fin 16) (l : Fin 128) (n : Fin 6656)
    (hn : n.val = (p.val * 32 + r.val) * 16 + h.val) : outA C (ix3 (uIx kv b) n l) = wantCode ((lenW C (ix1 b)).toNat % 32) old sc new p r h l := by
  have hr := r.isLt
  have hh := h.isLt
  have e : lenW C (ix1 b) = lenV C (trip b) := (lenV_at C G.len b).symm
  rw [e]
  have key : ∀ p : Fin 13, (hn : n.val = (p.val * 32 + r.val) * 16 + h.val) → outA C (ix3 (uIx kv b) n l)
      = (outM.access (rOut kv (trip b) p ⟨r.val / 2, by omega⟩)).read (Elt Ideal) (C outM.view.ref) (ix3 (0 : Fin 1) (⟨16 * (r.val % 2) + h.val, by omega⟩ : Fin 32) l) :=
    fun p hn => (outAt_read C kv b p ⟨r.val / 2, by omega⟩ ⟨16 * (r.val % 2) + h.val, by omega⟩ l n (by
      show n.val = 512 * p.val + 32 * (r.val / 2) + (16 * (r.val % 2) + h.val)
      omega)).symm
  have er : (⟨2 * (r.val / 2) + r.val % 2, by omega⟩ : Fin 32) = r := Fin.ext (by show 2 * (r.val / 2) + r.val % 2 = r.val; omega)
  rw [key p hn]
  rcases Fin.eq_zero_or_eq_succ p with hp | ⟨q, hp⟩
  · subst hp
    rw [G.out0 kv b (G.chk kv b)]
    refine (code0V_apply H (G.chk kv b) ⟨r.val / 2, by omega⟩ ⟨r.val % 2, by omega⟩ h l _ rfl).trans ?_
    exact congrArg (fun r => wantCode _ old sc new 0 r h l) er
  · subst hp
    rw [G.out kv b (G.chk kv b)]
    refine (codeV_apply H (G.chk kv b) q ⟨r.val / 2, by omega⟩ ⟨r.val % 2, by omega⟩ h l _ rfl).trans ?_
    exact congrArg (fun r => wantCode _ old sc new q.succ r h l) er

include G in
theorem sc_want (H : Fed C kv b (lenV C (trip b)) old sc new) (p : Fin 13) (h : Fin 16) :
    scA C (ix4 kv b p h) = want ((lenW C (ix1 b)).toNat % 32) sc new p h := by
  have e : lenW C (ix1 b) = lenV C (trip b) := (lenV_at C G.len b).symm
  rw [e, ← scAt_read C kv b p h, G.sc kv b (G.chk kv b)]
  exact scV_apply H (G.chk kv b) p h

theorem page_lt {n : ℕ} (h : n < 4512) : n / 32 < 141 := by omega

section Results

variable {pg : ℕ} (hpg : pg < 2115) (hN : (lenW C (ix1 b)).toNat < 4512)
  (ht : (tabW C (ix2 b (⟨(lenW C (ix1 b)).toNat / 32, page_lt hN⟩ : Fin 141))).toNat = pg)

include G ht in
theorem page_nat (h) : (pageV C (trip2 b) h).toNat = pg := by
  rw [← ht]
  exact congrArg BitVec.toNat (pageV_at C G.len G.tab b h hN)

section K

variable (hle : ∀ i, max (kTokA C i) (-kTokA C i) ≤ big)

include G ht hN hle in
theorem k_fed : Fed C 0 b (lenV C (trip b))
    (fun (r : Fin 32) (h : Fin 16) (l : Fin 128) => kPagA C (ix3 (⟨pg, hpg⟩ : Fin 2115) (⟨16 * r.val + h.val, by omega⟩ : Fin 512) l))
    (fun h : Fin 16 => kScaA C (ix2 (⟨pg, hpg⟩ : Fin 2115) h))
    (fun (t : Fin 384) (h : Fin 16) (l : Fin 128) => kTokA C (ix4 b t h l)) := by
  refine fed_of G 0 b hN (fun t h l => kTok_read C b t h l) (fun h h2 r hd l n hn => ?_) (fun h h2 hd => ?_) (fun t h l => hle _)
  · have e := page_nat G hN ht h
    refine (kPag_read C _ (lt_of_eq_of_lt e hpg) _ n l).trans ?_
    have e1 : (⟨(pageV C (trip2 b) h).toNat, lt_of_eq_of_lt e hpg⟩ : Fin 2115) = ⟨pg, hpg⟩ := Fin.ext e
    have e2 : n = (⟨16 * r.val + hd.val, by omega⟩ : Fin 512) := Fin.ext hn
    rw [e1, e2]
  · have e := page_nat G hN ht h
    refine (kSca_read C _ (lt_of_eq_of_lt e hpg) _ hd).trans ?_
    have e1 : (⟨(pageV C (trip2 b) h).toNat, lt_of_eq_of_lt e hpg⟩ : Fin 2115) = ⟨pg, hpg⟩ := Fin.ext e
    rw [e1]

include G ht hN hle in
theorem k_codes (p : Fin 13) (r : Fin 32) (h : Fin 16) (l : Fin 128) (n : Fin 6656) (hn : n.val = (p.val * 32 + r.val) * 16 + h.val) :
    kOutA C (ix3 b n l) = wantCode ((lenW C (ix1 b)).toNat % 32)
      (fun (r : Fin 32) (h : Fin 16) (l : Fin 128) => kPagA C (ix3 (⟨pg, hpg⟩ : Fin 2115) (⟨16 * r.val + h.val, by omega⟩ : Fin 512) l))
      (fun h : Fin 16 => kScaA C (ix2 (⟨pg, hpg⟩ : Fin 2115) h))
      (fun (t : Fin 384) (h : Fin 16) (l : Fin 128) => kTokA C (ix4 b t h l)) p r h l := by
  have hb := b.isLt
  refine Eq.trans ?_ (out_want G (k_fed G hpg hN ht hle) p r h l n hn)
  refine Eq.trans ?_ (out_read C (uIx 0 b) (off24 _) n l)
  have hi : ∀ a, (![b.val, 0, 0] : Fin 3 → ℕ) a + S1x6656x128.size a ≤ S12x6656x128.size a := by
    intro a
    match a with
    | ⟨0, _⟩ => show b.val + 1 ≤ 12; omega
    | ⟨1, _⟩ => exact Nat.le_refl _
    | ⟨2, _⟩ => exact Nat.le_refl _
  refine (kRes_read C b hi n l).symm.trans ?_
  exact congrFun (G.res 0 b.val ![(uIx 0 b).val, 0, 0] rfl (off24 _) ![b.val, 0, 0] rfl hi) (ix2 n l)

include G ht hN hle in
theorem k_scales (p : Fin 13) (h : Fin 16) :
    kScOutA C (ix3 b p h) = want ((lenW C (ix1 b)).toNat % 32)
      (fun h : Fin 16 => kScaA C (ix2 (⟨pg, hpg⟩ : Fin 2115) h))
      (fun (t : Fin 384) (h : Fin 16) (l : Fin 128) => kTokA C (ix4 b t h l)) p h := by
  refine Eq.trans ?_ (sc_want G (k_fed G hpg hN ht hle) p h)
  have hi : ∀ a, (![(0 : Fin 2).val, 0, 0, 0] : Fin 4 → ℕ) a + S1x12x13x16.size a ≤ S2x12x13x16.size a := by decide
  refine Eq.trans ?_ (sc_read C 0 hi b p h)
  exact congrFun (G.scOut 0 ![(0 : Fin 2).val, 0, 0, 0] rfl hi) (ix3 b p h)

end K

section V

variable (hle : ∀ i, max (vTokA C i) (-vTokA C i) ≤ big)

include G ht hN hle in
theorem v_fed : Fed C 1 b (lenV C (trip b))
    (fun (r : Fin 32) (h : Fin 16) (l : Fin 128) => vPagA C (ix3 (⟨pg, hpg⟩ : Fin 2115) (⟨16 * r.val + h.val, by omega⟩ : Fin 512) l))
    (fun h : Fin 16 => vScaA C (ix2 (⟨pg, hpg⟩ : Fin 2115) h))
    (fun (t : Fin 384) (h : Fin 16) (l : Fin 128) => vTokA C (ix4 b t h l)) := by
  refine fed_of G 1 b hN (fun t h l => vTok_read C b t h l) (fun h h2 r hd l n hn => ?_) (fun h h2 hd => ?_) (fun t h l => hle _)
  · have e := page_nat G hN ht h
    refine (vPag_read C _ (lt_of_eq_of_lt e hpg) _ n l).trans ?_
    have e1 : (⟨(pageV C (trip2 b) h).toNat, lt_of_eq_of_lt e hpg⟩ : Fin 2115) = ⟨pg, hpg⟩ := Fin.ext e
    have e2 : n = (⟨16 * r.val + hd.val, by omega⟩ : Fin 512) := Fin.ext hn
    rw [e1, e2]
  · have e := page_nat G hN ht h
    refine (vSca_read C _ (lt_of_eq_of_lt e hpg) _ hd).trans ?_
    have e1 : (⟨(pageV C (trip2 b) h).toNat, lt_of_eq_of_lt e hpg⟩ : Fin 2115) = ⟨pg, hpg⟩ := Fin.ext e
    rw [e1]

include G ht hN hle in
theorem v_codes (p : Fin 13) (r : Fin 32) (h : Fin 16) (l : Fin 128) (n : Fin 6656) (hn : n.val = (p.val * 32 + r.val) * 16 + h.val) :
    vOutA C (ix3 b n l) = wantCode ((lenW C (ix1 b)).toNat % 32)
      (fun (r : Fin 32) (h : Fin 16) (l : Fin 128) => vPagA C (ix3 (⟨pg, hpg⟩ : Fin 2115) (⟨16 * r.val + h.val, by omega⟩ : Fin 512) l))
      (fun h : Fin 16 => vScaA C (ix2 (⟨pg, hpg⟩ : Fin 2115) h))
      (fun (t : Fin 384) (h : Fin 16) (l : Fin 128) => vTokA C (ix4 b t h l)) p r h l := by
  have hb := b.isLt
  refine Eq.trans ?_ (out_want G (v_fed G hpg hN ht hle) p r h l n hn)
  refine Eq.trans ?_ (out_read C (uIx 1 b) (off24 _) n l)
  have hi : ∀ a, (![b.val, 0, 0] : Fin 3 → ℕ) a + S1x6656x128.size a ≤ S12x6656x128.size a := by
    intro a
    match a with
    | ⟨0, _⟩ => show b.val + 1 ≤ 12; omega
    | ⟨1, _⟩ => exact Nat.le_refl _
    | ⟨2, _⟩ => exact Nat.le_refl _
  refine (vRes_read C b hi n l).symm.trans ?_
  exact congrFun (G.res 1 b.val ![(uIx 1 b).val, 0, 0] rfl (off24 _) ![b.val, 0, 0] rfl hi) (ix2 n l)

include G ht hN hle in
theorem v_scales (p : Fin 13) (h : Fin 16) :
    vScOutA C (ix3 b p h) = want ((lenW C (ix1 b)).toNat % 32)
      (fun h : Fin 16 => vScaA C (ix2 (⟨pg, hpg⟩ : Fin 2115) h))
      (fun (t : Fin 384) (h : Fin 16) (l : Fin 128) => vTokA C (ix4 b t h l)) p h := by
  refine Eq.trans ?_ (sc_want G (v_fed G hpg hN ht hle) p h)
  have hi : ∀ a, (![(1 : Fin 2).val, 0, 0, 0] : Fin 4 → ℕ) a + S1x12x13x16.size a ≤ S2x12x13x16.size a := by decide
  refine Eq.trans ?_ (sc_read C 1 hi b p h)
  exact congrFun (G.scOut 1 ![(1 : Fin 2).val, 0, 0, 0] rfl hi) (ix3 b p h)

end V

end Results

end Cert.Kernel.Run
end
-- ==== Proof.RefArr.lean ====
/- What the reference's two calls leave in their results, of the whole arrays they read. -/
module

public import proofs.«01_k».proof.Proof.Gen.ReferenceIdeal
public import proofs.«01_k».proof.Proof.Gen.ReferenceIdeal.Frame
public import Idealize.ShloMosaic.Lib.Pipeline.ValueKit.Geometry
public import Idealize.ShloMosaic.Lib.Pipeline.ValueKit.Basic

@[expose] public section

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes and the scales of one call, of whole arrays. -/
def codesOf (x0 : Vec F S12x13x32x16x128 .i32) (x1 : Vec F S12x13x32x16x128 .fp8e4m3) (x2 : Vec F S12x13x16 .f32) (x3 : Vec F S12x13x16 .i32) (x4 : Vec F S12x13x32x16x128 .bf16) : Vec F S12x6656x128 .fp8e4m3 :=
  k0_pay9 (k0_pay3 x2) (k0_pay4 x0 x2 x1 x4) (k0_pay5 x0 x2 x1 x4) (k0_pay6 x0 x2 x1 x4) k0_pay7 x3

def scalesOf (x0 : Vec F S12x13x32x16x128 .i32) (x1 : Vec F S12x13x32x16x128 .fp8e4m3) (x2 : Vec F S12x13x16 .f32) (x3 : Vec F S12x13x16 .i32) (x4 : Vec F S12x13x32x16x128 .bf16) : Vec F S12x13x16 .f32 :=
  k0_pay8 (k0_pay3 x2) (k0_pay5 x0 x2 x1 x4) (k0_pay6 x0 x2 x1 x4) k0_pay7 x3

theorem ld5 {e : EltTy} (x : Vec F S12x13x32x16x128 e) : View.ld x r0_0 = x := View.ld_unit_zero (by decide) _ x
theorem ld3 {e : EltTy} (x : Vec F S12x13x16 e) : View.ld x r0_1 = x := View.ld_unit_zero (by decide) _ x

theorem out0_5_eq (x0 : Vec F S12x13x32x16x128 .i32) (x1 : Vec F S12x13x32x16x128 .fp8e4m3) (x2 : Vec F S12x13x16 .f32) (x3 : Vec F S12x13x16 .i32) (x4 : Vec F S12x13x32x16x128 .bf16) :
    out0_5 x0 x1 x2 x3 x4 = codesOf x0 x1 x2 x3 x4 := by
  unfold out0_5 k0_pay10 k0_pay11 k0_pay12 k0_pay13
  simp only [ld5, ld3]
  exact View.canon_cons_unit_zero (by decide) _ _ _

theorem out0_6_eq (x0 : Vec F S12x13x32x16x128 .i32) (x1 : Vec F S12x13x32x16x128 .fp8e4m3) (x2 : Vec F S12x13x16 .f32) (x3 : Vec F S12x13x16 .i32) (x4 : Vec F S12x13x32x16x128 .bf16) :
    out0_6 x0 x1 x2 x3 x4 = scalesOf x0 x1 x2 x3 x4 := by
  unfold out0_6 k0_pay10 k0_pay11 k0_pay12 k0_pay13
  simp only [ld5, ld3]
  exact View.canon_cons_unit_zero (by decide) _ _ _

theorem out1_5_eq (x0 : Vec F S12x13x32x16x128 .i32) (x1 : Vec F S12x13x32x16x128 .fp8e4m3) (x2 : Vec F S12x13x16 .f32) (x3 : Vec F S12x13x16 .i32) (x4 : Vec F S12x13x32x16x128 .bf16) :
    out1_5 x0 x1 x2 x3 x4 = codesOf x0 x1 x2 x3 x4 := by
  rw [← out0_5_eq]; rfl

theorem out1_6_eq (x0 : Vec F S12x13x32x16x128 .i32) (x1 : Vec F S12x13x32x16x128 .fp8e4m3) (x2 : Vec F S12x13x16 .f32) (x3 : Vec F S12x13x16 .i32) (x4 : Vec F S12x13x32x16x128 .bf16) :
    out1_6 x0 x1 x2 x3 x4 = scalesOf x0 x1 x2 x3 x4 := by
  rw [← out0_6_eq]; rfl

section
variable (V : (c : Dev nD) → (b : Ref sig .tc) → Buf (Elt F) ((c : Thread nD τ).loc b)) (c : Dev nD)

theorem iblk0_0 (t : Fin cfg0.N) : iblk0 V c 0 t = V c main_v27 := by
  have hz : ∀ (t : Fin cfg0.N) a, (cfg0.win 0).index t a = 0 := by decide +kernel
  funext y
  exact congrArg (V c main_v27) (funext fun a => Fin.ext (Window.rect_emb_val_of_index_zero (cfg0.win 0) t a (hz t a) y))

theorem iblk0_1 (t : Fin cfg0.N) : iblk0 V c 1 t = V c main_v28 := by
  have hz : ∀ (t : Fin cfg0.N) a, (cfg0.win 1).index t a = 0 := by decide +kernel
  funext y
  exact congrArg (V c main_v28) (funext fun a => Fin.ext (Window.rect_emb_val_of_index_zero (cfg0.win 1) t a (hz t a) y))

theorem iblk0_2 (t : Fin cfg0.N) : iblk0 V c 2 t = V c main_v29 := by
  have hz : ∀ (t : Fin cfg0.N) a, (cfg0.win 2).index t a = 0 := by decide +kernel
  funext y
  exact congrArg (V c main_v29) (funext fun a => Fin.ext (Window.rect_emb_val_of_index_zero (cfg0.win 2) t a (hz t a) y))

theorem iblk0_3 (t : Fin cfg0.N) : iblk0 V c 3 t = V c main_v31 := by
  have hz : ∀ (t : Fin cfg0.N) a, (cfg0.win 3).index t a = 0 := by decide +kernel
  funext y
  exact congrArg (V c main_v31) (funext fun a => Fin.ext (Window.rect_emb_val_of_index_zero (cfg0.win 3) t a (hz t a) y))

theorem iblk0_4 (t : Fin cfg0.N) : iblk0 V c 4 t = V c main_v25 := by
  have hz : ∀ (t : Fin cfg0.N) a, (cfg0.win 4).index t a = 0 := by decide +kernel
  funext y
  exact congrArg (V c main_v25) (funext fun a => Fin.ext (Window.rect_emb_val_of_index_zero (cfg0.win 4) t a (hz t a) y))

theorem arr0_5 : (dat0 V c).arrAt 5 cfg0.N = codesOf (V c main_v27) (V c main_v28) (V c main_v29) (V c main_v31) (V c main_v25) := by
  rw [← out0_5_eq]
  refine (dat0 V c).arrAt_eq_of_after_last 5 ⟨0, by decide⟩ (by decide +kernel) _ fun j => ?_
  have e : out0_5 (iblk0 V c 0 ⟨0, by decide⟩) (iblk0 V c 1 ⟨0, by decide⟩) (iblk0 V c 2 ⟨0, by decide⟩) (iblk0 V c 3 ⟨0, by decide⟩) (iblk0 V c 4 ⟨0, by decide⟩) = out0_5 (V c main_v27) (V c main_v28) (V c main_v29) (V c main_v31) (V c main_v25) := by
    rw [iblk0_0, iblk0_1, iblk0_2, iblk0_3, iblk0_4]
  exact (show _ = out0_5 (iblk0 V c 0 ⟨0, by decide⟩) (iblk0 V c 1 ⟨0, by decide⟩) (iblk0 V c 2 ⟨0, by decide⟩) (iblk0 V c 3 ⟨0, by decide⟩) (iblk0 V c 4 ⟨0, by decide⟩) j by chain_rfl).trans ((congrFun e j).trans (by chain_rfl))

theorem arr0_6 : (dat0 V c).arrAt 6 cfg0.N = scalesOf (V c main_v27) (V c main_v28) (V c main_v29) (V c main_v31) (V c main_v25) := by
  rw [← out0_6_eq]
  refine (dat0 V c).arrAt_eq_of_after_last 6 ⟨0, by decide⟩ (by decide +kernel) _ fun j => ?_
  show out0_6 (iblk0 V c 0 ⟨0, by decide⟩) (iblk0 V c 1 ⟨0, by decide⟩) (iblk0 V c 2 ⟨0, by decide⟩) (iblk0 V c 3 ⟨0, by decide⟩) (iblk0 V c 4 ⟨0, by decide⟩) j = _
  rw [iblk0_0, iblk0_1, iblk0_2, iblk0_3, iblk0_4]
  rfl

theorem iblk1_0 (t : Fin cfg1.N) : iblk1 V c 0 t = V c main_v40 := by
  have hz : ∀ (t : Fin cfg1.N) a, (cfg1.win 0).index t a = 0 := by decide +kernel
  funext y
  exact congrArg (V c main_v40) (funext fun a => Fin.ext (Window.rect_emb_val_of_index_zero (cfg1.win 0) t a (hz t a) y))

theorem iblk1_1 (t : Fin cfg1.N) : iblk1 V c 1 t = V c main_v41 := by
  have hz : ∀ (t : Fin cfg1.N) a, (cfg1.win 1).index t a = 0 := by decide +kernel
  funext y
  exact congrArg (V c main_v41) (funext fun a => Fin.ext (Window.rect_emb_val_of_index_zero (cfg1.win 1) t a (hz t a) y))

theorem iblk1_2 (t : Fin cfg1.N) : iblk1 V c 2 t = V c main_v42 := by
  have hz : ∀ (t : Fin cfg1.N) a, (cfg1.win 2).index t a = 0 := by decide +kernel
  funext y
  exact congrArg (V c main_v42) (funext fun a => Fin.ext (Window.rect_emb_val_of_index_zero (cfg1.win 2) t a (hz t a) y))

theorem iblk1_3 (t : Fin cfg1.N) : iblk1 V c 3 t = V c main_v44 := by
  have hz : ∀ (t : Fin cfg1.N) a, (cfg1.win 3).index t a = 0 := by decide +kernel
  funext y
  exact congrArg (V c main_v44) (funext fun a => Fin.ext (Window.rect_emb_val_of_index_zero (cfg1.win 3) t a (hz t a) y))

theorem iblk1_4 (t : Fin cfg1.N) : iblk1 V c 4 t = V c main_v38 := by
  have hz : ∀ (t : Fin cfg1.N) a, (cfg1.win 4).index t a = 0 := by decide +kernel
  funext y
  exact congrArg (V c main_v38) (funext fun a => Fin.ext (Window.rect_emb_val_of_index_zero (cfg1.win 4) t a (hz t a) y))

theorem arr1_5 : (dat1 V c).arrAt 5 cfg1.N = codesOf (V c main_v40) (V c main_v41) (V c main_v42) (V c main_v44) (V c main_v38) := by
  rw [← out1_5_eq]
  refine (dat1 V c).arrAt_eq_of_after_last 5 ⟨0, by decide⟩ (by decide +kernel) _ fun j => ?_
  have e : out1_5 (iblk1 V c 0 ⟨0, by decide⟩) (iblk1 V c 1 ⟨0, by decide⟩) (iblk1 V c 2 ⟨0, by decide⟩) (iblk1 V c 3 ⟨0, by decide⟩) (iblk1 V c 4 ⟨0, by decide⟩) = out1_5 (V c main_v40) (V c main_v41) (V c main_v42) (V c main_v44) (V c main_v38) := by
    rw [iblk1_0, iblk1_1, iblk1_2, iblk1_3, iblk1_4]
  exact (show _ = out1_5 (iblk1 V c 0 ⟨0, by decide⟩) (iblk1 V c 1 ⟨0, by decide⟩) (iblk1 V c 2 ⟨0, by decide⟩) (iblk1 V c 3 ⟨0, by decide⟩) (iblk1 V c 4 ⟨0, by decide⟩) j by chain_rfl).trans ((congrFun e j).trans (by chain_rfl))

theorem arr1_6 : (dat1 V c).arrAt 6 cfg1.N = scalesOf (V c main_v40) (V c main_v41) (V c main_v42) (V c main_v44) (V c main_v38) := by
  rw [← out1_6_eq]
  refine (dat1 V c).arrAt_eq_of_after_last 6 ⟨0, by decide⟩ (by decide +kernel) _ fun j => ?_
  show out1_6 (iblk1 V c 0 ⟨0, by decide⟩) (iblk1 V c 1 ⟨0, by decide⟩) (iblk1 V c 2 ⟨0, by decide⟩) (iblk1 V c 3 ⟨0, by decide⟩) (iblk1 V c 4 ⟨0, by decide⟩) j = _
  rw [iblk1_0, iblk1_1, iblk1_2, iblk1_3, iblk1_4]
  rfl

end

theorem res0 (c : Dev nD) : W4 m ρ c (Proc.devRef .tc main_v32_0)
    = codesOf (V1 m ρ c main_v27) (V1 m ρ c main_v28) (V1 m ρ c main_v29) (V1 m ρ c main_v31) (V1 m ρ c main_v25) :=
  (W4_of m ρ c main_v32_0 (by decide)).trans <| (W3_of m ρ c main_v32_0 (by decide)).trans <| (W2_arr m ρ c 5).trans (arr0_5 (V1 m ρ) c)

theorem res1 (c : Dev nD) : W4 m ρ c (Proc.devRef .tc main_v32_1)
    = scalesOf (V1 m ρ c main_v27) (V1 m ρ c main_v28) (V1 m ρ c main_v29) (V1 m ρ c main_v31) (V1 m ρ c main_v25) :=
  (W4_of m ρ c main_v32_1 (by decide)).trans <| (W3_of m ρ c main_v32_1 (by decide)).trans <| (W2_arr m ρ c 6).trans (arr0_6 (V1 m ρ) c)

theorem res2 (c : Dev nD) : W4 m ρ c (Proc.devRef .tc main_v45_0)
    = codesOf (V3 m ρ c main_v40) (V3 m ρ c main_v41) (V3 m ρ c main_v42) (V3 m ρ c main_v44) (V3 m ρ c main_v38) :=
  (W4_arr m ρ c 5).trans (arr1_5 (V3 m ρ) c)

theorem res3 (c : Dev nD) : W4 m ρ c (Proc.devRef .tc main_v45_1)
    = scalesOf (V3 m ρ c main_v40) (V3 m ρ c main_v41) (V3 m ρ c main_v42) (V3 m ρ c main_v44) (V3 m ρ c main_v38) :=
  (W4_arr m ρ c 6).trans (arr1_6 (V3 m ρ) c)

end Cert.ReferenceIdeal.Val
end
-- ==== Proof.RefPoint.lean ====
/- One element of what a call of the reference leaves, as a page's scale or code. -/
module

public import proofs.«01_k».proof.Proof.RefArr
public import proofs.«01_k».proof.Proof.Page
public import Idealize.ShloMosaic.Lib.ValueLayout
public import Idealize.ShloMosaic.Lib.Pipeline.Regions
public import Idealize.ShloMosaic.Lib.Pointwise.Index

@[expose] public section

set_option maxRecDepth 20000

noncomputable section

namespace Cert.ReferenceIdeal.Val

open Cert.ReferenceIdeal Cert.ReferenceIdeal.Gen Cert.Page Cert.Pow
open Idealize.ShloMosaic

theorem sel_ofBool {α : Type} (p : Prop) [Decidable p] (a b : α) :
    Scalar.select (BitVec.ofBool (decide p)) a b = if p then a else b := by
  by_cases h : p <;> simp [Scalar.select, h]

variable (x0 : Vec Ideal S12x13x32x16x128 .i32) (x1 : Vec Ideal S12x13x32x16x128 .fp8e4m3) (x2 : Vec Ideal S12x13x16 .f32)
  (x3 : Vec Ideal S12x13x16 .i32) (x4 : Vec Ideal S12x13x32x16x128 .bf16)

theorem comp_at {α β γ : Type} {f : β → γ} {g : α → β} {a : α} {b : β} (e : g a = b) : (f ∘ g) a = f b := congrArg f e

/-- A token of the page comes from the append. -/
abbrev IsNew (t : Int) : Prop := 0 ≤ t ∧ t < 384

theorem pay1_eq : k0_pay1 (F := Ideal) x0 = x0 := shapeCast_self x0 _

theorem pay3_eq : k0_pay3 (F := Ideal) x2 = x2 := shapeCast_self x2 _

theorem pay2_apply (i : S12x13x32x16x128.Idx) : k0_pay2 (F := Ideal) x0 i = BitVec.ofBool (decide (IsNew (x0 i).toInt)) := by
  unfold k0_pay2
  rw [pay1_eq]
  show (BitVec.ofBool (decide ((0#32 : BitVec 32).toInt ≤ (x0 i).toInt))) &&& (BitVec.ofBool (decide ((x0 i).toInt < (384#32 : BitVec 32).toInt))) = _
  have e0 : (0#32 : BitVec 32).toInt = 0 := by decide
  have e1 : (384#32 : BitVec 32).toInt = 384 := by decide
  rw [e0, e1]
  by_cases h : 0 ≤ (x0 i).toInt <;> by_cases h' : (x0 i).toInt < 384 <;> simp [IsNew, h, h']

theorem bc5_apply (v : S12x13x16.Idx → EReal) (b : Fin 12) (p : Fin 13) (r : Fin 32) (h : Fin 16) (l : Fin 128) :
    broadcastTo S12x13x32x16x128 (shapeCast S12x13x1x16x1 v shapeCasts_S12x13x16_S12x13x1x16x1) broadcasts_S12x13x1x16x1_S12x13x32x16x128 (ix5 b p r h l)
      = v (ix3 b p h) := by
  refine (broadcastTo_apply _ _ _ (ix5 b p (0 : Fin 1) h (0 : Fin 1)) fun a => ?_).trans ?_
  · match a with
    | ⟨0, _⟩ => rfl
    | ⟨1, _⟩ => rfl
    | ⟨2, _⟩ => rfl
    | ⟨3, _⟩ => rfl
    | ⟨4, _⟩ => rfl
  · refine shapeCast_apply v _ _ (ix3 b p h) ?_
    rw [Shape.rowMajor_val_three, Shape.rowMajor_val_five]
    show (b.val * 13 + p.val) * 16 + h.val = (((b.val * 13 + p.val) * 1 + 0) * 16 + h.val) * 1 + 0
    omega

/-- The number coded at an element: the stored one, the new one, or zero. -/
def valAt (b : Fin 12) (p : Fin 13) (r : Fin 32) (h : Fin 16) (l : Fin 128) : EReal :=
  if (x0 (ix5 b p r h l)).toInt < 0 then x1 (ix5 b p r h l) * x2 (ix3 b p h)
  else if IsNew (x0 (ix5 b p r h l)).toInt then x4 (ix5 b p r h l) else 0

theorem pay4_apply (b : Fin 12) (p : Fin 13) (r : Fin 32) (h : Fin 16) (l : Fin 128) :
    k0_pay4 (F := Ideal) x0 x2 x1 x4 (ix5 b p r h l) = valAt x0 x1 x2 x4 b p r h l := by
  unfold k0_pay4
  rw [pay1_eq, pay3_eq, shapeCast_self, shapeCast_self]
  have e0 : (0#32 : BitVec 32).toInt = 0 := by decide
  show Scalar.select (BitVec.ofBool (decide ((x0 (ix5 b p r h l)).toInt < (0#32 : BitVec 32).toInt)))
    (x1 (ix5 b p r h l) * broadcastTo S12x13x32x16x128 (shapeCast S12x13x1x16x1 x2 shapeCasts_S12x13x16_S12x13x1x16x1) broadcasts_S12x13x1x16x1_S12x13x32x16x128 (ix5 b p r h l))
    (Scalar.select (k0_pay2 (F := Ideal) x0 (ix5 b p r h l)) (x4 (ix5 b p r h l)) (Ideal.ofBits .f32 0x00000000#32)) = _
  rw [bc5_apply, pay2_apply, sel_ofBool, sel_ofBool, zero_bits, e0]
  rfl

/-- The page's maximum, of the head's new numbers. -/
def amaxAt (b : Fin 12) (p : Fin 13) (h : Fin 16) : EReal :=
  (Finset.univ : Finset (Fin 32)).fold max ⊥ fun r => (Finset.univ : Finset (Fin 128)).fold max ⊥ fun l =>
    if IsNew (x0 (ix5 b p r h l)).toInt then max (x4 (ix5 b p r h l)) (-(x4 (ix5 b p r h l))) else 0

theorem pay5_apply (b : Fin 12) (p : Fin 13) (h : Fin 16) :
    k0_pay5 (F := Ideal) x0 x2 x1 x4 (ix3 b p h) = amaxAt x0 x4 b p h := by
  dsimp only [k0_pay5]
  refine (Ideal.multiReduction_maximumf_single _ _ _ _ _ _).trans ?_
  show (Finset.univ : Finset (Fin 32)).fold max (Ideal.ofBits .f32 0xFF800000#32) _ = _
  rw [bot_bits]
  unfold amaxAt
  refine Finset.fold_congr fun r _ => ?_
  have e : reduces_S12x13x32x16_S12x13x16.lift (ix3 b p h) r = ix4 b p r h := by
    funext a
    match a with
    | ⟨0, _⟩ => rfl
    | ⟨1, _⟩ => rfl
    | ⟨2, _⟩ => rfl
    | ⟨3, _⟩ => rfl
  refine (comp_at e).trans ?_
  refine (Ideal.multiReduction_maximumf_single _ _ _ _ _ _).trans ?_
  show (Finset.univ : Finset (Fin 128)).fold max (Ideal.ofBits .f32 0xFF800000#32) _ = _
  rw [bot_bits]
  refine Finset.fold_congr fun l _ => ?_
  have e' : reduces_S12x13x32x16x128_S12x13x32x16.lift (ix4 b p r h) l = ix5 b p r h l := by
    funext a
    match a with
    | ⟨0, _⟩ => rfl
    | ⟨1, _⟩ => rfl
    | ⟨2, _⟩ => rfl
    | ⟨3, _⟩ => rfl
    | ⟨4, _⟩ => rfl
  show Scalar.select (k0_pay2 (F := Ideal) x0 (reduces_S12x13x32x16x128_S12x13x32x16.lift (ix4 b p r h) l))
    (max (k0_pay4 (F := Ideal) x0 x2 x1 x4 (reduces_S12x13x32x16x128_S12x13x32x16.lift (ix4 b p r h) l)) (-(k0_pay4 (F := Ideal) x0 x2 x1 x4 (reduces_S12x13x32x16x128_S12x13x32x16.lift (ix4 b p r h) l))))
    (Ideal.ofBits .f32 0x00000000#32) = _
  rw [e', pay4_apply, pay2_apply, sel_ofBool, zero_bits]
  unfold valAt
  split
  · rename_i hn
    rw [if_neg (by omega)]
  · rfl

theorem pay7_apply (i : S12x13x16x253.Idx) : k0_pay7 i = BitVec.ofNat 32 (i 3).val - 125#32 := by
  dsimp only [k0_pay7]
  show iota .tc S12x13x16x253 32 [3] iota_S12x13x16x253_d3_w32 i - 125#32 = _
  rw [iota_single_apply]

theorem toInt_power : ∀ k : Fin 253, (BitVec.ofNat 32 k.val - 125#32 : BitVec 32).toInt = (k.val : Int) - 125 := by decide +kernel

/-- The least of the powers of two above each of the numbers `v29`. -/
def minV (v29 : FVec Ideal S12x13x16 .f32) (v32 : IVec S12x13x16x253 32) : FVec Ideal S12x13x16 .f32 :=
  have v33 : FVec Ideal S12x13x16x253 .f32 := sitofp .f32 v32
  have v34 : FVec Ideal S12x13x16x253 .f32 := exp2 v33
  have v35 : FVec Ideal S12x13x16x1 .f32 := shapeCast S12x13x16x1 v29 shapeCasts_S12x13x16_S12x13x16x1
  have v36 : FVec Ideal S12x13x16x253 .f32 := broadcastTo S12x13x16x253 v35 broadcasts_S12x13x16x1_S12x13x16x253
  have v37 : IVec S12x13x16x253 1 := cmpf .olt v36 v34
  have cst_22 : Ideal .f32 := Scalar.ofBits .f32 0x7F800000#32
  have v38 : FVec Ideal S12x13x16x253 .f32 := broadcast S12x13x16x253 cst_22
  have v39 : FVec Ideal S12x13x16x253 .f32 := select v37 v34 v38
  multiReduction .minimumf [3] S12x13x16 v39 0x7F800000#32 reduces_S12x13x16x253_S12x13x16 (.inl rfl) rfl

/-- The scale, of the stored one, the page's maximum, its quotient, the power above that, and the page's liveness. -/
def tailS (sc a5 a6 M : EReal) (lv : BitVec 32) : EReal :=
  let s := max (Scalar.select (BitVec.ofBool (decide ((0#32 : BitVec 32).toInt < lv.toInt))) sc (Ideal.ofBits .f32 0x00000000#32))
    (Scalar.select (BitVec.ofBool (decide (Ideal.ofBits .f32 0x00000000#32 < a5)))
      (Scalar.select (BitVec.ofBool (decide (Ideal.ofBits .f32 0x00800000#32 ≤ a6)) &&& BitVec.ofBool (decide (a6 < Ideal.ofBits .f32 0x7F800000#32))) M (Ideal.ofBits .f32 0x3F800000#32))
      (Ideal.ofBits .f32 0x00000000#32))
  Scalar.select (BitVec.ofBool (decide (s = Ideal.ofBits .f32 0x00000000#32))) (Ideal.ofBits .f32 0x3F800000#32) s

theorem pay8_apply (v10 v27 v29 : FVec Ideal S12x13x16 .f32) (v32 : IVec S12x13x16x253 32) (v52 : Vec Ideal S12x13x16 .i32) (i : S12x13x16.Idx) :
    k0_pay8 (F := Ideal) v10 v27 v29 v32 v52 i = tailS (v10 i) (v27 i) (v29 i) (minV v29 v32 i) (v52 i) := by
  have e : shapeCast S12x13x16 v52 shapeCasts_S12x13x16_S12x13x16 = v52 := shapeCast_self v52 _
  have k : k0_pay8 (F := Ideal) v10 v27 v29 v32 v52 i = tailS (v10 i) (v27 i) (v29 i) (minV v29 v32 i) (shapeCast S12x13x16 v52 shapeCasts_S12x13x16_S12x13x16 i) := by chain_rfl
  rw [k, e]

theorem tailS_eq (sc a5 M : EReal) (lv : BitVec 32)
    (hM : M = (Finset.univ : Finset (Fin 253)).fold min ⊤ (fun i => if a5 * cq < (((2 : ℝ) ^ ((i.val : Int) - 125) : ℝ) : EReal) then (((2 : ℝ) ^ ((i.val : Int) - 125) : ℝ) : EReal) else ⊤)) :
    tailS sc a5 (a5 * cq) M lv = scale a5 sc (0 < lv.toInt) := by
  have e0 : (0#32 : BitVec 32).toInt = 0 := by decide
  have hc : Scalar.select (BitVec.ofBool (decide ((((2 : ℝ) ^ (-126 : Int) : ℝ) : EReal) ≤ a5 * cq)) &&& BitVec.ofBool (decide (a5 * cq < ⊤))) M (1 : EReal) = powS (a5 * cq) := by
    unfold powS
    rw [← hM]
    by_cases h1 : (((2 : ℝ) ^ (-126 : Int) : ℝ) : EReal) ≤ a5 * cq <;> by_cases h2 : a5 * cq < ⊤ <;> simp only [Scalar.select, h1, h2, true_and, and_true, and_self, decide_true, decide_false, if_true, if_false] <;> rfl
  unfold tailS
  rw [zero_bits, one_bits, least_bits, top_bits, hc, e0]
  simp only [sel_ofBool]
  rfl

theorem minV_apply (v29 : FVec Ideal S12x13x16 .f32) (b : Fin 12) (p : Fin 13) (h : Fin 16) :
    minV v29 k0_pay7 (ix3 b p h)
      = (Finset.univ : Finset (Fin 253)).fold min ⊤ (fun i => if v29 (ix3 b p h) < (((2 : ℝ) ^ ((i.val : Int) - 125) : ℝ) : EReal) then (((2 : ℝ) ^ ((i.val : Int) - 125) : ℝ) : EReal) else ⊤) := by
  dsimp only [minV]
  refine (multiReduction_minimumf_eq_fold _ _ _ _ _ _).trans ?_
  refine (reduces_S12x13x16x253_S12x13x16.fold_filter_drop_single _ _ _ _).trans ?_
  show (Finset.univ : Finset (Fin 253)).fold min (Ideal.ofBits .f32 0x7F800000#32) _ = _
  rw [top_bits]
  refine Finset.fold_congr fun k _ => ?_
  have e : reduces_S12x13x16x253_S12x13x16.lift (ix3 b p h) k = ix4 b p h k := by
    funext a
    match a with
    | ⟨0, _⟩ => rfl
    | ⟨1, _⟩ => rfl
    | ⟨2, _⟩ => rfl
    | ⟨3, _⟩ => rfl
  have e2 : broadcastTo S12x13x16x253 (shapeCast S12x13x16x1 v29 shapeCasts_S12x13x16_S12x13x16x1) broadcasts_S12x13x16x1_S12x13x16x253 (ix4 b p h k) = v29 (ix3 b p h) := by
    refine (broadcastTo_apply _ _ _ (ix4 b p h (0 : Fin 1)) fun a => ?_).trans ?_
    · match a with
      | ⟨0, _⟩ => rfl
      | ⟨1, _⟩ => rfl
      | ⟨2, _⟩ => rfl
      | ⟨3, _⟩ => rfl
    refine shapeCast_apply _ _ _ (ix3 b p h) ?_
    rw [Shape.rowMajor_val_three, Shape.rowMajor_val_four]
    show (b.val * 13 + p.val) * 16 + h.val = ((b.val * 13 + p.val) * 16 + h.val) * 1 + 0
    omega
  have e3 : exp2 (F := Ideal) (sitofp .f32 k0_pay7) (ix4 b p h k) = (((2 : ℝ) ^ ((k.val : Int) - 125) : ℝ) : EReal) := by
    rw [show exp2 (F := Ideal) (sitofp .f32 k0_pay7) (ix4 b p h k) = (((Real.rpow 2 (((k0_pay7 (ix4 b p h k)).toInt : Int) : ℝ)) : ℝ) : EReal) from rfl, pay7_apply]
    show (((Real.rpow 2 (((BitVec.ofNat 32 k.val - 125#32 : BitVec 32).toInt : Int) : ℝ)) : ℝ) : EReal) = _
    rw [toInt_power]
    exact congrArg Real.toEReal (Real.rpow_intCast 2 _)
  refine (comp_at e).trans ?_
  show Scalar.select (BitVec.ofBool (decide (broadcastTo S12x13x16x253 (shapeCast S12x13x16x1 v29 shapeCasts_S12x13x16_S12x13x16x1) broadcasts_S12x13x16x1_S12x13x16x253 (ix4 b p h k)
      < exp2 (F := Ideal) (sitofp .f32 k0_pay7) (ix4 b p h k))))
      (exp2 (F := Ideal) (sitofp .f32 k0_pay7) (ix4 b p h k)) (Ideal.ofBits .f32 0x7F800000#32) = _
  rw [e2, e3, sel_ofBool, top_bits]

/-- The scale left for a page and a head. -/
theorem scalesOf_apply (b : Fin 12) (p : Fin 13) (h : Fin 16) :
    scalesOf (F := Ideal) x0 x1 x2 x3 x4 (ix3 b p h)
      = scale (amaxAt x0 x4 b p h) (x2 (ix3 b p h)) (0 < (x3 (ix3 b p h)).toInt) := by
  have h6 : k0_pay6 (F := Ideal) x0 x2 x1 x4 (ix3 b p h) = amaxAt x0 x4 b p h * cq := by
    unfold k0_pay6
    show k0_pay5 (F := Ideal) x0 x2 x1 x4 (ix3 b p h) * cq = _
    rw [pay5_apply]
  unfold scalesOf
  rw [pay8_apply, pay3_eq, h6, pay5_apply]
  refine tailS_eq _ _ _ _ ?_
  rw [minV_apply, h6]

/-- The code left for a token, a head and a lane. -/
theorem codesOf_apply (b : Fin 12) (p : Fin 13) (r : Fin 32) (h : Fin 16) (l : Fin 128) (n : Fin 6656) (hn : n.val = (p.val * 32 + r.val) * 16 + h.val) :
    codesOf (F := Ideal) x0 x1 x2 x3 x4 (ix3 b n l)
      = code (valAt x0 x1 x2 x4 b p r h l) (Ideal.div 1 (scale (amaxAt x0 x4 b p h) (x2 (ix3 b p h)) (0 < (x3 (ix3 b p h)).toInt))) := by
  rw [← scalesOf_apply x0 x1 x2 x3 x4, ← pay4_apply]
  unfold codesOf k0_pay9
  refine (shapeCast_apply _ _ _ (ix5 b p r h l) ?_).trans ?_
  · rw [Shape.rowMajor_val_three, Shape.rowMajor_val_five]
    show (((b.val * 13 + p.val) * 32 + r.val) * 16 + h.val) * 128 + l.val = (b.val * 6656 + n.val) * 128 + l.val
    omega
  show min (Ideal.ofBits .f32 0x43E00000#32) (max (Ideal.ofBits .f32 0xC3E00000#32)
    (k0_pay4 (F := Ideal) x0 x2 x1 x4 (ix5 b p r h l) * broadcastTo S12x13x32x16x128 (shapeCast S12x13x1x16x1 _ shapeCasts_S12x13x16_S12x13x1x16x1) broadcasts_S12x13x1x16x1_S12x13x32x16x128 (ix5 b p r h l))) = _
  rw [bc5_apply]
  show min (Ideal.ofBits .f32 0x43E00000#32) (max (Ideal.ofBits .f32 0xC3E00000#32)
    (k0_pay4 (F := Ideal) x0 x2 x1 x4 (ix5 b p r h l) * Ideal.div (Ideal.ofBits .f32 0x3F800000#32) (scalesOf (F := Ideal) x0 x1 x2 x3 x4 (ix3 b p h)))) = _
  rw [one_bits]
  rfl

end Cert.ReferenceIdeal.Val
end
-- ==== Proof.RefHost.lean ====
/- What the reference's calls read, of its arguments. -/
module

public import proofs.«01_k».proof.Proof.RefArr
public import Idealize.ShloMosaic.Lib.StableHlo.RunRead

@[expose] public section

set_option maxRecDepth 20000

noncomputable section

namespace Cert.ReferenceIdeal.Val

open Cert.ReferenceIdeal Cert.ReferenceIdeal.Gen
open Idealize.ShloMosaic Idealize.ShloMosaic.TcCoe Idealize.ShloMosaic.Tactic

variable {F : FTy → Type} [FloatOps F]

/-- The first token of each page, counted from the first new one. -/
def startA (n : IVec S12 32) : IVec S12x13 32 :=
  subi (muli (broadcastInDim S12x13 ![] bcast_S_S12x13 (constantI S_ 32 32#32)) (iotaInDim S12x13 32 1))
    (broadcastInDim S12x13 ![0, 1] bcast_S12x1_S12x13_0_1 (broadcastInDim S12x1 ![0] bcast_S12_S12x1_0
      (Host.remsi n (broadcastInDim S12 ![] bcast_S_S12 (constantI S_ 32 32#32)))))

/-- Each page's tokens, counted from the first new one. -/
def tokA (n : IVec S12 32) : IVec S12x13x32 32 :=
  addi (broadcastInDim S12x13x32 ![0, 1, 2] bcast_S12x13x1_S12x13x32_0_1_2 (broadcastInDim S12x13x1 ![0, 1] bcast_S12x13_S12x13x1_0_1 (startA n)))
    (iotaInDim S12x13x32 32 2)

/-- Whether a page begins before the first new token. -/
def liveA (n : IVec S12 32) : IVec S12x13 32 :=
  extui 32 (cmpi .slt (startA n) (broadcastInDim S12x13 ![] bcast_S_S12x13 (constantI S_ 32 0#32))) natLt_1_32

/-- Each request's page that holds its first new token. -/
def pageA (tab : IVec S12x141 32) (n : IVec S12 32) : IVec S12x1x1 32 :=
  broadcastInDim S12x1x1 ![0, 1] bcast_S12x1_S12x1x1_0_1
    (Host.gather gather_S12x141_S12x1x1_S12x1_n_1_0_0_1_2_11 tab
      (broadcastInDim S12x1x1 ![0, 1] bcast_S12x1_S12x1x1_0_1 (broadcastInDim S12x1 ![0] bcast_S12_S12x1_0
        (Host.divsi n (broadcastInDim S12 ![] bcast_S_S12 (constantI S_ 32 32#32))))))

def tok5A (n : IVec S12 32) : IVec S12x13x32x16x128 32 :=
  broadcastInDim S12x13x32x16x128 ![0, 1, 2, 3, 4] bcast_S12x13x32x1x1_S12x13x32x16x128_0_1_2_3_4
    (broadcastInDim S12x13x32x1x1 ![0, 1, 2] bcast_S12x13x32_S12x13x32x1x1_0_1_2 (tokA n))

def live3A (n : IVec S12 32) : IVec S12x13x16 32 :=
  broadcastInDim S12x13x16 ![0, 1, 2] bcast_S12x13x1_S12x13x16_0_1_2 (broadcastInDim S12x13x1 ![0, 1] bcast_S12x13_S12x13x1_0_1 (liveA n))

def oldA (pool : Vec F S2115x32x16x128 .fp8e4m3) (tab : IVec S12x141 32) (n : IVec S12 32) : Vec F S12x13x32x16x128 .fp8e4m3 :=
  broadcastInDim S12x13x32x16x128 ![0, 1, 2, 3, 4] bcast_S12x1x32x16x128_S12x13x32x16x128_0_1_2_3_4
    (Host.gather gather_S2115x32x16x128_S12x1x1_S12x1x32x16x128_234_0_n_n_0_2_13216128 pool (pageA tab n))

def scA (sc : Vec F S2115x16 .f32) (tab : IVec S12x141 32) (n : IVec S12 32) : Vec F S12x13x16 .f32 :=
  broadcastInDim S12x13x16 ![0, 1, 2] bcast_S12x1x16_S12x13x16_0_1_2
    (Host.gather gather_S2115x16_S12x1x1_S12x1x16_2_0_n_n_0_2_116 sc (pageA tab n))

def newA (x : Vec F S12x384x16x128 .bf16) (n : IVec S12 32) : Vec F S12x13x32x16x128 .bf16 :=
  Host.gather gather_S12x384x16x128_S12x13x32x1_S12x13x32x16x128_34_1_0_0_1_3_1116128 x
    (broadcastInDim S12x13x32x1 ![0, 1, 2] bcast_S12x13x32_S12x13x32x1_0_1_2 (tokA n))

variable (m : (ℓ : Loc nD τ sig) → Buf (Elt F) ℓ) (ρ : Dev nD → PrngReg) (c : Dev nD)

theorem V1_27 : V1 m ρ c main_v27 = tok5A (m ((c : Thread nD τ).loc main_arg5)) := by chain_rfl
theorem V1_28 : V1 m ρ c main_v28 = oldA (F := F) (m ((c : Thread nD τ).loc main_arg0)) (m ((c : Thread nD τ).loc main_arg4)) (m ((c : Thread nD τ).loc main_arg5)) := by chain_rfl
theorem V1_29 : V1 m ρ c main_v29 = scA (F := F) (m ((c : Thread nD τ).loc main_arg2)) (m ((c : Thread nD τ).loc main_arg4)) (m ((c : Thread nD τ).loc main_arg5)) := by chain_rfl
theorem V1_31 : V1 m ρ c main_v31 = live3A (m ((c : Thread nD τ).loc main_arg5)) := by chain_rfl
theorem V1_25 : V1 m ρ c main_v25 = newA (F := F) (m ((c : Thread nD τ).loc main_arg6)) (m ((c : Thread nD τ).loc main_arg5)) := by chain_rfl

section

variable (V : Idealize.ShloMosaic.Valuation τ sig (Elt F))

theorem H1_40 : StableHlo.after hostOps1 V (Proc.devRef .tc main_v40)
    = broadcastInDim S12x13x32x16x128 ![0, 1, 2, 3, 4] bcast_S12x13x32x1x1_S12x13x32x16x128_0_1_2_3_4
      (broadcastInDim S12x13x32x1x1 ![0, 1, 2] bcast_S12x13x32_S12x13x32x1x1_0_1_2 (V (Proc.devRef .tc main_v16) : IVec S12x13x32 32)) := by chain_rfl
theorem H1_41 : StableHlo.after hostOps1 V (Proc.devRef .tc main_v41)
    = broadcastInDim S12x13x32x16x128 ![0, 1, 2, 3, 4] bcast_S12x1x32x16x128_S12x13x32x16x128_0_1_2_3_4
      (Host.gather gather_S2115x32x16x128_S12x1x1_S12x1x32x16x128_234_0_n_n_0_2_13216128 (V (Proc.devRef .tc main_arg1) : Vec F S2115x32x16x128 .fp8e4m3)
        (broadcastInDim S12x1x1 ![0, 1] bcast_S12x1_S12x1x1_0_1 (V (Proc.devRef .tc main_v6) : IVec S12x1 32))) := by chain_rfl
theorem H1_42 : StableHlo.after hostOps1 V (Proc.devRef .tc main_v42)
    = broadcastInDim S12x13x16 ![0, 1, 2] bcast_S12x1x16_S12x13x16_0_1_2
      (Host.gather gather_S2115x16_S12x1x1_S12x1x16_2_0_n_n_0_2_116 (V (Proc.devRef .tc main_arg3) : Vec F S2115x16 .f32)
        (broadcastInDim S12x1x1 ![0, 1] bcast_S12x1_S12x1x1_0_1 (V (Proc.devRef .tc main_v6) : IVec S12x1 32))) := by chain_rfl
theorem H1_44 : StableHlo.after hostOps1 V (Proc.devRef .tc main_v44)
    = broadcastInDim S12x13x16 ![0, 1, 2] bcast_S12x13x1_S12x13x16_0_1_2
      (broadcastInDim S12x13x1 ![0, 1] bcast_S12x13_S12x13x1_0_1 (V (Proc.devRef .tc main_v19) : IVec S12x13 32)) := by chain_rfl
theorem H1_38 : StableHlo.after hostOps1 V (Proc.devRef .tc main_v38)
    = Host.gather gather_S12x384x16x128_S12x13x32x1_S12x13x32x16x128_34_1_0_0_1_3_1116128 (V (Proc.devRef .tc main_arg7) : Vec F S12x384x16x128 .bf16)
    (broadcastInDim S12x13x32x1 ![0, 1, 2] bcast_S12x13x32_S12x13x32x1_0_1_2 (V (Proc.devRef .tc main_v16) : IVec S12x13x32 32)) := by chain_rfl

end

theorem W2_16 : W2 m ρ c (Proc.devRef .tc main_v16) = tokA (m ((c : Thread nD τ).loc main_arg5)) :=
  (W2_of m ρ c main_v16 (by decide)).trans (by chain_rfl)
theorem W2_19 : W2 m ρ c (Proc.devRef .tc main_v19) = liveA (m ((c : Thread nD τ).loc main_arg5)) :=
  (W2_of m ρ c main_v19 (by decide)).trans (by chain_rfl)
theorem W2_6 : broadcastInDim S12x1x1 ![0, 1] bcast_S12x1_S12x1x1_0_1 (W2 m ρ c (Proc.devRef .tc main_v6) : IVec S12x1 32)
    = pageA (m ((c : Thread nD τ).loc main_arg4)) (m ((c : Thread nD τ).loc main_arg5)) := by
  rw [W2_of m ρ c main_v6 (by decide)]
  chain_rfl

theorem V3_40 : V3 m ρ c main_v40 = tok5A (m ((c : Thread nD τ).loc main_arg5)) := by
  refine (H1_40 (W2 m ρ c)).trans ?_
  rw [W2_16]
  rfl
theorem V3_41 : V3 m ρ c main_v41 = oldA (F := F) (m ((c : Thread nD τ).loc main_arg1)) (m ((c : Thread nD τ).loc main_arg4)) (m ((c : Thread nD τ).loc main_arg5)) := by
  refine (H1_41 (W2 m ρ c)).trans ?_
  rw [W2_6, W2_args m ρ c main_arg1 (by decide)]
  rfl
theorem V3_42 : V3 m ρ c main_v42 = scA (F := F) (m ((c : Thread nD τ).loc main_arg3)) (m ((c : Thread nD τ).loc main_arg4)) (m ((c : Thread nD τ).loc main_arg5)) := by
  refine (H1_42 (W2 m ρ c)).trans ?_
  rw [W2_6, W2_args m ρ c main_arg3 (by decide)]
  rfl
theorem V3_44 : V3 m ρ c main_v44 = live3A (m ((c : Thread nD τ).loc main_arg5)) := by
  refine (H1_44 (W2 m ρ c)).trans ?_
  rw [W2_19]
  rfl
theorem V3_38 : V3 m ρ c main_v38 = newA (F := F) (m ((c : Thread nD τ).loc main_arg7)) (m ((c : Thread nD τ).loc main_arg5)) := by
  refine (H1_38 (W2 m ρ c)).trans ?_
  rw [W2_16, W2_args m ρ c main_arg7 (by decide)]
  rfl

end Cert.ReferenceIdeal.Val
end
-- ==== Proof.RefAt.lean ====
/- What the reference's calls read at a token, a head and a lane. -/
module

public import proofs.«01_k».proof.Proof.RefHost
public import Idealize.ShloMosaic.Lib.Pointwise.Index
public import Idealize.ShloMosaic.Lib.ValueIdxCore
public import Idealize.ShloMosaic.Lib.PairWhole

@[expose] public section

set_option maxRecDepth 20000

noncomputable section

namespace Cert.ReferenceIdeal.Val

open Cert.ReferenceIdeal Cert.ReferenceIdeal.Gen
open Idealize.ShloMosaic Idealize.ShloMosaic.WordCmp

variable {F : FTy → Type} [FloatOps F]

theorem rem_tab : ∀ n : Fin 4512, IntOp.remsi .host (BitVec.ofNat 32 n.val) 32#32 = BitVec.ofNat 32 (n.val % 32) := by decide +kernel
theorem div_tab : ∀ n : Fin 4512, IntOp.divsi .host (BitVec.ofNat 32 n.val) 32#32 = BitVec.ofNat 32 (n.val / 32) := by decide +kernel

theorem rem_eq {v : BitVec 32} (h : v.toNat < 4512) : IntOp.remsi .host v 32#32 = BitVec.ofNat 32 (v.toNat % 32) := by
  have := rem_tab ⟨v.toNat, h⟩
  rwa [BitVec.ofNat_toNat, BitVec.setWidth_eq] at this

theorem div_eq {v : BitVec 32} (h : v.toNat < 4512) : IntOp.divsi .host v 32#32 = BitVec.ofNat 32 (v.toNat / 32) := by
  have := div_tab ⟨v.toNat, h⟩
  rwa [BitVec.ofNat_toNat, BitVec.setWidth_eq] at this

theorem toInt_small {v : BitVec 32} {n : ℕ} (e : v.toNat = n) (h : n < 2 ^ 31) : v.toInt = (n : Int) := by
  rw [BitVec.toInt_eq_toNat_of_lt (by omega), e]

theorem bc_at {α : Type} {s t : Shape} {dims : Fin s.rank → Fin t.rank} {hb : s.BroadcastsInDim t dims} {x : s.Idx → α} {j : t.Idx} (i : s.Idx)
    (hi : ∀ a, (i a).val = if s.size a = 1 then 0 else (j (dims a)).val) : broadcastInDim t dims hb x j = x i := by
  unfold broadcastInDim
  refine congrArg x (funext fun a => Fin.ext ?_)
  rw [hi a]
  split <;> rfl

variable (N : IVec S12 32) (b : Fin 12) (p : Fin 13) (r : Fin 32) (h : Fin 16) (l : Fin 128) (hN : (N (ix1 b)).toNat < 4512)

theorem start_at : startA N (ix2 b p) = 32#32 * BitVec.ofNat 32 p.val - IntOp.remsi .host (N (ix1 b)) 32#32 := by
  have e1 : broadcastInDim S12x13 ![0, 1] bcast_S12x1_S12x13_0_1 (broadcastInDim S12x1 ![0] bcast_S12_S12x1_0
      (Host.remsi N (broadcastInDim S12 ![] bcast_S_S12 (constantI S_ 32 32#32)))) (ix2 b p) = Host.remsi N (broadcastInDim S12 ![] bcast_S_S12 (constantI S_ 32 32#32)) (ix1 b) :=
    (bc_at (ix2 b (0 : Fin 1)) fun a => match a with | ⟨0, _⟩ => rfl | ⟨1, _⟩ => rfl).trans (bc_at (ix1 b) fun a => match a with | ⟨0, _⟩ => rfl)
  have e2 : startA N (ix2 b p) = 32#32 * BitVec.ofNat 32 p.val - broadcastInDim S12x13 ![0, 1] bcast_S12x1_S12x13_0_1 (broadcastInDim S12x1 ![0] bcast_S12_S12x1_0
      (Host.remsi N (broadcastInDim S12 ![] bcast_S_S12 (constantI S_ 32 32#32)))) (ix2 b p) := by chain_rfl
  rw [e2, e1]
  rfl

include hN in
theorem start_toInt : (startA N (ix2 b p)).toInt = 32 * (p.val : Int) - ((N (ix1 b)).toNat % 32 : ℕ) := by
  rw [start_at, rem_eq hN]
  have hp := p.isLt
  rw [BitVec.toInt_sub, toInt_small (v := 32#32 * BitVec.ofNat 32 p.val) (n := 32 * p.val) (by rw [BitVec.toNat_mul, BitVec.toNat_ofNat, BitVec.toNat_ofNat]; omega) (by omega),
    toInt_small (n := (N (ix1 b)).toNat % 32) (by rw [BitVec.toNat_ofNat]; omega) (by omega)]
  rw [Int.bmod_eq_of_le (by omega) (by omega)]
  omega

theorem tok_at : tokA N (ix3 b p r) = startA N (ix2 b p) + BitVec.ofNat 32 r.val := by
  have e : tokA N (ix3 b p r) = broadcastInDim S12x13x32 ![0, 1, 2] bcast_S12x13x1_S12x13x32_0_1_2 (broadcastInDim S12x13x1 ![0, 1] bcast_S12x13_S12x13x1_0_1 (startA N)) (ix3 b p r) + BitVec.ofNat 32 r.val := by chain_rfl
  rw [e, bc_at (ix3 b p (0 : Fin 1)) fun a => match a with | ⟨0, _⟩ => rfl | ⟨1, _⟩ => rfl | ⟨2, _⟩ => rfl,
    bc_at (ix2 b p) fun a => match a with | ⟨0, _⟩ => rfl | ⟨1, _⟩ => rfl]

include hN in
theorem tok_toInt : (tokA N (ix3 b p r)).toInt = 32 * (p.val : Int) + r.val - ((N (ix1 b)).toNat % 32 : ℕ) := by
  have hp := p.isLt
  have hr := r.isLt
  rw [tok_at, BitVec.toInt_add, start_toInt N b p hN, toInt_small (n := r.val) (by rw [BitVec.toNat_ofNat]; omega) (by omega)]
  rw [Int.bmod_eq_of_le (by omega) (by omega)]
  omega

theorem tok5_at : tok5A N (ix5 b p r h l) = tokA N (ix3 b p r) := by
  unfold tok5A
  rw [bc_at (ix5 b p r (0 : Fin 1) (0 : Fin 1)) fun a => match a with | ⟨0, _⟩ => rfl | ⟨1, _⟩ => rfl | ⟨2, _⟩ => rfl | ⟨3, _⟩ => rfl | ⟨4, _⟩ => rfl,
    bc_at (ix3 b p r) fun a => match a with | ⟨0, _⟩ => rfl | ⟨1, _⟩ => rfl | ⟨2, _⟩ => rfl]

theorem live_at : live3A N (ix3 b p h) = (IntOp.cmpi .slt (startA N (ix2 b p)) 0#32).setWidth 32 := by
  unfold live3A
  rw [bc_at (ix3 b p (0 : Fin 1)) fun a => match a with | ⟨0, _⟩ => rfl | ⟨1, _⟩ => rfl | ⟨2, _⟩ => rfl,
    bc_at (ix2 b p) fun a => match a with | ⟨0, _⟩ => rfl | ⟨1, _⟩ => rfl]
  rfl

include hN in
theorem live_iff : 0 < (live3A N (ix3 b p h)).toInt ↔ p.val = 0 ∧ 0 < (N (ix1 b)).toNat % 32 := by
  have e0 : (0#32 : BitVec 32).toInt = 0 := by decide
  rw [live_at, cmpi_slt_eq, start_toInt N b p hN, e0]
  have k : ∀ q : Prop, ∀ _ : Decidable q, (0 < ((BitVec.ofBool (decide q)).setWidth 32).toInt ↔ q) := by
    intro q _
    by_cases hq : q <;> simp [hq]
  rw [k]
  omega

section

variable (tab : IVec S12x141 32)

include hN in
/-- The page of a request. -/
theorem page_at : pageA tab N (ix3 b 0 0) = tab (ix2 b ⟨(N (ix1 b)).toNat / 32, by omega⟩) := by
  have e : ∀ idx : IVec S12x1x1 32, Host.gather gather_S12x141_S12x1x1_S12x1_n_1_0_0_1_2_11 tab idx (ix2 b 0)
      = tab (ix2 b ⟨min (idx (ix3 b 0 0)).toInt.toNat 140, by omega⟩) := by
    intro idx
    unfold Host.gather
    refine congrArg tab ?_
    funext a
    refine Fin.ext ?_
    show (gather_S12x141_S12x1x1_S12x1_n_1_0_0_1_2_11).start (ix2 b 0) idx a + (gather_S12x141_S12x1x1_S12x1_n_1_0_0_1_2_11).batchCoord (ix2 b 0) a
      + (gather_S12x141_S12x1x1_S12x1_n_1_0_0_1_2_11).offCoord (ix2 b 0) a = _
    have h01 : a = 0 ∨ a = 1 := by
      match a with
      | ⟨0, _⟩ => exact Or.inl rfl
      | ⟨1, _⟩ => exact Or.inr rfl
    rcases h01 with rfl | rfl
    · rw [GatherDims.start_batching _ _ _ _ (List.mem_singleton.mpr rfl),
        GatherDims.offCoord_eq_zero _ _ _ (fun h => ((GatherDims.mem_sKept _ _).mp h).2 (List.mem_singleton.mpr rfl))]
      simp only [Nat.zero_add, Nat.add_zero]
      unfold GatherDims.batchCoord
      rw [dif_pos (show (0 : Fin 2) ∈ (gather_S12x141_S12x1x1_S12x1_n_1_0_0_1_2_11).operandBatchingDims from List.mem_singleton.mpr rfl)]
      rfl
    · rw [GatherDims.batchCoord_eq_zero _ _ _ (fun h => absurd (List.mem_singleton.mp h) (by decide)),
        GatherDims.offCoord_eq_zero _ _ _ (fun h => ((GatherDims.mem_sKept _ _).mp h).1 (List.mem_singleton.mpr rfl))]
      simp only [Nat.add_zero]
      unfold GatherDims.start
      rw [dif_pos (show (1 : Fin 2) ∈ (gather_S12x141_S12x1x1_S12x1_n_1_0_0_1_2_11).startIndexMap from List.mem_singleton.mpr rfl)]
      have hsi : (gather_S12x141_S12x1x1_S12x1_n_1_0_0_1_2_11).siIdx (ix2 b 0) ⟨List.idxOf (1 : Fin 2) (gather_S12x141_S12x1x1_S12x1_n_1_0_0_1_2_11).startIndexMap,
          List.idxOf_lt_length_iff.2 (List.mem_singleton.mpr rfl)⟩ = ix3 b 0 0 := by
        funext b; refine Fin.ext ?_
        match b with
        | ⟨0, _⟩ => rfl
        | ⟨1, _⟩ => rfl
        | ⟨2, _⟩ => rfl
      rw [hsi]
      rfl
  have e1 : pageA tab N (ix3 b 0 0) = Host.gather gather_S12x141_S12x1x1_S12x1_n_1_0_0_1_2_11 tab
      (broadcastInDim S12x1x1 ![0, 1] bcast_S12x1_S12x1x1_0_1 (broadcastInDim S12x1 ![0] bcast_S12_S12x1_0
        (Host.divsi N (broadcastInDim S12 ![] bcast_S_S12 (constantI S_ 32 32#32))))) (ix2 b 0) :=
    bc_at (ix2 b (0 : Fin 1)) fun a => match a with | ⟨0, _⟩ => rfl | ⟨1, _⟩ => rfl
  rw [e1, e]
  refine congrArg tab (congrArg (ix2 b) (Fin.ext ?_))
  have e2 : broadcastInDim S12x1x1 ![0, 1] bcast_S12x1_S12x1x1_0_1 (broadcastInDim S12x1 ![0] bcast_S12_S12x1_0
      (Host.divsi N (broadcastInDim S12 ![] bcast_S_S12 (constantI S_ 32 32#32)))) (ix3 b 0 0) = IntOp.divsi .host (N (ix1 b)) 32#32 :=
    (bc_at (ix2 b (0 : Fin 1)) fun a => match a with | ⟨0, _⟩ => rfl | ⟨1, _⟩ => rfl).trans (bc_at (ix1 b) fun a => match a with | ⟨0, _⟩ => rfl)
  refine (congrArg (fun w : BitVec 32 => min w.toInt.toNat 140) e2).trans ?_
  show min (IntOp.divsi .host (N (ix1 b)) 32#32).toInt.toNat 140 = (N (ix1 b)).toNat / 32
  rw [div_eq hN, toInt_small (n := (N (ix1 b)).toNat / 32) (by rw [BitVec.toNat_ofNat]; omega) (by omega)]
  omega

variable {pg : ℕ} (hpg : pg < 2115) (ht : (pageA tab N (ix3 b 0 0)).toNat = pg)

include ht in
theorem sc_at (x : Vec F S2115x16 .f32) : scA x tab N (ix3 b p h) = x (ix2 ⟨pg, hpg⟩ h) := by
  have e1 : scA x tab N (ix3 b p h) = Host.gather gather_S2115x16_S12x1x1_S12x1x16_2_0_n_n_0_2_116 x (pageA tab N) (ix3 b 0 h) :=
    bc_at (ix3 b (0 : Fin 1) h) fun a => match a with | ⟨0, _⟩ => rfl | ⟨1, _⟩ => rfl | ⟨2, _⟩ => rfl
  rw [e1]
  unfold Host.gather
  refine congrArg x ?_
  funext a
  refine Fin.ext ?_
  show (gather_S2115x16_S12x1x1_S12x1x16_2_0_n_n_0_2_116).start (ix3 b 0 h) (pageA tab N) a + (gather_S2115x16_S12x1x1_S12x1x16_2_0_n_n_0_2_116).batchCoord (ix3 b 0 h) a
    + (gather_S2115x16_S12x1x1_S12x1x16_2_0_n_n_0_2_116).offCoord (ix3 b 0 h) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S2115x16_S12x1x1_S12x1x16_2_0_n_n_0_2_116).startIndexMap from List.mem_singleton.mpr rfl)]
    have hsi : (gather_S2115x16_S12x1x1_S12x1x16_2_0_n_n_0_2_116).siIdx (ix3 b 0 h) ⟨List.idxOf (0 : Fin 2) (gather_S2115x16_S12x1x1_S12x1x16_2_0_n_n_0_2_116).startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi, toInt_small ht (by omega)]
    show min ((pg : Int).toNat) 2114 = pg
    omega
  · unfold GatherDims.start GatherDims.offCoord
    rw [dif_neg (show (1 : Fin 2) ∉ (gather_S2115x16_S12x1x1_S12x1x16_2_0_n_n_0_2_116).startIndexMap from fun h => absurd (List.mem_singleton.mp h) (by decide))]
    rw [dif_pos ((GatherDims.mem_sKept _ _).mpr ⟨fun h => absurd (List.mem_singleton.mp h) (by decide), List.not_mem_nil⟩)]
    rw [Nat.zero_add]
    show (_ : ℕ) = _
    chain_rfl

include ht in
theorem old_at (x : Vec F S2115x32x16x128 .fp8e4m3) : oldA x tab N (ix5 b p r h l) = x (ix4 ⟨pg, hpg⟩ r h l) := by
  have e1 : oldA x tab N (ix5 b p r h l) = Host.gather gather_S2115x32x16x128_S12x1x1_S12x1x32x16x128_234_0_n_n_0_2_13216128 x (pageA tab N) (ix5 b 0 r h l) :=
    bc_at (ix5 b (0 : Fin 1) r h l) fun a => match a with | ⟨0, _⟩ => rfl | ⟨1, _⟩ => rfl | ⟨2, _⟩ => rfl | ⟨3, _⟩ => rfl | ⟨4, _⟩ => rfl
  rw [e1]
  unfold Host.gather
  refine congrArg x ?_
  funext a
  refine Fin.ext ?_
  show (gather_S2115x32x16x128_S12x1x1_S12x1x32x16x128_234_0_n_n_0_2_13216128).start (ix5 b 0 r h l) (pageA tab N) a + (gather_S2115x32x16x128_S12x1x1_S12x1x32x16x128_234_0_n_n_0_2_13216128).batchCoord (ix5 b 0 r h l) a
    + (gather_S2115x32x16x128_S12x1x1_S12x1x32x16x128_234_0_n_n_0_2_13216128).offCoord (ix5 b 0 r h l) a = _
  rw [GatherDims.batchCoord_eq_zero _ _ _ List.not_mem_nil]
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | h'
  · rw [GatherDims.offCoord_eq_zero _ _ _ (fun h => ((GatherDims.mem_sKept _ _).mp h).1 (List.mem_singleton.mpr rfl))]
    simp only [Nat.add_zero]
    unfold GatherDims.start
    rw [dif_pos (show (0 : Fin 4) ∈ (gather_S2115x32x16x128_S12x1x1_S12x1x32x16x128_234_0_n_n_0_2_13216128).startIndexMap from List.mem_singleton.mpr rfl)]
    have hsi : (gather_S2115x32x16x128_S12x1x1_S12x1x32x16x128_234_0_n_n_0_2_13216128).siIdx (ix5 b 0 r h l) ⟨List.idxOf (0 : Fin 4) (gather_S2115x32x16x128_S12x1x1_S12x1x32x16x128_234_0_n_n_0_2_13216128).startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi, toInt_small ht (by omega)]
    show min ((pg : Int).toNat) 2114 = pg
    omega
  · have hne : a ≠ 0 := by rcases h' with rfl | rfl | rfl <;> decide
    unfold GatherDims.start GatherDims.offCoord
    rw [dif_neg (show a ∉ (gather_S2115x32x16x128_S12x1x1_S12x1x32x16x128_234_0_n_n_0_2_13216128).startIndexMap from fun h => hne (List.mem_singleton.mp h))]
    rw [dif_pos ((GatherDims.mem_sKept _ _).mpr ⟨fun h => hne (List.mem_singleton.mp h), List.not_mem_nil⟩)]
    rw [Nat.zero_add]
    rcases h' with rfl | rfl | rfl <;> (show (_ : ℕ) = _; chain_rfl)

end

include hN in
/-- A new token of the page, where it is one. -/
theorem new_at (x : Vec F S12x384x16x128 .bf16) (t : Fin 384) (ht : (t.val : Int) = 32 * (p.val : Int) + r.val - ((N (ix1 b)).toNat % 32 : ℕ)) :
    newA x N (ix5 b p r h l) = x (ix4 b t h l) := by
  unfold newA Host.gather
  refine congrArg x ?_
  funext a
  refine Fin.ext ?_
  generalize hidx : (broadcastInDim S12x13x32x1 ![0, 1, 2] bcast_S12x13x32_S12x13x32x1_0_1_2 (tokA N)) = idx
  show (gather_S12x384x16x128_S12x13x32x1_S12x13x32x16x128_34_1_0_0_1_3_1116128).start (ix5 b p r h l) idx a + (gather_S12x384x16x128_S12x13x32x1_S12x13x32x16x128_34_1_0_0_1_3_1116128).batchCoord (ix5 b p r h l) a
    + (gather_S12x384x16x128_S12x13x32x1_S12x13x32x16x128_34_1_0_0_1_3_1116128).offCoord (ix5 b p r h l) a = _
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | h'
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ (gather_S12x384x16x128_S12x13x32x1_S12x13x32x16x128_34_1_0_0_1_3_1116128).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (gather_S12x384x16x128_S12x13x32x1_S12x13x32x16x128_34_1_0_0_1_3_1116128).startIndexMap from List.mem_singleton.mpr rfl)]
    have hsi : (gather_S12x384x16x128_S12x13x32x1_S12x13x32x16x128_34_1_0_0_1_3_1116128).siIdx (ix5 b p r h l) ⟨List.idxOf (1 : Fin 4) (gather_S12x384x16x128_S12x13x32x1_S12x13x32x16x128_34_1_0_0_1_3_1116128).startIndexMap,
        List.idxOf_lt_length_iff.2 (List.mem_singleton.mpr rfl)⟩ = ix4 b p r 0 := by
      funext b; refine Fin.ext ?_
      match b with
      | ⟨0, _⟩ => rfl
      | ⟨1, _⟩ => rfl
      | ⟨2, _⟩ => rfl
      | ⟨3, _⟩ => rfl
    rw [hsi, ← hidx]
    have e2 : broadcastInDim S12x13x32x1 ![0, 1, 2] bcast_S12x13x32_S12x13x32x1_0_1_2 (tokA N) (ix4 b p r 0) = tokA N (ix3 b p r) :=
      bc_at (ix3 b p r) fun a => match a with | ⟨0, _⟩ => rfl | ⟨1, _⟩ => rfl | ⟨2, _⟩ => rfl
    refine (congrArg (fun w : BitVec 32 => min w.toInt.toNat 383) e2).trans ?_
    show min (tokA N (ix3 b p r)).toInt.toNat 383 = t.val
    rw [tok_toInt N b p r hN]
    have := t.isLt
    omega
  · have hn0 : a ≠ 0 := by rcases h' with rfl | rfl <;> decide
    have hn1 : a ≠ 1 := by rcases h' with rfl | rfl <;> decide
    rw [GatherDims.batchCoord_eq_zero _ _ _ (fun h => hn0 (List.mem_singleton.mp h))]
    unfold GatherDims.start GatherDims.offCoord
    rw [dif_neg (show a ∉ (gather_S12x384x16x128_S12x13x32x1_S12x13x32x16x128_34_1_0_0_1_3_1116128).startIndexMap from fun h => hn1 (List.mem_singleton.mp h))]
    rw [dif_pos ((GatherDims.mem_sKept _ _).mpr ⟨fun h => hn1 (List.mem_singleton.mp h), fun h => hn0 (List.mem_singleton.mp h)⟩)]
    rw [Nat.zero_add]
    rcases h' with rfl | rfl <;> (show (_ : ℕ) = _; chain_rfl)

end Cert.ReferenceIdeal.Val
end
-- ==== Proof.RefWant.lean ====
/- The reference's calls leave the scales and the codes of each request's pages. -/
module

public import proofs.«01_k».proof.Proof.RefPoint
public import proofs.«01_k».proof.Proof.RefAt

@[expose] public section

noncomputable section

namespace Cert.ReferenceIdeal.Val

open Cert.ReferenceIdeal Cert.ReferenceIdeal.Gen Cert.Page
open Idealize.ShloMosaic

variable (N : IVec S12 32) (tab : IVec S12x141 32) (pool : Vec Ideal S2115x32x16x128 .fp8e4m3) (sc : Vec Ideal S2115x16 .f32) (x : Vec Ideal S12x384x16x128 .bf16)
  (b : Fin 12) (hN : (N (ix1 b)).toNat < 4512) {pg : ℕ} (hpg : pg < 2115) (ht : (pageA tab N (ix3 b 0 0)).toNat = pg)

abbrev fillA : ℕ := (N (ix1 b)).toNat % 32
abbrev oldW : Fin 32 → Fin 16 → Fin 128 → EReal := fun r h l => pool (ix4 ⟨pg, hpg⟩ r h l)
abbrev scW : Fin 16 → EReal := fun h => sc (ix2 ⟨pg, hpg⟩ h)
abbrev newW : Fin 384 → Fin 16 → Fin 128 → EReal := fun t h l => x (ix4 b t h l)

include hN in
theorem new_or (p : Fin 13) (r : Fin 32) (h : Fin 16) (l : Fin 128) :
    (if IsNew (tok5A N (ix5 b p r h l)).toInt then newA x N (ix5 b p r h l) else 0) = newOr (newW x b) (tok (fillA N b) p r) h l := by
  have e : (tok5A N (ix5 b p r h l)).toInt = tok (fillA N b) p r := by rw [tok5_at, tok_toInt N b p r hN]; rfl
  rw [e]
  unfold newOr
  by_cases hc : 0 ≤ tok (fillA N b) p r ∧ tok (fillA N b) p r < 384
  · rw [if_pos hc, dif_pos hc]
    refine new_at N b p r h l hN x ⟨(tok (fillA N b) p r).toNat, by omega⟩ ?_
    exact Int.toNat_of_nonneg hc.1
  · rw [if_neg hc, dif_neg hc]

include hN in
theorem top_eq (p : Fin 13) (h : Fin 16) : amaxAt (tok5A N) (newA x N) b p h = top (fillA N b) (newW x b) p h := by
  unfold amaxAt top amax
  refine Finset.fold_congr fun r _ => Finset.fold_congr fun l _ => ?_
  show _ = max (newOr (newW x b) (tok (fillA N b) p r) h l) (-(newOr (newW x b) (tok (fillA N b) p r) h l))
  rw [← new_or N x b hN p r h l]
  split
  · rfl
  · simp

include hN ht in
theorem scales_want (p : Fin 13) (h : Fin 16) :
    scalesOf (F := Ideal) (tok5A N) (oldA (F := Ideal) pool tab N) (scA (F := Ideal) sc tab N) (live3A N) (newA (F := Ideal) x N) (ix3 b p h)
      = want (fillA N b) (scW sc hpg) (newW x b) p h := by
  rw [scalesOf_apply, top_eq N x b hN, sc_at N b p h tab hpg ht]
  exact scale_congr _ _ (live_iff N b p h hN)

include hN ht in
theorem codes_want (p : Fin 13) (r : Fin 32) (h : Fin 16) (l : Fin 128) (n : Fin 6656) (hn : n.val = (p.val * 32 + r.val) * 16 + h.val) :
    codesOf (F := Ideal) (tok5A N) (oldA (F := Ideal) pool tab N) (scA (F := Ideal) sc tab N) (live3A N) (newA (F := Ideal) x N) (ix3 b n l)
      = wantCode (fillA N b) (oldW pool hpg) (scW sc hpg) (newW x b) p r h l := by
  rw [codesOf_apply _ _ _ _ _ b p r h l n hn, ← scalesOf_apply _ (oldA (F := Ideal) pool tab N), scales_want N tab pool sc x b hN hpg ht]
  unfold wantCode
  refine congrArg (fun v => code v _) ?_
  unfold valAt val
  rw [new_or N x b hN, old_at N b p r h l tab hpg ht, sc_at N b p h tab hpg ht, tok5_at, tok_toInt N b p r hN]
  rfl

end Cert.ReferenceIdeal.Val
end
-- ==== Proof.RefMatch.lean ====
/- An array that holds the wanted numbers index by index is the reference's result. -/
module

public import proofs.«01_k».proof.Proof.RefWant

@[expose] public section

set_option maxRecDepth 20000

noncomputable section

namespace Cert.ReferenceIdeal.Val

open Cert.ReferenceIdeal Cert.Page Cert.Pow
open Idealize.ShloMosaic

variable (N : IVec S12 32) (tab : IVec S12x141 32) (pool : Vec Ideal S2115x32x16x128 .fp8e4m3) (sc : Vec Ideal S2115x16 .f32) (x : Vec Ideal S12x384x16x128 .bf16)
  (hN : ∀ b : Fin 12, (N (ix1 b)).toNat < 4512)

/-- The page of the pool a request's append begins in. -/
def pgOf (b : Fin 12) : ℕ := (tab (ix2 b (⟨(N (ix1 b)).toNat / 32, by have := hN b; omega⟩ : Fin 141))).toNat

variable (hp : ∀ b, pgOf N tab hN b < 2115)

theorem codes_match (O : S12x6656x128.Idx → EReal) (hO : ∀ (b : Fin 12) (p : Fin 13) (r : Fin 32) (h : Fin 16) (l : Fin 128) (n : Fin 6656), n.val = (p.val * 32 + r.val) * 16 + h.val →
      O (ix3 b n l) = wantCode (fillA N b) (oldW pool (hp b)) (scW sc (hp b)) (newW x b) p r h l) :
    codesOf (F := Ideal) (tok5A N) (oldA (F := Ideal) pool tab N) (scA (F := Ideal) sc tab N) (live3A N) (newA (F := Ideal) x N) = O := by
  funext i
  have hi : i = ix3 (i 0) (i 1) (i 2) := funext fun a => match a with | ⟨0, _⟩ => rfl | ⟨1, _⟩ => rfl | ⟨2, _⟩ => rfl
  have h1 : (i 1).val < 6656 := (i 1).isLt
  have hn : ((i 1 : Fin 6656)).val = ((⟨(i 1).val / 512, by omega⟩ : Fin 13).val * 32 + (⟨(i 1).val / 16 % 32, by omega⟩ : Fin 32).val) * 16 + (⟨(i 1).val % 16, by omega⟩ : Fin 16).val := by
    show (i 1).val = ((i 1).val / 512 * 32 + (i 1).val / 16 % 32) * 16 + (i 1).val % 16
    omega
  rw [hi]
  refine (codes_want N tab pool sc x (i 0) (hN _) (hp (i 0)) ?_ _ _ _ (i 2) (i 1) hn).trans (hO (i 0) _ _ _ (i 2) (i 1) hn).symm
  exact congrArg BitVec.toNat (page_at N (i 0) (hN _) tab)

theorem scales_match (O : S12x13x16.Idx → EReal) (hO : ∀ (b : Fin 12) (p : Fin 13) (h : Fin 16), O (ix3 b p h) = want (fillA N b) (scW sc (hp b)) (newW x b) p h) :
    scalesOf (F := Ideal) (tok5A N) (oldA (F := Ideal) pool tab N) (scA (F := Ideal) sc tab N) (live3A N) (newA (F := Ideal) x N) = O := by
  funext i
  have hi : i = ix3 (i 0) (i 1) (i 2) := funext fun a => match a with | ⟨0, _⟩ => rfl | ⟨1, _⟩ => rfl | ⟨2, _⟩ => rfl
  rw [hi]
  refine (scales_want N tab pool sc x (i 0) (hN _) (hp (i 0)) ?_ (i 1) (i 2)).trans (hO (i 0) (i 1) (i 2)).symm
  exact congrArg BitVec.toNat (page_at N (i 0) (hN _) tab)

end Cert.ReferenceIdeal.Val
end
-- ==== Proof.KernMatch.lean ====
/- The kernel's results are the reference's, from the same arguments. -/
module

public import proofs.«01_k».proof.Proof.KernIn
public import proofs.«01_k».proof.Proof.RefMatch

@[expose] public section

set_option maxRecDepth 20000

noncomputable section

namespace Cert.Kernel.Run

open Cert.Kernel Cert.Page Cert.Pow
open Cert.ReferenceIdeal.Val (codesOf scalesOf tok5A live3A newA pgOf codes_match scales_match)
open Idealize.ShloMosaic

variable {C : (b : Ref sig .tc) → b.ty.Contents (Elt Ideal)} (G : Good C) (pool : S2115x32x16x128.Idx → EReal)
  (hN : ∀ b : Fin 12, (lenW C (ix1 b)).toNat < 4512) (hp : ∀ b, pgOf (lenW C) (tabW C) hN b < 2115)

/-- A pool with its pages flattened, at an index. -/
theorem flat_at (q : Fin 2115) (r : Fin 32) (h : Fin 16) (l : Fin 128) (hc : S2115x32x16x128.ShapeCasts S2115x512x128) :
    shapeCast S2115x512x128 pool hc (ix3 q (⟨16 * r.val + h.val, by omega⟩ : Fin 512) l) = pool (ix4 q r h l) := by
  refine shapeCast_apply _ _ _ _ ?_
  rw [Shape.rowMajor_val_three, Shape.rowMajor_val_four]
  show ((q.val * 32 + r.val) * 16 + h.val) * 128 + l.val = (q.val * 512 + (16 * r.val + h.val)) * 128 + l.val
  omega

section K

variable (hc : S2115x32x16x128.ShapeCasts S2115x512x128) (hP : kPagA C = shapeCast S2115x512x128 pool hc)
  (hle : ∀ i, max (kTokA C i) (-kTokA C i) ≤ big)

include G hle hP hp in
theorem k_codes_match : codesOf (F := Ideal) (tok5A (lenW C)) (Cert.ReferenceIdeal.Val.oldA (F := Ideal) pool (tabW C) (lenW C))
    (Cert.ReferenceIdeal.Val.scA (F := Ideal) (kScaA C) (tabW C) (lenW C)) (live3A (lenW C)) (newA (F := Ideal) (kTokA C) (lenW C)) = kOutA C := by
  refine codes_match (lenW C) (tabW C) pool (kScaA C) (kTokA C) hN hp (kOutA C) fun b p r h l n hn => ?_
  refine (k_codes G (b := b) (hp b) (hN b) rfl hle p r h l n hn).trans ?_
  refine congrArg (fun old => wantCode _ old _ _ p r h l) (funext fun r => funext fun h => funext fun l => ?_)
  rw [hP]
  exact flat_at pool _ r h l hc

include G hle hp in
theorem k_scales_match : scalesOf (F := Ideal) (tok5A (lenW C)) (Cert.ReferenceIdeal.Val.oldA (F := Ideal) pool (tabW C) (lenW C))
    (Cert.ReferenceIdeal.Val.scA (F := Ideal) (kScaA C) (tabW C) (lenW C)) (live3A (lenW C)) (newA (F := Ideal) (kTokA C) (lenW C)) = kScOutA C :=
  scales_match (lenW C) (tabW C) pool (kScaA C) (kTokA C) hN hp (kScOutA C) fun b p h => k_scales G (b := b) (hp b) (hN b) rfl hle p h

end K

section V

variable (hc : S2115x32x16x128.ShapeCasts S2115x512x128) (hP : vPagA C = shapeCast S2115x512x128 pool hc)
  (hle : ∀ i, max (vTokA C i) (-vTokA C i) ≤ big)

include G hle hP hp in
theorem v_codes_match : codesOf (F := Ideal) (tok5A (lenW C)) (Cert.ReferenceIdeal.Val.oldA (F := Ideal) pool (tabW C) (lenW C))
    (Cert.ReferenceIdeal.Val.scA (F := Ideal) (vScaA C) (tabW C) (lenW C)) (live3A (lenW C)) (newA (F := Ideal) (vTokA C) (lenW C)) = vOutA C := by
  refine codes_match (lenW C) (tabW C) pool (vScaA C) (vTokA C) hN hp (vOutA C) fun b p r h l n hn => ?_
  refine (v_codes G (b := b) (hp b) (hN b) rfl hle p r h l n hn).trans ?_
  refine congrArg (fun old => wantCode _ old _ _ p r h l) (funext fun r => funext fun h => funext fun l => ?_)
  rw [hP]
  exact flat_at pool _ r h l hc

include G hle hp in
theorem v_scales_match : scalesOf (F := Ideal) (tok5A (lenW C)) (Cert.ReferenceIdeal.Val.oldA (F := Ideal) pool (tabW C) (lenW C))
    (Cert.ReferenceIdeal.Val.scA (F := Ideal) (vScaA C) (tabW C) (lenW C)) (live3A (lenW C)) (newA (F := Ideal) (vTokA C) (lenW C)) = vScOutA C :=
  scales_match (lenW C) (tabW C) pool (vScaA C) (vTokA C) hN hp (vScOutA C) fun b p h => v_scales G (b := b) (hp b) (hN b) rfl hle p h

end V

end Cert.Kernel.Run
end
-- ==== Proof.RefRun.lean ====
/- The reference's run, with what its results hold. -/
module

public import proofs.«01_k».proof.Proof.Gen.ReferenceIdeal
public import proofs.«01_k».proof.Proof.Gen.ReferenceIdeal.Frame
public import Idealize.ShloMosaic.Lib.Pipeline.ValueKit.Geometry
public import Idealize.ShloMosaic.Lib.Pipeline.ValueKit.Basic

@[expose] public section

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The reference runs: its arguments stay and its results hold what the last step of its run leaves there. -/
theorem valued : θ_run defs (onTc (τ := τ) (main (F := F))) ⟨m, fun _ => 0, ρ⟩ (fun r => ∀ c : Dev nD,
      r.2.mem ((c.tc : Thread nD τ).loc main_v32_0) = W4 m ρ c (Proc.devRef .tc main_v32_0)
      ∧ r.2.mem ((c.tc : Thread nD τ).loc main_v32_1) = W4 m ρ c (Proc.devRef .tc main_v32_1)
      ∧ r.2.mem ((c.tc : Thread nD τ).loc main_v45_0) = W4 m ρ c (Proc.devRef .tc main_v45_0)
      ∧ r.2.mem ((c.tc : Thread nD τ).loc main_v45_1) = W4 m ρ c (Proc.devRef .tc main_v45_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v32_0 (by decide)),
       h c _ (mem_uc main_v32_1 (by decide)),
       h c _ (mem_uc main_v45_0 (by decide)),
       h c _ (mem_uc main_v45_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.ReferenceIdeal.Val
end
-- ==== Proof.Algebra.lean ====
/- The claim of equal results, over the kernel's own program read with exact numbers. -/
module

public import proofs.«01_k».proof.Defs
public import proofs.«01_k».proof.Proof.Range
public import proofs.«01_k».proof.Proof.Finite
public import proofs.«01_k».proof.Proof.KernMatch
public import proofs.«01_k».proof.Proof.RefRun
public import proofs.«01_k».proof.Proof.Frames

@[expose] public section

set_option maxRecDepth 20000

noncomputable section

namespace Cert.Proof

open Idealize.ShloMosaic Idealize.ShloMosaic.TcCoe Idealize.ShloMosaic.Tactic Idealize.SL.Sem
open Cert.Kernel.Run Cert.Page

/-- The second precondition, of the kernel's memory. -/
def Finite (m : (ℓ : Loc Cert.Kernel.nD Cert.Kernel.τ Cert.Kernel.sig) → Buf (Elt Ideal) ℓ) : Prop :=
  ∀ c : Dev Cert.Kernel.nD, Cert.Pre_finite.fn (F := Ideal) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) = (fun _ => 1#1)

/-- The claim of equal results, for the kernel's program. -/
def Algebraic : Prop :=
  ∀ (m : (ℓ : Loc Cert.Kernel.nD Cert.Kernel.τ Cert.Kernel.sig) → Buf (Elt Ideal) ℓ) (g : Dev Cert.Kernel.nD → PrngReg)
    (m' : (ℓ : Loc Cert.ReferenceIdeal.nD Cert.ReferenceIdeal.τ Cert.ReferenceIdeal.sig) → Buf (Elt Ideal) ℓ) (g' : Dev Cert.ReferenceIdeal.nD → PrngReg), Finite m →
    (∀ c : Dev Cert.Kernel.nD,
      m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)
      ∧ m' ((c.tc : Thread Cert.ReferenceIdeal.nD Cert.ReferenceIdeal.τ).loc Cert.ReferenceIdeal.main_arg3) = m ((c.tc : Thread Cert.Kernel.nD Cert.Kernel.τ).loc Cert.Kernel.main_arg3)
      ∧ m' ((c.tc : Thread Cert.ReferenceIdeal.nD Cert.ReferenceIdeal.τ).loc Cert.ReferenceIdeal.main_arg4) = m ((c.tc : Thread Cert.Kernel.nD Cert.Kernel.τ).loc Cert.Kernel.main_arg4)
      ∧ m' ((c.tc : Thread Cert.ReferenceIdeal.nD Cert.ReferenceIdeal.τ).loc Cert.ReferenceIdeal.main_arg5) = m ((c.tc : Thread Cert.Kernel.nD Cert.Kernel.τ).loc Cert.Kernel.main_arg5)
      ∧ m' ((c.tc : Thread Cert.ReferenceIdeal.nD Cert.ReferenceIdeal.τ).loc Cert.ReferenceIdeal.main_arg6) = m ((c.tc : Thread Cert.Kernel.nD Cert.Kernel.τ).loc Cert.Kernel.main_arg6)
      ∧ m' ((c.tc : Thread Cert.ReferenceIdeal.nD Cert.ReferenceIdeal.τ).loc Cert.ReferenceIdeal.main_arg7) = m ((c.tc : Thread Cert.Kernel.nD Cert.Kernel.τ).loc Cert.Kernel.main_arg7)) →
    ∃ (v0 : (c : Dev Cert.Kernel.nD) → Buf (Elt Ideal) ((c.tc : Thread Cert.Kernel.nD Cert.Kernel.τ).loc Cert.Kernel.main_v2_0)) (v1 : (c : Dev Cert.Kernel.nD) → Buf (Elt Ideal) ((c.tc : Thread Cert.Kernel.nD Cert.Kernel.τ).loc Cert.Kernel.main_v2_1)) (v2 : (c : Dev Cert.Kernel.nD) → Buf (Elt Ideal) ((c.tc : Thread Cert.Kernel.nD Cert.Kernel.τ).loc Cert.Kernel.main_v2_2)) (v3 : (c : Dev Cert.Kernel.nD) → Buf (Elt Ideal) ((c.tc : Thread Cert.Kernel.nD Cert.Kernel.τ).loc Cert.Kernel.main_v2_3)),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v2_0) = v0 c
          ∧ r.2.mem ((c.tc : Thread Cert.Kernel.nD Cert.Kernel.τ).loc Cert.Kernel.main_v2_1) = v1 c
          ∧ r.2.mem ((c.tc : Thread Cert.Kernel.nD Cert.Kernel.τ).loc Cert.Kernel.main_v2_2) = v2 c
          ∧ r.2.mem ((c.tc : Thread Cert.Kernel.nD Cert.Kernel.τ).loc Cert.Kernel.main_v2_3) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_0) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v45_0) = v2 c
          ∧ r.2.mem ((c.tc : Thread Cert.ReferenceIdeal.nD Cert.ReferenceIdeal.τ).loc Cert.ReferenceIdeal.main_v45_1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

/-- The frame claim under the second precondition, for the kernel's program. -/
def FramedFinite : Prop :=
  ∀ (m : (ℓ : Loc Cert.Kernel.nD Cert.Kernel.τ Cert.Kernel.sig) → Buf (Elt Ideal) ℓ) (g : Dev Cert.Kernel.nD → PrngReg), Finite m →
    θ_run (Cert.Kernel.defs (F := Ideal)) (onTc (τ := Cert.Kernel.τ) (Cert.Kernel.main (F := Ideal))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

theorem in_range_of {m : (ℓ : Loc Cert.Kernel.nD Cert.Kernel.τ Cert.Kernel.sig) → Buf (Elt Ideal) ℓ} (hm : Finite m) : InRange (F := Ideal) m :=
  fun c => (Cert.Pre_finite.Run.of_fn (hm c)).1

theorem framed_finite : FramedFinite := fun m g hm => framed (F := Ideal) m g (in_range_of hm)

theorem framesKIf : quiescent_KernelIdeal_pre_finite (hKernelIdeal := Cert.KernelIdeal.Gen.facts) (hPre_finite := Cert.Pre_finite.Run.facts) :=
  (show FramedFinite = quiescent_KernelIdeal_pre_finite (hKernelIdeal := Cert.KernelIdeal.Gen.facts) (hPre_finite := Cert.Pre_finite.Run.facts) by chain_rfl) ▸ framed_finite

theorem framesRf : quiescent_ReferenceIdeal_pre_finite (hReferenceIdeal := Cert.ReferenceIdeal.Gen.facts) (hPre_finite := Cert.Pre_finite.Run.facts) :=
  fun m g _ => Cert.ReferenceIdeal.Gen.frame m g

section Device

variable {m : (ℓ : Loc Cert.Kernel.nD Cert.Kernel.τ Cert.Kernel.sig) → Buf (Elt Ideal) ℓ} (hm : Finite m) (c : Dev Cert.Kernel.nD)
  {C : (b : Ref Cert.Kernel.sig .tc) → b.ty.Contents (Elt Ideal)} (hV : ∀ b ∈ H0, C b = Cert.Kernel.Gen.V m c b)

include hV

theorem kScaA_arg : kScaA C = m ((c.tc : Thread Cert.Kernel.nD Cert.Kernel.τ).loc Cert.Kernel.main_arg2) := (hV Cert.Kernel.main_arg2 (by decide)).trans (Cert.Kernel.Gen.V_main_arg2 m c)
theorem vScaA_arg : vScaA C = m ((c.tc : Thread Cert.Kernel.nD Cert.Kernel.τ).loc Cert.Kernel.main_arg3) := (hV Cert.Kernel.main_arg3 (by decide)).trans (Cert.Kernel.Gen.V_main_arg3 m c)
theorem tabW_arg : tabW C = m ((c.tc : Thread Cert.Kernel.nD Cert.Kernel.τ).loc Cert.Kernel.main_arg4) := (hV Cert.Kernel.main_arg4 (by decide)).trans (Cert.Kernel.Gen.V_main_arg4 m c)
theorem lenW_arg : lenW C = m ((c.tc : Thread Cert.Kernel.nD Cert.Kernel.τ).loc Cert.Kernel.main_arg5) := (hV Cert.Kernel.main_arg5 (by decide)).trans (Cert.Kernel.Gen.V_main_arg5 m c)
theorem kTokA_arg : kTokA C = m ((c.tc : Thread Cert.Kernel.nD Cert.Kernel.τ).loc Cert.Kernel.main_arg6) := (hV Cert.Kernel.main_arg6 (by decide)).trans (Cert.Kernel.Gen.V_main_arg6 m c)
theorem vTokA_arg : vTokA C = m ((c.tc : Thread Cert.Kernel.nD Cert.Kernel.τ).loc Cert.Kernel.main_arg7) := (hV Cert.Kernel.main_arg7 (by decide)).trans (Cert.Kernel.Gen.V_main_arg7 m c)
theorem kPagA_arg : kPagA C = shapeCast Cert.Kernel.S2115x512x128 (s := Cert.Kernel.S2115x32x16x128) (m ((c.tc : Thread Cert.Kernel.nD Cert.Kernel.τ).loc Cert.Kernel.main_arg0)) Cert.Kernel.Gen.shapeCasts_S2115x32x16x128_S2115x512x128 :=
  (hV Cert.Kernel.main_v0 (by decide)).trans (by chain_rfl)
theorem vPagA_arg : vPagA C = shapeCast Cert.Kernel.S2115x512x128 (s := Cert.Kernel.S2115x32x16x128) (m ((c.tc : Thread Cert.Kernel.nD Cert.Kernel.τ).loc Cert.Kernel.main_arg1)) Cert.Kernel.Gen.shapeCasts_S2115x32x16x128_S2115x512x128 :=
  (hV Cert.Kernel.main_v1 (by decide)).trans (by chain_rfl)

include hm

theorem len_lt (b : Fin 12) : (lenW C (ix1 b)).toNat < 4512 := by
  have h := range_at _ _ _ _ _ _ _ _ (in_range_of hm c) (ix1 b) (ix2 b (0 : Fin 141)) rfl
  rw [lenW_arg c hV]
  exact h.1

theorem pg_lt (b : Fin 12) : Cert.ReferenceIdeal.Val.pgOf (lenW C) (tabW C) (len_lt hm c hV) b < 2115 := by
  have hN := len_lt hm c hV b
  have h := range_at _ _ _ _ _ _ _ _ (in_range_of hm c) (ix1 b) (ix2 b (⟨(lenW C (ix1 b)).toNat / 32, page_lt hN⟩ : Fin 141)) rfl
  unfold Cert.ReferenceIdeal.Val.pgOf
  rw [← lenW_arg c hV, ← tabW_arg c hV] at h
  exact h.2 rfl

theorem k_le (i : Cert.Kernel.S12x384x16x128.Idx) : max (kTokA C i) (-kTokA C i) ≤ big := by
  rw [kTokA_arg c hV]
  exact (Cert.Pre_finite.Run.of_fn (hm c)).2.1 i

theorem v_le (i : Cert.Kernel.S12x384x16x128.Idx) : max (vTokA C i) (-vTokA C i) ≤ big := by
  rw [vTokA_arg c hV]
  exact (Cert.Pre_finite.Run.of_fn (hm c)).2.2 i

variable (G : Good C) {m' : (ℓ : Loc Cert.ReferenceIdeal.nD Cert.ReferenceIdeal.τ Cert.ReferenceIdeal.sig) → Buf (Elt Ideal) ℓ} (g' : Dev Cert.ReferenceIdeal.nD → PrngReg)

include G

theorem res0_eq (harg0 : m' ((c.tc : Thread Cert.ReferenceIdeal.nD Cert.ReferenceIdeal.τ).loc Cert.ReferenceIdeal.main_arg0) = m ((c.tc : Thread Cert.Kernel.nD Cert.Kernel.τ).loc Cert.Kernel.main_arg0)) (harg2 : m' ((c.tc : Thread Cert.ReferenceIdeal.nD Cert.ReferenceIdeal.τ).loc Cert.ReferenceIdeal.main_arg2) = m ((c.tc : Thread Cert.Kernel.nD Cert.Kernel.τ).loc Cert.Kernel.main_arg2)) (harg4 : m' ((c.tc : Thread Cert.ReferenceIdeal.nD Cert.ReferenceIdeal.τ).loc Cert.ReferenceIdeal.main_arg4) = m ((c.tc : Thread Cert.Kernel.nD Cert.Kernel.τ).loc Cert.Kernel.main_arg4)) (harg5 : m' ((c.tc : Thread Cert.ReferenceIdeal.nD Cert.ReferenceIdeal.τ).loc Cert.ReferenceIdeal.main_arg5) = m ((c.tc : Thread Cert.Kernel.nD Cert.Kernel.τ).loc Cert.Kernel.main_arg5)) (harg6 : m' ((c.tc : Thread Cert.ReferenceIdeal.nD Cert.ReferenceIdeal.τ).loc Cert.ReferenceIdeal.main_arg6) = m ((c.tc : Thread Cert.Kernel.nD Cert.Kernel.τ).loc Cert.Kernel.main_arg6)) :
    Cert.ReferenceIdeal.Gen.W4 m' g' c (Proc.devRef .tc Cert.ReferenceIdeal.main_v32_0) = kOutA C := by
  refine (Cert.ReferenceIdeal.Val.res0 m' g' c).trans ?_
  rw [Cert.ReferenceIdeal.Val.V1_27, Cert.ReferenceIdeal.Val.V1_28, Cert.ReferenceIdeal.Val.V1_29, Cert.ReferenceIdeal.Val.V1_31, Cert.ReferenceIdeal.Val.V1_25]
  have key := k_codes_match G (m ((c.tc : Thread Cert.Kernel.nD Cert.Kernel.τ).loc Cert.Kernel.main_arg0)) (len_lt hm c hV) (pg_lt hm c hV) Cert.Kernel.Gen.shapeCasts_S2115x32x16x128_S2115x512x128 (kPagA_arg c hV) (k_le hm c hV)
  rw [lenW_arg c hV, tabW_arg c hV, kScaA_arg c hV, kTokA_arg c hV, ← harg0, ← harg2, ← harg4, ← harg5, ← harg6] at key
  exact key

theorem res1_eq (harg0 : m' ((c.tc : Thread Cert.ReferenceIdeal.nD Cert.ReferenceIdeal.τ).loc Cert.ReferenceIdeal.main_arg0) = m ((c.tc : Thread Cert.Kernel.nD Cert.Kernel.τ).loc Cert.Kernel.main_arg0)) (harg2 : m' ((c.tc : Thread Cert.ReferenceIdeal.nD Cert.ReferenceIdeal.τ).loc Cert.ReferenceIdeal.main_arg2) = m ((c.tc : Thread Cert.Kernel.nD Cert.Kernel.τ).loc Cert.Kernel.main_arg2)) (harg4 : m' ((c.tc : Thread Cert.ReferenceIdeal.nD Cert.ReferenceIdeal.τ).loc Cert.ReferenceIdeal.main_arg4) = m ((c.tc : Thread Cert.Kernel.nD Cert.Kernel.τ).loc Cert.Kernel.main_arg4)) (harg5 : m' ((c.tc : Thread Cert.ReferenceIdeal.nD Cert.ReferenceIdeal.τ).loc Cert.ReferenceIdeal.main_arg5) = m ((c.tc : Thread Cert.Kernel.nD Cert.Kernel.τ).loc Cert.Kernel.main_arg5)) (harg6 : m' ((c.tc : Thread Cert.ReferenceIdeal.nD Cert.ReferenceIdeal.τ).loc Cert.ReferenceIdeal.main_arg6) = m ((c.tc : Thread Cert.Kernel.nD Cert.Kernel.τ).loc Cert.Kernel.main_arg6)) :
    Cert.ReferenceIdeal.Gen.W4 m' g' c (Proc.devRef .tc Cert.ReferenceIdeal.main_v32_1) = kScOutA C := by
  refine (Cert.ReferenceIdeal.Val.res1 m' g' c).trans ?_
  rw [Cert.ReferenceIdeal.Val.V1_27, Cert.ReferenceIdeal.Val.V1_28, Cert.ReferenceIdeal.Val.V1_29, Cert.ReferenceIdeal.Val.V1_31, Cert.ReferenceIdeal.Val.V1_25]
  have key := k_scales_match G (m ((c.tc : Thread Cert.Kernel.nD Cert.Kernel.τ).loc Cert.Kernel.main_arg0)) (len_lt hm c hV) (pg_lt hm c hV) (k_le hm c hV)
  rw [lenW_arg c hV, tabW_arg c hV, kScaA_arg c hV, kTokA_arg c hV, ← harg0, ← harg2, ← harg4, ← harg5, ← harg6] at key
  exact key

theorem res2_eq (harg1 : m' ((c.tc : Thread Cert.ReferenceIdeal.nD Cert.ReferenceIdeal.τ).loc Cert.ReferenceIdeal.main_arg1) = m ((c.tc : Thread Cert.Kernel.nD Cert.Kernel.τ).loc Cert.Kernel.main_arg1)) (harg3 : m' ((c.tc : Thread Cert.ReferenceIdeal.nD Cert.ReferenceIdeal.τ).loc Cert.ReferenceIdeal.main_arg3) = m ((c.tc : Thread Cert.Kernel.nD Cert.Kernel.τ).loc Cert.Kernel.main_arg3)) (harg4 : m' ((c.tc : Thread Cert.ReferenceIdeal.nD Cert.ReferenceIdeal.τ).loc Cert.ReferenceIdeal.main_arg4) = m ((c.tc : Thread Cert.Kernel.nD Cert.Kernel.τ).loc Cert.Kernel.main_arg4)) (harg5 : m' ((c.tc : Thread Cert.ReferenceIdeal.nD Cert.ReferenceIdeal.τ).loc Cert.ReferenceIdeal.main_arg5) = m ((c.tc : Thread Cert.Kernel.nD Cert.Kernel.τ).loc Cert.Kernel.main_arg5)) (harg7 : m' ((c.tc : Thread Cert.ReferenceIdeal.nD Cert.ReferenceIdeal.τ).loc Cert.ReferenceIdeal.main_arg7) = m ((c.tc : Thread Cert.Kernel.nD Cert.Kernel.τ).loc Cert.Kernel.main_arg7)) :
    Cert.ReferenceIdeal.Gen.W4 m' g' c (Proc.devRef .tc Cert.ReferenceIdeal.main_v45_0) = vOutA C := by
  refine (Cert.ReferenceIdeal.Val.res2 m' g' c).trans ?_
  rw [Cert.ReferenceIdeal.Val.V3_40, Cert.ReferenceIdeal.Val.V3_41, Cert.ReferenceIdeal.Val.V3_42, Cert.ReferenceIdeal.Val.V3_44, Cert.ReferenceIdeal.Val.V3_38]
  have key := v_codes_match G (m ((c.tc : Thread Cert.Kernel.nD Cert.Kernel.τ).loc Cert.Kernel.main_arg1)) (len_lt hm c hV) (pg_lt hm c hV) Cert.Kernel.Gen.shapeCasts_S2115x32x16x128_S2115x512x128 (vPagA_arg c hV) (v_le hm c hV)
  rw [lenW_arg c hV, tabW_arg c hV, vScaA_arg c hV, vTokA_arg c hV, ← harg1, ← harg3, ← harg4, ← harg5, ← harg7] at key
  exact key

theorem res3_eq (harg1 : m' ((c.tc : Thread Cert.ReferenceIdeal.nD Cert.ReferenceIdeal.τ).loc Cert.ReferenceIdeal.main_arg1) = m ((c.tc : Thread Cert.Kernel.nD Cert.Kernel.τ).loc Cert.Kernel.main_arg1)) (harg3 : m' ((c.tc : Thread Cert.ReferenceIdeal.nD Cert.ReferenceIdeal.τ).loc Cert.ReferenceIdeal.main_arg3) = m ((c.tc : Thread Cert.Kernel.nD Cert.Kernel.τ).loc Cert.Kernel.main_arg3)) (harg4 : m' ((c.tc : Thread Cert.ReferenceIdeal.nD Cert.ReferenceIdeal.τ).loc Cert.ReferenceIdeal.main_arg4) = m ((c.tc : Thread Cert.Kernel.nD Cert.Kernel.τ).loc Cert.Kernel.main_arg4)) (harg5 : m' ((c.tc : Thread Cert.ReferenceIdeal.nD Cert.ReferenceIdeal.τ).loc Cert.ReferenceIdeal.main_arg5) = m ((c.tc : Thread Cert.Kernel.nD Cert.Kernel.τ).loc Cert.Kernel.main_arg5)) (harg7 : m' ((c.tc : Thread Cert.ReferenceIdeal.nD Cert.ReferenceIdeal.τ).loc Cert.ReferenceIdeal.main_arg7) = m ((c.tc : Thread Cert.Kernel.nD Cert.Kernel.τ).loc Cert.Kernel.main_arg7)) :
    Cert.ReferenceIdeal.Gen.W4 m' g' c (Proc.devRef .tc Cert.ReferenceIdeal.main_v45_1) = vScOutA C := by
  refine (Cert.ReferenceIdeal.Val.res3 m' g' c).trans ?_
  rw [Cert.ReferenceIdeal.Val.V3_40, Cert.ReferenceIdeal.Val.V3_41, Cert.ReferenceIdeal.Val.V3_42, Cert.ReferenceIdeal.Val.V3_44, Cert.ReferenceIdeal.Val.V3_38]
  have key := v_scales_match G (m ((c.tc : Thread Cert.Kernel.nD Cert.Kernel.τ).loc Cert.Kernel.main_arg1)) (len_lt hm c hV) (pg_lt hm c hV) (v_le hm c hV)
  rw [lenW_arg c hV, tabW_arg c hV, vScaA_arg c hV, vTokA_arg c hV, ← harg1, ← harg3, ← harg4, ← harg5, ← harg7] at key
  exact key

end Device

theorem algebraic_kernel : Algebraic := by
  intro m g m' g' hm ha
  obtain ⟨C, hG, hV, hrun⟩ := run_in_range m g (in_range_of hm)
  refine ⟨fun c => C c Cert.Kernel.main_v2_0, fun c => C c Cert.Kernel.main_v2_1, fun c => C c Cert.Kernel.main_v2_2, fun c => C c Cert.Kernel.main_v2_3, ?_, ?_⟩
  · refine (θ_run _ _ _).mono (fun r h c => ?_) hrun
    exact ⟨h.2 c _ (by decide), h.2 c _ (by decide), h.2 c _ (by decide), h.2 c _ (by decide), h.1.1 c⟩
  · refine (θ_run _ _ _).mono (fun r h c => ?_) (Cert.ReferenceIdeal.Val.valued m' g')
    obtain ⟨h0, h1, h2, h3, hargs⟩ := h c
    obtain ⟨a0, a1, a2, a3, a4, a5, a6, a7⟩ := ha c
    exact ⟨h0.trans (res0_eq hm c (hV c) (hG c) g' a0 a2 a4 a5 a6), h1.trans (res1_eq hm c (hV c) (hG c) g' a0 a2 a4 a5 a6),
      h2.trans (res2_eq hm c (hV c) (hG c) g' a1 a3 a4 a5 a7), h3.trans (res3_eq hm c (hV c) (hG c) g' a1 a3 a4 a5 a7), hargs⟩

theorem algebraicKR : algebraic_KernelIdeal_ReferenceIdeal_pre_finite (hKernelIdeal := Cert.KernelIdeal.Gen.facts) (hReferenceIdeal := Cert.ReferenceIdeal.Gen.facts)
    (hPre_finite := Cert.Pre_finite.Run.facts) :=
  (show Algebraic = algebraic_KernelIdeal_ReferenceIdeal_pre_finite (hKernelIdeal := Cert.KernelIdeal.Gen.facts) (hReferenceIdeal := Cert.ReferenceIdeal.Gen.facts)
    (hPre_finite := Cert.Pre_finite.Run.facts) by chain_rfl) ▸ algebraic_kernel

end Cert.Proof
end
-- ==== Proof.lean ====
module

public import proofs.«01_k».proof.Defs
public import proofs.«01_k».proof.Proof.Frames
public import proofs.«01_k».proof.Proof.Algebra

@[expose] public section

noncomputable section

theorem Cert.Proof.claim : Cert.Claim :=
  ⟨Cert.Kernel.Gen.facts, Cert.KernelIdeal.Gen.facts, Cert.ReferenceIdeal.Gen.facts, Cert.Pre_in_range.Gen.facts, Cert.Pre_finite.Run.facts,
    Cert.Proof.framesK, Cert.Proof.framesKI, Cert.Proof.framesKIf, Cert.Proof.framesR, Cert.Proof.framesRf, trivial, Cert.Proof.algebraicKR⟩

end
